-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_RefGatesIdeal (m : (ℓ : Loc Cert.RefGatesIdeal.nD Cert.RefGatesIdeal.τ Cert.RefGatesIdeal.sig) → Buf (Elt Ideal) ℓ) : Prop :=
  True

def Pre_AttnGate (m : (ℓ : Loc Cert.AttnGate.nD Cert.AttnGate.τ Cert.AttnGate.sig) → Buf (Elt Bits) ℓ) : Prop :=
  True

def Pre_AttnGateIdeal (m : (ℓ : Loc Cert.AttnGateIdeal.nD Cert.AttnGateIdeal.τ Cert.AttnGateIdeal.sig) → Buf (Elt Ideal) ℓ) : Prop :=
  True

def Pre_RefAttnGateIdeal (m : (ℓ : Loc Cert.RefAttnGateIdeal.nD Cert.RefAttnGateIdeal.τ Cert.RefAttnGateIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_RefSsmInIdeal (m : (ℓ : Loc Cert.RefSsmInIdeal.nD Cert.RefSsmInIdeal.τ Cert.RefSsmInIdeal.sig) → Buf (Elt Ideal) ℓ) : Prop :=
  True

def Pre_SsmGate (m : (ℓ : Loc Cert.SsmGate.nD Cert.SsmGate.τ Cert.SsmGate.sig) → Buf (Elt Bits) ℓ) : Prop :=
  True

def Pre_SsmGateIdeal (m : (ℓ : Loc Cert.SsmGateIdeal.nD Cert.SsmGateIdeal.τ Cert.SsmGateIdeal.sig) → Buf (Elt Ideal) ℓ) : Prop :=
  True

def Pre_RefSsmGateIdeal (m : (ℓ : Loc Cert.RefSsmGateIdeal.nD Cert.RefSsmGateIdeal.τ Cert.RefSsmGateIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_RefGluIdeal (m : (ℓ : Loc Cert.RefGluIdeal.nD Cert.RefGluIdeal.τ Cert.RefGluIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_AttnD4 (m : (ℓ : Loc Cert.AttnD4.nD Cert.AttnD4.τ Cert.AttnD4.sig) → Buf (Elt Bits) ℓ) : Prop :=
  True

def Pre_AttnD4Ideal (m : (ℓ : Loc Cert.AttnD4Ideal.nD Cert.AttnD4Ideal.τ Cert.AttnD4Ideal.sig) → Buf (Elt Ideal) ℓ) : Prop :=
  True

def Pre_AttnD4Ideal_finite_qk_d4 [hPre_finite_qk_d4 : Cert.Pre_finite_qk_d4.Facts] (m : (ℓ : Loc Cert.AttnD4Ideal.nD Cert.AttnD4Ideal.τ Cert.AttnD4Ideal.sig) → Buf (Elt Ideal) ℓ) : Prop :=
  ∀ c : Dev Cert.AttnD4Ideal.nD,
    (Cert.Pre_finite_qk_d4.fn (F := Ideal) (m ((c.tc : Thread Cert.AttnD4Ideal.nD Cert.AttnD4Ideal.τ).loc Cert.AttnD4Ideal.main_arg0)) (m ((c.tc : Thread Cert.AttnD4Ideal.nD Cert.AttnD4Ideal.τ).loc Cert.AttnD4Ideal.main_arg1)) (m ((c.tc : Thread Cert.AttnD4Ideal.nD Cert.AttnD4Ideal.τ).loc Cert.AttnD4Ideal.main_arg2))).1 = (fun _ => 1#1)
    ∧ (Cert.Pre_finite_qk_d4.fn (F := Ideal) (m ((c.tc : Thread Cert.AttnD4Ideal.nD Cert.AttnD4Ideal.τ).loc Cert.AttnD4Ideal.main_arg0)) (m ((c.tc : Thread Cert.AttnD4Ideal.nD Cert.AttnD4Ideal.τ).loc Cert.AttnD4Ideal.main_arg1)) (m ((c.tc : Thread Cert.AttnD4Ideal.nD Cert.AttnD4Ideal.τ).loc Cert.AttnD4Ideal.main_arg2))).2 = (fun _ => 1#1)

def Pre_RefAttnD4Ideal (m : (ℓ : Loc Cert.RefAttnD4Ideal.nD Cert.RefAttnD4Ideal.τ Cert.RefAttnD4Ideal.sig) → Buf (Elt Ideal) ℓ) : Prop :=
  True

def Pre_RefAttnD4Ideal_finite_qk_d4 [hPre_finite_qk_d4 : Cert.Pre_finite_qk_d4.Facts] (m : (ℓ : Loc Cert.RefAttnD4Ideal.nD Cert.RefAttnD4Ideal.τ Cert.RefAttnD4Ideal.sig) → Buf (Elt Ideal) ℓ) : Prop :=
  ∀ c : Dev Cert.RefAttnD4Ideal.nD,
    (Cert.Pre_finite_qk_d4.fn (F := Ideal) (m ((c.tc : Thread Cert.RefAttnD4Ideal.nD Cert.RefAttnD4Ideal.τ).loc Cert.RefAttnD4Ideal.main_arg0)) (m ((c.tc : Thread Cert.RefAttnD4Ideal.nD Cert.RefAttnD4Ideal.τ).loc Cert.RefAttnD4Ideal.main_arg1)) (m ((c.tc : Thread Cert.RefAttnD4Ideal.nD Cert.RefAttnD4Ideal.τ).loc Cert.RefAttnD4Ideal.main_arg2))).1 = (fun _ => 1#1)
    ∧ (Cert.Pre_finite_qk_d4.fn (F := Ideal) (m ((c.tc : Thread Cert.RefAttnD4Ideal.nD Cert.RefAttnD4Ideal.τ).loc Cert.RefAttnD4Ideal.main_arg0)) (m ((c.tc : Thread Cert.RefAttnD4Ideal.nD Cert.RefAttnD4Ideal.τ).loc Cert.RefAttnD4Ideal.main_arg1)) (m ((c.tc : Thread Cert.RefAttnD4Ideal.nD Cert.RefAttnD4Ideal.τ).loc Cert.RefAttnD4Ideal.main_arg2))).2 = (fun _ => 1#1)

def Pre_AttnD16 (m : (ℓ : Loc Cert.AttnD16.nD Cert.AttnD16.τ Cert.AttnD16.sig) → Buf (Elt Bits) ℓ) : Prop :=
  True

def Pre_AttnD16Ideal (m : (ℓ : Loc Cert.AttnD16Ideal.nD Cert.AttnD16Ideal.τ Cert.AttnD16Ideal.sig) → Buf (Elt Ideal) ℓ) : Prop :=
  True

def Pre_AttnD16Ideal_finite_qk_d16 [hPre_finite_qk_d16 : Cert.Pre_finite_qk_d16.Facts] (m : (ℓ : Loc Cert.AttnD16Ideal.nD Cert.AttnD16Ideal.τ Cert.AttnD16Ideal.sig) → Buf (Elt Ideal) ℓ) : Prop :=
  ∀ c : Dev Cert.AttnD16Ideal.nD,
    (Cert.Pre_finite_qk_d16.fn (F := Ideal) (m ((c.tc : Thread Cert.AttnD16Ideal.nD Cert.AttnD16Ideal.τ).loc Cert.AttnD16Ideal.main_arg0)) (m ((c.tc : Thread Cert.AttnD16Ideal.nD Cert.AttnD16Ideal.τ).loc Cert.AttnD16Ideal.main_arg1)) (m ((c.tc : Thread Cert.AttnD16Ideal.nD Cert.AttnD16Ideal.τ).loc Cert.AttnD16Ideal.main_arg2))).1 = (fun _ => 1#1)
    ∧ (Cert.Pre_finite_qk_d16.fn (F := Ideal) (m ((c.tc : Thread Cert.AttnD16Ideal.nD Cert.AttnD16Ideal.τ).loc Cert.AttnD16Ideal.main_arg0)) (m ((c.tc : Thread Cert.AttnD16Ideal.nD Cert.AttnD16Ideal.τ).loc Cert.AttnD16Ideal.main_arg1)) (m ((c.tc : Thread Cert.AttnD16Ideal.nD Cert.AttnD16Ideal.τ).loc Cert.AttnD16Ideal.main_arg2))).2 = (fun _ => 1#1)

def Pre_RefAttnD16Ideal (m : (ℓ : Loc Cert.RefAttnD16Ideal.nD Cert.RefAttnD16Ideal.τ Cert.RefAttnD16Ideal.sig) → Buf (Elt Ideal) ℓ) : Prop :=
  True

def Pre_RefAttnD16Ideal_finite_qk_d16 [hPre_finite_qk_d16 : Cert.Pre_finite_qk_d16.Facts] (m : (ℓ : Loc Cert.RefAttnD16Ideal.nD Cert.RefAttnD16Ideal.τ Cert.RefAttnD16Ideal.sig) → Buf (Elt Ideal) ℓ) : Prop :=
  ∀ c : Dev Cert.RefAttnD16Ideal.nD,
    (Cert.Pre_finite_qk_d16.fn (F := Ideal) (m ((c.tc : Thread Cert.RefAttnD16Ideal.nD Cert.RefAttnD16Ideal.τ).loc Cert.RefAttnD16Ideal.main_arg0)) (m ((c.tc : Thread Cert.RefAttnD16Ideal.nD Cert.RefAttnD16Ideal.τ).loc Cert.RefAttnD16Ideal.main_arg1)) (m ((c.tc : Thread Cert.RefAttnD16Ideal.nD Cert.RefAttnD16Ideal.τ).loc Cert.RefAttnD16Ideal.main_arg2))).1 = (fun _ => 1#1)
    ∧ (Cert.Pre_finite_qk_d16.fn (F := Ideal) (m ((c.tc : Thread Cert.RefAttnD16Ideal.nD Cert.RefAttnD16Ideal.τ).loc Cert.RefAttnD16Ideal.main_arg0)) (m ((c.tc : Thread Cert.RefAttnD16Ideal.nD Cert.RefAttnD16Ideal.τ).loc Cert.RefAttnD16Ideal.main_arg1)) (m ((c.tc : Thread Cert.RefAttnD16Ideal.nD Cert.RefAttnD16Ideal.τ).loc Cert.RefAttnD16Ideal.main_arg2))).2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_RefNormIdeal (m : (ℓ : Loc Cert.RefNormIdeal.nD Cert.RefNormIdeal.τ Cert.RefNormIdeal.sig) → Buf (Elt Ideal) ℓ) : Prop :=
  True

def Pre_S5Sample (m : (ℓ : Loc Cert.S5Sample.nD Cert.S5Sample.τ Cert.S5Sample.sig) → Buf (Elt Bits) ℓ) : Prop :=
  True

def Pre_S5SampleIdeal (m : (ℓ : Loc Cert.S5SampleIdeal.nD Cert.S5SampleIdeal.τ Cert.S5SampleIdeal.sig) → Buf (Elt Ideal) ℓ) : Prop :=
  True

def Pre_RefS5SampleIdeal (m : (ℓ : Loc Cert.RefS5SampleIdeal.nD Cert.RefS5SampleIdeal.τ Cert.RefS5SampleIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_RefGatesIdeal [hRefGatesIdeal : Cert.RefGatesIdeal.Facts] : Prop :=
  ∀ (m : (ℓ : Loc Cert.RefGatesIdeal.nD Cert.RefGatesIdeal.τ Cert.RefGatesIdeal.sig) → Buf (Elt Ideal) ℓ) (g : Dev Cert.RefGatesIdeal.nD → PrngReg), Pre_RefGatesIdeal m →
    θ_run (Cert.RefGatesIdeal.defs (F := Ideal)) (onTc (τ := Cert.RefGatesIdeal.τ) (Cert.RefGatesIdeal.main (F := Ideal))) ⟨m, fun _ => 0, g⟩ (fun r => (∀ c : Dev Cert.RefGatesIdeal.nD,
      r.2.mem ((c.tc : Thread Cert.RefGatesIdeal.nD Cert.RefGatesIdeal.τ).loc Cert.RefGatesIdeal.main_arg0) = m ((c.tc : Thread Cert.RefGatesIdeal.nD Cert.RefGatesIdeal.τ).loc Cert.RefGatesIdeal.main_arg0)
      ∧ r.2.mem ((c.tc : Thread Cert.RefGatesIdeal.nD Cert.RefGatesIdeal.τ).loc Cert.RefGatesIdeal.main_arg1) = m ((c.tc : Thread Cert.RefGatesIdeal.nD Cert.RefGatesIdeal.τ).loc Cert.RefGatesIdeal.main_arg1))
      ∧ r.2.sem = fun _ => 0)

def quiescent_AttnGate [hAttnGate : Cert.AttnGate.Facts] : Prop :=
  ∀ (m : (ℓ : Loc Cert.AttnGate.nD Cert.AttnGate.τ Cert.AttnGate.sig) → Buf (Elt Bits) ℓ) (g : Dev Cert.AttnGate.nD → PrngReg), Pre_AttnGate m →
    θ_run (Cert.AttnGate.defs (F := Bits)) (onTc (τ := Cert.AttnGate.τ) (Cert.AttnGate.main (F := Bits))) ⟨m, fun _ => 0, g⟩ (fun r => (∀ c : Dev Cert.AttnGate.nD,
      r.2.mem ((c.tc : Thread Cert.AttnGate.nD Cert.AttnGate.τ).loc Cert.AttnGate.main_arg0) = m ((c.tc : Thread Cert.AttnGate.nD Cert.AttnGate.τ).loc Cert.AttnGate.main_arg0)
      ∧ r.2.mem ((c.tc : Thread Cert.AttnGate.nD Cert.AttnGate.τ).loc Cert.AttnGate.main_arg1) = m ((c.tc : Thread Cert.AttnGate.nD Cert.AttnGate.τ).loc Cert.AttnGate.main_arg1))
      ∧ r.2.sem = fun _ => 0)

def quiescent_AttnGateIdeal [hAttnGateIdeal : Cert.AttnGateIdeal.Facts] : Prop :=
  ∀ (m : (ℓ : Loc Cert.AttnGateIdeal.nD Cert.AttnGateIdeal.τ Cert.AttnGateIdeal.sig) → Buf (Elt Ideal) ℓ) (g : Dev Cert.AttnGateIdeal.nD → PrngReg), Pre_AttnGateIdeal m →
    θ_run (Cert.AttnGateIdeal.defs (F := Ideal)) (onTc (τ := Cert.AttnGateIdeal.τ) (Cert.AttnGateIdeal.main (F := Ideal))) ⟨m, fun _ => 0, g⟩ (fun r => (∀ c : Dev Cert.AttnGateIdeal.nD,
      r.2.mem ((c.tc : Thread Cert.AttnGateIdeal.nD Cert.AttnGateIdeal.τ).loc Cert.AttnGateIdeal.main_arg0) = m ((c.tc : Thread Cert.AttnGateIdeal.nD Cert.AttnGateIdeal.τ).loc Cert.AttnGateIdeal.main_arg0)
      ∧ r.2.mem ((c.tc : Thread Cert.AttnGateIdeal.nD Cert.AttnGateIdeal.τ).loc Cert.AttnGateIdeal.main_arg1) = m ((c.tc : Thread Cert.AttnGateIdeal.nD Cert.AttnGateIdeal.τ).loc Cert.AttnGateIdeal.main_arg1))
      ∧ r.2.sem = fun _ => 0)

def quiescent_RefAttnGateIdeal [hRefAttnGateIdeal : Cert.RefAttnGateIdeal.Facts] : Prop :=
  ∀ (m : (ℓ : Loc Cert.RefAttnGateIdeal.nD Cert.RefAttnGateIdeal.τ Cert.RefAttnGateIdeal.sig) → Buf (Elt Ideal) ℓ) (g : Dev Cert.RefAttnGateIdeal.nD → PrngReg), Pre_RefAttnGateIdeal m →
    θ_run (Cert.RefAttnGateIdeal.defs (F := Ideal)) (onTc (τ := Cert.RefAttnGateIdeal.τ) (Cert.RefAttnGateIdeal.main (F := Ideal))) ⟨m, fun _ => 0, g⟩ (fun r => (∀ c : Dev Cert.RefAttnGateIdeal.nD,
      r.2.mem ((c.tc : Thread Cert.RefAttnGateIdeal.nD Cert.RefAttnGateIdeal.τ).loc Cert.RefAttnGateIdeal.main_arg0) = m ((c.tc : Thread Cert.RefAttnGateIdeal.nD Cert.RefAttnGateIdeal.τ).loc Cert.RefAttnGateIdeal.main_arg0)
      ∧ r.2.mem ((c.tc : Thread Cert.RefAttnGateIdeal.nD Cert.RefAttnGateIdeal.τ).loc Cert.RefAttnGateIdeal.main_arg1) = m ((c.tc : Thread Cert.RefAttnGateIdeal.nD Cert.RefAttnGateIdeal.τ).loc Cert.RefAttnGateIdeal.main_arg1))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ r.2.sem = fun _ => 0)

def quiescent_RefSsmInIdeal [hRefSsmInIdeal : Cert.RefSsmInIdeal.Facts] : Prop :=
  ∀ (m : (ℓ : Loc Cert.RefSsmInIdeal.nD Cert.RefSsmInIdeal.τ Cert.RefSsmInIdeal.sig) → Buf (Elt Ideal) ℓ) (g : Dev Cert.RefSsmInIdeal.nD → PrngReg), Pre_RefSsmInIdeal m →
    θ_run (Cert.RefSsmInIdeal.defs (F := Ideal)) (onTc (τ := Cert.RefSsmInIdeal.τ) (Cert.RefSsmInIdeal.main (F := Ideal))) ⟨m, fun _ => 0, g⟩ (fun r => (∀ c : Dev Cert.RefSsmInIdeal.nD,
      r.2.mem ((c.tc : Thread Cert.RefSsmInIdeal.nD Cert.RefSsmInIdeal.τ).loc Cert.RefSsmInIdeal.main_arg0) = m ((c.tc : Thread Cert.RefSsmInIdeal.nD Cert.RefSsmInIdeal.τ).loc Cert.RefSsmInIdeal.main_arg0)
      ∧ r.2.mem ((c.tc : Thread Cert.RefSsmInIdeal.nD Cert.RefSsmInIdeal.τ).loc Cert.RefSsmInIdeal.main_arg1) = m ((c.tc : Thread Cert.RefSsmInIdeal.nD Cert.RefSsmInIdeal.τ).loc Cert.RefSsmInIdeal.main_arg1))
      ∧ r.2.sem = fun _ => 0)

def quiescent_SsmGate [hSsmGate : Cert.SsmGate.Facts] : Prop :=
  ∀ (m : (ℓ : Loc Cert.SsmGate.nD Cert.SsmGate.τ Cert.SsmGate.sig) → Buf (Elt Bits) ℓ) (g : Dev Cert.SsmGate.nD → PrngReg), Pre_SsmGate m →
    θ_run (Cert.SsmGate.defs (F := Bits)) (onTc (τ := Cert.SsmGate.τ) (Cert.SsmGate.main (F := Bits))) ⟨m, fun _ => 0, g⟩ (fun r => (∀ c : Dev Cert.SsmGate.nD,
      r.2.mem ((c.tc : Thread Cert.SsmGate.nD Cert.SsmGate.τ).loc Cert.SsmGate.main_arg0) = m ((c.tc : Thread Cert.SsmGate.nD Cert.SsmGate.τ).loc Cert.SsmGate.main_arg0)
      ∧ r.2.mem ((c.tc : Thread Cert.SsmGate.nD Cert.SsmGate.τ).loc Cert.SsmGate.main_arg1) = m ((c.tc : Thread Cert.SsmGate.nD Cert.SsmGate.τ).loc Cert.SsmGate.main_arg1))
      ∧ r.2.sem = fun _ => 0)

def quiescent_SsmGateIdeal [hSsmGateIdeal : Cert.SsmGateIdeal.Facts] : Prop :=
  ∀ (m : (ℓ : Loc Cert.SsmGateIdeal.nD Cert.SsmGateIdeal.τ Cert.SsmGateIdeal.sig) → Buf (Elt Ideal) ℓ) (g : Dev Cert.SsmGateIdeal.nD → PrngReg), Pre_SsmGateIdeal m →
    θ_run (Cert.SsmGateIdeal.defs (F := Ideal)) (onTc (τ := Cert.SsmGateIdeal.τ) (Cert.SsmGateIdeal.main (F := Ideal))) ⟨m, fun _ => 0, g⟩ (fun r => (∀ c : Dev Cert.SsmGateIdeal.nD,
      r.2.mem ((c.tc : Thread Cert.SsmGateIdeal.nD Cert.SsmGateIdeal.τ).loc Cert.SsmGateIdeal.main_arg0) = m ((c.tc : Thread Cert.SsmGateIdeal.nD Cert.SsmGateIdeal.τ).loc Cert.SsmGateIdeal.main_arg0)
      ∧ r.2.mem ((c.tc : Thread Cert.SsmGateIdeal.nD Cert.SsmGateIdeal.τ).loc Cert.SsmGateIdeal.main_arg1) = m ((c.tc : Thread Cert.SsmGateIdeal.nD Cert.SsmGateIdeal.τ).loc Cert.SsmGateIdeal.main_arg1))
      ∧ r.2.sem = fun _ => 0)

def quiescent_RefSsmGateIdeal [hRefSsmGateIdeal : Cert.RefSsmGateIdeal.Facts] : Prop :=
  ∀ (m : (ℓ : Loc Cert.RefSsmGateIdeal.nD Cert.RefSsmGateIdeal.τ Cert.RefSsmGateIdeal.sig) → Buf (Elt Ideal) ℓ) (g : Dev Cert.RefSsmGateIdeal.nD → PrngReg), Pre_RefSsmGateIdeal m →
    θ_run (Cert.RefSsmGateIdeal.defs (F := Ideal)) (onTc (τ := Cert.RefSsmGateIdeal.τ) (Cert.RefSsmGateIdeal.main (F := Ideal))) ⟨m, fun _ => 0, g⟩ (fun r => (∀ c : Dev Cert.RefSsmGateIdeal.nD,
      r.2.mem ((c.tc : Thread Cert.RefSsmGateIdeal.nD Cert.RefSsmGateIdeal.τ).loc Cert.RefSsmGateIdeal.main_arg0) = m ((c.tc : Thread Cert.RefSsmGateIdeal.nD Cert.RefSsmGateIdeal.τ).loc Cert.RefSsmGateIdeal.main_arg0)
      ∧ r.2.mem ((c.tc : Thread Cert.RefSsmGateIdeal.nD Cert.RefSsmGateIdeal.τ).loc Cert.RefSsmGateIdeal.main_arg1) = m ((c.tc : Thread Cert.RefSsmGateIdeal.nD Cert.RefSsmGateIdeal.τ).loc Cert.RefSsmGateIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_RefGluIdeal [hRefGluIdeal : Cert.RefGluIdeal.Facts] : Prop :=
  ∀ (m : (ℓ : Loc Cert.RefGluIdeal.nD Cert.RefGluIdeal.τ Cert.RefGluIdeal.sig) → Buf (Elt Ideal) ℓ) (g : Dev Cert.RefGluIdeal.nD → PrngReg), Pre_RefGluIdeal m →
    θ_run (Cert.RefGluIdeal.defs (F := Ideal)) (onTc (τ := Cert.RefGluIdeal.τ) (Cert.RefGluIdeal.main (F := Ideal))) ⟨m, fun _ => 0, g⟩ (fun r => (∀ c : Dev Cert.RefGluIdeal.nD,
      r.2.mem ((c.tc : Thread Cert.RefGluIdeal.nD Cert.RefGluIdeal.τ).loc Cert.RefGluIdeal.main_arg0) = m ((c.tc : Thread Cert.RefGluIdeal.nD Cert.RefGluIdeal.τ).loc Cert.RefGluIdeal.main_arg0)
      ∧ r.2.mem ((c.tc : Thread Cert.RefGluIdeal.nD Cert.RefGluIdeal.τ).loc Cert.RefGluIdeal.main_arg1) = m ((c.tc : Thread Cert.RefGluIdeal.nD Cert.RefGluIdeal.τ).loc Cert.RefGluIdeal.main_arg1)
      ∧ r.2.mem ((c.tc : Thread Cert.RefGluIdeal.nD Cert.RefGluIdeal.τ).loc Cert.RefGluIdeal.main_arg2) = m ((c.tc : Thread Cert.RefGluIdeal.nD Cert.RefGluIdeal.τ).loc Cert.RefGluIdeal.main_arg2)
      ∧ r.2.mem ((c.tc : Thread Cert.RefGluIdeal.nD Cert.RefGluIdeal.τ).loc Cert.RefGluIdeal.main_arg3) = m ((c.tc : Thread Cert.RefGluIdeal.nD Cert.RefGluIdeal.τ).loc Cert.RefGluIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6)
      ∧ r.2.mem ((c.tc : Thread Cert.RefMergeIdeal.nD Cert.RefMergeIdeal.τ).loc Cert.RefMergeIdeal.main_arg7) = m ((c.tc : Thread Cert.RefMergeIdeal.nD Cert.RefMergeIdeal.τ).loc Cert.RefMergeIdeal.main_arg7)
      ∧ r.2.mem ((c.tc : Thread Cert.RefMergeIdeal.nD Cert.RefMergeIdeal.τ).loc Cert.RefMergeIdeal.main_arg8) = m ((c.tc : Thread Cert.RefMergeIdeal.nD Cert.RefMergeIdeal.τ).loc Cert.RefMergeIdeal.main_arg8)
      ∧ r.2.mem ((c.tc : Thread Cert.RefMergeIdeal.nD Cert.RefMergeIdeal.τ).loc Cert.RefMergeIdeal.main_arg9) = m ((c.tc : Thread Cert.RefMergeIdeal.nD Cert.RefMergeIdeal.τ).loc Cert.RefMergeIdeal.main_arg9)
      ∧ r.2.mem ((c.tc : Thread Cert.RefMergeIdeal.nD Cert.RefMergeIdeal.τ).loc Cert.RefMergeIdeal.main_arg10) = m ((c.tc : Thread Cert.RefMergeIdeal.nD Cert.RefMergeIdeal.τ).loc Cert.RefMergeIdeal.main_arg10))
      ∧ r.2.sem = fun _ => 0)

def quiescent_AttnD4 [hAttnD4 : Cert.AttnD4.Facts] : Prop :=
  ∀ (m : (ℓ : Loc Cert.AttnD4.nD Cert.AttnD4.τ Cert.AttnD4.sig) → Buf (Elt Bits) ℓ) (g : Dev Cert.AttnD4.nD → PrngReg), Pre_AttnD4 m →
    θ_run (Cert.AttnD4.defs (F := Bits)) (onTc (τ := Cert.AttnD4.τ) (Cert.AttnD4.main (F := Bits))) ⟨m, fun _ => 0, g⟩ (fun r => (∀ c : Dev Cert.AttnD4.nD,
      r.2.mem ((c.tc : Thread Cert.AttnD4.nD Cert.AttnD4.τ).loc Cert.AttnD4.main_arg0) = m ((c.tc : Thread Cert.AttnD4.nD Cert.AttnD4.τ).loc Cert.AttnD4.main_arg0)
      ∧ r.2.mem ((c.tc : Thread Cert.AttnD4.nD Cert.AttnD4.τ).loc Cert.AttnD4.main_arg1) = m ((c.tc : Thread Cert.AttnD4.nD Cert.AttnD4.τ).loc Cert.AttnD4.main_arg1)
      ∧ r.2.mem ((c.tc : Thread Cert.AttnD4.nD Cert.AttnD4.τ).loc Cert.AttnD4.main_arg2) = m ((c.tc : Thread Cert.AttnD4.nD Cert.AttnD4.τ).loc Cert.AttnD4.main_arg2))
      ∧ r.2.sem = fun _ => 0)

def quiescent_AttnD4Ideal [hAttnD4Ideal : Cert.AttnD4Ideal.Facts] : Prop :=
  ∀ (m : (ℓ : Loc Cert.AttnD4Ideal.nD Cert.AttnD4Ideal.τ Cert.AttnD4Ideal.sig) → Buf (Elt Ideal) ℓ) (g : Dev Cert.AttnD4Ideal.nD → PrngReg), Pre_AttnD4Ideal m →
    θ_run (Cert.AttnD4Ideal.defs (F := Ideal)) (onTc (τ := Cert.AttnD4Ideal.τ) (Cert.AttnD4Ideal.main (F := Ideal))) ⟨m, fun _ => 0, g⟩ (fun r => (∀ c : Dev Cert.AttnD4Ideal.nD,
      r.2.mem ((c.tc : Thread Cert.AttnD4Ideal.nD Cert.AttnD4Ideal.τ).loc Cert.AttnD4Ideal.main_arg0) = m ((c.tc : Thread Cert.AttnD4Ideal.nD Cert.AttnD4Ideal.τ).loc Cert.AttnD4Ideal.main_arg0)
      ∧ r.2.mem ((c.tc : Thread Cert.AttnD4Ideal.nD Cert.AttnD4Ideal.τ).loc Cert.AttnD4Ideal.main_arg1) = m ((c.tc : Thread Cert.AttnD4Ideal.nD Cert.AttnD4Ideal.τ).loc Cert.AttnD4Ideal.main_arg1)
      ∧ r.2.mem ((c.tc : Thread Cert.AttnD4Ideal.nD Cert.AttnD4Ideal.τ).loc Cert.AttnD4Ideal.main_arg2) = m ((c.tc : Thread Cert.AttnD4Ideal.nD Cert.AttnD4Ideal.τ).loc Cert.AttnD4Ideal.main_arg2))
      ∧ r.2.sem = fun _ => 0)

def quiescent_AttnD4Ideal_pre_finite_qk_d4 [hAttnD4Ideal : Cert.AttnD4Ideal.Facts] [hPre_finite_qk_d4 : Cert.Pre_finite_qk_d4.Facts] : Prop :=
  ∀ (m : (ℓ : Loc Cert.AttnD4Ideal.nD Cert.AttnD4Ideal.τ Cert.AttnD4Ideal.sig) → Buf (Elt Ideal) ℓ) (g : Dev Cert.AttnD4Ideal.nD → PrngReg), Pre_AttnD4Ideal_finite_qk_d4 m →
    θ_run (Cert.AttnD4Ideal.defs (F := Ideal)) (onTc (τ := Cert.AttnD4Ideal.τ) (Cert.AttnD4Ideal.main (F := Ideal))) ⟨m, fun _ => 0, g⟩ (fun r => (∀ c : Dev Cert.AttnD4Ideal.nD,
      r.2.mem ((c.tc : Thread Cert.AttnD4Ideal.nD Cert.AttnD4Ideal.τ).loc Cert.AttnD4Ideal.main_arg0) = m ((c.tc : Thread Cert.AttnD4Ideal.nD Cert.AttnD4Ideal.τ).loc Cert.AttnD4Ideal.main_arg0)
      ∧ r.2.mem ((c.tc : Thread Cert.AttnD4Ideal.nD Cert.AttnD4Ideal.τ).loc Cert.AttnD4Ideal.main_arg1) = m ((c.tc : Thread Cert.AttnD4Ideal.nD Cert.AttnD4Ideal.τ).loc Cert.AttnD4Ideal.main_arg1)
      ∧ r.2.mem ((c.tc : Thread Cert.AttnD4Ideal.nD Cert.AttnD4Ideal.τ).loc Cert.AttnD4Ideal.main_arg2) = m ((c.tc : Thread Cert.AttnD4Ideal.nD Cert.AttnD4Ideal.τ).loc Cert.AttnD4Ideal.main_arg2))
      ∧ r.2.sem = fun _ => 0)

def quiescent_RefAttnD4Ideal [hRefAttnD4Ideal : Cert.RefAttnD4Ideal.Facts] : Prop :=
  ∀ (m : (ℓ : Loc Cert.RefAttnD4Ideal.nD Cert.RefAttnD4Ideal.τ Cert.RefAttnD4Ideal.sig) → Buf (Elt Ideal) ℓ) (g : Dev Cert.RefAttnD4Ideal.nD → PrngReg), Pre_RefAttnD4Ideal m →
    θ_run (Cert.RefAttnD4Ideal.defs (F := Ideal)) (onTc (τ := Cert.RefAttnD4Ideal.τ) (Cert.RefAttnD4Ideal.main (F := Ideal))) ⟨m, fun _ => 0, g⟩ (fun r => (∀ c : Dev Cert.RefAttnD4Ideal.nD,
      r.2.mem ((c.tc : Thread Cert.RefAttnD4Ideal.nD Cert.RefAttnD4Ideal.τ).loc Cert.RefAttnD4Ideal.main_arg0) = m ((c.tc : Thread Cert.RefAttnD4Ideal.nD Cert.RefAttnD4Ideal.τ).loc Cert.RefAttnD4Ideal.main_arg0)
      ∧ r.2.mem ((c.tc : Thread Cert.RefAttnD4Ideal.nD Cert.RefAttnD4Ideal.τ).loc Cert.RefAttnD4Ideal.main_arg1) = m ((c.tc : Thread Cert.RefAttnD4Ideal.nD Cert.RefAttnD4Ideal.τ).loc Cert.RefAttnD4Ideal.main_arg1)
      ∧ r.2.mem ((c.tc : Thread Cert.RefAttnD4Ideal.nD Cert.RefAttnD4Ideal.τ).loc Cert.RefAttnD4Ideal.main_arg2) = m ((c.tc : Thread Cert.RefAttnD4Ideal.nD Cert.RefAttnD4Ideal.τ).loc Cert.RefAttnD4Ideal.main_arg2))
      ∧ r.2.sem = fun _ => 0)

def quiescent_RefAttnD4Ideal_pre_finite_qk_d4 [hRefAttnD4Ideal : Cert.RefAttnD4Ideal.Facts] [hPre_finite_qk_d4 : Cert.Pre_finite_qk_d4.Facts] : Prop :=
  ∀ (m : (ℓ : Loc Cert.RefAttnD4Ideal.nD Cert.RefAttnD4Ideal.τ Cert.RefAttnD4Ideal.sig) → Buf (Elt Ideal) ℓ) (g : Dev Cert.RefAttnD4Ideal.nD → PrngReg), Pre_RefAttnD4Ideal_finite_qk_d4 m →
    θ_run (Cert.RefAttnD4Ideal.defs (F := Ideal)) (onTc (τ := Cert.RefAttnD4Ideal.τ) (Cert.RefAttnD4Ideal.main (F := Ideal))) ⟨m, fun _ => 0, g⟩ (fun r => (∀ c : Dev Cert.RefAttnD4Ideal.nD,
      r.2.mem ((c.tc : Thread Cert.RefAttnD4Ideal.nD Cert.RefAttnD4Ideal.τ).loc Cert.RefAttnD4Ideal.main_arg0) = m ((c.tc : Thread Cert.RefAttnD4Ideal.nD Cert.RefAttnD4Ideal.τ).loc Cert.RefAttnD4Ideal.main_arg0)
      ∧ r.2.mem ((c.tc : Thread Cert.RefAttnD4Ideal.nD Cert.RefAttnD4Ideal.τ).loc Cert.RefAttnD4Ideal.main_arg1) = m ((c.tc : Thread Cert.RefAttnD4Ideal.nD Cert.RefAttnD4Ideal.τ).loc Cert.RefAttnD4Ideal.main_arg1)
      ∧ r.2.mem ((c.tc : Thread Cert.RefAttnD4Ideal.nD Cert.RefAttnD4Ideal.τ).loc Cert.RefAttnD4Ideal.main_arg2) = m ((c.tc : Thread Cert.RefAttnD4Ideal.nD Cert.RefAttnD4Ideal.τ).loc Cert.RefAttnD4Ideal.main_arg2))
      ∧ r.2.sem = fun _ => 0)

def quiescent_AttnD16 [hAttnD16 : Cert.AttnD16.Facts] : Prop :=
  ∀ (m : (ℓ : Loc Cert.AttnD16.nD Cert.AttnD16.τ Cert.AttnD16.sig) → Buf (Elt Bits) ℓ) (g : Dev Cert.AttnD16.nD → PrngReg), Pre_AttnD16 m →
    θ_run (Cert.AttnD16.defs (F := Bits)) (onTc (τ := Cert.AttnD16.τ) (Cert.AttnD16.main (F := Bits))) ⟨m, fun _ => 0, g⟩ (fun r => (∀ c : Dev Cert.AttnD16.nD,
      r.2.mem ((c.tc : Thread Cert.AttnD16.nD Cert.AttnD16.τ).loc Cert.AttnD16.main_arg0) = m ((c.tc : Thread Cert.AttnD16.nD Cert.AttnD16.τ).loc Cert.AttnD16.main_arg0)
      ∧ r.2.mem ((c.tc : Thread Cert.AttnD16.nD Cert.AttnD16.τ).loc Cert.AttnD16.main_arg1) = m ((c.tc : Thread Cert.AttnD16.nD Cert.AttnD16.τ).loc Cert.AttnD16.main_arg1)
      ∧ r.2.mem ((c.tc : Thread Cert.AttnD16.nD Cert.AttnD16.τ).loc Cert.AttnD16.main_arg2) = m ((c.tc : Thread Cert.AttnD16.nD Cert.AttnD16.τ).loc Cert.AttnD16.main_arg2))
      ∧ r.2.sem = fun _ => 0)

def quiescent_AttnD16Ideal [hAttnD16Ideal : Cert.AttnD16Ideal.Facts] : Prop :=
  ∀ (m : (ℓ : Loc Cert.AttnD16Ideal.nD Cert.AttnD16Ideal.τ Cert.AttnD16Ideal.sig) → Buf (Elt Ideal) ℓ) (g : Dev Cert.AttnD16Ideal.nD → PrngReg), Pre_AttnD16Ideal m →
    θ_run (Cert.AttnD16Ideal.defs (F := Ideal)) (onTc (τ := Cert.AttnD16Ideal.τ) (Cert.AttnD16Ideal.main (F := Ideal))) ⟨m, fun _ => 0, g⟩ (fun r => (∀ c : Dev Cert.AttnD16Ideal.nD,
      r.2.mem ((c.tc : Thread Cert.AttnD16Ideal.nD Cert.AttnD16Ideal.τ).loc Cert.AttnD16Ideal.main_arg0) = m ((c.tc : Thread Cert.AttnD16Ideal.nD Cert.AttnD16Ideal.τ).loc Cert.AttnD16Ideal.main_arg0)
      ∧ r.2.mem ((c.tc : Thread Cert.AttnD16Ideal.nD Cert.AttnD16Ideal.τ).loc Cert.AttnD16Ideal.main_arg1) = m ((c.tc : Thread Cert.AttnD16Ideal.nD Cert.AttnD16Ideal.τ).loc Cert.AttnD16Ideal.main_arg1)
      ∧ r.2.mem ((c.tc : Thread Cert.AttnD16Ideal.nD Cert.AttnD16Ideal.τ).loc Cert.AttnD16Ideal.main_arg2) = m ((c.tc : Thread Cert.AttnD16Ideal.nD Cert.AttnD16Ideal.τ).loc Cert.AttnD16Ideal.main_arg2))
      ∧ r.2.sem = fun _ => 0)

def quiescent_AttnD16Ideal_pre_finite_qk_d16 [hAttnD16Ideal : Cert.AttnD16Ideal.Facts] [hPre_finite_qk_d16 : Cert.Pre_finite_qk_d16.Facts] : Prop :=
  ∀ (m : (ℓ : Loc Cert.AttnD16Ideal.nD Cert.AttnD16Ideal.τ Cert.AttnD16Ideal.sig) → Buf (Elt Ideal) ℓ) (g : Dev Cert.AttnD16Ideal.nD → PrngReg), Pre_AttnD16Ideal_finite_qk_d16 m →
    θ_run (Cert.AttnD16Ideal.defs (F := Ideal)) (onTc (τ := Cert.AttnD16Ideal.τ) (Cert.AttnD16Ideal.main (F := Ideal))) ⟨m, fun _ => 0, g⟩ (fun r => (∀ c : Dev Cert.AttnD16Ideal.nD,
      r.2.mem ((c.tc : Thread Cert.AttnD16Ideal.nD Cert.AttnD16Ideal.τ).loc Cert.AttnD16Ideal.main_arg0) = m ((c.tc : Thread Cert.AttnD16Ideal.nD Cert.AttnD16Ideal.τ).loc Cert.AttnD16Ideal.main_arg0)
      ∧ r.2.mem ((c.tc : Thread Cert.AttnD16Ideal.nD Cert.AttnD16Ideal.τ).loc Cert.AttnD16Ideal.main_arg1) = m ((c.tc : Thread Cert.AttnD16Ideal.nD Cert.AttnD16Ideal.τ).loc Cert.AttnD16Ideal.main_arg1)
      ∧ r.2.mem ((c.tc : Thread Cert.AttnD16Ideal.nD Cert.AttnD16Ideal.τ).loc Cert.AttnD16Ideal.main_arg2) = m ((c.tc : Thread Cert.AttnD16Ideal.nD Cert.AttnD16Ideal.τ).loc Cert.AttnD16Ideal.main_arg2))
      ∧ r.2.sem = fun _ => 0)

def quiescent_RefAttnD16Ideal [hRefAttnD16Ideal : Cert.RefAttnD16Ideal.Facts] : Prop :=
  ∀ (m : (ℓ : Loc Cert.RefAttnD16Ideal.nD Cert.RefAttnD16Ideal.τ Cert.RefAttnD16Ideal.sig) → Buf (Elt Ideal) ℓ) (g : Dev Cert.RefAttnD16Ideal.nD → PrngReg), Pre_RefAttnD16Ideal m →
    θ_run (Cert.RefAttnD16Ideal.defs (F := Ideal)) (onTc (τ := Cert.RefAttnD16Ideal.τ) (Cert.RefAttnD16Ideal.main (F := Ideal))) ⟨m, fun _ => 0, g⟩ (fun r => (∀ c : Dev Cert.RefAttnD16Ideal.nD,
      r.2.mem ((c.tc : Thread Cert.RefAttnD16Ideal.nD Cert.RefAttnD16Ideal.τ).loc Cert.RefAttnD16Ideal.main_arg0) = m ((c.tc : Thread Cert.RefAttnD16Ideal.nD Cert.RefAttnD16Ideal.τ).loc Cert.RefAttnD16Ideal.main_arg0)
      ∧ r.2.mem ((c.tc : Thread Cert.RefAttnD16Ideal.nD Cert.RefAttnD16Ideal.τ).loc Cert.RefAttnD16Ideal.main_arg1) = m ((c.tc : Thread Cert.RefAttnD16Ideal.nD Cert.RefAttnD16Ideal.τ).loc Cert.RefAttnD16Ideal.main_arg1)
      ∧ r.2.mem ((c.tc : Thread Cert.RefAttnD16Ideal.nD Cert.RefAttnD16Ideal.τ).loc Cert.RefAttnD16Ideal.main_arg2) = m ((c.tc : Thread Cert.RefAttnD16Ideal.nD Cert.RefAttnD16Ideal.τ).loc Cert.RefAttnD16Ideal.main_arg2))
      ∧ r.2.sem = fun _ => 0)

def quiescent_RefAttnD16Ideal_pre_finite_qk_d16 [hRefAttnD16Ideal : Cert.RefAttnD16Ideal.Facts] [hPre_finite_qk_d16 : Cert.Pre_finite_qk_d16.Facts] : Prop :=
  ∀ (m : (ℓ : Loc Cert.RefAttnD16Ideal.nD Cert.RefAttnD16Ideal.τ Cert.RefAttnD16Ideal.sig) → Buf (Elt Ideal) ℓ) (g : Dev Cert.RefAttnD16Ideal.nD → PrngReg), Pre_RefAttnD16Ideal_finite_qk_d16 m →
    θ_run (Cert.RefAttnD16Ideal.defs (F := Ideal)) (onTc (τ := Cert.RefAttnD16Ideal.τ) (Cert.RefAttnD16Ideal.main (F := Ideal))) ⟨m, fun _ => 0, g⟩ (fun r => (∀ c : Dev Cert.RefAttnD16Ideal.nD,
      r.2.mem ((c.tc : Thread Cert.RefAttnD16Ideal.nD Cert.RefAttnD16Ideal.τ).loc Cert.RefAttnD16Ideal.main_arg0) = m ((c.tc : Thread Cert.RefAttnD16Ideal.nD Cert.RefAttnD16Ideal.τ).loc Cert.RefAttnD16Ideal.main_arg0)
      ∧ r.2.mem ((c.tc : Thread Cert.RefAttnD16Ideal.nD Cert.RefAttnD16Ideal.τ).loc Cert.RefAttnD16Ideal.main_arg1) = m ((c.tc : Thread Cert.RefAttnD16Ideal.nD Cert.RefAttnD16Ideal.τ).loc Cert.RefAttnD16Ideal.main_arg1)
      ∧ r.2.mem ((c.tc : Thread Cert.RefAttnD16Ideal.nD Cert.RefAttnD16Ideal.τ).loc Cert.RefAttnD16Ideal.main_arg2) = m ((c.tc : Thread Cert.RefAttnD16Ideal.nD Cert.RefAttnD16Ideal.τ).loc Cert.RefAttnD16Ideal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_RefNormIdeal [hRefNormIdeal : Cert.RefNormIdeal.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1))
      ∧ r.2.sem = fun _ => 0)

def quiescent_S5Sample [hS5Sample : Cert.S5Sample.Facts] : Prop :=
  ∀ (m : (ℓ : Loc Cert.S5Sample.nD Cert.S5Sample.τ Cert.S5Sample.sig) → Buf (Elt Bits) ℓ) (g : Dev Cert.S5Sample.nD → PrngReg), Pre_S5Sample m →
    θ_run (Cert.S5Sample.defs (F := Bits)) (onTc (τ := Cert.S5Sample.τ) (Cert.S5Sample.main (F := Bits))) ⟨m, fun _ => 0, g⟩ (fun r => (∀ c : Dev Cert.S5Sample.nD,
      r.2.mem ((c.tc : Thread Cert.S5Sample.nD Cert.S5Sample.τ).loc Cert.S5Sample.main_arg0) = m ((c.tc : Thread Cert.S5Sample.nD Cert.S5Sample.τ).loc Cert.S5Sample.main_arg0)
      ∧ r.2.mem ((c.tc : Thread Cert.S5Sample.nD Cert.S5Sample.τ).loc Cert.S5Sample.main_arg1) = m ((c.tc : Thread Cert.S5Sample.nD Cert.S5Sample.τ).loc Cert.S5Sample.main_arg1)
      ∧ r.2.mem ((c.tc : Thread Cert.S5Sample.nD Cert.S5Sample.τ).loc Cert.S5Sample.main_arg2) = m ((c.tc : Thread Cert.S5Sample.nD Cert.S5Sample.τ).loc Cert.S5Sample.main_arg2)
      ∧ r.2.mem ((c.tc : Thread Cert.S5Sample.nD Cert.S5Sample.τ).loc Cert.S5Sample.main_arg3) = m ((c.tc : Thread Cert.S5Sample.nD Cert.S5Sample.τ).loc Cert.S5Sample.main_arg3)
      ∧ r.2.mem ((c.tc : Thread Cert.S5Sample.nD Cert.S5Sample.τ).loc Cert.S5Sample.main_arg4) = m ((c.tc : Thread Cert.S5Sample.nD Cert.S5Sample.τ).loc Cert.S5Sample.main_arg4)
      ∧ r.2.mem ((c.tc : Thread Cert.S5Sample.nD Cert.S5Sample.τ).loc Cert.S5Sample.main_arg5) = m ((c.tc : Thread Cert.S5Sample.nD Cert.S5Sample.τ).loc Cert.S5Sample.main_arg5)
      ∧ r.2.mem ((c.tc : Thread Cert.S5Sample.nD Cert.S5Sample.τ).loc Cert.S5Sample.main_arg6) = m ((c.tc : Thread Cert.S5Sample.nD Cert.S5Sample.τ).loc Cert.S5Sample.main_arg6))
      ∧ r.2.sem = fun _ => 0)

def quiescent_S5SampleIdeal [hS5SampleIdeal : Cert.S5SampleIdeal.Facts] : Prop :=
  ∀ (m : (ℓ : Loc Cert.S5SampleIdeal.nD Cert.S5SampleIdeal.τ Cert.S5SampleIdeal.sig) → Buf (Elt Ideal) ℓ) (g : Dev Cert.S5SampleIdeal.nD → PrngReg), Pre_S5SampleIdeal m →
    θ_run (Cert.S5SampleIdeal.defs (F := Ideal)) (onTc (τ := Cert.S5SampleIdeal.τ) (Cert.S5SampleIdeal.main (F := Ideal))) ⟨m, fun _ => 0, g⟩ (fun r => (∀ c : Dev Cert.S5SampleIdeal.nD,
      r.2.mem ((c.tc : Thread Cert.S5SampleIdeal.nD Cert.S5SampleIdeal.τ).loc Cert.S5SampleIdeal.main_arg0) = m ((c.tc : Thread Cert.S5SampleIdeal.nD Cert.S5SampleIdeal.τ).loc Cert.S5SampleIdeal.main_arg0)
      ∧ r.2.mem ((c.tc : Thread Cert.S5SampleIdeal.nD Cert.S5SampleIdeal.τ).loc Cert.S5SampleIdeal.main_arg1) = m ((c.tc : Thread Cert.S5SampleIdeal.nD Cert.S5SampleIdeal.τ).loc Cert.S5SampleIdeal.main_arg1)
      ∧ r.2.mem ((c.tc : Thread Cert.S5SampleIdeal.nD Cert.S5SampleIdeal.τ).loc Cert.S5SampleIdeal.main_arg2) = m ((c.tc : Thread Cert.S5SampleIdeal.nD Cert.S5SampleIdeal.τ).loc Cert.S5SampleIdeal.main_arg2)
      ∧ r.2.mem ((c.tc : Thread Cert.S5SampleIdeal.nD Cert.S5SampleIdeal.τ).loc Cert.S5SampleIdeal.main_arg3) = m ((c.tc : Thread Cert.S5SampleIdeal.nD Cert.S5SampleIdeal.τ).loc Cert.S5SampleIdeal.main_arg3)
      ∧ r.2.mem ((c.tc : Thread Cert.S5SampleIdeal.nD Cert.S5SampleIdeal.τ).loc Cert.S5SampleIdeal.main_arg4) = m ((c.tc : Thread Cert.S5SampleIdeal.nD Cert.S5SampleIdeal.τ).loc Cert.S5SampleIdeal.main_arg4)
      ∧ r.2.mem ((c.tc : Thread Cert.S5SampleIdeal.nD Cert.S5SampleIdeal.τ).loc Cert.S5SampleIdeal.main_arg5) = m ((c.tc : Thread Cert.S5SampleIdeal.nD Cert.S5SampleIdeal.τ).loc Cert.S5SampleIdeal.main_arg5)
      ∧ r.2.mem ((c.tc : Thread Cert.S5SampleIdeal.nD Cert.S5SampleIdeal.τ).loc Cert.S5SampleIdeal.main_arg6) = m ((c.tc : Thread Cert.S5SampleIdeal.nD Cert.S5SampleIdeal.τ).loc Cert.S5SampleIdeal.main_arg6))
      ∧ r.2.sem = fun _ => 0)

def quiescent_RefS5SampleIdeal [hRefS5SampleIdeal : Cert.RefS5SampleIdeal.Facts] : Prop :=
  ∀ (m : (ℓ : Loc Cert.RefS5SampleIdeal.nD Cert.RefS5SampleIdeal.τ Cert.RefS5SampleIdeal.sig) → Buf (Elt Ideal) ℓ) (g : Dev Cert.RefS5SampleIdeal.nD → PrngReg), Pre_RefS5SampleIdeal m →
    θ_run (Cert.RefS5SampleIdeal.defs (F := Ideal)) (onTc (τ := Cert.RefS5SampleIdeal.τ) (Cert.RefS5SampleIdeal.main (F := Ideal))) ⟨m, fun _ => 0, g⟩ (fun r => (∀ c : Dev Cert.RefS5SampleIdeal.nD,
      r.2.mem ((c.tc : Thread Cert.RefS5SampleIdeal.nD Cert.RefS5SampleIdeal.τ).loc Cert.RefS5SampleIdeal.main_arg0) = m ((c.tc : Thread Cert.RefS5SampleIdeal.nD Cert.RefS5SampleIdeal.τ).loc Cert.RefS5SampleIdeal.main_arg0)
      ∧ r.2.mem ((c.tc : Thread Cert.RefS5SampleIdeal.nD Cert.RefS5SampleIdeal.τ).loc Cert.RefS5SampleIdeal.main_arg1) = m ((c.tc : Thread Cert.RefS5SampleIdeal.nD Cert.RefS5SampleIdeal.τ).loc Cert.RefS5SampleIdeal.main_arg1)
      ∧ r.2.mem ((c.tc : Thread Cert.RefS5SampleIdeal.nD Cert.RefS5SampleIdeal.τ).loc Cert.RefS5SampleIdeal.main_arg2) = m ((c.tc : Thread Cert.RefS5SampleIdeal.nD Cert.RefS5SampleIdeal.τ).loc Cert.RefS5SampleIdeal.main_arg2)
      ∧ r.2.mem ((c.tc : Thread Cert.RefS5SampleIdeal.nD Cert.RefS5SampleIdeal.τ).loc Cert.RefS5SampleIdeal.main_arg3) = m ((c.tc : Thread Cert.RefS5SampleIdeal.nD Cert.RefS5SampleIdeal.τ).loc Cert.RefS5SampleIdeal.main_arg3)
      ∧ r.2.mem ((c.tc : Thread Cert.RefS5SampleIdeal.nD Cert.RefS5SampleIdeal.τ).loc Cert.RefS5SampleIdeal.main_arg4) = m ((c.tc : Thread Cert.RefS5SampleIdeal.nD Cert.RefS5SampleIdeal.τ).loc Cert.RefS5SampleIdeal.main_arg4)
      ∧ r.2.mem ((c.tc : Thread Cert.RefS5SampleIdeal.nD Cert.RefS5SampleIdeal.τ).loc Cert.RefS5SampleIdeal.main_arg5) = m ((c.tc : Thread Cert.RefS5SampleIdeal.nD Cert.RefS5SampleIdeal.τ).loc Cert.RefS5SampleIdeal.main_arg5)
      ∧ r.2.mem ((c.tc : Thread Cert.RefS5SampleIdeal.nD Cert.RefS5SampleIdeal.τ).loc Cert.RefS5SampleIdeal.main_arg6) = m ((c.tc : Thread Cert.RefS5SampleIdeal.nD Cert.RefS5SampleIdeal.τ).loc Cert.RefS5SampleIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Gates_GatesIdeal : Prop :=
  True

def algebraic_GatesIdeal_RefGatesIdeal [hGatesIdeal : Cert.GatesIdeal.Facts] [hRefGatesIdeal : Cert.RefGatesIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.RefGatesIdeal.nD Cert.RefGatesIdeal.τ Cert.RefGatesIdeal.sig) → Buf (Elt Ideal) ℓ) (g' : Dev Cert.RefGatesIdeal.nD → PrngReg), Pre_GatesIdeal m →
    (∀ c : Dev Cert.GatesIdeal.nD,
      m' ((c.tc : Thread Cert.RefGatesIdeal.nD Cert.RefGatesIdeal.τ).loc Cert.RefGatesIdeal.main_arg0) = m ((c.tc : Thread Cert.GatesIdeal.nD Cert.GatesIdeal.τ).loc Cert.GatesIdeal.main_arg0)
      ∧ m' ((c.tc : Thread Cert.RefGatesIdeal.nD Cert.RefGatesIdeal.τ).loc Cert.RefGatesIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.RefGatesIdeal.defs (F := Ideal)) (onTc (τ := Cert.RefGatesIdeal.τ) (Cert.RefGatesIdeal.main (F := Ideal))) ⟨m', fun _ => 0, g'⟩ (fun r => ∀ c : Dev Cert.RefGatesIdeal.nD,
          r.2.mem ((c.tc : Thread Cert.RefGatesIdeal.nD Cert.RefGatesIdeal.τ).loc Cert.RefGatesIdeal.main_v24) = v0 c
          ∧ r.2.mem ((c.tc : Thread Cert.RefGatesIdeal.nD Cert.RefGatesIdeal.τ).loc Cert.RefGatesIdeal.main_arg0) = m' ((c.tc : Thread Cert.RefGatesIdeal.nD Cert.RefGatesIdeal.τ).loc Cert.RefGatesIdeal.main_arg0)
          ∧ r.2.mem ((c.tc : Thread Cert.RefGatesIdeal.nD Cert.RefGatesIdeal.τ).loc Cert.RefGatesIdeal.main_arg1) = m' ((c.tc : Thread Cert.RefGatesIdeal.nD Cert.RefGatesIdeal.τ).loc Cert.RefGatesIdeal.main_arg1))

def preserves_AttnGate_AttnGateIdeal : Prop :=
  True

def algebraic_AttnGateIdeal_RefAttnGateIdeal [hAttnGateIdeal : Cert.AttnGateIdeal.Facts] [hRefAttnGateIdeal : Cert.RefAttnGateIdeal.Facts] : Prop :=
  ∀ (m : (ℓ : Loc Cert.AttnGateIdeal.nD Cert.AttnGateIdeal.τ Cert.AttnGateIdeal.sig) → Buf (Elt Ideal) ℓ) (g : Dev Cert.AttnGateIdeal.nD → PrngReg)
    (m' : (ℓ : Loc Cert.RefAttnGateIdeal.nD Cert.RefAttnGateIdeal.τ Cert.RefAttnGateIdeal.sig) → Buf (Elt Ideal) ℓ) (g' : Dev Cert.RefAttnGateIdeal.nD → PrngReg), Pre_AttnGateIdeal m →
    (∀ c : Dev Cert.AttnGateIdeal.nD,
      m' ((c.tc : Thread Cert.RefAttnGateIdeal.nD Cert.RefAttnGateIdeal.τ).loc Cert.RefAttnGateIdeal.main_arg0) = m ((c.tc : Thread Cert.AttnGateIdeal.nD Cert.AttnGateIdeal.τ).loc Cert.AttnGateIdeal.main_arg0)
      ∧ m' ((c.tc : Thread Cert.RefAttnGateIdeal.nD Cert.RefAttnGateIdeal.τ).loc Cert.RefAttnGateIdeal.main_arg1) = m ((c.tc : Thread Cert.AttnGateIdeal.nD Cert.AttnGateIdeal.τ).loc Cert.AttnGateIdeal.main_arg1)) →
    ∃ (v0 : (c : Dev Cert.AttnGateIdeal.nD) → Buf (Elt Ideal) ((c.tc : Thread Cert.AttnGateIdeal.nD Cert.AttnGateIdeal.τ).loc Cert.AttnGateIdeal.main_v0)),
      θ_run (Cert.AttnGateIdeal.defs (F := Ideal)) (onTc (τ := Cert.AttnGateIdeal.τ) (Cert.AttnGateIdeal.main (F := Ideal))) ⟨m, fun _ => 0, g⟩ (fun r => ∀ c : Dev Cert.AttnGateIdeal.nD,
          r.2.mem ((c.tc : Thread Cert.AttnGateIdeal.nD Cert.AttnGateIdeal.τ).loc Cert.AttnGateIdeal.main_v0) = v0 c
          ∧ r.2.mem ((c.tc : Thread Cert.AttnGateIdeal.nD Cert.AttnGateIdeal.τ).loc Cert.AttnGateIdeal.main_arg0) = m ((c.tc : Thread Cert.AttnGateIdeal.nD Cert.AttnGateIdeal.τ).loc Cert.AttnGateIdeal.main_arg0)
          ∧ r.2.mem ((c.tc : Thread Cert.AttnGateIdeal.nD Cert.AttnGateIdeal.τ).loc Cert.AttnGateIdeal.main_arg1) = m ((c.tc : Thread Cert.AttnGateIdeal.nD Cert.AttnGateIdeal.τ).loc Cert.AttnGateIdeal.main_arg1))
      ∧ θ_run (Cert.RefAttnGateIdeal.defs (F := Ideal)) (onTc (τ := Cert.RefAttnGateIdeal.τ) (Cert.RefAttnGateIdeal.main (F := Ideal))) ⟨m', fun _ => 0, g'⟩ (fun r => ∀ c : Dev Cert.RefAttnGateIdeal.nD,
          r.2.mem ((c.tc : Thread Cert.RefAttnGateIdeal.nD Cert.RefAttnGateIdeal.τ).loc Cert.RefAttnGateIdeal.main_v12) = v0 c
          ∧ r.2.mem ((c.tc : Thread Cert.RefAttnGateIdeal.nD Cert.RefAttnGateIdeal.τ).loc Cert.RefAttnGateIdeal.main_arg0) = m' ((c.tc : Thread Cert.RefAttnGateIdeal.nD Cert.RefAttnGateIdeal.τ).loc Cert.RefAttnGateIdeal.main_arg0)
          ∧ r.2.mem ((c.tc : Thread Cert.RefAttnGateIdeal.nD Cert.RefAttnGateIdeal.τ).loc Cert.RefAttnGateIdeal.main_arg1) = m' ((c.tc : Thread Cert.RefAttnGateIdeal.nD Cert.RefAttnGateIdeal.τ).loc Cert.RefAttnGateIdeal.main_arg1))

def preserves_SsmIn_SsmInIdeal : Prop :=
  True

def algebraic_SsmInIdeal_RefSsmInIdeal [hSsmInIdeal : Cert.SsmInIdeal.Facts] [hRefSsmInIdeal : Cert.RefSsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.RefSsmInIdeal.nD Cert.RefSsmInIdeal.τ Cert.RefSsmInIdeal.sig) → Buf (Elt Ideal) ℓ) (g' : Dev Cert.RefSsmInIdeal.nD → PrngReg), Pre_SsmInIdeal m →
    (∀ c : Dev Cert.SsmInIdeal.nD,
      m' ((c.tc : Thread Cert.RefSsmInIdeal.nD Cert.RefSsmInIdeal.τ).loc Cert.RefSsmInIdeal.main_arg0) = m ((c.tc : Thread Cert.SsmInIdeal.nD Cert.SsmInIdeal.τ).loc Cert.SsmInIdeal.main_arg0)
      ∧ m' ((c.tc : Thread Cert.RefSsmInIdeal.nD Cert.RefSsmInIdeal.τ).loc Cert.RefSsmInIdeal.main_arg1) = m ((c.tc : Thread Cert.SsmInIdeal.nD Cert.SsmInIdeal.τ).loc Cert.SsmInIdeal.main_arg1)) →
    ∃ (v0 : (c : Dev Cert.SsmInIdeal.nD) → Buf (Elt Ideal) ((c.tc : Thread Cert.SsmInIdeal.nD Cert.SsmInIdeal.τ).loc Cert.SsmInIdeal.main_v0)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v0) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ θ_run (Cert.RefSsmInIdeal.defs (F := Ideal)) (onTc (τ := Cert.RefSsmInIdeal.τ) (Cert.RefSsmInIdeal.main (F := Ideal))) ⟨m', fun _ => 0, g'⟩ (fun r => ∀ c : Dev Cert.RefSsmInIdeal.nD,
          r.2.mem ((c.tc : Thread Cert.RefSsmInIdeal.nD Cert.RefSsmInIdeal.τ).loc Cert.RefSsmInIdeal.main_v7) = v0 c
          ∧ r.2.mem ((c.tc : Thread Cert.RefSsmInIdeal.nD Cert.RefSsmInIdeal.τ).loc Cert.RefSsmInIdeal.main_arg0) = m' ((c.tc : Thread Cert.RefSsmInIdeal.nD Cert.RefSsmInIdeal.τ).loc Cert.RefSsmInIdeal.main_arg0)
          ∧ r.2.mem ((c.tc : Thread Cert.RefSsmInIdeal.nD Cert.RefSsmInIdeal.τ).loc Cert.RefSsmInIdeal.main_arg1) = m' ((c.tc : Thread Cert.RefSsmInIdeal.nD Cert.RefSsmInIdeal.τ).loc Cert.RefSsmInIdeal.main_arg1))

def preserves_SsmGate_SsmGateIdeal : Prop :=
  True

def algebraic_SsmGateIdeal_RefSsmGateIdeal [hSsmGateIdeal : Cert.SsmGateIdeal.Facts] [hRefSsmGateIdeal : Cert.RefSsmGateIdeal.Facts] : Prop :=
  ∀ (m : (ℓ : Loc Cert.SsmGateIdeal.nD Cert.SsmGateIdeal.τ Cert.SsmGateIdeal.sig) → Buf (Elt Ideal) ℓ) (g : Dev Cert.SsmGateIdeal.nD → PrngReg)
    (m' : (ℓ : Loc Cert.RefSsmGateIdeal.nD Cert.RefSsmGateIdeal.τ Cert.RefSsmGateIdeal.sig) → Buf (Elt Ideal) ℓ) (g' : Dev Cert.RefSsmGateIdeal.nD → PrngReg), Pre_SsmGateIdeal m →
    (∀ c : Dev Cert.SsmGateIdeal.nD,
      m' ((c.tc : Thread Cert.RefSsmGateIdeal.nD Cert.RefSsmGateIdeal.τ).loc Cert.RefSsmGateIdeal.main_arg0) = m ((c.tc : Thread Cert.SsmGateIdeal.nD Cert.SsmGateIdeal.τ).loc Cert.SsmGateIdeal.main_arg0)
      ∧ m' ((c.tc : Thread Cert.RefSsmGateIdeal.nD Cert.RefSsmGateIdeal.τ).loc Cert.RefSsmGateIdeal.main_arg1) = m ((c.tc : Thread Cert.SsmGateIdeal.nD Cert.SsmGateIdeal.τ).loc Cert.SsmGateIdeal.main_arg1)) →
    ∃ (v0 : (c : Dev Cert.SsmGateIdeal.nD) → Buf (Elt Ideal) ((c.tc : Thread Cert.SsmGateIdeal.nD Cert.SsmGateIdeal.τ).loc Cert.SsmGateIdeal.main_v0)),
      θ_run (Cert.SsmGateIdeal.defs (F := Ideal)) (onTc (τ := Cert.SsmGateIdeal.τ) (Cert.SsmGateIdeal.main (F := Ideal))) ⟨m, fun _ => 0, g⟩ (fun r => ∀ c : Dev Cert.SsmGateIdeal.nD,
          r.2.mem ((c.tc : Thread Cert.SsmGateIdeal.nD Cert.SsmGateIdeal.τ).loc Cert.SsmGateIdeal.main_v0) = v0 c
          ∧ r.2.mem ((c.tc : Thread Cert.SsmGateIdeal.nD Cert.SsmGateIdeal.τ).loc Cert.SsmGateIdeal.main_arg0) = m ((c.tc : Thread Cert.SsmGateIdeal.nD Cert.SsmGateIdeal.τ).loc Cert.SsmGateIdeal.main_arg0)
          ∧ r.2.mem ((c.tc : Thread Cert.SsmGateIdeal.nD Cert.SsmGateIdeal.τ).loc Cert.SsmGateIdeal.main_arg1) = m ((c.tc : Thread Cert.SsmGateIdeal.nD Cert.SsmGateIdeal.τ).loc Cert.SsmGateIdeal.main_arg1))
      ∧ θ_run (Cert.RefSsmGateIdeal.defs (F := Ideal)) (onTc (τ := Cert.RefSsmGateIdeal.τ) (Cert.RefSsmGateIdeal.main (F := Ideal))) ⟨m', fun _ => 0, g'⟩ (fun r => ∀ c : Dev Cert.RefSsmGateIdeal.nD,
          r.2.mem ((c.tc : Thread Cert.RefSsmGateIdeal.nD Cert.RefSsmGateIdeal.τ).loc Cert.RefSsmGateIdeal.main_v12) = v0 c
          ∧ r.2.mem ((c.tc : Thread Cert.RefSsmGateIdeal.nD Cert.RefSsmGateIdeal.τ).loc Cert.RefSsmGateIdeal.main_arg0) = m' ((c.tc : Thread Cert.RefSsmGateIdeal.nD Cert.RefSsmGateIdeal.τ).loc Cert.RefSsmGateIdeal.main_arg0)
          ∧ r.2.mem ((c.tc : Thread Cert.RefSsmGateIdeal.nD Cert.RefSsmGateIdeal.τ).loc Cert.RefSsmGateIdeal.main_arg1) = m' ((c.tc : Thread Cert.RefSsmGateIdeal.nD Cert.RefSsmGateIdeal.τ).loc Cert.RefSsmGateIdeal.main_arg1))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v3) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2))

def preserves_Glu_GluIdeal : Prop :=
  True

def algebraic_GluIdeal_RefGluIdeal [hGluIdeal : Cert.GluIdeal.Facts] [hRefGluIdeal : Cert.RefGluIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.RefGluIdeal.nD Cert.RefGluIdeal.τ Cert.RefGluIdeal.sig) → Buf (Elt Ideal) ℓ) (g' : Dev Cert.RefGluIdeal.nD → PrngReg), Pre_GluIdeal m →
    (∀ c : Dev Cert.GluIdeal.nD,
      m' ((c.tc : Thread Cert.RefGluIdeal.nD Cert.RefGluIdeal.τ).loc Cert.RefGluIdeal.main_arg0) = m ((c.tc : Thread Cert.GluIdeal.nD Cert.GluIdeal.τ).loc Cert.GluIdeal.main_arg0)
      ∧ m' ((c.tc : Thread Cert.RefGluIdeal.nD Cert.RefGluIdeal.τ).loc Cert.RefGluIdeal.main_arg1) = m ((c.tc : Thread Cert.GluIdeal.nD Cert.GluIdeal.τ).loc Cert.GluIdeal.main_arg1)
      ∧ m' ((c.tc : Thread Cert.RefGluIdeal.nD Cert.RefGluIdeal.τ).loc Cert.RefGluIdeal.main_arg2) = m ((c.tc : Thread Cert.GluIdeal.nD Cert.GluIdeal.τ).loc Cert.GluIdeal.main_arg2)
      ∧ m' ((c.tc : Thread Cert.RefGluIdeal.nD Cert.RefGluIdeal.τ).loc Cert.RefGluIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.RefGluIdeal.defs (F := Ideal)) (onTc (τ := Cert.RefGluIdeal.τ) (Cert.RefGluIdeal.main (F := Ideal))) ⟨m', fun _ => 0, g'⟩ (fun r => ∀ c : Dev Cert.RefGluIdeal.nD,
          r.2.mem ((c.tc : Thread Cert.RefGluIdeal.nD Cert.RefGluIdeal.τ).loc Cert.RefGluIdeal.main_v27) = v0 c
          ∧ r.2.mem ((c.tc : Thread Cert.RefGluIdeal.nD Cert.RefGluIdeal.τ).loc Cert.RefGluIdeal.main_arg0) = m' ((c.tc : Thread Cert.RefGluIdeal.nD Cert.RefGluIdeal.τ).loc Cert.RefGluIdeal.main_arg0)
          ∧ r.2.mem ((c.tc : Thread Cert.RefGluIdeal.nD Cert.RefGluIdeal.τ).loc Cert.RefGluIdeal.main_arg1) = m' ((c.tc : Thread Cert.RefGluIdeal.nD Cert.RefGluIdeal.τ).loc Cert.RefGluIdeal.main_arg1)
          ∧ r.2.mem ((c.tc : Thread Cert.RefGluIdeal.nD Cert.RefGluIdeal.τ).loc Cert.RefGluIdeal.main_arg2) = m' ((c.tc : Thread Cert.RefGluIdeal.nD Cert.RefGluIdeal.τ).loc Cert.RefGluIdeal.main_arg2)
          ∧ r.2.mem ((c.tc : Thread Cert.RefGluIdeal.nD Cert.RefGluIdeal.τ).loc Cert.RefGluIdeal.main_arg3) = m' ((c.tc : Thread Cert.RefGluIdeal.nD Cert.RefGluIdeal.τ).loc Cert.RefGluIdeal.main_arg3))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)
      ∧ m' ((c.tc : Thread Cert.RefMergeIdeal.nD Cert.RefMergeIdeal.τ).loc Cert.RefMergeIdeal.main_arg7) = m ((c.tc : Thread Cert.MergeIdeal.nD Cert.MergeIdeal.τ).loc Cert.MergeIdeal.main_arg7)
      ∧ m' ((c.tc : Thread Cert.RefMergeIdeal.nD Cert.RefMergeIdeal.τ).loc Cert.RefMergeIdeal.main_arg8) = m ((c.tc : Thread Cert.MergeIdeal.nD Cert.MergeIdeal.τ).loc Cert.MergeIdeal.main_arg8)
      ∧ m' ((c.tc : Thread Cert.RefMergeIdeal.nD Cert.RefMergeIdeal.τ).loc Cert.RefMergeIdeal.main_arg9) = m ((c.tc : Thread Cert.MergeIdeal.nD Cert.MergeIdeal.τ).loc Cert.MergeIdeal.main_arg9)
      ∧ m' ((c.tc : Thread Cert.RefMergeIdeal.nD Cert.RefMergeIdeal.τ).loc Cert.RefMergeIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v58) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6)
          ∧ r.2.mem ((c.tc : Thread Cert.RefMergeIdeal.nD Cert.RefMergeIdeal.τ).loc Cert.RefMergeIdeal.main_arg7) = m' ((c.tc : Thread Cert.RefMergeIdeal.nD Cert.RefMergeIdeal.τ).loc Cert.RefMergeIdeal.main_arg7)
          ∧ r.2.mem ((c.tc : Thread Cert.RefMergeIdeal.nD Cert.RefMergeIdeal.τ).loc Cert.RefMergeIdeal.main_arg8) = m' ((c.tc : Thread Cert.RefMergeIdeal.nD Cert.RefMergeIdeal.τ).loc Cert.RefMergeIdeal.main_arg8)
          ∧ r.2.mem ((c.tc : Thread Cert.RefMergeIdeal.nD Cert.RefMergeIdeal.τ).loc Cert.RefMergeIdeal.main_arg9) = m' ((c.tc : Thread Cert.RefMergeIdeal.nD Cert.RefMergeIdeal.τ).loc Cert.RefMergeIdeal.main_arg9)
          ∧ r.2.mem ((c.tc : Thread Cert.RefMergeIdeal.nD Cert.RefMergeIdeal.τ).loc Cert.RefMergeIdeal.main_arg10) = m' ((c.tc : Thread Cert.RefMergeIdeal.nD Cert.RefMergeIdeal.τ).loc Cert.RefMergeIdeal.main_arg10))

def preserves_AttnD4_AttnD4Ideal : Prop :=
  IdealRules.named_const.Statement Cert.AttnD4Ideal.κ "mask" .f32 0xF149F2CA#32 ⊥

def algebraic_AttnD4Ideal_RefAttnD4Ideal_pre_finite_qk_d4 [hAttnD4Ideal : Cert.AttnD4Ideal.Facts] [hRefAttnD4Ideal : Cert.RefAttnD4Ideal.Facts] [hPre_finite_qk_d4 : Cert.Pre_finite_qk_d4.Facts] : Prop :=
  ∀ (m : (ℓ : Loc Cert.AttnD4Ideal.nD Cert.AttnD4Ideal.τ Cert.AttnD4Ideal.sig) → Buf (Elt Ideal) ℓ) (g : Dev Cert.AttnD4Ideal.nD → PrngReg)
    (m' : (ℓ : Loc Cert.RefAttnD4Ideal.nD Cert.RefAttnD4Ideal.τ Cert.RefAttnD4Ideal.sig) → Buf (Elt Ideal) ℓ) (g' : Dev Cert.RefAttnD4Ideal.nD → PrngReg), Pre_AttnD4Ideal_finite_qk_d4 m →
    (∀ c : Dev Cert.AttnD4Ideal.nD,
      m' ((c.tc : Thread Cert.RefAttnD4Ideal.nD Cert.RefAttnD4Ideal.τ).loc Cert.RefAttnD4Ideal.main_arg0) = m ((c.tc : Thread Cert.AttnD4Ideal.nD Cert.AttnD4Ideal.τ).loc Cert.AttnD4Ideal.main_arg0)
      ∧ m' ((c.tc : Thread Cert.RefAttnD4Ideal.nD Cert.RefAttnD4Ideal.τ).loc Cert.RefAttnD4Ideal.main_arg1) = m ((c.tc : Thread Cert.AttnD4Ideal.nD Cert.AttnD4Ideal.τ).loc Cert.AttnD4Ideal.main_arg1)
      ∧ m' ((c.tc : Thread Cert.RefAttnD4Ideal.nD Cert.RefAttnD4Ideal.τ).loc Cert.RefAttnD4Ideal.main_arg2) = m ((c.tc : Thread Cert.AttnD4Ideal.nD Cert.AttnD4Ideal.τ).loc Cert.AttnD4Ideal.main_arg2)) →
    ∃ (v0 : (c : Dev Cert.AttnD4Ideal.nD) → Buf (Elt Ideal) ((c.tc : Thread Cert.AttnD4Ideal.nD Cert.AttnD4Ideal.τ).loc Cert.AttnD4Ideal.main_v0_0)) (v1 : (c : Dev Cert.AttnD4Ideal.nD) → Buf (Elt Ideal) ((c.tc : Thread Cert.AttnD4Ideal.nD Cert.AttnD4Ideal.τ).loc Cert.AttnD4Ideal.main_v0_1)),
      θ_run (Cert.AttnD4Ideal.defs (F := Ideal)) (onTc (τ := Cert.AttnD4Ideal.τ) (Cert.AttnD4Ideal.main (F := Ideal))) ⟨m, fun _ => 0, g⟩ (fun r => ∀ c : Dev Cert.AttnD4Ideal.nD,
          r.2.mem ((c.tc : Thread Cert.AttnD4Ideal.nD Cert.AttnD4Ideal.τ).loc Cert.AttnD4Ideal.main_v0_0) = v0 c
          ∧ r.2.mem ((c.tc : Thread Cert.AttnD4Ideal.nD Cert.AttnD4Ideal.τ).loc Cert.AttnD4Ideal.main_v0_1) = v1 c
          ∧ r.2.mem ((c.tc : Thread Cert.AttnD4Ideal.nD Cert.AttnD4Ideal.τ).loc Cert.AttnD4Ideal.main_arg0) = m ((c.tc : Thread Cert.AttnD4Ideal.nD Cert.AttnD4Ideal.τ).loc Cert.AttnD4Ideal.main_arg0)
          ∧ r.2.mem ((c.tc : Thread Cert.AttnD4Ideal.nD Cert.AttnD4Ideal.τ).loc Cert.AttnD4Ideal.main_arg1) = m ((c.tc : Thread Cert.AttnD4Ideal.nD Cert.AttnD4Ideal.τ).loc Cert.AttnD4Ideal.main_arg1)
          ∧ r.2.mem ((c.tc : Thread Cert.AttnD4Ideal.nD Cert.AttnD4Ideal.τ).loc Cert.AttnD4Ideal.main_arg2) = m ((c.tc : Thread Cert.AttnD4Ideal.nD Cert.AttnD4Ideal.τ).loc Cert.AttnD4Ideal.main_arg2))
      ∧ θ_run (Cert.RefAttnD4Ideal.defs (F := Ideal)) (onTc (τ := Cert.RefAttnD4Ideal.τ) (Cert.RefAttnD4Ideal.main (F := Ideal))) ⟨m', fun _ => 0, g'⟩ (fun r => ∀ c : Dev Cert.RefAttnD4Ideal.nD,
          r.2.mem ((c.tc : Thread Cert.RefAttnD4Ideal.nD Cert.RefAttnD4Ideal.τ).loc Cert.RefAttnD4Ideal.main_v60) = v0 c
          ∧ r.2.mem ((c.tc : Thread Cert.RefAttnD4Ideal.nD Cert.RefAttnD4Ideal.τ).loc Cert.RefAttnD4Ideal.main_v62) = v1 c
          ∧ r.2.mem ((c.tc : Thread Cert.RefAttnD4Ideal.nD Cert.RefAttnD4Ideal.τ).loc Cert.RefAttnD4Ideal.main_arg0) = m' ((c.tc : Thread Cert.RefAttnD4Ideal.nD Cert.RefAttnD4Ideal.τ).loc Cert.RefAttnD4Ideal.main_arg0)
          ∧ r.2.mem ((c.tc : Thread Cert.RefAttnD4Ideal.nD Cert.RefAttnD4Ideal.τ).loc Cert.RefAttnD4Ideal.main_arg1) = m' ((c.tc : Thread Cert.RefAttnD4Ideal.nD Cert.RefAttnD4Ideal.τ).loc Cert.RefAttnD4Ideal.main_arg1)
          ∧ r.2.mem ((c.tc : Thread Cert.RefAttnD4Ideal.nD Cert.RefAttnD4Ideal.τ).loc Cert.RefAttnD4Ideal.main_arg2) = m' ((c.tc : Thread Cert.RefAttnD4Ideal.nD Cert.RefAttnD4Ideal.τ).loc Cert.RefAttnD4Ideal.main_arg2))

def preserves_AttnD16_AttnD16Ideal : Prop :=
  IdealRules.named_const.Statement Cert.AttnD16Ideal.κ "mask" .f32 0xF149F2CA#32 ⊥

def algebraic_AttnD16Ideal_RefAttnD16Ideal_pre_finite_qk_d16 [hAttnD16Ideal : Cert.AttnD16Ideal.Facts] [hRefAttnD16Ideal : Cert.RefAttnD16Ideal.Facts] [hPre_finite_qk_d16 : Cert.Pre_finite_qk_d16.Facts] : Prop :=
  ∀ (m : (ℓ : Loc Cert.AttnD16Ideal.nD Cert.AttnD16Ideal.τ Cert.AttnD16Ideal.sig) → Buf (Elt Ideal) ℓ) (g : Dev Cert.AttnD16Ideal.nD → PrngReg)
    (m' : (ℓ : Loc Cert.RefAttnD16Ideal.nD Cert.RefAttnD16Ideal.τ Cert.RefAttnD16Ideal.sig) → Buf (Elt Ideal) ℓ) (g' : Dev Cert.RefAttnD16Ideal.nD → PrngReg), Pre_AttnD16Ideal_finite_qk_d16 m →
    (∀ c : Dev Cert.AttnD16Ideal.nD,
      m' ((c.tc : Thread Cert.RefAttnD16Ideal.nD Cert.RefAttnD16Ideal.τ).loc Cert.RefAttnD16Ideal.main_arg0) = m ((c.tc : Thread Cert.AttnD16Ideal.nD Cert.AttnD16Ideal.τ).loc Cert.AttnD16Ideal.main_arg0)
      ∧ m' ((c.tc : Thread Cert.RefAttnD16Ideal.nD Cert.RefAttnD16Ideal.τ).loc Cert.RefAttnD16Ideal.main_arg1) = m ((c.tc : Thread Cert.AttnD16Ideal.nD Cert.AttnD16Ideal.τ).loc Cert.AttnD16Ideal.main_arg1)
      ∧ m' ((c.tc : Thread Cert.RefAttnD16Ideal.nD Cert.RefAttnD16Ideal.τ).loc Cert.RefAttnD16Ideal.main_arg2) = m ((c.tc : Thread Cert.AttnD16Ideal.nD Cert.AttnD16Ideal.τ).loc Cert.AttnD16Ideal.main_arg2)) →
    ∃ (v0 : (c : Dev Cert.AttnD16Ideal.nD) → Buf (Elt Ideal) ((c.tc : Thread Cert.AttnD16Ideal.nD Cert.AttnD16Ideal.τ).loc Cert.AttnD16Ideal.main_v0_0)) (v1 : (c : Dev Cert.AttnD16Ideal.nD) → Buf (Elt Ideal) ((c.tc : Thread Cert.AttnD16Ideal.nD Cert.AttnD16Ideal.τ).loc Cert.AttnD16Ideal.main_v0_1)),
      θ_run (Cert.AttnD16Ideal.defs (F := Ideal)) (onTc (τ := Cert.AttnD16Ideal.τ) (Cert.AttnD16Ideal.main (F := Ideal))) ⟨m, fun _ => 0, g⟩ (fun r => ∀ c : Dev Cert.AttnD16Ideal.nD,
          r.2.mem ((c.tc : Thread Cert.AttnD16Ideal.nD Cert.AttnD16Ideal.τ).loc Cert.AttnD16Ideal.main_v0_0) = v0 c
          ∧ r.2.mem ((c.tc : Thread Cert.AttnD16Ideal.nD Cert.AttnD16Ideal.τ).loc Cert.AttnD16Ideal.main_v0_1) = v1 c
          ∧ r.2.mem ((c.tc : Thread Cert.AttnD16Ideal.nD Cert.AttnD16Ideal.τ).loc Cert.AttnD16Ideal.main_arg0) = m ((c.tc : Thread Cert.AttnD16Ideal.nD Cert.AttnD16Ideal.τ).loc Cert.AttnD16Ideal.main_arg0)
          ∧ r.2.mem ((c.tc : Thread Cert.AttnD16Ideal.nD Cert.AttnD16Ideal.τ).loc Cert.AttnD16Ideal.main_arg1) = m ((c.tc : Thread Cert.AttnD16Ideal.nD Cert.AttnD16Ideal.τ).loc Cert.AttnD16Ideal.main_arg1)
          ∧ r.2.mem ((c.tc : Thread Cert.AttnD16Ideal.nD Cert.AttnD16Ideal.τ).loc Cert.AttnD16Ideal.main_arg2) = m ((c.tc : Thread Cert.AttnD16Ideal.nD Cert.AttnD16Ideal.τ).loc Cert.AttnD16Ideal.main_arg2))
      ∧ θ_run (Cert.RefAttnD16Ideal.defs (F := Ideal)) (onTc (τ := Cert.RefAttnD16Ideal.τ) (Cert.RefAttnD16Ideal.main (F := Ideal))) ⟨m', fun _ => 0, g'⟩ (fun r => ∀ c : Dev Cert.RefAttnD16Ideal.nD,
          r.2.mem ((c.tc : Thread Cert.RefAttnD16Ideal.nD Cert.RefAttnD16Ideal.τ).loc Cert.RefAttnD16Ideal.main_v60) = v0 c
          ∧ r.2.mem ((c.tc : Thread Cert.RefAttnD16Ideal.nD Cert.RefAttnD16Ideal.τ).loc Cert.RefAttnD16Ideal.main_v62) = v1 c
          ∧ r.2.mem ((c.tc : Thread Cert.RefAttnD16Ideal.nD Cert.RefAttnD16Ideal.τ).loc Cert.RefAttnD16Ideal.main_arg0) = m' ((c.tc : Thread Cert.RefAttnD16Ideal.nD Cert.RefAttnD16Ideal.τ).loc Cert.RefAttnD16Ideal.main_arg0)
          ∧ r.2.mem ((c.tc : Thread Cert.RefAttnD16Ideal.nD Cert.RefAttnD16Ideal.τ).loc Cert.RefAttnD16Ideal.main_arg1) = m' ((c.tc : Thread Cert.RefAttnD16Ideal.nD Cert.RefAttnD16Ideal.τ).loc Cert.RefAttnD16Ideal.main_arg1)
          ∧ r.2.mem ((c.tc : Thread Cert.RefAttnD16Ideal.nD Cert.RefAttnD16Ideal.τ).loc Cert.RefAttnD16Ideal.main_arg2) = m' ((c.tc : Thread Cert.RefAttnD16Ideal.nD Cert.RefAttnD16Ideal.τ).loc Cert.RefAttnD16Ideal.main_arg2))

def preserves_Norm_NormIdeal : Prop :=
  True

def algebraic_NormIdeal_RefNormIdeal [hNormIdeal : Cert.NormIdeal.Facts] [hRefNormIdeal : Cert.RefNormIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.RefNormIdeal.nD Cert.RefNormIdeal.τ Cert.RefNormIdeal.sig) → Buf (Elt Ideal) ℓ) (g' : Dev Cert.RefNormIdeal.nD → PrngReg), Pre_NormIdeal m →
    (∀ c : Dev Cert.NormIdeal.nD,
      m' ((c.tc : Thread Cert.RefNormIdeal.nD Cert.RefNormIdeal.τ).loc Cert.RefNormIdeal.main_arg0) = m ((c.tc : Thread Cert.NormIdeal.nD Cert.NormIdeal.τ).loc Cert.NormIdeal.main_arg0)
      ∧ m' ((c.tc : Thread Cert.RefNormIdeal.nD Cert.RefNormIdeal.τ).loc Cert.RefNormIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.RefNormIdeal.defs (F := Ideal)) (onTc (τ := Cert.RefNormIdeal.τ) (Cert.RefNormIdeal.main (F := Ideal))) ⟨m', fun _ => 0, g'⟩ (fun r => ∀ c : Dev Cert.RefNormIdeal.nD,
          r.2.mem ((c.tc : Thread Cert.RefNormIdeal.nD Cert.RefNormIdeal.τ).loc Cert.RefNormIdeal.main_v13) = v0 c
          ∧ r.2.mem ((c.tc : Thread Cert.RefNormIdeal.nD Cert.RefNormIdeal.τ).loc Cert.RefNormIdeal.main_arg0) = m' ((c.tc : Thread Cert.RefNormIdeal.nD Cert.RefNormIdeal.τ).loc Cert.RefNormIdeal.main_arg0)
          ∧ r.2.mem ((c.tc : Thread Cert.RefNormIdeal.nD Cert.RefNormIdeal.τ).loc Cert.RefNormIdeal.main_arg1) = m' ((c.tc : Thread Cert.RefNormIdeal.nD Cert.RefNormIdeal.τ).loc Cert.RefNormIdeal.main_arg1))

def preserves_S5Sample_S5SampleIdeal : Prop :=
  True

def algebraic_S5SampleIdeal_RefS5SampleIdeal [hS5SampleIdeal : Cert.S5SampleIdeal.Facts] [hRefS5SampleIdeal : Cert.RefS5SampleIdeal.Facts] : Prop :=
  ∀ (m : (ℓ : Loc Cert.S5SampleIdeal.nD Cert.S5SampleIdeal.τ Cert.S5SampleIdeal.sig) → Buf (Elt Ideal) ℓ) (g : Dev Cert.S5SampleIdeal.nD → PrngReg)
    (m' : (ℓ : Loc Cert.RefS5SampleIdeal.nD Cert.RefS5SampleIdeal.τ Cert.RefS5SampleIdeal.sig) → Buf (Elt Ideal) ℓ) (g' : Dev Cert.RefS5SampleIdeal.nD → PrngReg), Pre_S5SampleIdeal m →
    (∀ c : Dev Cert.S5SampleIdeal.nD,
      m' ((c.tc : Thread Cert.RefS5SampleIdeal.nD Cert.RefS5SampleIdeal.τ).loc Cert.RefS5SampleIdeal.main_arg0) = m ((c.tc : Thread Cert.S5SampleIdeal.nD Cert.S5SampleIdeal.τ).loc Cert.S5SampleIdeal.main_arg0)
      ∧ m' ((c.tc : Thread Cert.RefS5SampleIdeal.nD Cert.RefS5SampleIdeal.τ).loc Cert.RefS5SampleIdeal.main_arg1) = m ((c.tc : Thread Cert.S5SampleIdeal.nD Cert.S5SampleIdeal.τ).loc Cert.S5SampleIdeal.main_arg1)
      ∧ m' ((c.tc : Thread Cert.RefS5SampleIdeal.nD Cert.RefS5SampleIdeal.τ).loc Cert.RefS5SampleIdeal.main_arg2) = m ((c.tc : Thread Cert.S5SampleIdeal.nD Cert.S5SampleIdeal.τ).loc Cert.S5SampleIdeal.main_arg2)
      ∧ m' ((c.tc : Thread Cert.RefS5SampleIdeal.nD Cert.RefS5SampleIdeal.τ).loc Cert.RefS5SampleIdeal.main_arg3) = m ((c.tc : Thread Cert.S5SampleIdeal.nD Cert.S5SampleIdeal.τ).loc Cert.S5SampleIdeal.main_arg3)
      ∧ m' ((c.tc : Thread Cert.RefS5SampleIdeal.nD Cert.RefS5SampleIdeal.τ).loc Cert.RefS5SampleIdeal.main_arg4) = m ((c.tc : Thread Cert.S5SampleIdeal.nD Cert.S5SampleIdeal.τ).loc Cert.S5SampleIdeal.main_arg4)
      ∧ m' ((c.tc : Thread Cert.RefS5SampleIdeal.nD Cert.RefS5SampleIdeal.τ).loc Cert.RefS5SampleIdeal.main_arg5) = m ((c.tc : Thread Cert.S5SampleIdeal.nD Cert.S5SampleIdeal.τ).loc Cert.S5SampleIdeal.main_arg5)
      ∧ m' ((c.tc : Thread Cert.RefS5SampleIdeal.nD Cert.RefS5SampleIdeal.τ).loc Cert.RefS5SampleIdeal.main_arg6) = m ((c.tc : Thread Cert.S5SampleIdeal.nD Cert.S5SampleIdeal.τ).loc Cert.S5SampleIdeal.main_arg6)) →
    ∃ (v0 : (c : Dev Cert.S5SampleIdeal.nD) → Buf (Elt Ideal) ((c.tc : Thread Cert.S5SampleIdeal.nD Cert.S5SampleIdeal.τ).loc Cert.S5SampleIdeal.main_v1_0)) (v1 : (c : Dev Cert.S5SampleIdeal.nD) → Buf (Elt Ideal) ((c.tc : Thread Cert.S5SampleIdeal.nD Cert.S5SampleIdeal.τ).loc Cert.S5SampleIdeal.main_v1_1)) (v2 : (c : Dev Cert.S5SampleIdeal.nD) → Buf (Elt Ideal) ((c.tc : Thread Cert.S5SampleIdeal.nD Cert.S5SampleIdeal.τ).loc Cert.S5SampleIdeal.main_v1_2)),
      θ_run (Cert.S5SampleIdeal.defs (F := Ideal)) (onTc (τ := Cert.S5SampleIdeal.τ) (Cert.S5SampleIdeal.main (F := Ideal))) ⟨m, fun _ => 0, g⟩ (fun r => ∀ c : Dev Cert.S5SampleIdeal.nD,
          r.2.mem ((c.tc : Thread Cert.S5SampleIdeal.nD Cert.S5SampleIdeal.τ).loc Cert.S5SampleIdeal.main_v1_0) = v0 c
          ∧ r.2.mem ((c.tc : Thread Cert.S5SampleIdeal.nD Cert.S5SampleIdeal.τ).loc Cert.S5SampleIdeal.main_v1_1) = v1 c
          ∧ r.2.mem ((c.tc : Thread Cert.S5SampleIdeal.nD Cert.S5SampleIdeal.τ).loc Cert.S5SampleIdeal.main_v1_2) = v2 c
          ∧ r.2.mem ((c.tc : Thread Cert.S5SampleIdeal.nD Cert.S5SampleIdeal.τ).loc Cert.S5SampleIdeal.main_arg0) = m ((c.tc : Thread Cert.S5SampleIdeal.nD Cert.S5SampleIdeal.τ).loc Cert.S5SampleIdeal.main_arg0)
          ∧ r.2.mem ((c.tc : Thread Cert.S5SampleIdeal.nD Cert.S5SampleIdeal.τ).loc Cert.S5SampleIdeal.main_arg1) = m ((c.tc : Thread Cert.S5SampleIdeal.nD Cert.S5SampleIdeal.τ).loc Cert.S5SampleIdeal.main_arg1)
          ∧ r.2.mem ((c.tc : Thread Cert.S5SampleIdeal.nD Cert.S5SampleIdeal.τ).loc Cert.S5SampleIdeal.main_arg2) = m ((c.tc : Thread Cert.S5SampleIdeal.nD Cert.S5SampleIdeal.τ).loc Cert.S5SampleIdeal.main_arg2)
          ∧ r.2.mem ((c.tc : Thread Cert.S5SampleIdeal.nD Cert.S5SampleIdeal.τ).loc Cert.S5SampleIdeal.main_arg3) = m ((c.tc : Thread Cert.S5SampleIdeal.nD Cert.S5SampleIdeal.τ).loc Cert.S5SampleIdeal.main_arg3)
          ∧ r.2.mem ((c.tc : Thread Cert.S5SampleIdeal.nD Cert.S5SampleIdeal.τ).loc Cert.S5SampleIdeal.main_arg4) = m ((c.tc : Thread Cert.S5SampleIdeal.nD Cert.S5SampleIdeal.τ).loc Cert.S5SampleIdeal.main_arg4)
          ∧ r.2.mem ((c.tc : Thread Cert.S5SampleIdeal.nD Cert.S5SampleIdeal.τ).loc Cert.S5SampleIdeal.main_arg5) = m ((c.tc : Thread Cert.S5SampleIdeal.nD Cert.S5SampleIdeal.τ).loc Cert.S5SampleIdeal.main_arg5)
          ∧ r.2.mem ((c.tc : Thread Cert.S5SampleIdeal.nD Cert.S5SampleIdeal.τ).loc Cert.S5SampleIdeal.main_arg6) = m ((c.tc : Thread Cert.S5SampleIdeal.nD Cert.S5SampleIdeal.τ).loc Cert.S5SampleIdeal.main_arg6))
      ∧ θ_run (Cert.RefS5SampleIdeal.defs (F := Ideal)) (onTc (τ := Cert.RefS5SampleIdeal.τ) (Cert.RefS5SampleIdeal.main (F := Ideal))) ⟨m', fun _ => 0, g'⟩ (fun r => ∀ c : Dev Cert.RefS5SampleIdeal.nD,
          r.2.mem ((c.tc : Thread Cert.RefS5SampleIdeal.nD Cert.RefS5SampleIdeal.τ).loc Cert.RefS5SampleIdeal.main_v154) = v0 c
          ∧ r.2.mem ((c.tc : Thread Cert.RefS5SampleIdeal.nD Cert.RefS5SampleIdeal.τ).loc Cert.RefS5SampleIdeal.main_v155) = v1 c
          ∧ r.2.mem ((c.tc : Thread Cert.RefS5SampleIdeal.nD Cert.RefS5SampleIdeal.τ).loc Cert.RefS5SampleIdeal.main_v156) = v2 c
          ∧ r.2.mem ((c.tc : Thread Cert.RefS5SampleIdeal.nD Cert.RefS5SampleIdeal.τ).loc Cert.RefS5SampleIdeal.main_arg0) = m' ((c.tc : Thread Cert.RefS5SampleIdeal.nD Cert.RefS5SampleIdeal.τ).loc Cert.RefS5SampleIdeal.main_arg0)
          ∧ r.2.mem ((c.tc : Thread Cert.RefS5SampleIdeal.nD Cert.RefS5SampleIdeal.τ).loc Cert.RefS5SampleIdeal.main_arg1) = m' ((c.tc : Thread Cert.RefS5SampleIdeal.nD Cert.RefS5SampleIdeal.τ).loc Cert.RefS5SampleIdeal.main_arg1)
          ∧ r.2.mem ((c.tc : Thread Cert.RefS5SampleIdeal.nD Cert.RefS5SampleIdeal.τ).loc Cert.RefS5SampleIdeal.main_arg2) = m' ((c.tc : Thread Cert.RefS5SampleIdeal.nD Cert.RefS5SampleIdeal.τ).loc Cert.RefS5SampleIdeal.main_arg2)
          ∧ r.2.mem ((c.tc : Thread Cert.RefS5SampleIdeal.nD Cert.RefS5SampleIdeal.τ).loc Cert.RefS5SampleIdeal.main_arg3) = m' ((c.tc : Thread Cert.RefS5SampleIdeal.nD Cert.RefS5SampleIdeal.τ).loc Cert.RefS5SampleIdeal.main_arg3)
          ∧ r.2.mem ((c.tc : Thread Cert.RefS5SampleIdeal.nD Cert.RefS5SampleIdeal.τ).loc Cert.RefS5SampleIdeal.main_arg4) = m' ((c.tc : Thread Cert.RefS5SampleIdeal.nD Cert.RefS5SampleIdeal.τ).loc Cert.RefS5SampleIdeal.main_arg4)
          ∧ r.2.mem ((c.tc : Thread Cert.RefS5SampleIdeal.nD Cert.RefS5SampleIdeal.τ).loc Cert.RefS5SampleIdeal.main_arg5) = m' ((c.tc : Thread Cert.RefS5SampleIdeal.nD Cert.RefS5SampleIdeal.τ).loc Cert.RefS5SampleIdeal.main_arg5)
          ∧ r.2.mem ((c.tc : Thread Cert.RefS5SampleIdeal.nD Cert.RefS5SampleIdeal.τ).loc Cert.RefS5SampleIdeal.main_arg6) = m' ((c.tc : Thread Cert.RefS5SampleIdeal.nD Cert.RefS5SampleIdeal.τ).loc Cert.RefS5SampleIdeal.main_arg6))

def Claim : Prop :=
  ∃ (hKernel : Cert.Kernel.Facts) (hKernelIdeal : Cert.KernelIdeal.Facts) (hReferenceIdeal : Cert.ReferenceIdeal.Facts) (hGates : Cert.Gates.Facts) (hGatesIdeal : Cert.GatesIdeal.Facts) (hRefGatesIdeal : Cert.RefGatesIdeal.Facts) (hAttnGate : Cert.AttnGate.Facts) (hAttnGateIdeal : Cert.AttnGateIdeal.Facts) (hRefAttnGateIdeal : Cert.RefAttnGateIdeal.Facts) (hSsmIn : Cert.SsmIn.Facts) (hSsmInIdeal : Cert.SsmInIdeal.Facts) (hRefSsmInIdeal : Cert.RefSsmInIdeal.Facts) (hSsmGate : Cert.SsmGate.Facts) (hSsmGateIdeal : Cert.SsmGateIdeal.Facts) (hRefSsmGateIdeal : Cert.RefSsmGateIdeal.Facts) (hOut : Cert.Out.Facts) (hOutIdeal : Cert.OutIdeal.Facts) (hRefOutIdeal : Cert.RefOutIdeal.Facts) (hGlu : Cert.Glu.Facts) (hGluIdeal : Cert.GluIdeal.Facts) (hRefGluIdeal : Cert.RefGluIdeal.Facts) (hMerge : Cert.Merge.Facts) (hMergeIdeal : Cert.MergeIdeal.Facts) (hRefMergeIdeal : Cert.RefMergeIdeal.Facts) (hAttnD4 : Cert.AttnD4.Facts) (hAttnD4Ideal : Cert.AttnD4Ideal.Facts) (hRefAttnD4Ideal : Cert.RefAttnD4Ideal.Facts) (hAttnD16 : Cert.AttnD16.Facts) (hAttnD16Ideal : Cert.AttnD16Ideal.Facts) (hRefAttnD16Ideal : Cert.RefAttnD16Ideal.Facts) (hNorm : Cert.Norm.Facts) (hNormIdeal : Cert.NormIdeal.Facts) (hRefNormIdeal : Cert.RefNormIdeal.Facts) (hS5Sample : Cert.S5Sample.Facts) (hS5SampleIdeal : Cert.S5SampleIdeal.Facts) (hRefS5SampleIdeal : Cert.RefS5SampleIdeal.Facts) (hPre_finite_qk : Cert.Pre_finite_qk.Facts) (hPre_finite_qk_d4 : Cert.Pre_finite_qk_d4.Facts) (hPre_finite_qk_d16 : Cert.Pre_finite_qk_d16.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Gates (hGates := hGates)
    ∧ quiescent_GatesIdeal (hGatesIdeal := hGatesIdeal)
    ∧ quiescent_RefGatesIdeal (hRefGatesIdeal := hRefGatesIdeal)
    ∧ quiescent_AttnGate (hAttnGate := hAttnGate)
    ∧ quiescent_AttnGateIdeal (hAttnGateIdeal := hAttnGateIdeal)
    ∧ quiescent_RefAttnGateIdeal (hRefAttnGateIdeal := hRefAttnGateIdeal)
    ∧ quiescent_SsmIn (hSsmIn := hSsmIn)
    ∧ quiescent_SsmInIdeal (hSsmInIdeal := hSsmInIdeal)
    ∧ quiescent_RefSsmInIdeal (hRefSsmInIdeal := hRefSsmInIdeal)
    ∧ quiescent_SsmGate (hSsmGate := hSsmGate)
    ∧ quiescent_SsmGateIdeal (hSsmGateIdeal := hSsmGateIdeal)
    ∧ quiescent_RefSsmGateIdeal (hRefSsmGateIdeal := hRefSsmGateIdeal)
    ∧ quiescent_Out (hOut := hOut)
    ∧ quiescent_OutIdeal (hOutIdeal := hOutIdeal)
    ∧ quiescent_RefOutIdeal (hRefOutIdeal := hRefOutIdeal)
    ∧ quiescent_Glu (hGlu := hGlu)
    ∧ quiescent_GluIdeal (hGluIdeal := hGluIdeal)
    ∧ quiescent_RefGluIdeal (hRefGluIdeal := hRefGluIdeal)
    ∧ quiescent_Merge (hMerge := hMerge)
    ∧ quiescent_MergeIdeal (hMergeIdeal := hMergeIdeal)
    ∧ quiescent_RefMergeIdeal (hRefMergeIdeal := hRefMergeIdeal)
    ∧ quiescent_AttnD4 (hAttnD4 := hAttnD4)
    ∧ quiescent_AttnD4Ideal (hAttnD4Ideal := hAttnD4Ideal)
    ∧ quiescent_AttnD4Ideal_pre_finite_qk_d4 (hAttnD4Ideal := hAttnD4Ideal) (hPre_finite_qk_d4 := hPre_finite_qk_d4)
    ∧ quiescent_RefAttnD4Ideal (hRefAttnD4Ideal := hRefAttnD4Ideal)
    ∧ quiescent_RefAttnD4Ideal_pre_finite_qk_d4 (hRefAttnD4Ideal := hRefAttnD4Ideal) (hPre_finite_qk_d4 := hPre_finite_qk_d4)
    ∧ quiescent_AttnD16 (hAttnD16 := hAttnD16)
    ∧ quiescent_AttnD16Ideal (hAttnD16Ideal := hAttnD16Ideal)
    ∧ quiescent_AttnD16Ideal_pre_finite_qk_d16 (hAttnD16Ideal := hAttnD16Ideal) (hPre_finite_qk_d16 := hPre_finite_qk_d16)
    ∧ quiescent_RefAttnD16Ideal (hRefAttnD16Ideal := hRefAttnD16Ideal)
    ∧ quiescent_RefAttnD16Ideal_pre_finite_qk_d16 (hRefAttnD16Ideal := hRefAttnD16Ideal) (hPre_finite_qk_d16 := hPre_finite_qk_d16)
    ∧ quiescent_Norm (hNorm := hNorm)
    ∧ quiescent_NormIdeal (hNormIdeal := hNormIdeal)
    ∧ quiescent_RefNormIdeal (hRefNormIdeal := hRefNormIdeal)
    ∧ quiescent_S5Sample (hS5Sample := hS5Sample)
    ∧ quiescent_S5SampleIdeal (hS5SampleIdeal := hS5SampleIdeal)
    ∧ quiescent_RefS5SampleIdeal (hRefS5SampleIdeal := hRefS5SampleIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Gates_GatesIdeal
    ∧ algebraic_GatesIdeal_RefGatesIdeal (hGatesIdeal := hGatesIdeal) (hRefGatesIdeal := hRefGatesIdeal)
    ∧ preserves_AttnGate_AttnGateIdeal
    ∧ algebraic_AttnGateIdeal_RefAttnGateIdeal (hAttnGateIdeal := hAttnGateIdeal) (hRefAttnGateIdeal := hRefAttnGateIdeal)
    ∧ preserves_SsmIn_SsmInIdeal
    ∧ algebraic_SsmInIdeal_RefSsmInIdeal (hSsmInIdeal := hSsmInIdeal) (hRefSsmInIdeal := hRefSsmInIdeal)
    ∧ preserves_SsmGate_SsmGateIdeal
    ∧ algebraic_SsmGateIdeal_RefSsmGateIdeal (hSsmGateIdeal := hSsmGateIdeal) (hRefSsmGateIdeal := hRefSsmGateIdeal)
    ∧ preserves_Out_OutIdeal
    ∧ algebraic_OutIdeal_RefOutIdeal (hOutIdeal := hOutIdeal) (hRefOutIdeal := hRefOutIdeal)
    ∧ preserves_Glu_GluIdeal
    ∧ algebraic_GluIdeal_RefGluIdeal (hGluIdeal := hGluIdeal) (hRefGluIdeal := hRefGluIdeal)
    ∧ preserves_Merge_MergeIdeal
    ∧ algebraic_MergeIdeal_RefMergeIdeal (hMergeIdeal := hMergeIdeal) (hRefMergeIdeal := hRefMergeIdeal)
    ∧ preserves_AttnD4_AttnD4Ideal
    ∧ algebraic_AttnD4Ideal_RefAttnD4Ideal_pre_finite_qk_d4 (hAttnD4Ideal := hAttnD4Ideal) (hRefAttnD4Ideal := hRefAttnD4Ideal) (hPre_finite_qk_d4 := hPre_finite_qk_d4)
    ∧ preserves_AttnD16_AttnD16Ideal
    ∧ algebraic_AttnD16Ideal_RefAttnD16Ideal_pre_finite_qk_d16 (hAttnD16Ideal := hAttnD16Ideal) (hRefAttnD16Ideal := hRefAttnD16Ideal) (hPre_finite_qk_d16 := hPre_finite_qk_d16)
    ∧ preserves_Norm_NormIdeal
    ∧ algebraic_NormIdeal_RefNormIdeal (hNormIdeal := hNormIdeal) (hRefNormIdeal := hRefNormIdeal)
    ∧ preserves_S5Sample_S5SampleIdeal
    ∧ algebraic_S5SampleIdeal_RefS5SampleIdeal (hS5SampleIdeal := hS5SampleIdeal) (hRefS5SampleIdeal := hRefS5SampleIdeal)
-- ==== Pre_finite_qk.lean ====
abbrev S2x1x4096x1024 : Shape := ⟨4, ![2, 1, 4096, 1024]⟩
abbrev S_ : Shape := ⟨0, ![]⟩

class Facts : Prop where
  bitsLt_bf16_f32 : FTy.bits .bf16 < FTy.bits .f32
  bcast_S_S2x1x4096x1024 : S_.BroadcastsInDim S2x1x4096x1024 (![] : Fin 0 → Fin S2x1x4096x1024.rank)

variable [Facts]

def fn {F : FTy → Type} [FloatOps F] (main_arg0 : FVec F S2x1x4096x1024 .bf16) (main_arg1 : FVec F S2x1x4096x1024 .bf16) (main_arg2 : FVec F S2x1x4096x1024 .bf16) : IVec S2x1x4096x1024 1 × IVec S2x1x4096x1024 1 :=
  let main_v0 : FVec F S2x1x4096x1024 .f32 := (extf .f32 · bitsLt_bf16_f32) main_arg0
  let main_v1 : FVec F S2x1x4096x1024 .f32 := Host.absf main_v0
  let main_cst : FVec F S_ .f32 := constant S_ .f32 0x7F800000#32
  let main_v2 : FVec F S2x1x4096x1024 .f32 := broadcastInDim S2x1x4096x1024 ![] bcast_S_S2x1x4096x1024 main_cst
  let main_v3 : IVec S2x1x4096x1024 1 := cmpf .olt main_v1 main_v2
  let main_v4 : FVec F S2x1x4096x1024 .f32 := (extf .f32 · bitsLt_bf16_f32) main_arg1
  let main_v5 : FVec F S2x1x4096x1024 .f32 := Host.absf main_v4
  let main_cst_0 : FVec F S_ .f32 := constant S_ .f32 0x7F800000#32
  let main_v6 : FVec F S2x1x4096x1024 .f32 := broadcastInDim S2x1x4096x1024 ![] bcast_S_S2x1x4096x1024 main_cst_0
  let main_v7 : IVec S2x1x4096x1024 1 := cmpf .olt main_v5 main_v6
  (main_v3, main_v7)
-- ==== Pre_finite_qk_d16.lean ====
abbrev S2x16x256x1024 : Shape := ⟨4, ![2, 16, 256, 1024]⟩
abbrev S_ : Shape := ⟨0, ![]⟩

class Facts : Prop where
  bitsLt_bf16_f32 : FTy.bits .bf16 < FTy.bits .f32
  bcast_S_S2x16x256x1024 : S_.BroadcastsInDim S2x16x256x1024 (![] : Fin 0 → Fin S2x16x256x1024.rank)

variable [Facts]

def fn {F : FTy → Type} [FloatOps F] (main_arg0 : FVec F S2x16x256x1024 .bf16) (main_arg1 : FVec F S2x16x256x1024 .bf16) (main_arg2 : FVec F S2x16x256x1024 .bf16) : IVec S2x16x256x1024 1 × IVec S2x16x256x1024 1 :=
  let main_v0 : FVec F S2x16x256x1024 .f32 := (extf .f32 · bitsLt_bf16_f32) main_arg0
  let main_v1 : FVec F S2x16x256x1024 .f32 := Host.absf main_v0
  let main_cst : FVec F S_ .f32 := constant S_ .f32 0x7F800000#32
  let main_v2 : FVec F S2x16x256x1024 .f32 := broadcastInDim S2x16x256x1024 ![] bcast_S_S2x16x256x1024 main_cst
  let main_v3 : IVec S2x16x256x1024 1 := cmpf .olt main_v1 main_v2
  let main_v4 : FVec F S2x16x256x1024 .f32 := (extf .f32 · bitsLt_bf16_f32) main_arg1
  let main_v5 : FVec F S2x16x256x1024 .f32 := Host.absf main_v4
  let main_cst_0 : FVec F S_ .f32 := constant S_ .f32 0x7F800000#32
  let main_v6 : FVec F S2x16x256x1024 .f32 := broadcastInDim S2x16x256x1024 ![] bcast_S_S2x16x256x1024 main_cst_0
  let main_v7 : IVec S2x16x256x1024 1 := cmpf .olt main_v5 main_v6
  (main_v3, main_v7)
-- ==== Pre_finite_qk_d4.lean ====
abbrev S2x4x1024x1024 : Shape := ⟨4, ![2, 4, 1024, 1024]⟩
abbrev S_ : Shape := ⟨0, ![]⟩

class Facts : Prop where
  bitsLt_bf16_f32 : FTy.bits .bf16 < FTy.bits .f32
  bcast_S_S2x4x1024x1024 : S_.BroadcastsInDim S2x4x1024x1024 (![] : Fin 0 → Fin S2x4x1024x1024.rank)

variable [Facts]

def fn {F : FTy → Type} [FloatOps F] (main_arg0 : FVec F S2x4x1024x1024 .bf16) (main_arg1 : FVec F S2x4x1024x1024 .bf16) (main_arg2 : FVec F S2x4x1024x1024 .bf16) : IVec S2x4x1024x1024 1 × IVec S2x4x1024x1024 1 :=
  let main_v0 : FVec F S2x4x1024x1024 .f32 := (extf .f32 · bitsLt_bf16_f32) main_arg0
  let main_v1 : FVec F S2x4x1024x1024 .f32 := Host.absf main_v0
  let main_cst : FVec F S_ .f32 := constant S_ .f32 0x7F800000#32
  let main_v2 : FVec F S2x4x1024x1024 .f32 := broadcastInDim S2x4x1024x1024 ![] bcast_S_S2x4x1024x1024 main_cst
  let main_v3 : IVec S2x4x1024x1024 1 := cmpf .olt main_v1 main_v2
  let main_v4 : FVec F S2x4x1024x1024 .f32 := (extf .f32 · bitsLt_bf16_f32) main_arg1
  let main_v5 : FVec F S2x4x1024x1024 .f32 := Host.absf main_v4
  let main_cst_0 : FVec F S_ .f32 := constant S_ .f32 0x7F800000#32
  let main_v6 : FVec F S2x4x1024x1024 .f32 := broadcastInDim S2x4x1024x1024 ![] bcast_S_S2x4x1024x1024 main_cst_0
  let main_v7 : IVec S2x4x1024x1024 1 := cmpf .olt main_v5 main_v6
  (main_v3, main_v7)
-- ==== Kernel.lean ====
abbrev S2x1x4096x1024 : Shape := ⟨4, ![2, 1, 4096, 1024]⟩
abbrev S2x1x4096x128 : Shape := ⟨4, ![2, 1, 4096, 128]⟩
abbrev S1x1x512x1024 : Shape := ⟨4, ![1, 1, 512, 1024]⟩
abbrev S1x1x128x1024 : Shape := ⟨4, ![1, 1, 128, 1024]⟩
abbrev S1x1x512x128 : Shape := ⟨4, ![1, 1, 512, 128]⟩
abbrev S128x256 : Shape := ⟨2, ![128, 256]⟩
abbrev S128x128 : Shape := ⟨2, ![128, 128]⟩
abbrev S1x1x128x128 : Shape := ⟨4, ![1, 1, 128, 128]⟩
abbrev S256x128 : Shape := ⟨2, ![256, 128]⟩
abbrev S128 : Shape := ⟨1, ![128]⟩
abbrev S128x1 : Shape := ⟨2, ![128, 1]⟩
abbrev S1x1x256x128 : Shape := ⟨4, ![1, 1, 256, 128]⟩

abbrev nBuf : Space → Nat
  | .hbm => 5
  | .vmem => 14
  | .smem => 0
  | _ => 0

abbrev bufTy : (tb : Table) → Fin (tcTables nBuf tb) → BufTy
  | .hbm, ⟨0, _⟩ => ⟨S2x1x4096x1024, .bf16⟩
  | .hbm, ⟨1, _⟩ => ⟨S2x1x4096x1024, .bf16⟩
  | .hbm, ⟨2, _⟩ => ⟨S2x1x4096x1024, .bf16⟩
  | .hbm, ⟨3, _⟩ => ⟨S2x1x4096x1024, .bf16⟩
  | .hbm, ⟨4, _⟩ => ⟨S2x1x4096x128, .f32⟩
  | .local _ .vmem, ⟨0, _⟩ => ⟨S1x1x512x1024, .bf16⟩
  | .local _ .vmem, ⟨1, _⟩ => ⟨S1x1x512x1024, .bf16⟩
  | .local _ .vmem, ⟨2, _⟩ => ⟨S1x1x128x1024, .bf16⟩
  | .local _ .vmem, ⟨3, _⟩ => ⟨S1x1x128x1024, .bf16⟩
  | .local _ .vmem, ⟨4, _⟩ => ⟨S1x1x512x1024, .bf16⟩
  | .local _ .vmem, ⟨5, _⟩ => ⟨S1x1x512x1024, .bf16⟩
  | .local _ .vmem, ⟨6, _⟩ => ⟨S1x1x128x1024, .bf16⟩
  | .local _ .vmem, ⟨7, _⟩ => ⟨S1x1x128x1024, .bf16⟩
  | .local _ .vmem, ⟨8, _⟩ => ⟨S1x1x512x1024, .bf16⟩
  | .local _ .vmem, ⟨9, _⟩ => ⟨S1x1x512x1024, .bf16⟩
  | .local _ .vmem, ⟨10, _⟩ => ⟨S1x1x512x1024, .bf16⟩
  | .local _ .vmem, ⟨11, _⟩ => ⟨S1x1x512x1024, .bf16⟩
  | .local _ .vmem, ⟨12, _⟩ => ⟨S1x1x512x128, .f32⟩
  | .local _ .vmem, ⟨13, _⟩ => ⟨S1x1x512x128, .f32⟩
  | _, _ => ⟨S2x1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
abbrev S2x1x4096x1024 : Shape := ⟨4, ![2, 1, 4096, 1024]⟩
abbrev S2x1x4096x128 : Shape := ⟨4, ![2, 1, 4096, 128]⟩
abbrev S1x1x512x1024 : Shape := ⟨4, ![1, 1, 512, 1024]⟩
abbrev S1x1x128x1024 : Shape := ⟨4, ![1, 1, 128, 1024]⟩
abbrev S1x1x512x128 : Shape := ⟨4, ![1, 1, 512, 128]⟩
abbrev S128x256 : Shape := ⟨2, ![128, 256]⟩
abbrev S128x128 : Shape := ⟨2, ![128, 128]⟩
abbrev S1x1x128x128 : Shape := ⟨4, ![1, 1, 128, 128]⟩
abbrev S256x128 : Shape := ⟨2, ![256, 128]⟩
abbrev S128 : Shape := ⟨1, ![128]⟩
abbrev S128x1 : Shape := ⟨2, ![128, 1]⟩
abbrev S1x1x256x128 : Shape := ⟨4, ![1, 1, 256, 128]⟩

abbrev nBuf : Space → Nat
  | .hbm => 5
  | .vmem => 14
  | .smem => 0
  | _ => 0

abbrev bufTy : (tb : Table) → Fin (tcTables nBuf tb) → BufTy
  | .hbm, ⟨0, _⟩ => ⟨S2x1x4096x1024, .bf16⟩
  | .hbm, ⟨1, _⟩ => ⟨S2x1x4096x1024, .bf16⟩
  | .hbm, ⟨2, _⟩ => ⟨S2x1x4096x1024, .bf16⟩
  | .hbm, ⟨3, _⟩ => ⟨S2x1x4096x1024, .bf16⟩
  | .hbm, ⟨4, _⟩ => ⟨S2x1x4096x128, .f32⟩
  | .local _ .vmem, ⟨0, _⟩ => ⟨S1x1x512x1024, .bf16⟩
  | .local _ .vmem, ⟨1, _⟩ => ⟨S1x1x512x1024, .bf16⟩
  | .local _ .vmem, ⟨2, _⟩ => ⟨S1x1x128x1024, .bf16⟩
  | .local _ .vmem, ⟨3, _⟩ => ⟨S1x1x128x1024, .bf16⟩
  | .local _ .vmem, ⟨4, _⟩ => ⟨S1x1x512x1024, .bf16⟩
  | .local _ .vmem, ⟨5, _⟩ => ⟨S1x1x512x1024, .bf16⟩
  | .local _ .vmem, ⟨6, _⟩ => ⟨S1x1x128x1024, .bf16⟩
  | .local _ .vmem, ⟨7, _⟩ => ⟨S1x1x128x1024, .bf16⟩
  | .local _ .vmem, ⟨8, _⟩ => ⟨S1x1x512x1024, .bf16⟩
  | .local _ .vmem, ⟨9, _⟩ => ⟨S1x1x512x1024, .bf16⟩
  | .local _ .vmem, ⟨10, _⟩ => ⟨S1x1x512x1024, .bf16⟩
  | .local _ .vmem, ⟨11, _⟩ => ⟨S1x1x512x1024, .bf16⟩
  | .local _ .vmem, ⟨12, _⟩ => ⟨S1x1x512x128, .f32⟩
  | .local _ .vmem, ⟨13, _⟩ => ⟨S1x1x512x128, .f32⟩
  | _, _ => ⟨S2x1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "mask" => some ⊥
  | _ => none

abbrev grid0 : Pipeline.Grid := ⟨3, ![2, 1, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S2x1x4096x1024 : Shape := ⟨4, ![2, 1, 4096, 1024]⟩
abbrev S2x1x32x128x8x128 : Shape := ⟨6, ![2, 1, 32, 128, 8, 128]⟩
abbrev S_ : Shape := ⟨0, ![]⟩
abbrev S2x1x33x128x8x128 : Shape := ⟨6, ![2, 1, 33, 128, 8, 128]⟩
abbrev S2x1x32x256x8x128 : Shape := ⟨6, ![2, 1, 32, 256, 8, 128]⟩
abbrev S2x1x32x8x256x128 : Shape := ⟨6, ![2, 1, 32, 8, 256, 128]⟩
abbrev S2x1x32x128x8x256 : Shape := ⟨6, ![2, 1, 32, 128, 8, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S32 : Shape := ⟨1, ![32]⟩
abbrev S32x1x1 : Shape := ⟨3, ![32, 1, 1]⟩
abbrev S128x256 : Shape := ⟨2, ![128, 256]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x128x1x256 : Shape := ⟨4, ![32, 128, 1, 256]⟩
abbrev S2x1x32x128x8 : Shape := ⟨5, ![2, 1, 32, 128, 8]⟩
abbrev S2x1x32x128x8x1 : Shape := ⟨6, ![2, 1, 32, 128, 8, 1]⟩
abbrev S2x1x32x8x128x128 : Shape := ⟨6, ![2, 1, 32, 8, 128, 128]⟩
abbrev S2x1x4096x8 : Shape := ⟨4, ![2, 1, 4096, 8]⟩
abbrev S2x1x4096x128 : Shape := ⟨4, ![2, 1, 4096, 128]⟩

abbrev nBuf : Space → Nat
  | .hbm => 82
  | .vmem => 0
  | .smem => 0
  | _ => 0

abbrev bufTy : (tb : Table) → Fin (tcTables nBuf tb) → BufTy
  | .hbm, ⟨0, _⟩ => ⟨S2x1x4096x1024, .bf16⟩
  | .hbm, ⟨1, _⟩ => ⟨S2x1x4096x1024, .bf16⟩
  | .hbm, ⟨2, _⟩ => ⟨S2x1x4096x1024, .bf16⟩
  | .hbm, ⟨3, _⟩ => ⟨S2x1x32x128x8x128, .bf16⟩
  | .hbm, ⟨4, _⟩ => ⟨S2x1x32x128x8x128, .f32⟩
  | .hbm, ⟨5, _⟩ => ⟨S2x1x32x128x8x128, .bf16⟩
  | .hbm, ⟨6, _⟩ => ⟨S2x1x32x128x8x128, .f32⟩
  | .hbm, ⟨7, _⟩ => ⟨S2x1x32x128x8x128, .bf16⟩
  | .hbm, ⟨8, _⟩ => ⟨S2x1x32x128x8x128, .f32⟩
  | .hbm, ⟨9, _⟩ => ⟨S_, .i32⟩
  | .hbm, ⟨10, _⟩ => ⟨S_, .f32⟩
  | .hbm, ⟨11, _⟩ => ⟨S2x1x33x128x8x128, .f32⟩
  | .hbm, ⟨12, _⟩ => ⟨S2x1x32x128x8x128, .f32⟩
  | .hbm, ⟨13, _⟩ => ⟨S2x1x32x256x8x128, .f32⟩
  | .hbm, ⟨14, _⟩ => ⟨S_, .i32⟩
  | .hbm, ⟨15, _⟩ => ⟨S_, .f32⟩
  | .hbm, ⟨16, _⟩ => ⟨S2x1x33x128x8x128, .f32⟩
  | .hbm, ⟨17, _⟩ => ⟨S2x1x32x128x8x128, .f32⟩
  | .hbm, ⟨18, _⟩ => ⟨S2x1x32x256x8x128, .f32⟩
  | .hbm, ⟨19, _⟩ => ⟨S2x1x32x8x256x128, .f32⟩
  | .hbm, ⟨20, _⟩ => ⟨S2x1x32x128x8x256, .f32⟩
  | .hbm, ⟨21, _⟩ => ⟨S_, .f32⟩
  | .hbm, ⟨22, _⟩ => ⟨S2x1x32x128x8x256, .f32⟩
  | .hbm, ⟨23, _⟩ => ⟨S2x1x32x128x8x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S32, .i32⟩
  | .hbm, ⟨29, _⟩ => ⟨S32x1x1, .i32⟩
  | .hbm, ⟨30, _⟩ => ⟨S128x256, .i32⟩
  | .hbm, ⟨31, _⟩ => ⟨S128x256, .i32⟩
  | .hbm, ⟨32, _⟩ => ⟨S128x256, .i1⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S128x256, .i32⟩
  | .hbm, ⟨37, _⟩ => ⟨S128x256, .i32⟩
  | .hbm, ⟨38, _⟩ => ⟨S128x256, .i1⟩
  | .hbm, ⟨39, _⟩ => ⟨S128x256, .i1⟩
  | .hbm, ⟨40, _⟩ => ⟨S_, .i32⟩
  | .hbm, ⟨41, _⟩ => ⟨S32x1x1, .i32⟩
  | .hbm, ⟨42, _⟩ => ⟨S32x1x1, .i1⟩
  | .hbm, ⟨43, _⟩ => ⟨S_, .i32⟩
  | .hbm, ⟨44, _⟩ => ⟨S1x256, .i32⟩
  | .hbm, ⟨45, _⟩ => ⟨S1x256, .i1⟩
  | .hbm, ⟨46, _⟩ => ⟨S1x1x256, .i1⟩
  | .hbm, ⟨47, _⟩ => ⟨S32x1x256, .i1⟩
  | .hbm, ⟨48, _⟩ => ⟨S32x1x256, .i1⟩
  | .hbm, ⟨49, _⟩ => ⟨S32x1x256, .i1⟩
  | .hbm, ⟨50, _⟩ => ⟨S1x128x256, .i1⟩
  | .hbm, ⟨51, _⟩ => ⟨S32x128x256, .i1⟩
  | .hbm, ⟨52, _⟩ => ⟨S32x128x256, .i1⟩
  | .hbm, ⟨53, _⟩ => ⟨S32x128x256, .i1⟩
  | .hbm, ⟨54, _⟩ => ⟨S32x128x1x256, .i1⟩
  | .hbm, ⟨55, _⟩ => ⟨S_, .f32⟩
  | .hbm, ⟨56, _⟩ => ⟨S_, .f32⟩
  | .hbm, ⟨57, _⟩ => ⟨S2x1x32x128x8x256, .i1⟩
  | .hbm, ⟨58, _⟩ => ⟨S2x1x32x128x8x256, .f32⟩
  | .hbm, ⟨59, _⟩ => ⟨S2x1x32x128x8x256, .f32⟩
  | .hbm, ⟨60, _⟩ => ⟨S_, .f32⟩
  | .hbm, ⟨61, _⟩ => ⟨S2x1x32x128x8, .f32⟩
  | .hbm, ⟨62, _⟩ => ⟨S2x1x32x128x8x1, .f32⟩
  | .hbm, ⟨63, _⟩ => ⟨S2x1x32x128x8x256, .f32⟩
  | .hbm, ⟨64, _⟩ => ⟨S2x1x32x128x8x256, .f32⟩
  | .hbm, ⟨65, _⟩ => ⟨S2x1x32x128x8x256, .f32⟩
  | .hbm, ⟨66, _⟩ => ⟨S_, .f32⟩
  | .hbm, ⟨67, _⟩ => ⟨S2x1x32x128x8, .f32⟩
  | .hbm, ⟨68, _⟩ => ⟨S2x1x32x128x8x1, .f32⟩
  | .hbm, ⟨69, _⟩ => ⟨S2x1x32x128x8x256, .f32⟩
  | .hbm, ⟨70, _⟩ => ⟨S2x1x32x128x8x256, .f32⟩
  | .hbm, ⟨71, _⟩ => ⟨S2x1x32x128x8x1, .f32⟩
  | .hbm, ⟨72, _⟩ => ⟨S2x1x32x128x8x1, .f32⟩
  | .hbm, ⟨73, _⟩ => ⟨S2x1x32x128x8, .f32⟩
  | .hbm, ⟨74, _⟩ => ⟨S2x1x32x8x128x128, .f32⟩
  | .hbm, ⟨75, _⟩ => ⟨S2x1x32x128x8x128, .f32⟩
  | .hbm, ⟨76, _⟩ => ⟨S2x1x4096x1024, .f32⟩
  | .hbm, ⟨77, _⟩ => ⟨S2x1x4096x1024, .bf16⟩
  | .hbm, ⟨78, _⟩ => ⟨S2x1x4096x8, .f32⟩
  | .hbm, ⟨79, _⟩ => ⟨S_, .i32⟩
  | .hbm, ⟨80, _⟩ => ⟨S_, .f32⟩
  | .hbm, ⟨81, _⟩ => ⟨S2x1x4096x128, .f32⟩
  | _, _ => ⟨S2x1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_7 : Ref sig .tc := ⟨.hbm, 79, rfl⟩
abbrev main_call3_v0 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Gates.lean ====
abbrev S8192x2048 : Shape := ⟨2, ![8192, 2048]⟩
abbrev S2048x16384 : Shape := ⟨2, ![2048, 16384]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x16384, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefGatesIdeal.lean ====
abbrev S8192x2048 : Shape := ⟨2, ![8192, 2048]⟩
abbrev S2048x16384 : Shape := ⟨2, ![2048, 16384]⟩
abbrev S8192x16384 : Shape := ⟨2, ![8192, 16384]⟩
abbrev S8192x3072 : Shape := ⟨2, ![8192, 3072]⟩
abbrev S8192x1024 : Shape := ⟨2, ![8192, 1024]⟩
abbrev S_ : Shape := ⟨0, ![]⟩
abbrev S8192x4096 : Shape := ⟨2, ![8192, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x16384, .bf16⟩
  | .hbm, ⟨2, _⟩ => ⟨S8192x2048, .f32⟩
  | .hbm, ⟨3, _⟩ => ⟨S2048x16384, .f32⟩
  | .hbm, ⟨4, _⟩ => ⟨S8192x16384, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x4096, .f32⟩
  | .hbm, ⟨30, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== AttnGate.lean ====
abbrev S8192x2048 : Shape := ⟨2, ![8192, 2048]⟩
abbrev S2048x16384 : Shape := ⟨2, ![2048, 16384]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x16384, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefAttnGateIdeal.lean ====
abbrev S8192x2048 : Shape := ⟨2, ![8192, 2048]⟩
abbrev S2048x16384 : Shape := ⟨2, ![2048, 16384]⟩
abbrev S8192x16384 : Shape := ⟨2, ![8192, 16384]⟩
abbrev S8192x3072 : Shape := ⟨2, ![8192, 3072]⟩
abbrev S8192x1024 : Shape := ⟨2, ![8192, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x16384, .bf16⟩
  | .hbm, ⟨2, _⟩ => ⟨S8192x2048, .f32⟩
  | .hbm, ⟨3, _⟩ => ⟨S2048x16384, .f32⟩
  | .hbm, ⟨4, _⟩ => ⟨S8192x16384, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x2048, .f32⟩
  | .hbm, ⟨12, _⟩ => ⟨S8192x2048, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== SsmIn.lean ====
abbrev S8192x2048 : Shape := ⟨2, ![8192, 2048]⟩
abbrev S2048x16384 : Shape := ⟨2, ![2048, 16384]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x16384, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefSsmInIdeal.lean ====
abbrev S8192x2048 : Shape := ⟨2, ![8192, 2048]⟩
abbrev S2048x16384 : Shape := ⟨2, ![2048, 16384]⟩
abbrev S8192x16384 : Shape := ⟨2, ![8192, 16384]⟩
abbrev S8192x3072 : Shape := ⟨2, ![8192, 3072]⟩
abbrev S8192x1024 : Shape := ⟨2, ![8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x16384, .bf16⟩
  | .hbm, ⟨2, _⟩ => ⟨S8192x2048, .f32⟩
  | .hbm, ⟨3, _⟩ => ⟨S2048x16384, .f32⟩
  | .hbm, ⟨4, _⟩ => ⟨S8192x16384, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x2048, .f32⟩
  | .hbm, ⟨12, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== SsmGate.lean ====
abbrev S8192x2048 : Shape := ⟨2, ![8192, 2048]⟩
abbrev S2048x16384 : Shape := ⟨2, ![2048, 16384]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x16384, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefSsmGateIdeal.lean ====
abbrev S8192x2048 : Shape := ⟨2, ![8192, 2048]⟩
abbrev S2048x16384 : Shape := ⟨2, ![2048, 16384]⟩
abbrev S8192x16384 : Shape := ⟨2, ![8192, 16384]⟩
abbrev S8192x3072 : Shape := ⟨2, ![8192, 3072]⟩
abbrev S8192x1024 : Shape := ⟨2, ![8192, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x16384, .bf16⟩
  | .hbm, ⟨2, _⟩ => ⟨S8192x2048, .f32⟩
  | .hbm, ⟨3, _⟩ => ⟨S2048x16384, .f32⟩
  | .hbm, ⟨4, _⟩ => ⟨S8192x16384, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x2048, .f32⟩
  | .hbm, ⟨12, _⟩ => ⟨S8192x2048, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefOutIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Glu.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S1024, .f32⟩
  | .hbm, ⟨4, _⟩ => ⟨S1x1024, .f32⟩
  | .hbm, ⟨5, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefGluIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Merge.lean ====
abbrev S2x1x4096x1024 : Shape := ⟨4, ![2, 1, 4096, 1024]⟩
abbrev S2x4x1024x1024 : Shape := ⟨4, ![2, 4, 1024, 1024]⟩
abbrev S2x16x256x1024 : Shape := ⟨4, ![2, 16, 256, 1024]⟩
abbrev S2x1x4096x128 : Shape := ⟨4, ![2, 1, 4096, 128]⟩
abbrev S2x4x1024x128 : Shape := ⟨4, ![2, 4, 1024, 128]⟩
abbrev S2x16x256x128 : Shape := ⟨4, ![2, 16, 256, 128]⟩
abbrev S8192x1024 : Shape := ⟨2, ![8192, 1024]⟩
abbrev S8192x4096 : Shape := ⟨2, ![8192, 4096]⟩
abbrev S1024x2048 : Shape := ⟨2, ![1024, 2048]⟩
abbrev S8192x2048 : Shape := ⟨2, ![8192, 2048]⟩
abbrev S1x1x512x1024 : Shape := ⟨4, ![1, 1, 512, 1024]⟩
abbrev S1x4x128x1024 : Shape := ⟨4, ![1, 4, 128, 1024]⟩
abbrev S1x16x32x1024 : Shape := ⟨4, ![1, 16, 32, 1024]⟩
abbrev S1x1x512x128 : Shape := ⟨4, ![1, 1, 512, 128]⟩
abbrev S1x4x128x128 : Shape := ⟨4, ![1, 4, 128, 128]⟩
abbrev S1x16x32x128 : Shape := ⟨4, ![1, 16, 32, 128]⟩
abbrev S512x1024 : Shape := ⟨2, ![512, 1024]⟩
abbrev S512x2048 : Shape := ⟨2, ![512, 2048]⟩
abbrev S3x512x128 : Shape := ⟨3, ![3, 512, 128]⟩
abbrev S512x128 : Shape := ⟨2, ![512, 128]⟩
abbrev S1x1x128x128 : Shape := ⟨4, ![1, 1, 128, 128]⟩
abbrev S128x128 : Shape := ⟨2, ![128, 128]⟩
abbrev S1x512x128 : Shape := ⟨3, ![1, 512, 128]⟩
abbrev S1x1x32x128 : Shape := ⟨4, ![1, 1, 32, 128]⟩
abbrev S32x128 : Shape := ⟨2, ![32, 128]⟩
abbrev S1024x1024 : Shape := ⟨2, ![1024, 1024]⟩
abbrev S512x1 : Shape := ⟨2, ![512, 1]⟩
abbrev S512x256 : Shape := ⟨2, ![512, 256]⟩
abbrev S256x1024 : Shape := ⟨2, ![256, 1024]⟩

abbrev nBuf : Space → Nat
  | .hbm => 12
  | .vmem => 27
  | .smem => 0
  | _ => 0

abbrev bufTy : (tb : Table) → Fin (tcTables nBuf tb) → BufTy
  | .hbm, ⟨0, _⟩ => ⟨S2x1x4096x1024, .bf16⟩
  | .hbm, ⟨1, _⟩ => ⟨S2x4x1024x1024, .bf16⟩
  | .hbm, ⟨2, _⟩ => ⟨S2x16x256x1024, .bf16⟩
  | .hbm, ⟨3, _⟩ => ⟨S2x1x4096x128, .f32⟩
  | .hbm, ⟨4, _⟩ => ⟨S2x4x1024x128, .f32⟩
  | .hbm, ⟨5, _⟩ => ⟨S2x16x256x128, .f32⟩
  | .hbm, ⟨6, _⟩ => ⟨S8192x1024, .bf16⟩
  | .hbm, ⟨7, _⟩ => ⟨S8192x1024, .bf16⟩
  | .hbm, ⟨8, _⟩ => ⟨S8192x4096, .bf16⟩
  | .hbm, ⟨9, _⟩ => ⟨S1024x2048, .bf16⟩
  | .hbm, ⟨10, _⟩ => ⟨S1024x2048, .bf16⟩
  | .hbm, ⟨11, _⟩ => ⟨S8192x2048, .bf16⟩
  | .local _ .vmem, ⟨0, _⟩ => ⟨S1x1x512x1024, .bf16⟩
  | .local _ .vmem, ⟨1, _⟩ => ⟨S1x1x512x1024, .bf16⟩
  | .local _ .vmem, ⟨2, _⟩ => ⟨S1x4x128x1024, .bf16⟩
  | .local _ .vmem, ⟨3, _⟩ => ⟨S1x4x128x1024, .bf16⟩
  | .local _ .vmem, ⟨4, _⟩ => ⟨S1x16x32x1024, .bf16⟩
  | .local _ .vmem, ⟨5, _⟩ => ⟨S1x16x32x1024, .bf16⟩
  | .local _ .vmem, ⟨6, _⟩ => ⟨S1x1x512x128, .f32⟩
  | .local _ .vmem, ⟨7, _⟩ => ⟨S1x1x512x128, .f32⟩
  | .local _ .vmem, ⟨8, _⟩ => ⟨S1x4x128x128, .f32⟩
  | .local _ .vmem, ⟨9, _⟩ => ⟨S1x4x128x128, .f32⟩
  | .local _ .vmem, ⟨10, _⟩ => ⟨S1x16x32x128, .f32⟩
  | .local _ .vmem, ⟨11, _⟩ => ⟨S1x16x32x128, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S1024x2048, .bf16⟩
  | .local _ .vmem, ⟨21, _⟩ => ⟨S1024x2048, .bf16⟩
  | .local _ .vmem, ⟨22, _⟩ => ⟨S512x2048, .bf16⟩
  | .local _ .vmem, ⟨23, _⟩ => ⟨S512x2048, .bf16⟩
  | .local _ .vmem, ⟨24, _⟩ => ⟨S512x1024, .bf16⟩
  | .local _ .vmem, ⟨25, _⟩ => ⟨S3x512x128, .f32⟩
  | .local _ .vmem, ⟨26, _⟩ => ⟨S3x512x128, .f32⟩
  | _, _ => ⟨S2x1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c8_i32 : BitVec 32 := 8#32
  let v0 : BitVec 32 := Scalar.divsi arg0 c8_i32
  let c8_i32_0 : BitVec 32 := 8#32
  let v1 : BitVec 32 := Scalar.remsi arg0 c8_i32_0
  let c0_i32 : BitVec 32 := 0#32
  let c0_i32_1 : BitVec 32 := 0#32
  let c0_i32_2 : BitVec 32 := 0#32
  ![v0.toNat, c0_i32.toNat, v1.toNat, c0_i32_1.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c8_i32_0 : BitVec 32 := 8#32
  let v1 : BitVec 32 := Scalar.remsi arg0 c8_i32_0
  let c0_i32 : BitVec 32 := 0#32
  let c0_i32_1 : BitVec 32 := 0#32
  let c0_i32_2 : BitVec 32 := 0#32
  ![v0.toNat, c0_i32.toNat, v1.toNat, c0_i32_1.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c8_i32_0 : BitVec 32 := 8#32
  let v1 : BitVec 32 := Scalar.remsi arg0 c8_i32_0
  let c0_i32 : BitVec 32 := 0#32
  let c0_i32_1 : BitVec 32 := 0#32
  let c0_i32_2 : BitVec 32 := 0#32
  ![v0.toNat, c0_i32.toNat, v1.toNat, c0_i32_1.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c8_i32_0 : BitVec 32 := 8#32
  let v1 : BitVec 32 := Scalar.remsi arg0 c8_i32_0
  let c0_i32 : BitVec 32 := 0#32
  let c0_i32_1 : BitVec 32 := 0#32
  let c0_i32_2 : BitVec 32 := 0#32
  ![v0.toNat, c0_i32.toNat, v1.toNat, c0_i32_1.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c8_i32_0 : BitVec 32 := 8#32
  let v1 : BitVec 32 := Scalar.remsi arg0 c8_i32_0
  let c0_i32 : BitVec 32 := 0#32
  let c0_i32_1 : BitVec 32 := 0#32
  let c0_i32_2 : BitVec 32 := 0#32
  ![v0.toNat, c0_i32.toNat, v1.toNat, c0_i32_1.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c8_i32_0 : BitVec 32 := 8#32
  let v1 : BitVec 32 := Scalar.remsi arg0 c8_i32_0
  let c0_i32 : BitVec 32 := 0#32
  let c0_i32_1 : BitVec 32 := 0#32
  let c0_i32_2 : BitVec 32 := 0#32
  ![v0.toNat, c0_i32.toNat, v1.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RefMergeIdeal.lean ====
abbrev S2x1x4096x1024 : Shape := ⟨4, ![2, 1, 4096, 1024]⟩
abbrev S2x4x1024x1024 : Shape := ⟨4, ![2, 4, 1024, 1024]⟩
abbrev S2x16x256x1024 : Shape := ⟨4, ![2, 16, 256, 1024]⟩
abbrev S2x1x4096x128 : Shape := ⟨4, ![2, 1, 4096, 128]⟩
abbrev S2x4x1024x128 : Shape := ⟨4, ![2, 4, 1024, 128]⟩
abbrev S2x16x256x128 : Shape := ⟨4, ![2, 16, 256, 128]⟩
abbrev S8192x1024 : Shape := ⟨2, ![8192, 1024]⟩
abbrev S8192x4096 : Shape := ⟨2, ![8192, 4096]⟩
abbrev S1024x2048 : Shape := ⟨2, ![1024, 2048]⟩
abbrev S2x4096x1x1024 : Shape := ⟨4, ![2, 4096, 1, 1024]⟩
abbrev S8192x8x128 : Shape := ⟨3, ![8192, 8, 128]⟩
abbrev S2x1024x4x1024 : Shape := ⟨4, ![2, 1024, 4, 1024]⟩
abbrev S2x256x16x1024 : Shape := ⟨4, ![2, 256, 16, 1024]⟩
abbrev S2x4096x1x128 : Shape := ⟨4, ![2, 4096, 1, 128]⟩
abbrev S8192x128 : Shape := ⟨2, ![8192, 128]⟩
abbrev S8192x8 : Shape := ⟨2, ![8192, 8]⟩
abbrev S2x1024x4x128 : Shape := ⟨4, ![2, 1024, 4, 128]⟩
abbrev S2x256x16x128 : Shape := ⟨4, ![2, 256, 16, 128]⟩
abbrev S1x8192x8 : Shape := ⟨3, ![1, 8192, 8]⟩
abbrev S3x8192x8 : Shape := ⟨3, ![3, 8192, 8]⟩
abbrev S_ : Shape := ⟨0, ![]⟩
abbrev S3x8192x8x1 : Shape := ⟨4, ![3, 8192, 8, 1]⟩
abbrev S1x8192x8x128 : Shape := ⟨4, ![1, 8192, 8, 128]⟩
abbrev S3x8192x8x128 : Shape := ⟨4, ![3, 8192, 8, 128]⟩
abbrev S8192x2048 : Shape := ⟨2, ![8192, 2048]⟩

abbrev nBuf : Space → Nat
  | .hbm => 74
  | .vmem => 0
  | .smem => 0
  | _ => 0

abbrev bufTy : (tb : Table) → Fin (tcTables nBuf tb) → BufTy
  | .hbm, ⟨0, _⟩ => ⟨S2x1x4096x1024, .bf16⟩
  | .hbm, ⟨1, _⟩ => ⟨S2x4x1024x1024, .bf16⟩
  | .hbm, ⟨2, _⟩ => ⟨S2x16x256x1024, .bf16⟩
  | .hbm, ⟨3, _⟩ => ⟨S2x1x4096x128, .f32⟩
  | .hbm, ⟨4, _⟩ => ⟨S2x4x1024x128, .f32⟩
  | .hbm, ⟨5, _⟩ => ⟨S2x16x256x128, .f32⟩
  | .hbm, ⟨6, _⟩ => ⟨S8192x1024, .bf16⟩
  | .hbm, ⟨7, _⟩ => ⟨S8192x1024, .bf16⟩
  | .hbm, ⟨8, _⟩ => ⟨S8192x4096, .bf16⟩
  | .hbm, ⟨9, _⟩ => ⟨S1024x2048, .bf16⟩
  | .hbm, ⟨10, _⟩ => ⟨S1024x2048, .bf16⟩
  | .hbm, ⟨11, _⟩ => ⟨S2x1x4096x1024, .f32⟩
  | .hbm, ⟨12, _⟩ => ⟨S2x4096x1x1024, .f32⟩
  | .hbm, ⟨13, _⟩ => ⟨S8192x1024, .f32⟩
  | .hbm, ⟨14, _⟩ => ⟨S8192x8x128, .f32⟩
  | .hbm, ⟨15, _⟩ => ⟨S2x4x1024x1024, .f32⟩
  | .hbm, ⟨16, _⟩ => ⟨S2x1024x4x1024, .f32⟩
  | .hbm, ⟨17, _⟩ => ⟨S8192x1024, .f32⟩
  | .hbm, ⟨18, _⟩ => ⟨S8192x8x128, .f32⟩
  | .hbm, ⟨19, _⟩ => ⟨S2x16x256x1024, .f32⟩
  | .hbm, ⟨20, _⟩ => ⟨S2x256x16x1024, .f32⟩
  | .hbm, ⟨21, _⟩ => ⟨S8192x1024, .f32⟩
  | .hbm, ⟨22, _⟩ => ⟨S8192x8x128, .f32⟩
  | .hbm, ⟨23, _⟩ => ⟨S2x4096x1x128, .f32⟩
  | .hbm, ⟨24, _⟩ => ⟨S8192x128, .f32⟩
  | .hbm, ⟨25, _⟩ => ⟨S8192x8, .f32⟩
  | .hbm, ⟨26, _⟩ => ⟨S2x1024x4x128, .f32⟩
  | .hbm, ⟨27, _⟩ => ⟨S8192x128, .f32⟩
  | .hbm, ⟨28, _⟩ => ⟨S8192x8, .f32⟩
  | .hbm, ⟨29, _⟩ => ⟨S2x256x16x128, .f32⟩
  | .hbm, ⟨30, _⟩ => ⟨S8192x128, .f32⟩
  | .hbm, ⟨31, _⟩ => ⟨S8192x8, .f32⟩
  | .hbm, ⟨32, _⟩ => ⟨S1x8192x8, .f32⟩
  | .hbm, ⟨33, _⟩ => ⟨S1x8192x8, .f32⟩
  | .hbm, ⟨34, _⟩ => ⟨S1x8192x8, .f32⟩
  | .hbm, ⟨35, _⟩ => ⟨S3x8192x8, .f32⟩
  | .hbm, ⟨36, _⟩ => ⟨S_, .f32⟩
  | .hbm, ⟨37, _⟩ => ⟨S8192x8, .f32⟩
  | .hbm, ⟨38, _⟩ => ⟨S_, .f32⟩
  | .hbm, ⟨39, _⟩ => ⟨S8192x8, .f32⟩
  | .hbm, ⟨40, _⟩ => ⟨S8192x8, .f32⟩
  | .hbm, ⟨41, _⟩ => ⟨S1x8192x8, .f32⟩
  | .hbm, ⟨42, _⟩ => ⟨S3x8192x8, .f32⟩
  | .hbm, ⟨43, _⟩ => ⟨S3x8192x8, .f32⟩
  | .hbm, ⟨44, _⟩ => ⟨S3x8192x8, .f32⟩
  | .hbm, ⟨45, _⟩ => ⟨S_, .f32⟩
  | .hbm, ⟨46, _⟩ => ⟨S8192x8, .f32⟩
  | .hbm, ⟨47, _⟩ => ⟨S1x8192x8, .f32⟩
  | .hbm, ⟨48, _⟩ => ⟨S3x8192x8, .f32⟩
  | .hbm, ⟨49, _⟩ => ⟨S3x8192x8, .f32⟩
  | .hbm, ⟨50, _⟩ => ⟨S3x8192x8x1, .f32⟩
  | .hbm, ⟨51, _⟩ => ⟨S1x8192x8x128, .f32⟩
  | .hbm, ⟨52, _⟩ => ⟨S1x8192x8x128, .f32⟩
  | .hbm, ⟨53, _⟩ => ⟨S1x8192x8x128, .f32⟩
  | .hbm, ⟨54, _⟩ => ⟨S3x8192x8x128, .f32⟩
  | .hbm, ⟨55, _⟩ => ⟨S3x8192x8x128, .f32⟩
  | .hbm, ⟨56, _⟩ => ⟨S3x8192x8x128, .f32⟩
  | .hbm, ⟨57, _⟩ => ⟨S_, .f32⟩
  | .hbm, ⟨58, _⟩ => ⟨S8192x8x128, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x4096, .f32⟩
  | .hbm, ⟨63, _⟩ => ⟨S8192x2048, .f32⟩
  | .hbm, ⟨64, _⟩ => ⟨S8192x2048, .f32⟩
  | .hbm, ⟨65, _⟩ => ⟨S1024x2048, .f32⟩
  | .hbm, ⟨66, _⟩ => ⟨S8192x2048, .f32⟩
  | .hbm, ⟨67, _⟩ => ⟨S8192x2048, .f32⟩
  | .hbm, ⟨68, _⟩ => ⟨S8192x1024, .f32⟩
  | .hbm, ⟨69, _⟩ => ⟨S1024x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .bf16⟩
  | _, _ => ⟨S2x1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_2 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== AttnD4.lean ====
abbrev S2x4x1024x1024 : Shape := ⟨4, ![2, 4, 1024, 1024]⟩
abbrev S2x4x1024x128 : Shape := ⟨4, ![2, 4, 1024, 128]⟩
abbrev S1x1x512x1024 : Shape := ⟨4, ![1, 1, 512, 1024]⟩
abbrev S1x1x128x1024 : Shape := ⟨4, ![1, 1, 128, 1024]⟩
abbrev S1x1x512x128 : Shape := ⟨4, ![1, 1, 512, 128]⟩
abbrev S128x256 : Shape := ⟨2, ![128, 256]⟩
abbrev S128x128 : Shape := ⟨2, ![128, 128]⟩
abbrev S1x1x128x128 : Shape := ⟨4, ![1, 1, 128, 128]⟩
abbrev S256x128 : Shape := ⟨2, ![256, 128]⟩
abbrev S128 : Shape := ⟨1, ![128]⟩
abbrev S128x1 : Shape := ⟨2, ![128, 1]⟩
abbrev S1x1x256x128 : Shape := ⟨4, ![1, 1, 256, 128]⟩

abbrev nBuf : Space → Nat
  | .hbm => 5
  | .vmem => 14
  | .smem => 0
  | _ => 0

abbrev bufTy : (tb : Table) → Fin (tcTables nBuf tb) → BufTy
  | .hbm, ⟨0, _⟩ => ⟨S2x4x1024x1024, .bf16⟩
  | .hbm, ⟨1, _⟩ => ⟨S2x4x1024x1024, .bf16⟩
  | .hbm, ⟨2, _⟩ => ⟨S2x4x1024x1024, .bf16⟩
  | .hbm, ⟨3, _⟩ => ⟨S2x4x1024x1024, .bf16⟩
  | .hbm, ⟨4, _⟩ => ⟨S2x4x1024x128, .f32⟩
  | .local _ .vmem, ⟨0, _⟩ => ⟨S1x1x512x1024, .bf16⟩
  | .local _ .vmem, ⟨1, _⟩ => ⟨S1x1x512x1024, .bf16⟩
  | .local _ .vmem, ⟨2, _⟩ => ⟨S1x1x128x1024, .bf16⟩
  | .local _ .vmem, ⟨3, _⟩ => ⟨S1x1x128x1024, .bf16⟩
  | .local _ .vmem, ⟨4, _⟩ => ⟨S1x1x512x1024, .bf16⟩
  | .local _ .vmem, ⟨5, _⟩ => ⟨S1x1x512x1024, .bf16⟩
  | .local _ .vmem, ⟨6, _⟩ => ⟨S1x1x128x1024, .bf16⟩
  | .local _ .vmem, ⟨7, _⟩ => ⟨S1x1x128x1024, .bf16⟩
  | .local _ .vmem, ⟨8, _⟩ => ⟨S1x1x512x1024, .bf16⟩
  | .local _ .vmem, ⟨9, _⟩ => ⟨S1x1x512x1024, .bf16⟩
  | .local _ .vmem, ⟨10, _⟩ => ⟨S1x1x512x1024, .bf16⟩
  | .local _ .vmem, ⟨11, _⟩ => ⟨S1x1x512x1024, .bf16⟩
  | .local _ .vmem, ⟨12, _⟩ => ⟨S1x1x512x128, .f32⟩
  | .local _ .vmem, ⟨13, _⟩ => ⟨S1x1x512x128, .f32⟩
  | _, _ => ⟨S2x4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnD4Ideal.lean ====
abbrev S2x4x1024x1024 : Shape := ⟨4, ![2, 4, 1024, 1024]⟩
abbrev S2x4x1024x128 : Shape := ⟨4, ![2, 4, 1024, 128]⟩
abbrev S1x1x512x1024 : Shape := ⟨4, ![1, 1, 512, 1024]⟩
abbrev S1x1x128x1024 : Shape := ⟨4, ![1, 1, 128, 1024]⟩
abbrev S1x1x512x128 : Shape := ⟨4, ![1, 1, 512, 128]⟩
abbrev S128x256 : Shape := ⟨2, ![128, 256]⟩
abbrev S128x128 : Shape := ⟨2, ![128, 128]⟩
abbrev S1x1x128x128 : Shape := ⟨4, ![1, 1, 128, 128]⟩
abbrev S256x128 : Shape := ⟨2, ![256, 128]⟩
abbrev S128 : Shape := ⟨1, ![128]⟩
abbrev S128x1 : Shape := ⟨2, ![128, 1]⟩
abbrev S1x1x256x128 : Shape := ⟨4, ![1, 1, 256, 128]⟩

abbrev nBuf : Space → Nat
  | .hbm => 5
  | .vmem => 14
  | .smem => 0
  | _ => 0

abbrev bufTy : (tb : Table) → Fin (tcTables nBuf tb) → BufTy
  | .hbm, ⟨0, _⟩ => ⟨S2x4x1024x1024, .bf16⟩
  | .hbm, ⟨1, _⟩ => ⟨S2x4x1024x1024, .bf16⟩
  | .hbm, ⟨2, _⟩ => ⟨S2x4x1024x1024, .bf16⟩
  | .hbm, ⟨3, _⟩ => ⟨S2x4x1024x1024, .bf16⟩
  | .hbm, ⟨4, _⟩ => ⟨S2x4x1024x128, .f32⟩
  | .local _ .vmem, ⟨0, _⟩ => ⟨S1x1x512x1024, .bf16⟩
  | .local _ .vmem, ⟨1, _⟩ => ⟨S1x1x512x1024, .bf16⟩
  | .local _ .vmem, ⟨2, _⟩ => ⟨S1x1x128x1024, .bf16⟩
  | .local _ .vmem, ⟨3, _⟩ => ⟨S1x1x128x1024, .bf16⟩
  | .local _ .vmem, ⟨4, _⟩ => ⟨S1x1x512x1024, .bf16⟩
  | .local _ .vmem, ⟨5, _⟩ => ⟨S1x1x512x1024, .bf16⟩
  | .local _ .vmem, ⟨6, _⟩ => ⟨S1x1x128x1024, .bf16⟩
  | .local _ .vmem, ⟨7, _⟩ => ⟨S1x1x128x1024, .bf16⟩
  | .local _ .vmem, ⟨8, _⟩ => ⟨S1x1x512x1024, .bf16⟩
  | .local _ .vmem, ⟨9, _⟩ => ⟨S1x1x512x1024, .bf16⟩
  | .local _ .vmem, ⟨10, _⟩ => ⟨S1x1x512x1024, .bf16⟩
  | .local _ .vmem, ⟨11, _⟩ => ⟨S1x1x512x1024, .bf16⟩
  | .local _ .vmem, ⟨12, _⟩ => ⟨S1x1x512x128, .f32⟩
  | .local _ .vmem, ⟨13, _⟩ => ⟨S1x1x512x128, .f32⟩
  | _, _ => ⟨S2x4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "mask" => some ⊥
  | _ => none

abbrev grid0 : Pipeline.Grid := ⟨3, ![2, 4, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli c4_i32 arg2
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== RefAttnD4Ideal.lean ====
abbrev S2x4x1024x1024 : Shape := ⟨4, ![2, 4, 1024, 1024]⟩
abbrev S2x4x8x128x8x128 : Shape := ⟨6, ![2, 4, 8, 128, 8, 128]⟩
abbrev S_ : Shape := ⟨0, ![]⟩
abbrev S2x4x9x128x8x128 : Shape := ⟨6, ![2, 4, 9, 128, 8, 128]⟩
abbrev S2x4x8x256x8x128 : Shape := ⟨6, ![2, 4, 8, 256, 8, 128]⟩
abbrev S2x4x8x8x256x128 : Shape := ⟨6, ![2, 4, 8, 8, 256, 128]⟩
abbrev S2x4x8x128x8x256 : Shape := ⟨6, ![2, 4, 8, 128, 8, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S8 : Shape := ⟨1, ![8]⟩
abbrev S8x1x1 : Shape := ⟨3, ![8, 1, 1]⟩
abbrev S128x256 : Shape := ⟨2, ![128, 256]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S8x128x1x256 : Shape := ⟨4, ![8, 128, 1, 256]⟩
abbrev S2x4x8x128x8 : Shape := ⟨5, ![2, 4, 8, 128, 8]⟩
abbrev S2x4x8x128x8x1 : Shape := ⟨6, ![2, 4, 8, 128, 8, 1]⟩
abbrev S2x4x8x8x128x128 : Shape := ⟨6, ![2, 4, 8, 8, 128, 128]⟩
abbrev S2x4x1024x8 : Shape := ⟨4, ![2, 4, 1024, 8]⟩
abbrev S2x4x1024x128 : Shape := ⟨4, ![2, 4, 1024, 128]⟩

abbrev nBuf : Space → Nat
  | .hbm => 82
  | .vmem => 0
  | .smem => 0
  | _ => 0

abbrev bufTy : (tb : Table) → Fin (tcTables nBuf tb) → BufTy
  | .hbm, ⟨0, _⟩ => ⟨S2x4x1024x1024, .bf16⟩
  | .hbm, ⟨1, _⟩ => ⟨S2x4x1024x1024, .bf16⟩
  | .hbm, ⟨2, _⟩ => ⟨S2x4x1024x1024, .bf16⟩
  | .hbm, ⟨3, _⟩ => ⟨S2x4x8x128x8x128, .bf16⟩
  | .hbm, ⟨4, _⟩ => ⟨S2x4x8x128x8x128, .f32⟩
  | .hbm, ⟨5, _⟩ => ⟨S2x4x8x128x8x128, .bf16⟩
  | .hbm, ⟨6, _⟩ => ⟨S2x4x8x128x8x128, .f32⟩
  | .hbm, ⟨7, _⟩ => ⟨S2x4x8x128x8x128, .bf16⟩
  | .hbm, ⟨8, _⟩ => ⟨S2x4x8x128x8x128, .f32⟩
  | .hbm, ⟨9, _⟩ => ⟨S_, .i32⟩
  | .hbm, ⟨10, _⟩ => ⟨S_, .f32⟩
  | .hbm, ⟨11, _⟩ => ⟨S2x4x9x128x8x128, .f32⟩
  | .hbm, ⟨12, _⟩ => ⟨S2x4x8x128x8x128, .f32⟩
  | .hbm, ⟨13, _⟩ => ⟨S2x4x8x256x8x128, .f32⟩
  | .hbm, ⟨14, _⟩ => ⟨S_, .i32⟩
  | .hbm, ⟨15, _⟩ => ⟨S_, .f32⟩
  | .hbm, ⟨16, _⟩ => ⟨S2x4x9x128x8x128, .f32⟩
  | .hbm, ⟨17, _⟩ => ⟨S2x4x8x128x8x128, .f32⟩
  | .hbm, ⟨18, _⟩ => ⟨S2x4x8x256x8x128, .f32⟩
  | .hbm, ⟨19, _⟩ => ⟨S2x4x8x8x256x128, .f32⟩
  | .hbm, ⟨20, _⟩ => ⟨S2x4x8x128x8x256, .f32⟩
  | .hbm, ⟨21, _⟩ => ⟨S_, .f32⟩
  | .hbm, ⟨22, _⟩ => ⟨S2x4x8x128x8x256, .f32⟩
  | .hbm, ⟨23, _⟩ => ⟨S2x4x8x128x8x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S8, .i32⟩
  | .hbm, ⟨29, _⟩ => ⟨S8x1x1, .i32⟩
  | .hbm, ⟨30, _⟩ => ⟨S128x256, .i32⟩
  | .hbm, ⟨31, _⟩ => ⟨S128x256, .i32⟩
  | .hbm, ⟨32, _⟩ => ⟨S128x256, .i1⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S128x256, .i32⟩
  | .hbm, ⟨37, _⟩ => ⟨S128x256, .i32⟩
  | .hbm, ⟨38, _⟩ => ⟨S128x256, .i1⟩
  | .hbm, ⟨39, _⟩ => ⟨S128x256, .i1⟩
  | .hbm, ⟨40, _⟩ => ⟨S_, .i32⟩
  | .hbm, ⟨41, _⟩ => ⟨S8x1x1, .i32⟩
  | .hbm, ⟨42, _⟩ => ⟨S8x1x1, .i1⟩
  | .hbm, ⟨43, _⟩ => ⟨S_, .i32⟩
  | .hbm, ⟨44, _⟩ => ⟨S1x256, .i32⟩
  | .hbm, ⟨45, _⟩ => ⟨S1x256, .i1⟩
  | .hbm, ⟨46, _⟩ => ⟨S1x1x256, .i1⟩
  | .hbm, ⟨47, _⟩ => ⟨S8x1x256, .i1⟩
  | .hbm, ⟨48, _⟩ => ⟨S8x1x256, .i1⟩
  | .hbm, ⟨49, _⟩ => ⟨S8x1x256, .i1⟩
  | .hbm, ⟨50, _⟩ => ⟨S1x128x256, .i1⟩
  | .hbm, ⟨51, _⟩ => ⟨S8x128x256, .i1⟩
  | .hbm, ⟨52, _⟩ => ⟨S8x128x256, .i1⟩
  | .hbm, ⟨53, _⟩ => ⟨S8x128x256, .i1⟩
  | .hbm, ⟨54, _⟩ => ⟨S8x128x1x256, .i1⟩
  | .hbm, ⟨55, _⟩ => ⟨S_, .f32⟩
  | .hbm, ⟨56, _⟩ => ⟨S_, .f32⟩
  | .hbm, ⟨57, _⟩ => ⟨S2x4x8x128x8x256, .i1⟩
  | .hbm, ⟨58, _⟩ => ⟨S2x4x8x128x8x256, .f32⟩
  | .hbm, ⟨59, _⟩ => ⟨S2x4x8x128x8x256, .f32⟩
  | .hbm, ⟨60, _⟩ => ⟨S_, .f32⟩
  | .hbm, ⟨61, _⟩ => ⟨S2x4x8x128x8, .f32⟩
  | .hbm, ⟨62, _⟩ => ⟨S2x4x8x128x8x1, .f32⟩
  | .hbm, ⟨63, _⟩ => ⟨S2x4x8x128x8x256, .f32⟩
  | .hbm, ⟨64, _⟩ => ⟨S2x4x8x128x8x256, .f32⟩
  | .hbm, ⟨65, _⟩ => ⟨S2x4x8x128x8x256, .f32⟩
  | .hbm, ⟨66, _⟩ => ⟨S_, .f32⟩
  | .hbm, ⟨67, _⟩ => ⟨S2x4x8x128x8, .f32⟩
  | .hbm, ⟨68, _⟩ => ⟨S2x4x8x128x8x1, .f32⟩
  | .hbm, ⟨69, _⟩ => ⟨S2x4x8x128x8x256, .f32⟩
  | .hbm, ⟨70, _⟩ => ⟨S2x4x8x128x8x256, .f32⟩
  | .hbm, ⟨71, _⟩ => ⟨S2x4x8x128x8x1, .f32⟩
  | .hbm, ⟨72, _⟩ => ⟨S2x4x8x128x8x1, .f32⟩
  | .hbm, ⟨73, _⟩ => ⟨S2x4x8x128x8, .f32⟩
  | .hbm, ⟨74, _⟩ => ⟨S2x4x8x8x128x128, .f32⟩
  | .hbm, ⟨75, _⟩ => ⟨S2x4x8x128x8x128, .f32⟩
  | .hbm, ⟨76, _⟩ => ⟨S2x4x1024x1024, .f32⟩
  | .hbm, ⟨77, _⟩ => ⟨S2x4x1024x1024, .bf16⟩
  | .hbm, ⟨78, _⟩ => ⟨S2x4x1024x8, .f32⟩
  | .hbm, ⟨79, _⟩ => ⟨S_, .i32⟩
  | .hbm, ⟨80, _⟩ => ⟨S_, .f32⟩
  | .hbm, ⟨81, _⟩ => ⟨S2x4x1024x128, .f32⟩
  | _, _ => ⟨S2x4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_7 : Ref sig .tc := ⟨.hbm, 79, rfl⟩
abbrev main_call3_v0 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== AttnD16.lean ====
abbrev S2x16x256x1024 : Shape := ⟨4, ![2, 16, 256, 1024]⟩
abbrev S2x16x256x128 : Shape := ⟨4, ![2, 16, 256, 128]⟩
abbrev S1x1x256x1024 : Shape := ⟨4, ![1, 1, 256, 1024]⟩
abbrev S1x1x128x1024 : Shape := ⟨4, ![1, 1, 128, 1024]⟩
abbrev S1x1x256x128 : Shape := ⟨4, ![1, 1, 256, 128]⟩
abbrev S128x256 : Shape := ⟨2, ![128, 256]⟩
abbrev S128x128 : Shape := ⟨2, ![128, 128]⟩
abbrev S1x1x128x128 : Shape := ⟨4, ![1, 1, 128, 128]⟩
abbrev S256x128 : Shape := ⟨2, ![256, 128]⟩
abbrev S128 : Shape := ⟨1, ![128]⟩
abbrev S128x1 : Shape := ⟨2, ![128, 1]⟩

abbrev nBuf : Space → Nat
  | .hbm => 5
  | .vmem => 14
  | .smem => 0
  | _ => 0

abbrev bufTy : (tb : Table) → Fin (tcTables nBuf tb) → BufTy
  | .hbm, ⟨0, _⟩ => ⟨S2x16x256x1024, .bf16⟩
  | .hbm, ⟨1, _⟩ => ⟨S2x16x256x1024, .bf16⟩
  | .hbm, ⟨2, _⟩ => ⟨S2x16x256x1024, .bf16⟩
  | .hbm, ⟨3, _⟩ => ⟨S2x16x256x1024, .bf16⟩
  | .hbm, ⟨4, _⟩ => ⟨S2x16x256x128, .f32⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x128x1024, .bf16⟩
  | .local _ .vmem, ⟨3, _⟩ => ⟨S1x1x128x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S1x1x128x1024, .bf16⟩
  | .local _ .vmem, ⟨7, _⟩ => ⟨S1x1x128x1024, .bf16⟩
  | .local _ .vmem, ⟨8, _⟩ => ⟨S1x1x256x1024, .bf16⟩
  | .local _ .vmem, ⟨9, _⟩ => ⟨S1x1x256x1024, .bf16⟩
  | .local _ .vmem, ⟨10, _⟩ => ⟨S1x1x256x1024, .bf16⟩
  | .local _ .vmem, ⟨11, _⟩ => ⟨S1x1x256x1024, .bf16⟩
  | .local _ .vmem, ⟨12, _⟩ => ⟨S1x1x256x128, .f32⟩
  | .local _ .vmem, ⟨13, _⟩ => ⟨S1x1x256x128, .f32⟩
  | _, _ => ⟨S2x16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnD16Ideal.lean ====
variable {F : FTy → Type} [FloatOps F] [Named F]
def κ : String → Option EReal := fun
  | "mask" => some ⊥
  | _ => none
-- ==== RefAttnD16Ideal.lean ====
abbrev S2x16x256x1024 : Shape := ⟨4, ![2, 16, 256, 1024]⟩
abbrev S2x16x2x128x8x128 : Shape := ⟨6, ![2, 16, 2, 128, 8, 128]⟩
abbrev S_ : Shape := ⟨0, ![]⟩
abbrev S2x16x3x128x8x128 : Shape := ⟨6, ![2, 16, 3, 128, 8, 128]⟩
abbrev S2x16x2x256x8x128 : Shape := ⟨6, ![2, 16, 2, 256, 8, 128]⟩
abbrev S2x16x2x8x256x128 : Shape := ⟨6, ![2, 16, 2, 8, 256, 128]⟩
abbrev S2x16x2x128x8x256 : Shape := ⟨6, ![2, 16, 2, 128, 8, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S2 : Shape := ⟨1, ![2]⟩
abbrev S2x1x1 : Shape := ⟨3, ![2, 1, 1]⟩
abbrev S128x256 : Shape := ⟨2, ![128, 256]⟩
abbrev S1x1x256 : Shape := ⟨3, ![1, 1, 256]⟩
abbrev S2x1x256 : Shape := ⟨3, ![2, 1, 256]⟩
abbrev S1x128x256 : Shape := ⟨3, ![1, 128, 256]⟩
abbrev S2x128x256 : Shape := ⟨3, ![2, 128, 256]⟩
abbrev S2x128x1x256 : Shape := ⟨4, ![2, 128, 1, 256]⟩
abbrev S2x16x2x128x8 : Shape := ⟨5, ![2, 16, 2, 128, 8]⟩
abbrev S2x16x2x128x8x1 : Shape := ⟨6, ![2, 16, 2, 128, 8, 1]⟩
abbrev S2x16x2x8x128x128 : Shape := ⟨6, ![2, 16, 2, 8, 128, 128]⟩
abbrev S2x16x256x8 : Shape := ⟨4, ![2, 16, 256, 8]⟩
abbrev S2x16x256x128 : Shape := ⟨4, ![2, 16, 256, 128]⟩

abbrev nBuf : Space → Nat
  | .hbm => 82
  | .vmem => 0
  | .smem => 0
  | _ => 0

abbrev bufTy : (tb : Table) → Fin (tcTables nBuf tb) → BufTy
  | .hbm, ⟨0, _⟩ => ⟨S2x16x256x1024, .bf16⟩
  | .hbm, ⟨1, _⟩ => ⟨S2x16x256x1024, .bf16⟩
  | .hbm, ⟨2, _⟩ => ⟨S2x16x256x1024, .bf16⟩
  | .hbm, ⟨3, _⟩ => ⟨S2x16x2x128x8x128, .bf16⟩
  | .hbm, ⟨4, _⟩ => ⟨S2x16x2x128x8x128, .f32⟩
  | .hbm, ⟨5, _⟩ => ⟨S2x16x2x128x8x128, .bf16⟩
  | .hbm, ⟨6, _⟩ => ⟨S2x16x2x128x8x128, .f32⟩
  | .hbm, ⟨7, _⟩ => ⟨S2x16x2x128x8x128, .bf16⟩
  | .hbm, ⟨8, _⟩ => ⟨S2x16x2x128x8x128, .f32⟩
  | .hbm, ⟨9, _⟩ => ⟨S_, .i32⟩
  | .hbm, ⟨10, _⟩ => ⟨S_, .f32⟩
  | .hbm, ⟨11, _⟩ => ⟨S2x16x3x128x8x128, .f32⟩
  | .hbm, ⟨12, _⟩ => ⟨S2x16x2x128x8x128, .f32⟩
  | .hbm, ⟨13, _⟩ => ⟨S2x16x2x256x8x128, .f32⟩
  | .hbm, ⟨14, _⟩ => ⟨S_, .i32⟩
  | .hbm, ⟨15, _⟩ => ⟨S_, .f32⟩
  | .hbm, ⟨16, _⟩ => ⟨S2x16x3x128x8x128, .f32⟩
  | .hbm, ⟨17, _⟩ => ⟨S2x16x2x128x8x128, .f32⟩
  | .hbm, ⟨18, _⟩ => ⟨S2x16x2x256x8x128, .f32⟩
  | .hbm, ⟨19, _⟩ => ⟨S2x16x2x8x256x128, .f32⟩
  | .hbm, ⟨20, _⟩ => ⟨S2x16x2x128x8x256, .f32⟩
  | .hbm, ⟨21, _⟩ => ⟨S_, .f32⟩
  | .hbm, ⟨22, _⟩ => ⟨S2x16x2x128x8x256, .f32⟩
  | .hbm, ⟨23, _⟩ => ⟨S2x16x2x128x8x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S2, .i32⟩
  | .hbm, ⟨29, _⟩ => ⟨S2x1x1, .i32⟩
  | .hbm, ⟨30, _⟩ => ⟨S128x256, .i32⟩
  | .hbm, ⟨31, _⟩ => ⟨S128x256, .i32⟩
  | .hbm, ⟨32, _⟩ => ⟨S128x256, .i1⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S128x256, .i32⟩
  | .hbm, ⟨37, _⟩ => ⟨S128x256, .i32⟩
  | .hbm, ⟨38, _⟩ => ⟨S128x256, .i1⟩
  | .hbm, ⟨39, _⟩ => ⟨S128x256, .i1⟩
  | .hbm, ⟨40, _⟩ => ⟨S_, .i32⟩
  | .hbm, ⟨41, _⟩ => ⟨S2x1x1, .i32⟩
  | .hbm, ⟨42, _⟩ => ⟨S2x1x1, .i1⟩
  | .hbm, ⟨43, _⟩ => ⟨S_, .i32⟩
  | .hbm, ⟨44, _⟩ => ⟨S1x256, .i32⟩
  | .hbm, ⟨45, _⟩ => ⟨S1x256, .i1⟩
  | .hbm, ⟨46, _⟩ => ⟨S1x1x256, .i1⟩
  | .hbm, ⟨47, _⟩ => ⟨S2x1x256, .i1⟩
  | .hbm, ⟨48, _⟩ => ⟨S2x1x256, .i1⟩
  | .hbm, ⟨49, _⟩ => ⟨S2x1x256, .i1⟩
  | .hbm, ⟨50, _⟩ => ⟨S1x128x256, .i1⟩
  | .hbm, ⟨51, _⟩ => ⟨S2x128x256, .i1⟩
  | .hbm, ⟨52, _⟩ => ⟨S2x128x256, .i1⟩
  | .hbm, ⟨53, _⟩ => ⟨S2x128x256, .i1⟩
  | .hbm, ⟨54, _⟩ => ⟨S2x128x1x256, .i1⟩
  | .hbm, ⟨55, _⟩ => ⟨S_, .f32⟩
  | .hbm, ⟨56, _⟩ => ⟨S_, .f32⟩
  | .hbm, ⟨57, _⟩ => ⟨S2x16x2x128x8x256, .i1⟩
  | .hbm, ⟨58, _⟩ => ⟨S2x16x2x128x8x256, .f32⟩
  | .hbm, ⟨59, _⟩ => ⟨S2x16x2x128x8x256, .f32⟩
  | .hbm, ⟨60, _⟩ => ⟨S_, .f32⟩
  | .hbm, ⟨61, _⟩ => ⟨S2x16x2x128x8, .f32⟩
  | .hbm, ⟨62, _⟩ => ⟨S2x16x2x128x8x1, .f32⟩
  | .hbm, ⟨63, _⟩ => ⟨S2x16x2x128x8x256, .f32⟩
  | .hbm, ⟨64, _⟩ => ⟨S2x16x2x128x8x256, .f32⟩
  | .hbm, ⟨65, _⟩ => ⟨S2x16x2x128x8x256, .f32⟩
  | .hbm, ⟨66, _⟩ => ⟨S_, .f32⟩
  | .hbm, ⟨67, _⟩ => ⟨S2x16x2x128x8, .f32⟩
  | .hbm, ⟨68, _⟩ => ⟨S2x16x2x128x8x1, .f32⟩
  | .hbm, ⟨69, _⟩ => ⟨S2x16x2x128x8x256, .f32⟩
  | .hbm, ⟨70, _⟩ => ⟨S2x16x2x128x8x256, .f32⟩
  | .hbm, ⟨71, _⟩ => ⟨S2x16x2x128x8x1, .f32⟩
  | .hbm, ⟨72, _⟩ => ⟨S2x16x2x128x8x1, .f32⟩
  | .hbm, ⟨73, _⟩ => ⟨S2x16x2x128x8, .f32⟩
  | .hbm, ⟨74, _⟩ => ⟨S2x16x2x8x128x128, .f32⟩
  | .hbm, ⟨75, _⟩ => ⟨S2x16x2x128x8x128, .f32⟩
  | .hbm, ⟨76, _⟩ => ⟨S2x16x256x1024, .f32⟩
  | .hbm, ⟨77, _⟩ => ⟨S2x16x256x1024, .bf16⟩
  | .hbm, ⟨78, _⟩ => ⟨S2x16x256x8, .f32⟩
  | .hbm, ⟨79, _⟩ => ⟨S_, .i32⟩
  | .hbm, ⟨80, _⟩ => ⟨S_, .f32⟩
  | .hbm, ⟨81, _⟩ => ⟨S2x16x256x128, .f32⟩
  | _, _ => ⟨S2x16x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_7 : Ref sig .tc := ⟨.hbm, 79, rfl⟩
abbrev main_call3_v0 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefNormIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== S5Sample.lean ====
abbrev S4x8x1024 : Shape := ⟨3, ![4, 8, 1024]⟩
abbrev S8x4096 : Shape := ⟨2, ![8, 4096]⟩
abbrev S8x128x1024 : Shape := ⟨3, ![8, 128, 1024]⟩
abbrev S2x128x8x4096 : Shape := ⟨4, ![2, 128, 8, 4096]⟩
abbrev S8x1024x128 : Shape := ⟨3, ![8, 1024, 128]⟩
abbrev S1024 : Shape := ⟨1, ![1024]⟩
abbrev S1x1024 : Shape := ⟨2, ![1, 1024]⟩
abbrev S4x8x128 : Shape := ⟨3, ![4, 8, 128]⟩
abbrev S8x512 : Shape := ⟨2, ![8, 512]⟩
abbrev S1x128x1024 : Shape := ⟨3, ![1, 128, 1024]⟩
abbrev S2x1x8x512 : Shape := ⟨4, ![2, 1, 8, 512]⟩
abbrev S1x1024x128 : Shape := ⟨3, ![1, 1024, 128]⟩
abbrev S1x128 : Shape := ⟨2, ![1, 128]⟩
abbrev S1x1x1x512 : Shape := ⟨4, ![1, 1, 1, 512]⟩
abbrev S1x512 : Shape := ⟨2, ![1, 512]⟩
abbrev S1x8x128 : Shape := ⟨3, ![1, 8, 128]⟩
abbrev S8x128 : Shape := ⟨2, ![8, 128]⟩
abbrev S128x1024 : Shape := ⟨2, ![128, 1024]⟩
abbrev S8x1024 : Shape := ⟨2, ![8, 1024]⟩
abbrev S1024x128 : Shape := ⟨2, ![1024, 128]⟩

abbrev nBuf : Space → Nat
  | .hbm => 11
  | .vmem => 20
  | .smem => 0
  | _ => 0

abbrev bufTy : (tb : Table) → Fin (tcTables nBuf tb) → BufTy
  | .hbm, ⟨0, _⟩ => ⟨S4x8x1024, .f32⟩
  | .hbm, ⟨1, _⟩ => ⟨S8x4096, .f32⟩
  | .hbm, ⟨2, _⟩ => ⟨S8x4096, .f32⟩
  | .hbm, ⟨3, _⟩ => ⟨S8x128x1024, .bf16⟩
  | .hbm, ⟨4, _⟩ => ⟨S2x128x8x4096, .f32⟩
  | .hbm, ⟨5, _⟩ => ⟨S8x1024x128, .bf16⟩
  | .hbm, ⟨6, _⟩ => ⟨S1024, .f32⟩
  | .hbm, ⟨7, _⟩ => ⟨S1x1024, .f32⟩
  | .hbm, ⟨8, _⟩ => ⟨S4x8x1024, .f32⟩
  | .hbm, ⟨9, _⟩ => ⟨S8x4096, .f32⟩
  | .hbm, ⟨10, _⟩ => ⟨S8x4096, .f32⟩
  | .local _ .vmem, ⟨0, _⟩ => ⟨S4x8x128, .f32⟩
  | .local _ .vmem, ⟨1, _⟩ => ⟨S4x8x128, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S1x128x1024, .bf16⟩
  | .local _ .vmem, ⟨7, _⟩ => ⟨S1x128x1024, .bf16⟩
  | .local _ .vmem, ⟨8, _⟩ => ⟨S2x1x8x512, .f32⟩
  | .local _ .vmem, ⟨9, _⟩ => ⟨S2x1x8x512, .f32⟩
  | .local _ .vmem, ⟨10, _⟩ => ⟨S1x1024x128, .bf16⟩
  | .local _ .vmem, ⟨11, _⟩ => ⟨S1x1024x128, .bf16⟩
  | .local _ .vmem, ⟨12, _⟩ => ⟨S1x128, .f32⟩
  | .local _ .vmem, ⟨13, _⟩ => ⟨S1x128, .f32⟩
  | .local _ .vmem, ⟨14, _⟩ => ⟨S4x8x128, .f32⟩
  | .local _ .vmem, ⟨15, _⟩ => ⟨S4x8x128, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | _, _ => ⟨S4x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefS5SampleIdeal.lean ====
abbrev S4x8x1024 : Shape := ⟨3, ![4, 8, 1024]⟩
abbrev S8x4096 : Shape := ⟨2, ![8, 4096]⟩
abbrev S8x128x1024 : Shape := ⟨3, ![8, 128, 1024]⟩
abbrev S2x128x8x4096 : Shape := ⟨4, ![2, 128, 8, 4096]⟩
abbrev S8x1024x128 : Shape := ⟨3, ![8, 1024, 128]⟩
abbrev S1024 : Shape := ⟨1, ![1024]⟩
abbrev S1x1x1x4096 : Shape := ⟨4, ![1, 1, 1, 4096]⟩
abbrev S4096 : Shape := ⟨1, ![4096]⟩
abbrev S8x512 : Shape := ⟨2, ![8, 512]⟩
abbrev S8x8x512 : Shape := ⟨3, ![8, 8, 512]⟩
abbrev S8x512x128 : Shape := ⟨3, ![8, 512, 128]⟩
abbrev S4x8x8x128 : Shape := ⟨4, ![4, 8, 8, 128]⟩
abbrev S8x1024x4x8 : Shape := ⟨4, ![8, 1024, 4, 8]⟩
abbrev S4x8x8x1024 : Shape := ⟨4, ![4, 8, 8, 1024]⟩
abbrev S4x8x8x512 : Shape := ⟨4, ![4, 8, 8, 512]⟩
abbrev S1x8x512 : Shape := ⟨3, ![1, 8, 512]⟩
abbrev S1x8x8x512 : Shape := ⟨4, ![1, 8, 8, 512]⟩
abbrev S8x128x8 : Shape := ⟨3, ![8, 128, 8]⟩
abbrev S8x8x128 : Shape := ⟨3, ![8, 8, 128]⟩
abbrev S8x128 : Shape := ⟨2, ![8, 128]⟩
abbrev S1x8x8x128 : Shape := ⟨4, ![1, 8, 8, 128]⟩
abbrev S1x8x128 : Shape := ⟨3, ![1, 8, 128]⟩

abbrev nBuf : Space → Nat
  | .hbm => 164
  | .vmem => 0
  | .smem => 0
  | _ => 0

abbrev hbmTy0_0 (i : Nat) : BufTy := match i % 128 with
  | 0 => ⟨S4x8x1024, .f32⟩
  | 1 => ⟨S8x4096, .f32⟩
  | 2 => ⟨S8x4096, .f32⟩
  | 3 => ⟨S8x128x1024, .bf16⟩
  | 4 => ⟨S2x128x8x4096, .f32⟩
  | 5 => ⟨S8x1024x128, .bf16⟩
  | 6 => ⟨S1024, .f32⟩
  | 7 => ⟨S1x1x1x4096, .f32⟩
  | 8 => ⟨S4096, .f32⟩
  | 9 => ⟨S8x512, .f32⟩
  | 10 => ⟨S1x1x1x4096, .f32⟩
  | 11 => ⟨S4096, .f32⟩
  | 12 => ⟨S8x512, .f32⟩
  | 13 => ⟨S8x8x512, .f32⟩
  | 14 => ⟨S8x8x512, .f32⟩
  | 15 => ⟨S8x1024x128, .f32⟩
  | 16 => ⟨S8x512x128, .f32⟩
  | 17 => ⟨S8x512x128, .f32⟩
  | 18 => ⟨S4x8x8x128, .f32⟩
  | 19 => ⟨S8x128x1024, .f32⟩
  | 20 => ⟨S8x1024x4x8, .f32⟩
  | 21 => ⟨S4x8x8x1024, .f32⟩
  | 22 => ⟨S4x8x8x512, .f32⟩
  | 23 => ⟨S4x8x8x512, .f32⟩
  | 24 => ⟨S1x8x512, .f32⟩
  | 25 => ⟨S8x8x512, .f32⟩
  | 26 => ⟨S8x8x512, .f32⟩
  | 27 => ⟨S1x8x512, .f32⟩
  | 28 => ⟨S8x8x512, .f32⟩
  | 29 => ⟨S8x8x512, .f32⟩
  | 30 => ⟨S8x8x512, .f32⟩
  | 31 => ⟨S1x8x8x512, .f32⟩
  | 32 => ⟨S8x8x512, .f32⟩
  | 33 => ⟨S8x8x512, .f32⟩
  | 34 => ⟨S1x8x512, .f32⟩
  | 35 => ⟨S8x8x512, .f32⟩
  | 36 => ⟨S8x8x512, .f32⟩
  | 37 => ⟨S1x8x512, .f32⟩
  | 38 => ⟨S8x8x512, .f32⟩
  | 39 => ⟨S8x8x512, .f32⟩
  | 40 => ⟨S8x8x512, .f32⟩
  | 41 => ⟨S1x8x8x512, .f32⟩
  | 42 => ⟨S8x8x512, .f32⟩
  | 43 => ⟨S8x8x512, .f32⟩
  | 44 => ⟨S8x128x8, .f32⟩
  | 45 => ⟨S8x8x128, .f32⟩
  | 46 => ⟨S8x8x512, .f32⟩
  | 47 => ⟨S8x128x8, .f32⟩
  | 48 => ⟨S8x8x128, .f32⟩
  | 49 => ⟨S8x8x128, .f32⟩
  | 50 => ⟨S8x128, .f32⟩
  | 51 => ⟨S1x8x8x128, .f32⟩
  | 52 => ⟨S8x8x128, .f32⟩
  | 53 => ⟨S1x8x128, .f32⟩
  | 54 => ⟨S8x8x128, .f32⟩
  | 55 => ⟨S8x8x128, .f32⟩
  | 56 => ⟨S8x8x128, .f32⟩
  | 57 => ⟨S1x8x512, .f32⟩
  | 58 => ⟨S8x8x512, .f32⟩
  | 59 => ⟨S8x8x512, .f32⟩
  | 60 => ⟨S1x8x512, .f32⟩
  | 61 => ⟨S8x8x512, .f32⟩
  | 62 => ⟨S8x8x512, .f32⟩
  | 63 => ⟨S8x8x512, .f32⟩
  | 64 => ⟨S1x8x8x512, .f32⟩
  | 65 => ⟨S8x8x512, .f32⟩
  | 66 => ⟨S8x8x512, .f32⟩
  | 67 => ⟨S1x8x512, .f32⟩
  | 68 => ⟨S8x8x512, .f32⟩
  | 69 => ⟨S8x8x512, .f32⟩
  | 70 => ⟨S1x8x512, .f32⟩
  | 71 => ⟨S8x8x512, .f32⟩
  | 72 => ⟨S8x8x512, .f32⟩
  | 73 => ⟨S8x8x512, .f32⟩
  | 74 => ⟨S1x8x8x512, .f32⟩
  | 75 => ⟨S8x8x512, .f32⟩
  | 76 => ⟨S8x8x512, .f32⟩
  | 77 => ⟨S8x128x8, .f32⟩
  | 78 => ⟨S8x8x128, .f32⟩
  | 79 => ⟨S8x8x512, .f32⟩
  | 80 => ⟨S8x128x8, .f32⟩
  | 81 => ⟨S8x8x128, .f32⟩
  | 82 => ⟨S8x8x128, .f32⟩
  | 83 => ⟨S8x128, .f32⟩
  | 84 => ⟨S1x8x8x128, .f32⟩
  | 85 => ⟨S8x8x128, .f32⟩
  | 86 => ⟨S1x8x128, .f32⟩
  | 87 => ⟨S8x8x128, .f32⟩
  | 88 => ⟨S8x8x128, .f32⟩
  | 89 => ⟨S8x8x128, .f32⟩
  | 90 => ⟨S1x8x512, .f32⟩
  | 91 => ⟨S8x8x512, .f32⟩
  | 92 => ⟨S8x8x512, .f32⟩
  | 93 => ⟨S1x8x512, .f32⟩
  | 94 => ⟨S8x8x512, .f32⟩
  | 95 => ⟨S8x8x512, .f32⟩
  | 96 => ⟨S8x8x512, .f32⟩
  | 97 => ⟨S1x8x8x512, .f32⟩
  | 98 => ⟨S8x8x512, .f32⟩
  | 99 => ⟨S8x8x512, .f32⟩
  | 100 => ⟨S1x8x512, .f32⟩
  | 101 => ⟨S8x8x512, .f32⟩
  | 102 => ⟨S8x8x512, .f32⟩
  | 103 => ⟨S1x8x512, .f32⟩
  | 104 => ⟨S8x8x512, .f32⟩
  | 105 => ⟨S8x8x512, .f32⟩
  | 106 => ⟨S8x8x512, .f32⟩
  | 107 => ⟨S1x8x8x512, .f32⟩
  | 108 => ⟨S8x8x512, .f32⟩
  | 109 => ⟨S8x8x512, .f32⟩
  | 110 => ⟨S8x128x8, .f32⟩
  | 111 => ⟨S8x8x128, .f32⟩
  | 112 => ⟨S8x8x512, .f32⟩
  | 113 => ⟨S8x128x8, .f32⟩
  | 114 => ⟨S8x8x128, .f32⟩
  | 115 => ⟨S8x8x128, .f32⟩
  | 116 => ⟨S8x128, .f32⟩
  | 117 => ⟨S1x8x8x128, .f32⟩
  | 118 => ⟨S8x8x128, .f32⟩
  | 119 => ⟨S1x8x128, .f32⟩
  | 120 => ⟨S8x8x128, .f32⟩
  | 121 => ⟨S8x8x128, .f32⟩
  | 122 => ⟨S8x8x128, .f32⟩
  | 123 => ⟨S1x8x512, .f32⟩
  | 124 => ⟨S8x8x512, .f32⟩
  | 125 => ⟨S8x8x512, .f32⟩
  | 126 => ⟨S1x8x512, .f32⟩
  | 127 => ⟨S8x8x512, .f32⟩
  | _ => ⟨S4x8x1024, .f32⟩

abbrev hbmTy0_1 (i : Nat) : BufTy := match i % 128 with
  | 0 => ⟨S8x8x512, .f32⟩
  | 1 => ⟨S8x8x512, .f32⟩
  | 2 => ⟨S1x8x8x512, .f32⟩
  | 3 => ⟨S8x8x512, .f32⟩
  | 4 => ⟨S8x8x512, .f32⟩
  | 5 => ⟨S1x8x512, .f32⟩
  | 6 => ⟨S8x8x512, .f32⟩
  | 7 => ⟨S8x8x512, .f32⟩
  | 8 => ⟨S1x8x512, .f32⟩
  | 9 => ⟨S8x8x512, .f32⟩
  | 10 => ⟨S8x8x512, .f32⟩
  | 11 => ⟨S8x8x512, .f32⟩
  | 12 => ⟨S1x8x8x512, .f32⟩
  | 13 => ⟨S8x8x512, .f32⟩
  | 14 => ⟨S8x8x512, .f32⟩
  | 15 => ⟨S8x128x8, .f32⟩
  | 16 => ⟨S8x8x128, .f32⟩
  | 17 => ⟨S8x8x512, .f32⟩
  | 18 => ⟨S8x128x8, .f32⟩
  | 19 => ⟨S8x8x128, .f32⟩
  | 20 => ⟨S8x8x128, .f32⟩
  | 21 => ⟨S8x128, .f32⟩
  | 22 => ⟨S1x8x8x128, .f32⟩
  | 23 => ⟨S8x8x128, .f32⟩
  | 24 => ⟨S1x8x128, .f32⟩
  | 25 => ⟨S8x8x128, .f32⟩
  | 26 => ⟨S8x8x128, .f32⟩
  | 27 => ⟨S8x8x128, .f32⟩
  | 28 => ⟨S1x8x8x128, .f32⟩
  | 29 => ⟨S1x8x8x128, .f32⟩
  | 30 => ⟨S1x8x8x128, .f32⟩
  | 31 => ⟨S1x8x8x128, .f32⟩
  | 32 => ⟨S4x8x8x128, .f32⟩
  | 33 => ⟨S4x8x1024, .f32⟩
  | 34 => ⟨S8x4096, .f32⟩
  | 35 => ⟨S8x4096, .f32⟩
  | _ => ⟨S4x8x1024, .f32⟩

abbrev hbmTy (i : Nat) : BufTy := match i / 128 with
  | 0 => hbmTy0_0 i
  | 1 => hbmTy0_1 i
  | _ => ⟨S4x8x1024, .f32⟩

abbrev bufTy : (tb : Table) → Fin (tcTables nBuf tb) → BufTy
  | .hbm, ⟨i, _⟩ => hbmTy i
  | _, _ => ⟨S4x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩

abbrev nD : Nat := 1
abbrev τ : Topo := Topo.v7x

variable {F : FTy → Type} [FloatOps F]
-- ==== Proof.Softmax.lean ====
/-
  The mathematics of one row of the windowed attention, over the extended reals: scores of one query against
  256 keys, the masked ones at the bottom element, their maximum, the weights, and the weighted mean of the
  values in the two orders of operations that the kernel and the reference use.
-/
module

public import Idealize.ShloMosaic.PureOps.Ideal
public import Mathlib.Data.EReal.Inv

@[expose] public section

noncomputable section

namespace Cert.Softmax

open Idealize.ShloMosaic

variable {n d : Nat}

/-- The scaled product of a query and a key. -/
def dotS (scale : EReal) (q k : Fin d → EReal) : EReal := (∑ e, q e * k e) * scale

/-- The scores of a query against `n` keys: the scaled product where the mask holds, the bottom element elsewhere. -/
def score (scale : EReal) (msk : Fin n → Prop) [DecidablePred msk] (q : Fin d → EReal) (k : Fin n → Fin d → EReal)
    (c : Fin n) : EReal := if msk c then dotS scale q (k c) else ⊥

/-- The largest score. -/
def top (s : Fin n → EReal) : EReal := Finset.univ.fold max ⊥ s

/-- The weight of a score before normalisation. -/
def wt (s : Fin n → EReal) (c : Fin n) : EReal := Ideal.exp (s c - top s)

/-- The sum of the weights. -/
def mass (s : Fin n → EReal) : EReal := ∑ c, wt s c

/-- The log-sum-exp of the scores. -/
def lse (s : Fin n → EReal) : EReal := top s + Ideal.log (mass s)

/-- The attention's value, normalised after the product (the kernel's order). -/
def mean (s : Fin n → EReal) (v : Fin n → EReal) : EReal := Ideal.div (∑ c, wt s c * v c) (mass s)

theorem top_eq_sup (s : Fin n → EReal) : top s = Finset.univ.sup s := rfl

theorem le_top_score (s : Fin n → EReal) (c : Fin n) : s c ≤ top s := by
  rw [top_eq_sup]; exact Finset.le_sup (Finset.mem_univ c)

/-- When no score is the top element, the largest score is not. -/
theorem top_ne_top {s : Fin n → EReal} (h : ∀ c, s c ≠ ⊤) : top s ≠ ⊤ := by
  rw [top_eq_sup]
  exact ne_of_lt ((Finset.sup_lt_iff bot_lt_top).mpr fun c _ => lt_top_iff_ne_top.mpr (h c))

theorem exp_nonneg (x : EReal) : 0 ≤ Ideal.exp x := by
  induction x with
  | bot => simp
  | top => simp
  | coe r => rw [Ideal.exp_coe]; exact_mod_cast (Real.exp_pos r).le

theorem exp_le_one {x : EReal} (h : x ≤ 0) : Ideal.exp x ≤ 1 := by
  induction x with
  | bot => simp
  | top => simp at h
  | coe r =>
    rw [Ideal.exp_coe]
    exact_mod_cast Real.exp_le_one_iff.mpr (by exact_mod_cast h)

theorem exp_ne_top {x : EReal} (h : x ≠ ⊤) : Ideal.exp x ≠ ⊤ := by
  induction x with
  | bot => simp
  | top => simp at h
  | coe r => rw [Ideal.exp_coe]; exact EReal.coe_ne_top _

/-- A masked score weighs nothing: the bottom element less anything is the bottom element. -/
theorem wt_of_bot {s : Fin n → EReal} {c : Fin n} (h : s c = ⊥) : wt s c = 0 := by
  unfold wt; rw [h, sub_eq_add_neg, EReal.bot_add]; rfl

theorem wt_nonneg (s : Fin n → EReal) (c : Fin n) : 0 ≤ wt s c := exp_nonneg _

theorem sum_ne_top {ι : Type} (t : Finset ι) (f : ι → EReal) (h : ∀ i ∈ t, f i ≠ ⊤) : ∑ i ∈ t, f i ≠ ⊤ := by
  classical
  induction t using Finset.induction_on with
  | empty => simp
  | insert a t ha ih =>
    rw [Finset.sum_insert ha]
    exact EReal.add_ne_top (h a (by simp)) (ih fun i hi => h i (by simp [hi]))

/-- When every score is below the top element and one is a real number, the sum of the weights is a positive real. -/
theorem mass_pos_real {s : Fin n → EReal} (h : ∀ c, s c ≠ ⊤) {c₀ : Fin n} (h₀ : s c₀ ≠ ⊥) :
    ∃ l : ℝ, 0 < l ∧ mass s = (l : EReal) := by
  have ht := top_ne_top h
  have hb : top s ≠ ⊥ := fun e => h₀ (le_bot_iff.mp (e ▸ le_top_score s c₀))
  have w₀ : 0 < wt s c₀ := by
    unfold wt
    lift top s to ℝ using ⟨ht, hb⟩ with t
    lift s c₀ to ℝ using ⟨h c₀, h₀⟩ with x
    rw [← EReal.coe_sub, Ideal.exp_coe]
    exact_mod_cast Real.exp_pos _
  have hw : ∀ c, wt s c ≠ ⊤ := fun c => exp_ne_top (by
    lift top s to ℝ using ⟨ht, hb⟩ with t
    rw [sub_eq_add_neg, ← EReal.coe_neg]
    exact EReal.add_ne_top (h c) (EReal.coe_ne_top _))
  have hm : mass s ≠ ⊤ := sum_ne_top _ _ fun c _ => hw c
  have hp : 0 < mass s := lt_of_lt_of_le w₀
    (Finset.single_le_sum (f := wt s) (fun c _ => wt_nonneg s c) (Finset.mem_univ c₀))
  refine ⟨(mass s).toReal, ?_, (EReal.coe_toReal hm (ne_of_gt (lt_trans EReal.bot_lt_zero hp))).symm⟩
  exact EReal.toReal_pos hp hm

/-- A positive real factor is distributed over a sum of extended reals. -/
theorem sum_mul_pos {ι : Type} (t : Finset ι) (f : ι → EReal) {a : ℝ} (ha : 0 < a) :
    (∑ i ∈ t, f i) * (a : EReal) = ∑ i ∈ t, f i * (a : EReal) := by
  classical
  induction t using Finset.induction_on with
  | empty => simp
  | insert b t hb ih =>
    rw [Finset.sum_insert hb, Finset.sum_insert hb, ← ih]
    exact EReal.right_distrib_of_nonneg_of_ne_top (by exact_mod_cast ha.le) (EReal.coe_ne_top _) _ _

/-- Normalising after the product or before it gives the same value, under the same conditions. -/
theorem mean_eq {s : Fin n → EReal} (h : ∀ c, s c ≠ ⊤) {c₀ : Fin n} (h₀ : s c₀ ≠ ⊥) (v : Fin n → EReal) :
    mean s v = ∑ c, v c * Ideal.div (wt s c) (mass s) := by
  obtain ⟨l, hl, e⟩ := mass_pos_real h h₀
  unfold mean
  rw [e, Ideal.div_coe hl.ne', sum_mul_pos _ _ (one_div_pos.mpr hl)]
  refine Finset.sum_congr rfl fun c _ => ?_
  rw [Ideal.div_coe hl.ne', mul_comm (v c), mul_assoc, mul_assoc, mul_comm (v c)]

/-- Keys need only agree where the mask holds. -/
theorem score_congr {scale : EReal} {msk msk' : Fin n → Prop} [DecidablePred msk] [DecidablePred msk']
    {q q' : Fin d → EReal} {k k' : Fin n → Fin d → EReal} (hm : ∀ c, msk c ↔ msk' c) (hq : ∀ e, q e = q' e)
    (hk : ∀ c, msk c → ∀ e, k c e = k' c e) : score scale msk q k = score scale msk' q' k' := by
  funext c
  unfold score dotS
  by_cases hc : msk c
  · rw [if_pos hc, if_pos ((hm c).mp hc)]
    exact congrArg (· * scale) (Finset.sum_congr rfl fun e _ => by rw [hq, hk c hc])
  · rw [if_neg hc, if_neg fun h => hc ((hm c).mpr h)]

/-- Values need only agree where the mask holds: elsewhere the weight is zero. -/
theorem mean_congr {scale : EReal} {msk : Fin n → Prop} [DecidablePred msk]
    {q : Fin d → EReal} {k : Fin n → Fin d → EReal} {v v' : Fin n → EReal} (hv : ∀ c, msk c → v c = v' c) :
    mean (score scale msk q k) v = mean (score scale msk q k) v' := by
  unfold mean
  refine congrArg (Ideal.div · _) (Finset.sum_congr rfl fun c _ => ?_)
  by_cases hc : msk c
  · rw [hv c hc]
  · rw [wt_of_bot (by unfold score; rw [if_neg hc]), zero_mul, zero_mul]

/-- The sum of real numbers, read as extended reals, is their real sum. -/
theorem coe_sum {ι : Type} (t : Finset ι) (f : ι → ℝ) : (∑ i ∈ t, (f i : EReal)) = ((∑ i ∈ t, f i : ℝ) : EReal) := by
  classical
  induction t using Finset.induction_on with
  | empty => simp
  | insert b t hb ih => rw [Finset.sum_insert hb, Finset.sum_insert hb, ih, EReal.coe_add]

/-- The product of real queries and keys at a real scale is a real number. -/
theorem dotS_real {scale : ℝ} {q k : Fin d → EReal} (hq : ∀ e, ∃ r : ℝ, q e = r) (hk : ∀ e, ∃ r : ℝ, k e = r) :
    ∃ r : ℝ, dotS (scale : EReal) q k = r := by
  choose f hf using hq
  choose g hg using hk
  refine ⟨(∑ e, f e * g e) * scale, ?_⟩
  unfold dotS
  simp only [hf, hg, ← EReal.coe_mul]
  rw [coe_sum, ← EReal.coe_mul]

end Cert.Softmax

end
-- ==== Proof.Tile.lean ====
/-
  One tile of the attention: 128 queries against 256 keys under a mask, as the kernel's body computes it, and its
  reading at an index as the mathematics of Softmax.lean. Stated once; every store of every group's body is one of
  these tiles.
-/
module

public import proofs.«01_k».proof.Proof.Gen.KernelIdeal
public import proofs.«01_k».proof.Proof.Softmax
public import Idealize.ShloMosaic.Lib.Pointwise
public import Idealize.ShloMosaic.PureOps.IdealRules
public import Idealize.ShloMosaic.Lib.StableHlo.Predicate

@[expose] public section

set_option maxRecDepth 16384

noncomputable section

namespace Cert.Tile

open Idealize.ShloMosaic Cert.KernelIdeal Cert.KernelIdeal.Gen Cert.KernelIdeal.Facts Cert.Softmax

section Ops
variable {F : FTy → Type} [FloatOps F] [Named F]

/-- The tile's scaled products, before the mask. -/
def tileD (q : FVec F S128x128 .bf16) (k : FVec F S256x128 .bf16) : FVec F S128x256 .f32 :=
  mulf (matmul dot_S128x128_S256x128_S128x256_1_1_0_0_n_n none q k (constant S128x256 .f32 0x00000000#32))
    (broadcast S128x256 (Scalar.ofBits .f32 0x3DB504F3#32))

/-- The tile's scores: the scaled products under the mask. -/
def tileS (msk : IVec S128x256 1) (q : FVec F S128x128 .bf16) (k : FVec F S256x128 .bf16) : FVec F S128x256 .f32 :=
  select msk (tileD q k) (broadcast S128x256 (Named.named κ "mask" 0xF149F2CA#32))

/-- The largest score of each query, as a column. -/
def tileM (msk : IVec S128x256 1) (q : FVec F S128x128 .bf16) (k : FVec F S256x128 .bf16) : FVec F S128x1 .f32 :=
  shapeCast S128x1 (multiReduction .maximumf [1] S128 (tileS msk q k) 0xFF800000#32 reduces_S128x256_S128 (.inl rfl) rfl)
    shapeCasts_S128_S128x1

/-- The weights of the tile. -/
def tileP (msk : IVec S128x256 1) (q : FVec F S128x128 .bf16) (k : FVec F S256x128 .bf16) : FVec F S128x256 .f32 :=
  exp (subf (tileS msk q k) (broadcastTo S128x256 (tileM msk q k) broadcasts_S128x1_S128x256))

/-- The sum of each query's weights, as a column. -/
def tileL (msk : IVec S128x256 1) (q : FVec F S128x128 .bf16) (k : FVec F S256x128 .bf16) : FVec F S128x1 .f32 :=
  shapeCast S128x1 (multiReduction .add [1] S128 (tileP msk q k) 0x00000000#32 reduces_S128x256_S128 (.inl rfl) rfl)
    shapeCasts_S128_S128x1

/-- The tile's values. -/
def tileO (msk : IVec S128x256 1) (q : FVec F S128x128 .bf16) (k v : FVec F S256x128 .bf16) : FVec F S1x1x128x128 .bf16 :=
  shapeCast S1x1x128x128 (truncf .bf16 (divf
    (matmul dot_S128x256_S256x128_S128x128_1_0_0_1_n_n none (truncf .bf16 (tileP msk q k) bitsLt_bf16_f32) v
      (constant S128x128 .f32 0x00000000#32))
    (broadcastTo S128x128 (tileL msk q k) broadcasts_S128x1_S128x128)) bitsLt_bf16_f32) shapeCasts_S128x128_S1x1x128x128

/-- The log-sum-exp of each query's scores, written in lane `h` of a tile that holds `prev` elsewhere. -/
def tileE (h : BitVec 32) (prev : FVec F S128x128 .f32) (msk : IVec S128x256 1) (q : FVec F S128x128 .bf16)
    (k : FVec F S256x128 .bf16) : FVec F S128x128 .f32 :=
  select (cmpi .eq (iota .tc S128x128 32 [1] iota_S128x128_d1_w32) (broadcast S128x128 h))
    (broadcastTo S128x128 (shapeCast S128x1 (addf (tileM msk q k) (log (tileL msk q k))) shapeCasts_S128x1_S128x1)
      broadcasts_S128x1_S128x128) prev

end Ops

/-- The scale, as an extended real. -/
def scale : EReal := Ideal.ofBits .f32 0x3DB504F3#32

/-- The pattern of minus infinity denotes the bottom element. -/
theorem ofBits_neg_inf : Ideal.ofBits .f32 0xFF800000#32 = (⊥ : EReal) := by
  simp [Ideal.ofBits, Ideal.ieee]

/-- The pattern of plus infinity denotes the top element. -/
theorem ofBits_inf : Ideal.ofBits .f32 0x7F800000#32 = (⊤ : EReal) := by
  simp [Ideal.ofBits, Ideal.ieee]

/-- The scale is a real number. -/
theorem scale_real : ∃ r : ℝ, scale = (r : EReal) := by
  unfold scale Ideal.ofBits Ideal.ieee
  dsimp only
  rw [if_neg (by decide), if_neg (by decide)]
  exact ⟨_, rfl⟩

/-- The integer zero converted is zero. -/
theorem sitofp_zero : FloatOps.sitofp (F := Ideal) FTy.f32 (0#32) = (0 : EReal) := by
  show (((0#32).toInt : ℝ) : EReal) = 0
  simp

theorem select_eq_ite {α : Type} (c : BitVec 1) (a b : α) : Scalar.select c a b = if c = 1#1 then a else b := rfl

theorem select_cmpi_eq {α : Type} {w : Nat} (a b : BitVec w) (x y : α) :
    Scalar.select (IntOp.cmpi .eq a b) x y = if a = b then x else y := by
  rw [select_eq_ite]
  by_cases h : a = b
  · rw [if_pos h, if_pos (StableHlo.Predicate.cmpi_eq_iff.mpr h)]
  · rw [if_neg h, if_neg fun e => h (StableHlo.Predicate.cmpi_eq_iff.mp e)]

/-- The scores of query `a` of a tile. -/
abbrev sc (msk : IVec S128x256 1) (q : FVec Ideal S128x128 .bf16) (k : FVec Ideal S256x128 .bf16) (a : Fin 128) : Fin 256 → EReal :=
  score scale (fun c : Fin 256 => msk (ix2 a c) = 1#1) (fun e : Fin 128 => q (ix2 a e)) fun c e => k (ix2 c e)

variable (msk : IVec S128x256 1) (q : FVec Ideal S128x128 .bf16) (k v : FVec Ideal S256x128 .bf16)

theorem tileS_apply (a : Fin 128) (c : Fin 256) : tileS msk q k (ix2 a c) = sc msk q k a c := by
  pointwise [tileS, tileD, score, dotS, scale]
  rw [show (Named.named κ "mask" 0xF149F2CA#32 : Ideal .f32) = (⊥ : EReal) from
    IdealRules.named_const.ideal_named_scalar _ _ _ _ rfl]
  rfl

theorem tileM_apply (a : Fin 128) (z : Fin 1) : tileM msk q k (ix2 a z) = top (sc msk q k a) := by
  pointwise [tileM, tileS_apply]
  rw [ofBits_neg_inf]
  rfl

theorem tileP_apply (a : Fin 128) (c : Fin 256) : tileP msk q k (ix2 a c) = wt (sc msk q k a) c := by
  pointwise [tileP, tileS_apply, tileM_apply]
  rfl

theorem tileL_apply (a : Fin 128) (z : Fin 1) : tileL msk q k (ix2 a z) = mass (sc msk q k a) := by
  pointwise [tileL, tileP_apply]
  rfl

theorem tileO_apply (z₀ z₁ : Fin 1) (a e : Fin 128) :
    tileO msk q k v (ix4 z₀ z₁ a e) = mean (sc msk q k a) fun c => v (ix2 c e) := by
  pointwise [tileO, tileP_apply, tileL_apply]
  rfl

theorem tileE_apply (h : BitVec 32) (prev : FVec Ideal S128x128 .f32) (a e : Fin 128) :
    tileE h prev msk q k (ix2 a e) = if BitVec.ofNat 32 e.val = h then lse (sc msk q k a) else prev (ix2 a e) := by
  pointwise [tileE, tileM_apply, tileL_apply]
  rw [select_cmpi_eq]
  rfl

end Cert.Tile

end
-- ==== Proof.Block.lean ====
/-
  One block of the attention: the loads of a tile's queries, keys and values read at an index, the masks, and the
  two kinds of store (a tile's values, a tile's eight log-sum-exps) as functions of the block's rows and columns.
  The row count `R` of the block is a variable: every group's body is an instance.
-/
module

public import proofs.«01_k».proof.Proof.Tile
public import Idealize.ShloMosaic.Lib.Pipeline.Value

@[expose] public section

set_option maxRecDepth 16384

noncomputable section

namespace Cert.Block

open Idealize.ShloMosaic Cert.KernelIdeal Cert.KernelIdeal.Gen Cert.KernelIdeal.Facts Cert.Softmax Cert.Tile

/-- The shape of a block of `R` rows of 1024 columns. -/
abbrev SB (R : Nat) : Shape := ⟨4, ![1, 1, R, 1024]⟩

/-- A block read at a row and a column given as naturals. -/
def rd {R : Nat} [NeZero R] (x : (SB R).Idx → EReal) (r c : Nat) : EReal := x (ix4 0 0 (Fin.ofNat R r) (Fin.ofNat 1024 c))

/-- The rectangle of 128 rows from `r` and the 128 columns of head `h`. -/
def rq {R : Nat} (r : Nat) (h : Fin 8) (hr : r + 128 ≤ R) : Rect (SB R) :=
  Rect.unit (s := SB R) ![0, 0, r, 128 * h.val] S1x1x128x128.size (by
    intro a
    match a with
    | ⟨0, _⟩ => exact Nat.le_refl 1
    | ⟨1, _⟩ => exact Nat.le_refl 1
    | ⟨2, _⟩ => exact hr
    | ⟨3, _⟩ => show 128 * h.val + 128 ≤ 1024; omega)

/-- The rectangle of 256 rows from `r` and the 128 columns of head `h`. -/
def rk {R : Nat} (r : Nat) (h : Fin 8) (hr : r + 256 ≤ R) : Rect (SB R) :=
  Rect.unit (s := SB R) ![0, 0, r, 128 * h.val] S1x1x256x128.size (by
    intro a
    match a with
    | ⟨0, _⟩ => exact Nat.le_refl 1
    | ⟨1, _⟩ => exact Nat.le_refl 1
    | ⟨2, _⟩ => exact hr
    | ⟨3, _⟩ => show 128 * h.val + 128 ≤ 1024; omega)

section Loads
variable {F : FTy → Type} [FloatOps F] {R : Nat}

/-- The 128 rows from `r` of head `h`, as a tile. -/
def ldQ (x : Vec F (SB R) .bf16) (r : Nat) (h : Fin 8) (hr : r + 128 ≤ R) : FVec F S128x128 .bf16 :=
  shapeCast S128x128 (View.ld x (rq r h hr)) shapeCasts_S1x1x128x128_S128x128

/-- The 256 rows from `r` of head `h`, as a tile. -/
def ldK (x : Vec F (SB R) .bf16) (r : Nat) (h : Fin 8) (hr : r + 256 ≤ R) : FVec F S256x128 .bf16 :=
  shapeCast S256x128 (View.ld x (rk r h hr)) shapeCasts_S1x1x256x128_S256x128

/-- The previous block's 128 rows of head `h` and the first 128 rows of this one. -/
def ldC (p : Vec F (SB 128) .bf16) (x : Vec F (SB R) .bf16) (h : Fin 8) (hr : 0 + 128 ≤ R) : FVec F S256x128 .bf16 :=
  concatenate S256x128 0 [⟨S128x128, ldQ p 0 h (Nat.le_refl _)⟩, ⟨S128x128, ldQ x 0 h hr⟩]
    concatenates_S128x128_S128x128_S256x128_d0

end Loads

variable {R : Nat} [NeZero R]

/-- A rectangle's index: the rectangle's offsets and the index, coordinate by coordinate. -/
theorem rd_emb (x : (SB R).Idx → EReal) (o : Fin 4 → Nat) (z : Fin 4 → Nat) (inb) (y : (Rect.unit (s := SB R) o z inb).shape.Idx) :
    x ((Rect.unit (s := SB R) o z inb).emb y) = rd x (o 2 + (y 2).val) (o 3 + (y 3).val) := by
  have h2 : o 2 + (y 2).val < R := Nat.lt_of_lt_of_le (Nat.add_lt_add_left (y 2).isLt _) (inb 2)
  have h3 : o 3 + (y 3).val < 1024 := Nat.lt_of_lt_of_le (Nat.add_lt_add_left (y 3).isLt _) (inb 3)
  have h0 : o 0 + (y 0).val < 1 := Nat.lt_of_lt_of_le (Nat.add_lt_add_left (y 0).isLt _) (inb 0)
  have h1 : o 1 + (y 1).val < 1 := Nat.lt_of_lt_of_le (Nat.add_lt_add_left (y 1).isLt _) (inb 1)
  unfold rd
  refine congrArg x (funext fun a => Fin.ext ?_)
  match a with
  | ⟨0, _⟩ => show o 0 + 1 * (y 0).val = 0; omega
  | ⟨1, _⟩ => show o 1 + 1 * (y 1).val = 0; omega
  | ⟨2, _⟩ => show o 2 + 1 * (y 2).val = (o 2 + (y 2).val) % R; rw [Nat.mod_eq_of_lt h2]; omega
  | ⟨3, _⟩ => show o 3 + 1 * (y 3).val = (o 3 + (y 3).val) % 1024; rw [Nat.mod_eq_of_lt h3]; omega

theorem drop_apply (y : S1x1x128x128.Idx → EReal) (a e : Fin 128) :
    shapeCast S128x128 y shapeCasts_S1x1x128x128_S128x128 (ix2 a e) = y (ix4 0 0 a e) := by
  pointwise

theorem drop_apply' (y : S1x1x256x128.Idx → EReal) (a : Fin 256) (e : Fin 128) :
    shapeCast S256x128 y shapeCasts_S1x1x256x128_S256x128 (ix2 a e) = y (ix4 0 0 a e) := by
  pointwise

theorem ldQ_apply (x : FVec Ideal (SB R) .bf16) (r : Nat) (h : Fin 8) (hr : r + 128 ≤ R) (a e : Fin 128) :
    ldQ (F := Ideal) x r h hr (ix2 a e) = rd x (r + a) (128 * h + e) :=
  (drop_apply _ a e).trans (rd_emb x _ _ _ (ix4 0 0 a e))

theorem ldK_apply (x : FVec Ideal (SB R) .bf16) (r : Nat) (h : Fin 8) (hr : r + 256 ≤ R) (a : Fin 256) (e : Fin 128) :
    ldK (F := Ideal) x r h hr (ix2 a e) = rd x (r + a) (128 * h + e) :=
  (drop_apply' _ a e).trans (rd_emb x _ _ _ (ix4 0 0 a e))

theorem ldC_apply (p : FVec Ideal (SB 128) .bf16) (x : FVec Ideal (SB R) .bf16) (h : Fin 8) (hr : 0 + 128 ≤ R) (a : Fin 256) (e : Fin 128) :
    ldC (F := Ideal) p x h hr (ix2 a e) = if a.val < 128 then rd p a (128 * h + e) else rd x (a - 128) (128 * h + e) := by
  unfold ldC
  pointwise [ldQ_apply]
  rw [dite_eq_ite]

/-! ## The masks -/

/-- The band of the window: key `c` of 256 is seen from query `a` of 128. -/
abbrev band (a c : Nat) : Prop := a ≤ c ∧ c ≤ a + 128

/-- The band, as the body computes it. -/
def maskBand : IVec S128x256 1 :=
  andi (cmpi .sge (iota .tc S128x256 32 [1] iota_S128x256_d1_w32) (iota .tc S128x256 32 [0] iota_S128x256_d0_w32))
    (cmpi .sle (iota .tc S128x256 32 [1] iota_S128x256_d1_w32)
      (addi (iota .tc S128x256 32 [0] iota_S128x256_d0_w32) (broadcast S128x256 128#32)))

/-- The band at the first tile of grid row `g`, whose previous block exists when `g` is positive. -/
def maskFirst (g : Nat) : IVec S128x256 1 :=
  andi maskBand (ori (cmpi .sge (iota .tc S128x256 32 [1] iota_S128x256_d1_w32) (broadcast S128x256 128#32))
    (broadcast S128x256 (Scalar.cmpi .sgt (BitVec.ofNat 32 g) 0#32)))

theorem andi_iff (x y : BitVec 1) : IntOp.andi x y = 1#1 ↔ x = 1#1 ∧ y = 1#1 := by revert x y; decide

theorem ori_iff (x y : BitVec 1) : IntOp.ori x y = 1#1 ↔ x = 1#1 ∨ y = 1#1 := by revert x y; decide

theorem toNat_lt (n : Nat) (h : n < 2 ^ 31) : (BitVec.ofNat 32 n).toNat < 2 ^ 31 := by
  rw [BitVec.toNat_ofNat, Nat.mod_eq_of_lt (by omega)]; exact h

theorem add128 (n : Nat) (h : n < 2 ^ 30) : (IntOp.addi (BitVec.ofNat 32 n) 128#32).toNat = n + 128 := by
  show (BitVec.ofNat 32 n + 128#32).toNat = n + 128
  rw [BitVec.toNat_add, BitVec.toNat_ofNat]
  show (n % 2 ^ 32 + 128) % 2 ^ 32 = n + 128
  omega

theorem maskBand_apply (a : Fin 128) (c : Fin 256) : maskBand (ix2 a c) = 1#1 ↔ band a c := by
  pointwise [maskBand]
  rw [andi_iff, StableHlo.Predicate.sge_iff_toNat (toNat_lt c (by omega)) (toNat_lt a (by omega)),
    StableHlo.Predicate.sle_iff_toNat (toNat_lt c (by omega)) (by rw [add128 a (by omega)]; omega), add128 a (by omega)]
  simp only [BitVec.toNat_ofNat, Nat.mod_eq_of_lt (show a.val < 2 ^ 32 by omega), Nat.mod_eq_of_lt (show c.val < 2 ^ 32 by omega)]

theorem maskFirst_apply (g : Nat) (hg : g < 1024) (a : Fin 128) (c : Fin 256) :
    maskFirst g (ix2 a c) = 1#1 ↔ band a c ∧ (128 ≤ c.val ∨ 0 < g) := by
  pointwise [maskFirst]
  rw [andi_iff, maskBand_apply, ori_iff, StableHlo.Predicate.sge_iff_toNat (toNat_lt c (by omega)) (by decide)]
  have e : Scalar.cmpi .sgt (BitVec.ofNat 32 g) 0#32 = 1#1 ↔ 0 < g :=
    (StableHlo.Predicate.sgt_iff_toNat (toNat_lt g (by omega)) (by decide)).trans (by
      simp only [BitVec.toNat_ofNat, Nat.mod_eq_of_lt (show g < 2 ^ 32 by omega), Nat.zero_mod])
  rw [e]
  simp only [BitVec.toNat_ofNat, Nat.mod_eq_of_lt (show c.val < 2 ^ 32 by omega)]

/-! ## The block's values, by row and column -/

/-- Key `c` of 256 is seen from query `a` of tile `j` of grid row `g`: in the band, and in a block that exists. -/
abbrev seen (g j a c : Nat) : Prop := band a c ∧ (j = 0 → 128 ≤ c ∨ 0 < g)

/-- Key (or value) `c` of 256 of tile `j`, at a column: the first tile's first 128 come from the previous block. -/
def keyB (prev cur : Nat → Nat → EReal) (j c col : Nat) : EReal :=
  if j = 0 ∧ c < 128 then prev c col else cur (128 * j + c - 128) col

/-- The scores of a row of the block in head `h`. -/
def blkS (g : Nat) (q kp kc : Nat → Nat → EReal) (row h : Nat) : Fin 256 → EReal :=
  score scale (fun c : Fin 256 => seen g (row / 128) (row % 128) c) (fun e : Fin 128 => q row (128 * h + e))
    fun c e => keyB kp kc (row / 128) c (128 * h + e)

/-- The block's values. -/
def blkO (g : Nat) (q kp kc vp vc : Nat → Nat → EReal) (row col : Nat) : EReal :=
  mean (blkS g q kp kc row (col / 128)) fun c => keyB vp vc (row / 128) c col

/-- The block's log-sum-exps: one lane per head, the other lanes zero. -/
def blkE (g : Nat) (q kp kc : Nat → Nat → EReal) (row lane : Nat) : EReal :=
  if lane < 8 then lse (blkS g q kp kc row lane) else 0

variable (x0 x2 x4 : FVec Ideal (SB R) .bf16) (x1 x3 : FVec Ideal (SB 128) .bf16)

theorem sc_mid (kp : Nat → Nat → EReal) (g j : Nat) (h : Fin 8) (hq : 128 * j + 128 + 128 ≤ R) (hk : 128 * j + 256 ≤ R) (a : Fin 128) :
    sc maskBand (ldQ (F := Ideal) x0 (128 * j + 128) h hq) (ldK (F := Ideal) x2 (128 * j) h hk) a
      = blkS g (rd x0) kp (rd x2) (128 * j + 128 + a) h := by
  have e1 : (128 * j + 128 + a.val) / 128 = j + 1 := by omega
  have e2 : (128 * j + 128 + a.val) % 128 = a.val := by omega
  unfold blkS
  rw [e1, e2]
  refine score_congr (fun c => ?_) (fun e => ldQ_apply x0 _ h hq a e) fun c _ e => ?_
  · rw [maskBand_apply]; constructor
    · exact fun hb => ⟨hb, fun h0 => absurd h0 (by omega)⟩
    · exact fun hb => hb.1
  · rw [ldK_apply, keyB, if_neg (by omega)]
    congr 1
    omega

theorem sc_first (g : Nat) (hg : g < 1024) (h : Fin 8) (hq : 0 + 128 ≤ R) (a : Fin 128) :
    sc (maskFirst g) (ldQ (F := Ideal) x0 0 h hq) (ldC (F := Ideal) x1 x2 h hq) a = blkS g (rd x0) (rd x1) (rd x2) a h := by
  have e1 : a.val / 128 = 0 := by omega
  have e2 : a.val % 128 = a.val := by omega
  unfold blkS
  rw [e1, e2]
  refine score_congr (fun c => ?_) (fun e => (ldQ_apply x0 _ h hq a e).trans (by rw [Nat.zero_add])) fun c _ e => ?_
  · rw [maskFirst_apply g hg]; constructor
    · exact fun hb => ⟨hb.1, fun _ => hb.2⟩
    · exact fun hb => ⟨hb.1, hb.2 rfl⟩
  · rw [ldC_apply, keyB]
    by_cases hc : c.val < 128
    · rw [if_pos hc, if_pos ⟨rfl, hc⟩]
    · rw [if_neg hc, if_neg fun hh => hc hh.2]
      congr 1
      omega

/-- The block's values as a function of its index. -/
def GO (g : Nat) (x0 : FVec Ideal (SB R) .bf16) (x1 : FVec Ideal (SB 128) .bf16) (x2 : FVec Ideal (SB R) .bf16)
    (x3 : FVec Ideal (SB 128) .bf16) (x4 : FVec Ideal (SB R) .bf16) (y : (SB R).Idx) : EReal :=
  blkO g (rd x0) (rd x1) (rd x2) (rd x3) (rd x4) (y 2).val (y 3).val

/-- A store of a tile after the first is the block's values there. -/
theorem pieceO_mid (g j : Nat) (h : Fin 8) (hq : 128 * j + 128 + 128 ≤ R) (hk : 128 * j + 256 ≤ R) (y : S1x1x128x128.Idx) :
    tileO maskBand (ldQ (F := Ideal) x0 (128 * j + 128) h hq) (ldK (F := Ideal) x2 (128 * j) h hk) (ldK (F := Ideal) x4 (128 * j) h hk) y
      = GO g x0 x1 x2 x3 x4 ((rq (128 * j + 128) h hq).emb y) := by
  idx_vars y
  generalize y2 = a
  generalize y3 = e
  rw [tileO_apply, sc_mid x0 x2 (rd x1) g j h hq hk]
  show _ = blkO g _ _ _ _ _ (128 * j + 128 + 1 * a.val) (128 * h.val + 1 * e.val)
  rw [Nat.one_mul, Nat.one_mul, blkO, show (128 * h.val + e.val) / 128 = h.val by omega]
  refine mean_congr fun c _ => ?_
  rw [ldK_apply, keyB, if_neg (by omega)]
  congr 1
  omega

/-- A store of the first tile is the block's values there. -/
theorem pieceO_first (g : Nat) (hg : g < 1024) (h : Fin 8) (hq : 0 + 128 ≤ R) (y : S1x1x128x128.Idx) :
    tileO (maskFirst g) (ldQ (F := Ideal) x0 0 h hq) (ldC (F := Ideal) x1 x2 h hq) (ldC (F := Ideal) x3 x4 h hq) y
      = GO g x0 x1 x2 x3 x4 ((rq 0 h hq).emb y) := by
  idx_vars y
  generalize y2 = a
  generalize y3 = e
  rw [tileO_apply, sc_first x0 x2 x1 g hg h hq]
  show _ = blkO g _ _ _ _ _ (0 + 1 * a.val) (128 * h.val + 1 * e.val)
  rw [Nat.one_mul, Nat.one_mul, Nat.zero_add, blkO, show (128 * h.val + e.val) / 128 = h.val by omega]
  refine mean_congr fun c _ => ?_
  rw [ldC_apply, keyB]
  by_cases hc : c.val < 128
  · rw [if_pos hc, if_pos ⟨by omega, hc⟩]
  · rw [if_neg hc, if_neg fun hh => hc hh.2]
    congr 1
    omega

/-- The stores of a tile's values, head by head: of a tile after the first, and of the first. -/
def storeO_mid (j : Nat) (hq : 128 * j + 128 + 128 ≤ R) (hk : 128 * j + 256 ≤ R) (h : Fin 8) :
    Idealize.ShloMosaic.View.Piece (Elt Ideal) (SB R) .bf16 :=
  ⟨rq (128 * j + 128) h hq, tileO maskBand (ldQ (F := Ideal) x0 (128 * j + 128) h hq) (ldK (F := Ideal) x2 (128 * j) h hk) (ldK (F := Ideal) x4 (128 * j) h hk)⟩
def storeO_first (g : Nat) (hq : 0 + 128 ≤ R) (h : Fin 8) : Idealize.ShloMosaic.View.Piece (Elt Ideal) (SB R) .bf16 :=
  ⟨rq 0 h hq, tileO (maskFirst g) (ldQ (F := Ideal) x0 0 h hq) (ldC (F := Ideal) x1 x2 h hq) (ldC (F := Ideal) x3 x4 h hq)⟩

/-- Eight stores, one for every head, last first, agree with a function when the store of any head does and the
    stores before them do. -/
theorem eight {S : Shape} {e : EltTy} {G : S.Idx → Elt Ideal e} (p : Fin 8 → Idealize.ShloMosaic.View.Piece (Elt Ideal) S e)
    {l : List (Idealize.ShloMosaic.View.Piece (Elt Ideal) S e)} (hp : ∀ h y, (p h).2 y = G ((p h).1.emb y))
    (hl : ∀ q ∈ l, ∀ y, q.2 y = G (q.1.emb y)) :
    ∀ q ∈ p 7 :: p 6 :: p 5 :: p 4 :: p 3 :: p 2 :: p 1 :: p 0 :: l, ∀ y, q.2 y = G (q.1.emb y) := by
  intro q hq
  simp only [List.mem_cons] at hq
  rcases hq with rfl | rfl | rfl | rfl | rfl | rfl | rfl | rfl | hq
  all_goals first | exact hp _ | exact hl q hq

/-- A store whose payload is a tile, where the tile is a function of the block's index. -/
theorem piece {S : Shape} {e : EltTy} {G : S.Idx → Elt Ideal e} {p : Idealize.ShloMosaic.View.Piece (Elt Ideal) S e} {t : p.1.shape.Idx → Elt Ideal e}
    (h : ∀ y, t y = G (p.1.emb y)) (e : p.2 = t) (y : p.1.shape.Idx) : p.2 y = G (p.1.emb y) := by
  rw [e]; exact h y

/-! ## The log-sum-exps -/

section EOps
variable {F : FTy → Type} [FloatOps F] [Named F]

/-- The tile of log-sum-exps that the body builds lane by lane, one head after the other. -/
def tileE8 (msk : IVec S128x256 1) (Q : Fin 8 → FVec F S128x128 .bf16) (K : Fin 8 → FVec F S256x128 .bf16) : FVec F S1x1x128x128 .f32 :=
  shapeCast S1x1x128x128
    (tileE 7#32 (tileE 6#32 (tileE 5#32 (tileE 4#32 (tileE 3#32 (tileE 2#32 (tileE 1#32 (tileE 0#32
      (constant S128x128 .f32 0x00000000#32) msk (Q 0) (K 0)) msk (Q 1) (K 1)) msk (Q 2) (K 2)) msk (Q 3) (K 3))
      msk (Q 4) (K 4)) msk (Q 5) (K 5)) msk (Q 6) (K 6)) msk (Q 7) (K 7)) shapeCasts_S128x128_S1x1x128x128

end EOps

theorem add_apply (y : S128x128.Idx → EReal) (z₀ z₁ : Fin 1) (a e : Fin 128) :
    shapeCast S1x1x128x128 y shapeCasts_S128x128_S1x1x128x128 (ix4 z₀ z₁ a e) = y (ix2 a e) := by
  pointwise

theorem ofNat_eq_iff (e n : Nat) (he : e < 128) (hn : n < 128) : (BitVec.ofNat 32 e = BitVec.ofNat 32 n) ↔ e = n := by
  constructor
  · intro h
    have := congrArg BitVec.toNat h
    simp only [BitVec.toNat_ofNat] at this
    omega
  · rintro rfl; rfl

/-- Lane `h` of the tile holds head `h`'s log-sum-exp, the lanes from 8 on hold zero. -/
theorem tileE8_apply (msk : IVec S128x256 1) (Q : Fin 8 → FVec Ideal S128x128 .bf16) (K : Fin 8 → FVec Ideal S256x128 .bf16)
    (G : Nat → EReal) (z₀ z₁ : Fin 1) (a e : Fin 128) (hG : ∀ h : Fin 8, lse (sc msk (Q h) (K h) a) = G h.val) :
    tileE8 msk Q K (ix4 z₀ z₁ a e) = if e.val < 8 then G e.val else 0 := by
  unfold tileE8
  rw [add_apply]
  simp only [tileE_apply]
  have z : constant (F := Ideal) S128x128 .f32 0x00000000#32 (ix2 a e) = (0 : EReal) := by pointwise
  rw [z]
  simp only [hG]
  have step (n : Nat) (hn : n < 128) : (BitVec.ofNat 32 e.val = BitVec.ofNat 32 n) = (e.val = n) :=
    propext (ofNat_eq_iff e n e.isLt hn)
  rw [if_congr (Iff.of_eq (step 7 (by omega))) rfl rfl, if_congr (Iff.of_eq (step 6 (by omega))) rfl rfl,
    if_congr (Iff.of_eq (step 5 (by omega))) rfl rfl, if_congr (Iff.of_eq (step 4 (by omega))) rfl rfl,
    if_congr (Iff.of_eq (step 3 (by omega))) rfl rfl, if_congr (Iff.of_eq (step 2 (by omega))) rfl rfl,
    if_congr (Iff.of_eq (step 1 (by omega))) rfl rfl, if_congr (Iff.of_eq (step 0 (by omega))) rfl rfl]
  rcases e with ⟨e, he⟩
  dsimp only
  split_ifs <;> first | omega | (subst_vars; rfl) | rfl

/-- The shape of the log-sum-exps of a block of `R` rows. -/
abbrev SE (R : Nat) : Shape := ⟨4, ![1, 1, R, 128]⟩

/-- The rectangle of 128 rows from `r`. -/
def re {R : Nat} (r : Nat) (hr : r + 128 ≤ R) : Rect (SE R) :=
  Rect.unit (s := SE R) ![0, 0, r, 0] S1x1x128x128.size (by
    intro a
    match a with
    | ⟨0, _⟩ => exact Nat.le_refl 1
    | ⟨1, _⟩ => exact Nat.le_refl 1
    | ⟨2, _⟩ => exact hr
    | ⟨3, _⟩ => exact Nat.le_refl 128)

/-- The block's log-sum-exps as a function of its index. -/
def GE (g : Nat) (x0 : FVec Ideal (SB R) .bf16) (x1 : FVec Ideal (SB 128) .bf16) (x2 : FVec Ideal (SB R) .bf16)
    (y : (SE R).Idx) : EReal :=
  blkE g (rd x0) (rd x1) (rd x2) (y 2).val (y 3).val

/-- The store of the log-sum-exps of a tile after the first. -/
theorem pieceE_mid (g j : Nat) (hq : 128 * j + 128 + 128 ≤ R) (hk : 128 * j + 256 ≤ R) (y : S1x1x128x128.Idx) :
    tileE8 maskBand (fun h => ldQ (F := Ideal) x0 (128 * j + 128) h hq) (fun h => ldK (F := Ideal) x2 (128 * j) h hk) y
      = GE g x0 x1 x2 ((re (128 * j + 128) hq).emb y) := by
  idx_vars y
  generalize y2 = a
  generalize y3 = e
  rw [tileE8_apply _ _ _ (fun h => lse (blkS g (rd x0) (rd x1) (rd x2) (128 * j + 128 + a) h)) y0 y1 a e
    fun h => congrArg lse (sc_mid x0 x2 (rd x1) g j h hq hk a)]
  show _ = blkE g _ _ _ (128 * j + 128 + 1 * a.val) (0 + 1 * e.val)
  rw [Nat.one_mul, Nat.one_mul, Nat.zero_add, blkE]

/-- The store of the log-sum-exps of the first tile. -/
theorem pieceE_first (g : Nat) (hg : g < 1024) (hq : 0 + 128 ≤ R) (y : S1x1x128x128.Idx) :
    tileE8 (maskFirst g) (fun h => ldQ (F := Ideal) x0 0 h hq) (fun h => ldC (F := Ideal) x1 x2 h hq) y
      = GE g x0 x1 x2 ((re 0 hq).emb y) := by
  idx_vars y
  generalize y2 = a
  generalize y3 = e
  rw [tileE8_apply _ _ _ (fun h => lse (blkS g (rd x0) (rd x1) (rd x2) a h)) y0 y1 a e
    fun h => congrArg lse (sc_first x0 x2 x1 g hg h hq a)]
  show _ = blkE g _ _ _ (0 + 1 * a.val) (0 + 1 * e.val)
  rw [Nat.one_mul, Nat.one_mul, Nat.zero_add, Nat.zero_add, blkE]

end Cert.Block

end
-- ==== Proof.Attention.lean ====
/-
  The windowed attention of a whole array, `D` residue classes of `L` rows: every row's scores against the 256 rows
  that end with its own tile, its values and its log-sum-exps; and the block's functions as the array's, read from
  the block's rows on.
-/
module

public import proofs.«01_k».proof.Proof.Block

@[expose] public section

set_option maxRecDepth 16384

noncomputable section

namespace Cert.Attention

open Idealize.ShloMosaic Cert.Softmax Cert.Tile Cert.Block

/-- The shape of the queries, keys and values: two sequences, `D` residue classes, `L` rows, 8 heads of 128 columns. -/
abbrev SA (D L : Nat) : Shape := ⟨4, ![2, D, L, 1024]⟩

/-- The shape of the log-sum-exps: 128 lanes, of which the first 8 are used. -/
abbrev SL (D L : Nat) : Shape := ⟨4, ![2, D, L, 128]⟩

variable {D L : Nat} [NeZero L]

/-- An array's class read at a row and a column given as naturals. -/
def ra (x : (SA D L).Idx → EReal) (b : Fin 2) (r : Fin D) (row col : Nat) : EReal :=
  x (ix4 b r (Fin.ofNat L row) (Fin.ofNat 1024 col))

/-- An array at an index, by the index's four coordinates. -/
theorem ra_eq (x : (SA D L).Idx → EReal) (i : (SA D L).Idx) (b : Fin 2) (r : Fin D) {row col : Nat} (h0 : (i 0).val = b.val)
    (h1 : (i 1).val = r.val) (h2 : (i 2).val = row) (h3 : (i 3).val = col) : x i = ra x b r row col := by
  unfold ra
  refine congrArg x (funext fun a => Fin.ext ?_)
  match a with
  | ⟨0, _⟩ => exact h0
  | ⟨1, _⟩ => exact h1
  | ⟨2, _⟩ => exact h2.trans (by rw [← h2]; exact (Nat.mod_eq_of_lt (i 2).isLt).symm)
  | ⟨3, _⟩ => exact h3.trans (by rw [← h3]; exact (Nat.mod_eq_of_lt (i 3).isLt).symm)

/-- A row's scores in head `h`: key `c` is row `c - 128` from the start of the query's tile on. -/
def rowS (q k : Nat → Nat → EReal) (t h : Nat) : Fin 256 → EReal :=
  score scale (fun c : Fin 256 => band (t % 128) c ∧ (128 ≤ c.val ∨ 0 < t / 128)) (fun e : Fin 128 => q t (128 * h + e))
    fun c e => k (t / 128 * 128 + c - 128) (128 * h + e)

/-- A row's values. -/
def rowO (q k v : Nat → Nat → EReal) (t col : Nat) : EReal :=
  mean (rowS q k t (col / 128)) fun c => v (t / 128 * 128 + c - 128) col

/-- A row's log-sum-exps. -/
def rowE (q k : Nat → Nat → EReal) (t lane : Nat) : EReal := if lane < 8 then lse (rowS q k t lane) else 0

/-- The attention's values. -/
def attO (q k v : (SA D L).Idx → EReal) (i : (SA D L).Idx) : EReal :=
  rowO (ra q (i 0) (i 1)) (ra k (i 0) (i 1)) (ra v (i 0) (i 1)) (i 2).val (i 3).val

/-- The attention's log-sum-exps. -/
def attE (q k : (SA D L).Idx → EReal) (i : (SL D L).Idx) : EReal :=
  rowE (ra q (i 0) (i 1)) (ra k (i 0) (i 1)) (i 2).val (i 3).val

section FromBlock
variable {T g : Nat} (hT : 0 < T) {q k v q' kp' kc' vp' vc' : Nat → Nat → EReal}
  (hq : ∀ row col, row < 128 * T → col < 1024 → q' row col = q (128 * T * g + row) col)
  (hkp : ∀ c col, c < 128 → col < 1024 → 0 < g → kp' c col = k (128 * T * g - 128 + c) col)
  (hkc : ∀ row col, row < 128 * T → col < 1024 → kc' row col = k (128 * T * g + row) col)
  (hvp : ∀ c col, c < 128 → col < 1024 → 0 < g → vp' c col = v (128 * T * g - 128 + c) col)
  (hvc : ∀ row col, row < 128 * T → col < 1024 → vc' row col = v (128 * T * g + row) col)

include hT

theorem tile_of (row : Nat) : (128 * T * g + row) / 128 = T * g + row / 128 ∧ (128 * T * g + row) % 128 = row % 128 := by
  rw [Nat.mul_assoc]; constructor <;> omega

theorem first_iff (row : Nat) : T * g + row / 128 = 0 ↔ row / 128 = 0 ∧ g = 0 := by
  constructor
  · intro h
    rcases Nat.eq_zero_or_pos g with h0 | h0
    · exact ⟨by omega, h0⟩
    · have := Nat.mul_pos hT h0; omega
  · rintro ⟨h, rfl⟩; simpa using h

theorem key_of {p' c' x : Nat → Nat → EReal} (hp : ∀ c col, c < 128 → col < 1024 → 0 < g → p' c col = x (128 * T * g - 128 + c) col)
    (hc : ∀ row col, row < 128 * T → col < 1024 → c' row col = x (128 * T * g + row) col) {row : Nat} (hr : row < 128 * T)
    {c : Nat} (hc2 : c < 256) {col : Nat} (hcol : col < 1024) (hs : seen g (row / 128) (row % 128) c) :
    keyB p' c' (row / 128) c col = x ((128 * T * g + row) / 128 * 128 + c - 128) col := by
  rw [(tile_of hT row).1]
  have e : (T * g + row / 128) * 128 = 128 * T * g + row / 128 * 128 := by ring
  rw [e]
  unfold keyB
  by_cases h : row / 128 = 0 ∧ c < 128
  · have hg : 0 < g := (hs.2 h.1).resolve_left (by omega)
    have h2 : 0 < T * g := Nat.mul_pos hT hg
    rw [if_pos h, hp c col h.2 hcol hg, h.1, Nat.zero_mul]
    have h3 : 128 * T * g = 128 * (T * g) := Nat.mul_assoc _ _ _
    congr 1
    omega
  · have h1 := hs.1
    rw [if_neg h, hc _ col (by omega) hcol]
    congr 1
    omega

include hq hkp hkc

theorem blkS_eq {row h : Nat} (hr : row < 128 * T) (hh : h < 8) : blkS g q' kp' kc' row h = rowS q k (128 * T * g + row) h := by
  unfold blkS rowS
  refine score_congr (fun c => ?_) (fun e => hq _ _ hr (by omega)) fun c hs e => key_of hT hkp hkc hr c.isLt (by omega) hs
  rw [(tile_of hT row).1, (tile_of hT row).2]
  have := first_iff (g := g) hT row
  unfold seen
  constructor
  · rintro ⟨a, b⟩
    refine ⟨a, ?_⟩
    by_cases h0 : row / 128 = 0
    · rcases b h0 with b | b
      · exact .inl b
      · exact .inr (Nat.pos_of_ne_zero fun h1 => by omega)
    · exact .inr (by omega)
  · rintro ⟨a, b⟩
    exact ⟨a, fun h0 => b.imp id fun h1 => Nat.pos_of_ne_zero fun h2 => by omega⟩

theorem blkE_eq {row lane : Nat} (hr : row < 128 * T) : blkE g q' kp' kc' row lane = rowE q k (128 * T * g + row) lane := by
  unfold blkE rowE
  by_cases h : lane < 8
  · rw [if_pos h, if_pos h, blkS_eq hT hq hkp hkc hr h]
  · rw [if_neg h, if_neg h]

include hvp hvc

theorem blkO_eq {row col : Nat} (hr : row < 128 * T) (hcol : col < 1024) :
    blkO g q' kp' kc' vp' vc' row col = rowO q k v (128 * T * g + row) col := by
  unfold blkO rowO
  rw [← blkS_eq hT hq hkp hkc hr (show col / 128 < 8 by omega)]
  unfold blkS
  exact mean_congr fun c hs => key_of hT hvp hvc hr c.isLt hcol hs

end FromBlock

section Sum
variable {q k : Nat → Nat → EReal} (hq : ∀ row col, ∃ x : ℝ, q row col = x) (hk : ∀ row col, ∃ x : ℝ, k row col = x) (t h : Nat)
include hq hk

/-- A row's scaled products are real numbers when the queries and the keys are. -/
theorem rowDot_real (c : Fin 256) : ∃ x : ℝ, dotS scale (fun e : Fin 128 => q t (128 * h + e)) (fun e => k (t / 128 * 128 + c - 128) (128 * h + e)) = x := by
  obtain ⟨sc, hs⟩ := scale_real
  rw [hs]
  exact dotS_real (fun e => hq _ _) fun e => hk _ _

/-- No score of a row is the top element. -/
theorem rowS_ne_top (c : Fin 256) : rowS q k t h c ≠ ⊤ := by
  unfold rowS score
  split
  · obtain ⟨x, e⟩ := rowDot_real hq hk t h c
    rw [e]; exact EReal.coe_ne_top _
  · exact bot_ne_top

/-- The score of a row against its own key is a real number. -/
theorem rowS_self : rowS q k t h ⟨t % 128 + 128, by omega⟩ ≠ ⊥ := by
  unfold rowS score
  rw [if_pos ⟨⟨Nat.le_add_right _ _, Nat.le_refl _⟩, .inl (Nat.le_add_left _ _)⟩]
  obtain ⟨x, e⟩ := rowDot_real hq hk t h ⟨t % 128 + 128, by omega⟩
  rw [e]; exact EReal.coe_ne_bot _

/-- A row's values, every weight normalised before the product; the values behind the mask are immaterial. -/
theorem rowO_sum (v : Nat → Nat → EReal) (col : Nat) (w : Fin 256 → EReal)
    (hw : ∀ c : Fin 256, band (t % 128) c ∧ (128 ≤ c.val ∨ 0 < t / 128) → w c = v (t / 128 * 128 + c - 128) col) :
    ∑ c, w c * Ideal.div (wt (rowS q k t (col / 128)) c) (mass (rowS q k t (col / 128))) = rowO q k v t col := by
  rw [← mean_eq (rowS_ne_top hq hk t _) (rowS_self hq hk t _)]
  unfold rowO rowS
  exact mean_congr fun c hc => hw c hc

end Sum

end Cert.Attention

end
-- ==== Proof.Grid.lean ====
/-
  The attention's call by its grid: two sequences, `D` residue classes, `G` rows of blocks. Which point holds a row, what
  a point's blocks read of the call's arrays, and a point's results as blocks of the attention's.
-/
module

public import proofs.«01_k».proof.Proof.Attention

@[expose] public section

set_option maxRecDepth 16384

noncomputable section

namespace Cert.Grid

open Idealize.ShloMosaic Cert.Block Cert.Attention

/-- A point's sequence, residue class and row of blocks. -/
def seqOf (D G t : Nat) : Nat := t / (G * D)
def classOf (D G t : Nat) : Nat := t / G % D
def rowOf (G t : Nat) : Nat := t % G

theorem seqOf_lt {D G t : Nat} (h : t < 2 * D * G) : seqOf D G t < 2 :=
  Nat.div_lt_of_lt_mul (lt_of_lt_of_eq h (by ring))

/-- Every sequence, class and row is that of a point. -/
theorem point {D G b r g : Nat} (hb : b < 2) (hr : r < D) (hg : g < G) :
    ∃ t, t < 2 * D * G ∧ seqOf D G t = b ∧ classOf D G t = r ∧ rowOf G t = g := by
  have e : (G * (b * D + r) + g) / G = b * D + r := by
    rw [Nat.mul_add_div (by omega), Nat.div_eq_of_lt hg, Nat.add_zero]
  refine ⟨G * (b * D + r) + g, ?_, ?_, ?_, ?_⟩
  · have h1 : b * D + r + 1 ≤ 2 * D := by
      rcases Nat.lt_or_ge b 1 with h | h
      · have : b = 0 := by omega
        subst this; omega
      · have : b = 1 := by omega
        subst this; omega
    have h2 := Nat.mul_le_mul_left G h1
    rw [Nat.mul_comm (2 * D) G]
    have h3 : G * (b * D + r + 1) = G * (b * D + r) + G := by ring
    omega
  · show _ / (G * D) = b
    rw [← Nat.div_div_eq_div_mul, e, Nat.mul_comm, Nat.mul_add_div (by omega), Nat.div_eq_of_lt hr, Nat.add_zero]
  · show _ / G % D = r
    rw [e, Nat.mul_comm, Nat.mul_add_mod, Nat.mod_eq_of_lt hr]
  · show _ % G = g
    rw [Nat.mul_add_mod, Nat.mod_eq_of_lt hg]

/-- A block's place: its index in units of blocks of `R` rows and `W` columns, and the place of each of its elements. -/
structure Place {D L R W : Nat} (ix : Fin 4 → Nat) (emb : (⟨4, ![1, 1, R, W]⟩ : Shape).Idx → (⟨4, ![2, D, L, W]⟩ : Shape).Idx) : Prop where
  at0 : ∀ y, (emb y 0).val = ix 0 * 1 + 1 * (y 0).val
  at1 : ∀ y, (emb y 1).val = ix 1 * 1 + 1 * (y 1).val
  at2 : ∀ y, (emb y 2).val = ix 2 * R + 1 * (y 2).val
  at3 : ∀ y, (emb y 3).val = ix 3 * W + 1 * (y 3).val

section Place
variable {D L R W b r n : Nat} {ix : Fin 4 → Nat} {emb : (⟨4, ![1, 1, R, W]⟩ : Shape).Idx → (⟨4, ![2, D, L, W]⟩ : Shape).Idx}
  (p : Place ix emb) (e : ix 0 = b ∧ ix 1 = r ∧ ix 2 = n ∧ ix 3 = 0) (y : (⟨4, ![1, 1, R, W]⟩ : Shape).Idx)
include p e

theorem emb0 : (emb y 0).val = b := by
  have h : (y 0).val < 1 := (y 0).isLt
  rw [p.at0, e.1]; omega
theorem emb1 : (emb y 1).val = r := by
  have h : (y 1).val < 1 := (y 1).isLt
  rw [p.at1, e.2.1]; omega
theorem emb2 : (emb y 2).val = R * n + (y 2).val := by
  rw [p.at2, e.2.2.1, Nat.mul_comm, Nat.one_mul]
theorem emb3 : (emb y 3).val = (y 3).val := by
  rw [p.at3, e.2.2.2]; omega

end Place

/-- The block that holds an index. -/
theorem holds {R W i0 i1 i2 i3 : Nat} {ix : Fin 4 → Nat} (hR : 0 < R) (h3 : i3 < W)
    (e : ix 0 = i0 ∧ ix 1 = i1 ∧ ix 2 = i2 / R ∧ ix 3 = 0) (a : Fin 4) :
    ix a * (![1, 1, R, W] : Fin 4 → Nat) a ≤ (![i0, i1, i2, i3] : Fin 4 → Nat) a
      ∧ (![i0, i1, i2, i3] : Fin 4 → Nat) a < ix a * (![1, 1, R, W] : Fin 4 → Nat) a + (![1, 1, R, W] : Fin 4 → Nat) a := by
  obtain ⟨e0, e1, e2, e3⟩ := e
  match a with
  | ⟨0, _⟩ => show ix 0 * 1 ≤ i0 ∧ i0 < ix 0 * 1 + 1; omega
  | ⟨1, _⟩ => show ix 1 * 1 ≤ i1 ∧ i1 < ix 1 * 1 + 1; omega
  | ⟨2, _⟩ =>
    show ix 2 * R ≤ i2 ∧ i2 < ix 2 * R + R
    rw [e2]
    exact ⟨Nat.div_mul_le_self _ _, Nat.lt_div_mul_add hR⟩
  | ⟨3, _⟩ => show ix 3 * W ≤ i3 ∧ i3 < ix 3 * W + W; rw [e3]; omega

section Blocks
variable {D L R T n : Nat} [NeZero L] [NeZero R] {b : Fin 2} {r : Fin D} {ixc ixp : Fin 4 → Nat}
  {ec : (SB R).Idx → (SA D L).Idx} {ep : (SB 128).Idx → (SA D L).Idx}
  (pc : Place ixc ec) (pp : Place ixp ep) (hT : 0 < T) (hR : R = 128 * T)
  (hc : ixc 0 = b.val ∧ ixc 1 = r.val ∧ ixc 2 = n ∧ ixc 3 = 0)
  (hp : ixp 0 = b.val ∧ ixp 1 = r.val ∧ ixp 2 = T * n - 1 ∧ ixp 3 = 0)

include pc hR hc in
/-- The current block by row and column. -/
theorem rd_cur {f : (SB R).Idx → EReal} {x : (SA D L).Idx → EReal} (h : ∀ y, f y = x (ec y)) (row col : Nat)
    (hr : row < 128 * T) (hcol : col < 1024) : rd f row col = ra x b r (128 * T * n + row) col := by
  refine (h _).trans (ra_eq x _ b r (emb0 pc hc _) (emb1 pc hc _) ((emb2 pc hc _).trans ?_) ((emb3 pc hc _).trans (Nat.mod_eq_of_lt hcol)))
  show R * n + row % R = _
  rw [Nat.mod_eq_of_lt (lt_of_lt_of_eq hr hR.symm), hR]

include pp hT hp in
/-- The previous block by row and column, where there is one. -/
theorem rd_prev {f : (SB 128).Idx → EReal} {x : (SA D L).Idx → EReal} (h : ∀ y, f y = x (ep y)) (row col : Nat)
    (hr : row < 128) (hcol : col < 1024) (hn : 0 < n) : rd f row col = ra x b r (128 * T * n - 128 + row) col := by
  refine (h _).trans (ra_eq x _ b r (emb0 pp hp _) (emb1 pp hp _) ((emb2 pp hp _).trans ?_) ((emb3 pp hp _).trans (Nat.mod_eq_of_lt hcol)))
  show 128 * (T * n - 1) + row % 128 = _
  rw [Nat.mod_eq_of_lt hr, Nat.mul_assoc]
  have := Nat.mul_pos hT hn
  omega

variable {f0 f2 f4 : (SB R).Idx → EReal} {f1 f3 : (SB 128).Idx → EReal} {q k v : (SA D L).Idx → EReal}
  (h0 : ∀ y, f0 y = q (ec y)) (h1 : ∀ y, f1 y = k (ep y)) (h2 : ∀ y, f2 y = k (ec y)) (h3 : ∀ y, f3 y = v (ep y)) (h4 : ∀ y, f4 y = v (ec y))

include pc pp hT hR hc hp h0 h1 h2

/-- A point's block of log-sum-exps is that of the attention's. -/
theorem block_e {ix : Fin 4 → Nat} {emb : (SE R).Idx → (SL D L).Idx} (p : Place ix emb)
    (e : ix 0 = b.val ∧ ix 1 = r.val ∧ ix 2 = n ∧ ix 3 = 0) (y : (SE R).Idx) : GE n f0 f1 f2 y = attE q k (emb y) := by
  have hr : (y 2).val < 128 * T := lt_of_lt_of_eq (y 2).isLt hR
  refine (blkE_eq hT (rd_cur pc hR hc h0) (rd_prev pp hT hp h1) (rd_cur pc hR hc h2) hr).trans ?_
  unfold attE
  rw [show emb y 0 = b from Fin.ext (emb0 p e y), show emb y 1 = r from Fin.ext (emb1 p e y), emb2 p e y, emb3 p e y, show R * n = 128 * T * n from by rw [hR]]

include h3 h4

/-- A point's block of values is that of the attention's. -/
theorem block_o {ix : Fin 4 → Nat} {emb : (SB R).Idx → (SA D L).Idx} (p : Place ix emb)
    (e : ix 0 = b.val ∧ ix 1 = r.val ∧ ix 2 = n ∧ ix 3 = 0) (y : (SB R).Idx) : GO n f0 f1 f2 f3 f4 y = attO q k v (emb y) := by
  have hr : (y 2).val < 128 * T := lt_of_lt_of_eq (y 2).isLt hR
  refine (blkO_eq hT (rd_cur pc hR hc h0) (rd_prev pp hT hp h1) (rd_cur pc hR hc h2) (rd_prev pp hT hp h3) (rd_cur pc hR hc h4)
    hr (y 3).isLt).trans ?_
  unfold attO
  rw [show emb y 0 = b from Fin.ext (emb0 p e y), show emb y 1 = r from Fin.ext (emb1 p e y), emb2 p e y, emb3 p e y, show R * n = 128 * T * n from by rw [hR]]

end Blocks

end Cert.Grid

end
-- ==== Proof.Body1.lean ====
/-
  The body of the first group's call: what it leaves in the two staging buffers of its results is the block of the
  attention's values and the block of its log-sum-exps.
-/
module

public import proofs.«01_k».proof.Proof.Block
public import proofs.«01_k».proof.Proof.Gen.KernelIdeal.Frame

@[expose] public section

set_option maxRecDepth 1000000

noncomputable section

namespace Cert.Body1

open Idealize.ShloMosaic Cert.KernelIdeal Cert.KernelIdeal.Gen Cert.KernelIdeal.Facts Cert.Tile Cert.Block

variable (i : grid0.Coords) (x0 : Vec Ideal S1x1x512x1024 .bf16) (x1 : Vec Ideal S1x1x128x1024 .bf16)
  (x2 : Vec Ideal S1x1x512x1024 .bf16) (x3 : Vec Ideal S1x1x128x1024 .bf16) (x4 : Vec Ideal S1x1x512x1024 .bf16)

/-- The values' staging buffer after the body. -/
theorem out5_apply (hg : (i 2).val < 1024) (y : S1x1x512x1024.Idx) :
    out0_5 (F := Ideal) i x0 x1 x2 x3 x4 y = GO (R := 512) (i 2).val x0 x1 x2 x3 x4 y := by
  unfold out0_5
  refine View.canon_apply_of_pieces (Val := Elt Ideal) (GO (R := 512) (i 2).val x0 x1 x2 x3 x4) _ ?_ y (cover0_5 _ _ _ _ _ _ _ _ _ _ _ _ _ _ _ _ _ _ _ _ _ _ _ _ _ _ _ _ _ _ _ _ y)
  refine eight (storeO_mid (R := 512) x0 x2 x4 2 (by omega) (by omega)) (fun h => pieceO_mid (R := 512) x0 x2 x4 x1 x3 (i 2).val 2 h (by omega) (by omega)) ?_
  refine eight (storeO_mid (R := 512) x0 x2 x4 1 (by omega) (by omega)) (fun h => pieceO_mid (R := 512) x0 x2 x4 x1 x3 (i 2).val 1 h (by omega) (by omega)) ?_
  refine eight (storeO_mid (R := 512) x0 x2 x4 0 (by omega) (by omega)) (fun h => pieceO_mid (R := 512) x0 x2 x4 x1 x3 (i 2).val 0 h (by omega) (by omega)) ?_
  refine eight (storeO_first (R := 512) x0 x2 x4 x1 x3 (i 2).val (by omega)) (fun h => pieceO_first (R := 512) x0 x2 x4 x1 x3 (i 2).val hg h (by omega)) ?_
  exact fun _ hp => absurd hp List.not_mem_nil

/-- The log-sum-exps' staging buffer after the body. -/
theorem out6_apply (hg : (i 2).val < 1024) (y : S1x1x512x128.Idx) :
    out0_6 (F := Ideal) i x0 x1 x2 x3 x4 y = GE (R := 512) (i 2).val x0 x1 x2 y := by
  unfold out0_6
  refine View.canon_apply_of_pieces (Val := Elt Ideal) (GE (R := 512) (i 2).val x0 x1 x2) _ ?_ y (cover0_6 _ _ _ _ y)
  refine List.forall_mem_cons.2 ⟨piece (pieceE_mid (R := 512) x0 x2 x1 (i 2).val 2 (by omega) (by omega)) (by dsimp only; rfl), ?_⟩
  refine List.forall_mem_cons.2 ⟨piece (pieceE_mid (R := 512) x0 x2 x1 (i 2).val 1 (by omega) (by omega)) (by dsimp only; rfl), ?_⟩
  refine List.forall_mem_cons.2 ⟨piece (pieceE_mid (R := 512) x0 x2 x1 (i 2).val 0 (by omega) (by omega)) (by dsimp only; rfl), ?_⟩
  refine List.forall_mem_cons.2 ⟨piece (pieceE_first (R := 512) x0 x2 x1 (i 2).val hg (by omega)) (by dsimp only; rfl), ?_⟩
  exact fun _ hp => absurd hp List.not_mem_nil

end Cert.Body1

end
-- ==== Proof.KernelValue1.lean ====
/-
  The first group's call, run: its two results are the attention's values and log-sum-exps of its three arguments.
-/
module

public import proofs.«01_k».proof.Proof.Grid
public import proofs.«01_k».proof.Proof.Body1
public import proofs.«01_k».proof.Proof.Gen.KernelIdeal.Value

@[expose] public section

set_option maxRecDepth 16384

noncomputable section

namespace Cert.KernelValue1

open Idealize.ShloMosaic Idealize.ShloMosaic.TcCoe Idealize.SL.Sem Cert.KernelIdeal Cert.KernelIdeal.Gen Cert.Block Cert.Attention Cert.Grid

variable (m : (ℓ : Loc nD τ sig) → Buf (Elt Ideal) ℓ) (ρ : Dev nD → PrngReg) (c : Dev nD)

/-- The queries, the keys and the values as launched. -/
abbrev aq : (SA 1 4096).Idx → EReal := m ((c : Thread nD τ).loc main_arg0)
abbrev ak : (SA 1 4096).Idx → EReal := m ((c : Thread nD τ).loc main_arg1)
abbrev av : (SA 1 4096).Idx → EReal := m ((c : Thread nD τ).loc main_arg2)

/-- A point's sequence, class and row of blocks. -/
def pb (t : Fin grid0.N) : Fin 2 := ⟨seqOf 1 8 t.val, seqOf_lt (lt_of_lt_of_eq t.isLt N_0)⟩
def pr (t : Fin grid0.N) : Fin 1 := ⟨classOf 1 8 t.val, Nat.mod_lt _ (by decide)⟩
def pn (t : Fin grid0.N) : Nat := rowOf 8 t.val

/-- The index maps at every point. -/
theorem idx_cur (t : Fin grid0.N) : win0_0.index t 0 = (pb t).val ∧ win0_0.index t 1 = (pr t).val ∧ win0_0.index t 2 = pn t ∧ win0_0.index t 3 = 0 := by
  revert t; decide +kernel
theorem idx_prev (t : Fin grid0.N) : win0_1.index t 0 = (pb t).val ∧ win0_1.index t 1 = (pr t).val ∧ win0_1.index t 2 = 4 * pn t - 1 ∧ win0_1.index t 3 = 0 := by
  revert t; decide +kernel
theorem idx_out (t : Fin grid0.N) : win0_5.index t 0 = (pb t).val ∧ win0_5.index t 1 = (pr t).val ∧ win0_5.index t 2 = pn t ∧ win0_5.index t 3 = 0 := by
  revert t; decide +kernel
theorem idx_lse (t : Fin grid0.N) : win0_6.index t 0 = (pb t).val ∧ win0_6.index t 1 = (pr t).val ∧ win0_6.index t 2 = pn t ∧ win0_6.index t 3 = 0 := by
  revert t; decide +kernel
theorem coord_row (t : Fin grid0.N) : (grid0.coords t 2).val = pn t := by
  revert t; decide +kernel
theorem coord_lt (t : Fin grid0.N) : (grid0.coords t 2).val < 1024 :=
  lt_of_lt_of_le (lt_of_eq_of_lt (coord_row t) (Nat.mod_lt _ (by decide : 0 < 8))) (by decide)

/-- The windows' blocks at every point. -/
theorem place_cur (t : Fin grid0.N) : Place (D := 1) (L := 4096) (R := 512) (win0_0.index t) (win0_0.rect t).emb :=
  ⟨fun _ => rfl, fun _ => rfl, fun _ => rfl, fun _ => rfl⟩
theorem place_prev (t : Fin grid0.N) : Place (D := 1) (L := 4096) (R := 128) (win0_1.index t) (win0_1.rect t).emb :=
  ⟨fun _ => rfl, fun _ => rfl, fun _ => rfl, fun _ => rfl⟩
theorem place_out (t : Fin grid0.N) : Place (D := 1) (L := 4096) (R := 512) (win0_5.index t) (win0_5.rect t).emb :=
  ⟨fun _ => rfl, fun _ => rfl, fun _ => rfl, fun _ => rfl⟩
theorem place_lse (t : Fin grid0.N) : Place (D := 1) (L := 4096) (R := 512) (win0_6.index t) (win0_6.rect t).emb :=
  ⟨fun _ => rfl, fun _ => rfl, fun _ => rfl, fun _ => rfl⟩

/-- What a point writes back of the values is its block of the attention's values. -/
theorem flushed_o (t : Fin cfg0.N) :
    (dats m 0 c).flushed 5 t = (win0_5.blk t).view.read (Elt Ideal) (attO (aq m c) (ak m c) (av m c)) := by
  rw [Cert.KernelIdeal.Value.flushed5]
  funext y
  show out0_5 (grid0.coords t) (iblk m c 0 t) (iblk m c 1 t) (iblk m c 2 t) (iblk m c 3 t) (iblk m c 4 t) y
    = attO (aq m c) (ak m c) (av m c) ((win0_5.rect t).emb y)
  rw [Body1.out5_apply _ _ _ _ _ _ (coord_lt t) y, coord_row]
  exact block_o (T := 4) (place_cur t) (place_prev t) (by decide) rfl (idx_cur t) (idx_prev t)
    (fun _ => rfl) (fun _ => rfl) (fun _ => rfl) (fun _ => rfl) (fun _ => rfl) (place_out t) (idx_out t) y

/-- What a point writes back of the log-sum-exps is its block of them. -/
theorem flushed_e (t : Fin cfg0.N) :
    (dats m 0 c).flushed 6 t = (win0_6.blk t).view.read (Elt Ideal) (attE (aq m c) (ak m c)) := by
  rw [Cert.KernelIdeal.Value.flushed6]
  funext y
  show out0_6 (grid0.coords t) (iblk m c 0 t) (iblk m c 1 t) (iblk m c 2 t) (iblk m c 3 t) (iblk m c 4 t) y
    = attE (aq m c) (ak m c) ((win0_6.rect t).emb y)
  rw [Body1.out6_apply _ _ _ _ _ _ (coord_lt t) y, coord_row]
  exact block_e (T := 4) (place_cur t) (place_prev t) (by decide) rfl (idx_cur t) (idx_prev t)
    (fun _ => rfl) (fun _ => rfl) (fun _ => rfl) (place_lse t) (idx_lse t) y

/-- The point whose blocks hold a sequence, class and row. -/
theorem pt {b r row : Nat} (hb : b < 2) (hr : r < 1) (hrow : row < 4096) :
    ∃ t : Fin grid0.N, (pb t).val = b ∧ (pr t).val = r ∧ pn t = row / 512 := by
  obtain ⟨t, ht, h⟩ := point (G := 8) hb hr (show row / 512 < 8 by omega)
  exact ⟨⟨t, lt_of_lt_of_eq ht N_0.symm⟩, h⟩

/-- Every index of the values is in the block of some point. -/
theorem cover_o (i : S2x1x4096x1024.Idx) : ∃ t : Fin cfg0.N, (cfg0.win 5).flush t = true ∧ i ∈ ((cfg0.win 5).blk t).view.set := by
  obtain ⟨t, h0, h1, h2⟩ := pt (i 0).isLt (i 1).isLt (i 2).isLt
  refine ⟨t, flush0_5 _, ?_⟩
  have e := idx_out t
  rw [h0, h1, h2] at e
  show i ∈ ((View.whole main_v0_0).slice (win0_5.rect t)).set
  rw [View.set_slice_whole, Rect.mem_set_unit]
  have h := holds (R := 512) (by decide) (i 3).isLt e
  exact fun | 0 => h 0 | 1 => h 1 | 2 => h 2 | 3 => h 3

/-- Every index of the log-sum-exps is in the block of some point. -/
theorem cover_e (i : S2x1x4096x128.Idx) : ∃ t : Fin cfg0.N, (cfg0.win 6).flush t = true ∧ i ∈ ((cfg0.win 6).blk t).view.set := by
  obtain ⟨t, h0, h1, h2⟩ := pt (i 0).isLt (i 1).isLt (i 2).isLt
  refine ⟨t, flush0_6 _, ?_⟩
  have e := idx_lse t
  rw [h0, h1, h2] at e
  show i ∈ ((View.whole main_v0_1).slice (win0_6.rect t)).set
  rw [View.set_slice_whole, Rect.mem_set_unit]
  have h := holds (R := 512) (by decide) (i 3).isLt e
  exact fun | 0 => h 0 | 1 => h 1 | 2 => h 2 | 3 => h 3

/-- The call, run: its results are the attention's values and log-sum-exps, its arguments are unchanged. -/
theorem run : θ_run defs (onTc (τ := τ) (main (F := Ideal))) ⟨m, fun _ => 0, ρ⟩ fun r => ∀ c : Dev nD,
      r.2.mem ((c : Thread nD τ).loc main_v0_0) = attO (aq m c) (ak m c) (av m c)
      ∧ r.2.mem ((c : Thread nD τ).loc main_v0_1) = attE (aq m c) (ak m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 5 _ (fun t _ => flushed_o m c t) cover_o),
      (h c).2.1.trans ((dats m 0 c).arrAt_eq_of_cover 6 _ (fun t _ => flushed_e m c t) cover_e), (h c).2.2⟩)
    (Cert.KernelIdeal.Value.run_blocks m ρ)

end Cert.KernelValue1

end
-- ==== Proof.HostReduce.lean ====
/-
  A host reduction of an array of six axes over its last one, read at an index: a fold, or a sum, along that axis.
-/
module

public import Idealize.ShloMosaic.Lib.Pointwise

@[expose] public section

noncomputable section

namespace Cert.HostReduce

open Idealize.ShloMosaic

variable {n0 n1 n2 n3 n4 n5 : Nat} (h : (⟨6, ![n0, n1, n2, n3, n4, n5]⟩ : Shape).ReducesTo [5] ⟨5, ![n0, n1, n2, n3, n4]⟩)
  (a : Fin n0) (b : Fin n1) (c : Fin n2) (d : Fin n3) (e : Fin n4)

/-- The indices that reduce to an index are that index with any last coordinate. -/
theorem drop_iff (i : (⟨6, ![n0, n1, n2, n3, n4, n5]⟩ : Shape).Idx) :
    h.drop i = ix5 a b c d e ↔ ∃ k : Fin n5, ix6 a b c d e k = i := by
  constructor
  · intro q
    refine ⟨i 5, funext fun x => Fin.ext ?_⟩
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

/-- The maximum along the last axis. -/
theorem fold_last (z : EReal) (s : (⟨6, ![n0, n1, n2, n3, n4, n5]⟩ : Shape).Idx → EReal) :
    Finset.fold max z s (Finset.univ.filter fun i => h.drop i = ix5 a b c d e)
      = (Finset.univ : Finset (Fin n5)).fold max z fun k => s (ix6 a b c d e k) :=
  Finset.fold_filter_eq_fold_of_fiber max _ (fun k : Fin n5 => ix6 a b c d e k) (fun _ _ q => congrFun q 5) (drop_iff h a b c d e) z s

/-- The sum along the last axis. -/
theorem sum_last (z : EReal) (s : (⟨6, ![n0, n1, n2, n3, n4, n5]⟩ : Shape).Idx → EReal) :
    Ideal.hostReduceAdd h s z (ix5 a b c d e) = z + ∑ k : Fin n5, s (ix6 a b c d e k) :=
  congrArg (z + ·) (Finset.sum_filter_eq_sum_of_fiber _ (fun k : Fin n5 => ix6 a b c d e k) (fun _ _ q => congrFun q 5) (drop_iff h a b c d e) s)

end Cert.HostReduce

end
-- ==== Proof.RefAttention.lean ====
/-
  The windowed attention's reference at any number `D` of residue classes of `N` blocks of 128 rows: the terms of its
  two results, and these read at an index.
-/
module

public import proofs.«01_k».proof.Proof.Attention
public import proofs.«01_k».proof.Proof.HostReduce
public import Idealize.ShloMosaic.Lib.Pointwise.IndexVar

@[expose] public section

set_option maxRecDepth 16384

noncomputable section

namespace Cert.RefAttention

open Idealize.ShloMosaic Cert.Softmax Cert.Block Cert.Attention

/-- The shapes of the blocks of 128 rows and 8 heads, of the products of keys and queries, and of a row's heads. -/
abbrev SX (D N w e : Nat) : Shape := ⟨6, ![2, D, N, w, 8, e]⟩
abbrev ST (D N w e : Nat) : Shape := ⟨6, ![2, D, N, 8, w, e]⟩
abbrev S5 (D N : Nat) : Shape := ⟨5, ![2, D, N, 128, 8]⟩
abbrev SH (D L : Nat) : Shape := ⟨4, ![2, D, L, 8]⟩

/-- The shapes of the mask and of its parts. -/
abbrev S0 : Shape := ⟨0, ![]⟩
abbrev SR : Shape := ⟨1, ![128]⟩
abbrev SK : Shape := ⟨1, ![256]⟩
abbrev SR1 : Shape := ⟨2, ![128, 1]⟩
abbrev S1K : Shape := ⟨2, ![1, 256]⟩
abbrev SRK : Shape := ⟨2, ![128, 256]⟩
abbrev S11K : Shape := ⟨3, ![1, 1, 256]⟩
abbrev S1RK : Shape := ⟨3, ![1, 128, 256]⟩
abbrev SN (N : Nat) : Shape := ⟨1, ![N]⟩
abbrev SN11 (N : Nat) : Shape := ⟨3, ![N, 1, 1]⟩
abbrev SN1K (N : Nat) : Shape := ⟨3, ![N, 1, 256]⟩
abbrev SNRK (N : Nat) : Shape := ⟨3, ![N, 128, 256]⟩
abbrev SNR1K (N : Nat) : Shape := ⟨4, ![N, 128, 1, 256]⟩

/-- What the reference's operations ask of the shapes. -/
structure RefFacts (D N L : Nat) : Prop where
  rows : L = 128 * N
  few : N ≤ 32
  cast_in : (SA D L).ShapeCasts (SX D N 128 128)
  lt_bf16 : FTy.bits .bf16 < FTy.bits .f32
  pad_blocks : (SX D N 128 128).Pads (![0, 0, 1, 0, 0, 0] : Fin 6 → Nat) ![0, 0, 0, 0, 0, 0] ![0, 0, 0, 0, 0, 0] (SX D (N + 1) 128 128)
  one_elt : 0 < S0.numel
  cut_blocks : (SX D (N + 1) 128 128).Slices ![0, 0, 0, 0, 0, 0] (SX D N 128 128)
  concat_blocks : Shape.Concatenates [(SX D N 128 128), (SX D N 128 128)] (SX D N 256 128) 3
  turn_scores : (ST D N 256 128).Transposes [0, 1, 2, 5, 3, 4] (SX D N 128 256)
  b_S0_X : S0.BroadcastsInDim (SX D N 128 256) (![] : Fin 0 → Fin (SX D N 128 256).rank)
  b_SR_SR1 : SR.BroadcastsInDim SR1 (![0] : Fin 1 → Fin SR1.rank)
  b_SK_S1K : SK.BroadcastsInDim S1K (![1] : Fin 1 → Fin S1K.rank)
  b_SN_SN11 : (SN N).BroadcastsInDim (SN11 N) (![0] : Fin 1 → Fin (SN11 N).rank)
  b_S1K_SRK : S1K.BroadcastsInDim SRK (![0, 1] : Fin 2 → Fin SRK.rank)
  b_SR1_SRK : SR1.BroadcastsInDim SRK (![0, 1] : Fin 2 → Fin SRK.rank)
  b_S0_SR1 : S0.BroadcastsInDim SR1 (![] : Fin 0 → Fin SR1.rank)
  b_S0_SN11 : S0.BroadcastsInDim (SN11 N) (![] : Fin 0 → Fin (SN11 N).rank)
  b_S0_S1K : S0.BroadcastsInDim S1K (![] : Fin 0 → Fin S1K.rank)
  b_S1K_S11K : S1K.BroadcastsInDim S11K (![1, 2] : Fin 2 → Fin S11K.rank)
  b_SN11_SN1K : (SN11 N).BroadcastsInDim (SN1K N) (![0, 1, 2] : Fin 3 → Fin (SN1K N).rank)
  b_S11K_SN1K : S11K.BroadcastsInDim (SN1K N) (![0, 1, 2] : Fin 3 → Fin (SN1K N).rank)
  b_SRK_S1RK : SRK.BroadcastsInDim S1RK (![1, 2] : Fin 2 → Fin S1RK.rank)
  b_S1RK_SNRK : S1RK.BroadcastsInDim (SNRK N) (![0, 1, 2] : Fin 3 → Fin (SNRK N).rank)
  b_SN1K_SNRK : (SN1K N).BroadcastsInDim (SNRK N) (![0, 1, 2] : Fin 3 → Fin (SNRK N).rank)
  b_SNRK_SNR1K : (SNRK N).BroadcastsInDim (SNR1K N) (![0, 1, 3] : Fin 3 → Fin (SNR1K N).rank)
  b_SNR1K_X : (SNR1K N).BroadcastsInDim (SX D N 128 256) (![2, 3, 4, 5] : Fin 4 → Fin (SX D N 128 256).rank)
  reduce_last : (SX D N 128 256).ReducesTo [5] (S5 D N)
  b_X0_X1 : (S5 D N).BroadcastsInDim (SX D N 128 1) (![0, 1, 2, 3, 4] : Fin 5 → Fin (SX D N 128 1).rank)
  b_X1_X : (SX D N 128 1).BroadcastsInDim (SX D N 128 256) (![0, 1, 2, 3, 4, 5] : Fin 6 → Fin (SX D N 128 256).rank)
  cast_flat : (SX D N 128 1).ShapeCasts (S5 D N)
  turn_outs : (ST D N 128 128).Transposes [0, 1, 2, 5, 3, 4] (SX D N 128 128)
  cast_out : (SX D N 128 128).ShapeCasts (SA D L)
  cast_rows : (S5 D N).ShapeCasts (SH D L)
  pad_lanes : (SH D L).Pads (![0, 0, 0, 0] : Fin 4 → Nat) ![0, 0, 0, 120] ![0, 0, 0, 0] (SL D L)
  dot_scores_wf : DotDims.WF (SX D N 256 128) (SX D N 128 128) (ST D N 256 128) [5] [5] [3] [3] [0, 1, 2, 4] [0, 1, 2, 4]
  dot_outs_wf : DotDims.WF (SX D N 256 128) (SX D N 128 256) (ST D N 128 128) [3] [5] [5] [3] [0, 1, 2, 4] [0, 1, 2, 4]

variable {D N L : Nat}

/-- Keys by queries, over a head's columns. -/
def dotScores (fc : RefFacts D N L) : DotDims (SX D N 256 128) (SX D N 128 128) (ST D N 256 128) where
  lhsContracting := [5]
  rhsContracting := [5]
  lhsNonContracting := [3]
  rhsNonContracting := [3]
  lhsBatch := [0, 1, 2, 4]
  rhsBatch := [0, 1, 2, 4]
  wf := fc.dot_scores_wf

/-- Values by weights, over the keys. -/
def dotOuts (fc : RefFacts D N L) : DotDims (SX D N 256 128) (SX D N 128 256) (ST D N 128 128) where
  lhsContracting := [3]
  rhsContracting := [5]
  lhsNonContracting := [5]
  rhsNonContracting := [3]
  lhsBatch := [0, 1, 2, 4]
  rhsBatch := [0, 1, 2, 4]
  wf := fc.dot_outs_wf

section Terms
variable {F : FTy → Type} [FloatOps F]

/-- An array cut into blocks of 128 rows and heads of 128 columns. -/
def blocks (fc : RefFacts D N L) (x : FVec F (SA D L) .bf16) : FVec F (SX D N 128 128) .f32 :=
  extf .f32 (shapeCast (SX D N 128 128) x fc.cast_in) fc.lt_bf16

/-- Every block after its predecessor, the first after a block of zeros. -/
def pairs (fc : RefFacts D N L) (x : FVec F (SX D N 128 128) .f32) : FVec F (SX D N 256 128) .f32 :=
  concatenate (SX D N 256 128) 3 [⟨(SX D N 128 128), (extractStridedSlice (SX D N 128 128) ![0, 0, 0, 0, 0, 0]
    (pad (SX D (N + 1) 128 128) ![0, 0, 1, 0, 0, 0] ![0, 0, 0, 0, 0, 0] ![0, 0, 0, 0, 0, 0] x (sitofp .f32 (constantI S0 32 0#32))
      fc.pad_blocks fc.one_elt) fc.cut_blocks)⟩,
    ⟨(SX D N 128 128), x⟩] fc.concat_blocks

/-- The window's band. -/
def bandM (fc : RefFacts D N L) : IVec SRK 1 :=
  andi (cmpi .sge (broadcastInDim SRK ![0, 1] fc.b_S1K_SRK (broadcastInDim S1K ![1] fc.b_SK_S1K (iotaInDim SK 32 0))) (broadcastInDim SRK ![0, 1] fc.b_SR1_SRK (broadcastInDim SR1 ![0] fc.b_SR_SR1 (iotaInDim SR 32 0)))) (cmpi .sle (broadcastInDim SRK ![0, 1] fc.b_S1K_SRK (broadcastInDim S1K ![1] fc.b_SK_S1K (iotaInDim SK 32 0))) (broadcastInDim SRK ![0, 1] fc.b_SR1_SRK (addi (broadcastInDim SR1 ![0] fc.b_SR_SR1 (iotaInDim SR 32 0)) (broadcastInDim SR1 ![] fc.b_S0_SR1 (constantI S0 32 128#32)))))

/-- The blocks that exist. -/
def existM (fc : RefFacts D N L) : IVec (SN1K N) 1 :=
  ori (broadcastInDim (SN1K N) ![0, 1, 2] fc.b_SN11_SN1K (cmpi .sgt (broadcastInDim (SN11 N) ![0] fc.b_SN_SN11 (iotaInDim (SN N) 32 0)) (broadcastInDim (SN11 N) ![] fc.b_S0_SN11 (constantI S0 32 0#32)))) (broadcastInDim (SN1K N) ![0, 1, 2] fc.b_S11K_SN1K (broadcastInDim S11K ![1, 2] fc.b_S1K_S11K (cmpi .sge (broadcastInDim S1K ![1] fc.b_SK_S1K (iotaInDim SK 32 0)) (broadcastInDim S1K ![] fc.b_S0_S1K (constantI S0 32 128#32)))))

/-- The mask. -/
def maskM (fc : RefFacts D N L) : IVec (SX D N 128 256) 1 :=
  broadcastInDim (SX D N 128 256) ![2, 3, 4, 5] fc.b_SNR1K_X (broadcastInDim (SNR1K N) ![0, 1, 3] fc.b_SNRK_SNR1K (andi (broadcastInDim (SNRK N) ![0, 1, 2] fc.b_S1RK_SNRK (broadcastInDim S1RK ![1, 2] fc.b_SRK_S1RK (bandM fc))) (broadcastInDim (SNRK N) ![0, 1, 2] fc.b_SN1K_SNRK (existM fc))))

/-- The masked scores. -/
def scores (fc : RefFacts D N L) (q k : FVec F (SA D L) .bf16) : FVec F (SX D N 128 256) .f32 :=
  select (maskM fc) (mulf (transpose (SX D N 128 256) [0, 1, 2, 5, 3, 4] (Host.dotGeneral (dotScores fc) none (pairs fc (blocks fc k)) (blocks fc q)) fc.turn_scores) (broadcastInDim (SX D N 128 256) ![] fc.b_S0_X (constant S0 .f32 0x3DB504F3#32))) (broadcastInDim (SX D N 128 256) ![] fc.b_S0_X (id (constant S0 .f32 0xFF800000#32)))

/-- The largest score of every row. -/
def tops (fc : RefFacts D N L) (s : FVec F (SX D N 128 256) .f32) : FVec F (SX D N 128 1) .f32 :=
  broadcastInDim (SX D N 128 1) ![0, 1, 2, 3, 4] fc.b_X0_X1 (Host.reduce FloatOps.maximumf s (constant S0 .f32 0xFF800000#32) fc.reduce_last fc.one_elt)

/-- The weights. -/
def weights (fc : RefFacts D N L) (s : FVec F (SX D N 128 256) .f32) : FVec F (SX D N 128 256) .f32 :=
  Host.exp (subf s (broadcastInDim (SX D N 128 256) ![0, 1, 2, 3, 4, 5] fc.b_X1_X (tops fc s)))

/-- The weights' sums. -/
def masses (fc : RefFacts D N L) (s : FVec F (SX D N 128 256) .f32) : FVec F (SX D N 128 1) .f32 :=
  broadcastInDim (SX D N 128 1) ![0, 1, 2, 3, 4] fc.b_X0_X1 (Host.reduceAdd (weights fc s) (constant S0 .f32 0x00000000#32) fc.reduce_last fc.one_elt)

/-- The weighted values. -/
def outs (fc : RefFacts D N L) (s : FVec F (SX D N 128 256) .f32) (v : FVec F (SA D L) .bf16) : FVec F (SA D L) .bf16 :=
  truncf .bf16 (shapeCast (SA D L) (transpose (SX D N 128 128) [0, 1, 2, 5, 3, 4] (Host.dotGeneral (dotOuts fc) none (pairs fc (blocks fc v)) (Host.divf (weights fc s) (broadcastInDim (SX D N 128 256) ![0, 1, 2, 3, 4, 5] fc.b_X1_X (masses fc s)))) fc.turn_outs) fc.cast_out) fc.lt_bf16

/-- A row of eight heads from a block's row. -/
def lrows (fc : RefFacts D N L) (x : FVec F (SX D N 128 1) .f32) : FVec F (SH D L) .f32 :=
  shapeCast (SH D L) (shapeCast (S5 D N) x fc.cast_flat) fc.cast_rows

/-- A row of eight heads in a row of 128 lanes. -/
def lanes (fc : RefFacts D N L) (x : FVec F (SH D L) .f32) : FVec F (SL D L) .f32 :=
  pad (SL D L) ![0, 0, 0, 0] ![0, 0, 0, 120] ![0, 0, 0, 0] x (sitofp .f32 (constantI S0 32 0#32)) fc.pad_lanes fc.one_elt

/-- The log-sum-exps. -/
def lses (fc : RefFacts D N L) (s : FVec F (SX D N 128 256) .f32) : FVec F (SL D L) .f32 :=
  lanes fc (lrows fc (addf (tops fc s) (Host.log (masses fc s))))

end Terms

/-! ## The terms read at an index -/

variable [NeZero L] (fc : RefFacts D N L)

/-- A coordinate of an axis that is stretched when it has one position is itself. -/
theorem one_or {m : Nat} (k : Fin m) (p : m = 1 → 0 < m) : (if h : m = 1 then (⟨0, p h⟩ : Fin m) else k) = k := by
  split
  · exact Fin.ext (by show 0 = k.val; omega)
  · rfl

variable (b : Fin 2) (r : Fin D) (n : Fin N) (a : Fin 128) (h : Fin 8)

/-- A row's number, read at any position of the row. -/
theorem b_X1_apply {α : Type} (x : (SX D N 128 1).Idx → α) (hb) (c : Fin 256) :
    broadcastInDim (SX D N 128 256) ![0, 1, 2, 3, 4, 5] hb x (ix6 b r n a h c) = x (ix6 b r n a h 0) := by
  refine congrArg x (funext fun i => ?_)
  match i with
  | ⟨0, _⟩ => rfl
  | ⟨1, _⟩ => exact one_or r _
  | ⟨2, _⟩ => exact one_or n _
  | ⟨3, _⟩ => rfl
  | ⟨4, _⟩ => rfl
  | ⟨5, _⟩ => rfl

/-- A row's number, as a row of one position. -/
theorem b_X0_apply {α : Type} (x : (S5 D N).Idx → α) (hb) (z : Fin 1) :
    broadcastInDim (SX D N 128 1) ![0, 1, 2, 3, 4] hb x (ix6 b r n a h z) = x (ix5 b r n a h) := by
  refine congrArg x (funext fun i => ?_)
  match i with
  | ⟨0, _⟩ => rfl
  | ⟨1, _⟩ => exact one_or r _
  | ⟨2, _⟩ => exact one_or n _
  | ⟨3, _⟩ => rfl
  | ⟨4, _⟩ => rfl

include fc in
theorem row_lt : 128 * n.val + a.val < L := by have := fc.rows; omega

include fc in
/-- The flat position of a block's element is that of the array's element. -/
theorem flat (e : Fin 128) (h4 : (SA D L).ShapeCasts (SX D N 128 128)) :
    Shape.reshapeEquiv h4 (ix6 b r n a h e) = ix4 b r ⟨128 * n + a, row_lt fc n a⟩ ⟨128 * h + e, by omega⟩ := by
  have := fc.rows
  refine Shape.reshapeEquiv_eq_of_vals h4 _ _ _ _ (rowMajor_val4 _ _ _ _ rfl rfl rfl) (rowMajor_val6 _ _ _ _ _ _ rfl rfl rfl rfl rfl) ?_
  dsimp
  subst this
  ring

theorem blocks_apply (x : FVec Ideal (SA D L) .bf16) (e : Fin 128) :
    blocks (F := Ideal) fc x (ix6 b r n a h e) = ra x b r (128 * n + a) (128 * h + e) := by
  refine (congrArg x (flat fc b r n a h e fc.cast_in)).trans ?_
  exact ra_eq x _ b r rfl rfl rfl rfl

theorem pairs_apply (x : FVec Ideal (SA D L) .bf16) (c : Fin 256) (e : Fin 128) (hc : 128 ≤ c.val ∨ 0 < n.val) :
    pairs (F := Ideal) fc (blocks fc x) (ix6 b r n c h e) = ra x b r (128 * n + c - 128) (128 * h + e) := by
  pointwise [pairs]
  by_cases h1 : c.val < 128
  · rw [dif_pos h1, dif_pos ⟨⟨by omega, by omega⟩, h1⟩, blocks_apply]
    congr 1
    show 128 * (n.val - 1) + c.val = _
    omega
  · rw [dif_neg h1, blocks_apply]
    congr 1
    show 128 * n.val + (c.val - 128) = _
    omega

/-- The mask's comparisons, of a row's, a key's and a block's number. -/
theorem mask_words (c : Fin 256) (k : Nat) (hk : k = n.val) (hn : n.val < 32) :
    IntOp.andi (IntOp.andi (IntOp.cmpi .sge (BitVec.ofNat 32 c) (BitVec.ofNat 32 a))
        (IntOp.cmpi .sle (BitVec.ofNat 32 c) (IntOp.addi (BitVec.ofNat 32 a) 128#32)))
      (IntOp.ori (IntOp.cmpi .sgt (BitVec.ofNat 32 k) 0#32) (IntOp.cmpi .sge (BitVec.ofNat 32 c) 128#32)) = 1#1
      ↔ band a c ∧ (128 ≤ c.val ∨ 0 < n.val) := by
  subst hk
  rw [andi_iff, andi_iff, ori_iff, StableHlo.Predicate.sge_iff_toNat (toNat_lt c (by omega)) (toNat_lt a (by omega)),
    StableHlo.Predicate.sle_iff_toNat (toNat_lt c (by omega)) (by rw [add128 a (by omega)]; omega), add128 a (by omega),
    StableHlo.Predicate.sgt_iff_toNat (toNat_lt n (by omega)) (by decide),
    StableHlo.Predicate.sge_iff_toNat (toNat_lt c (by omega)) (by decide)]
  simp only [BitVec.toNat_ofNat, Nat.mod_eq_of_lt (show a.val < 2 ^ 32 by omega), Nat.mod_eq_of_lt (show c.val < 2 ^ 32 by omega),
    Nat.mod_eq_of_lt (show n.val < 2 ^ 32 by omega), Nat.zero_mod]
  rw [or_comm]

theorem mask_apply (c : Fin 256) : maskM fc (ix6 b r n a h c) = 1#1 ↔ band a c ∧ (128 ≤ c.val ∨ 0 < n.val) := by
  have hn : n.val < 32 := lt_of_lt_of_le n.isLt fc.few
  pointwise [maskM, bandM, existM]
  refine mask_words n a c _ (congrArg Fin.val ?_) hn
  by_cases h1 : N = 1
  · subst h1
    exact Subsingleton.elim _ _
  · exact (dif_neg h1).trans ((dif_neg h1).trans ((dif_neg h1).trans ((dif_neg h1).trans (dif_neg h1))))

theorem scores_apply (q k : FVec Ideal (SA D L) .bf16) (c : Fin 256) :
    scores (F := Ideal) fc q k (ix6 b r n a h c) = rowS (ra q b r) (ra k b r) (128 * n + a) h c := by
  pointwise [scores, dotScores]
  have e1 : (128 * n.val + a.val) / 128 = n.val := by omega
  have e2 : (128 * n.val + a.val) % 128 = a.val := by omega
  unfold rowS score
  rw [Tile.select_eq_ite, e1, e2]
  by_cases hc : band a c ∧ (128 ≤ c.val ∨ 0 < n.val)
  · rw [if_pos ((mask_apply fc b r n a h c).mpr hc), if_pos hc]
    refine congrArg (· * _) (Finset.sum_congr rfl fun e _ => ?_)
    rw [pairs_apply fc b r n h k c e hc.2, blocks_apply fc b r n a h q e, mul_comm]
    congr 2
    omega
  · rw [if_neg fun hh => hc ((mask_apply fc b r n a h c).mp hh), if_neg hc]
    exact Tile.ofBits_neg_inf

section Stats
variable (s : FVec Ideal (SX D N 128 256) .f32)

theorem tops_apply (z : Fin 1) : tops (F := Ideal) fc s (ix6 b r n a h z) = top fun c => s (ix6 b r n a h c) := by
  unfold tops
  rw [b_X0_apply]
  pointwise
  rw [HostReduce.fold_last, Tile.ofBits_neg_inf]
  rfl

theorem weights_apply (c : Fin 256) : weights (F := Ideal) fc s (ix6 b r n a h c) = wt (fun c => s (ix6 b r n a h c)) c := by
  show Ideal.exp (s _ - broadcastInDim (SX D N 128 256) ![0, 1, 2, 3, 4, 5] fc.b_X1_X (tops fc s) (ix6 b r n a h c)) = _
  rw [b_X1_apply, tops_apply]
  rfl

theorem masses_apply (z : Fin 1) : masses (F := Ideal) fc s (ix6 b r n a h z) = mass fun c => s (ix6 b r n a h c) := by
  unfold masses
  rw [b_X0_apply]
  pointwise
  rw [HostReduce.sum_last, zero_add]
  exact Finset.sum_congr rfl fun c _ => weights_apply fc b r n a h s c

end Stats

variable (t : Fin L)

/-- The block of a row, and the row within its block. -/
def blk : Fin N := ⟨t / 128, by have := fc.rows; omega⟩
def pos : Fin 128 := ⟨t % 128, by omega⟩

theorem row_blk : 128 * (blk fc t).val + (pos t).val = t.val := Nat.div_add_mod _ _

/-- A row's scores. -/
theorem row_scores (q k : FVec Ideal (SA D L) .bf16) :
    (fun c => scores (F := Ideal) fc q k (ix6 b r (blk fc t) (pos t) h c)) = rowS (ra q b r) (ra k b r) t h :=
  funext fun c => (scores_apply fc b r _ _ h q k c).trans (by rw [row_blk])

/-- The weighted values before they are laid out by rows. -/
def mixed (s : FVec Ideal (SX D N 128 256) .f32) (v : FVec Ideal (SA D L) .bf16) : FVec Ideal (SX D N 128 128) .f32 :=
  transpose (SX D N 128 128) [0, 1, 2, 5, 3, 4] (Host.dotGeneral (dotOuts fc) none (pairs fc (blocks fc v)) (Host.divf (weights fc s) (broadcastInDim (SX D N 128 256) ![0, 1, 2, 3, 4, 5] fc.b_X1_X (masses fc s)))) fc.turn_outs

/-- The normalised weights. -/
theorem share_apply (s : FVec Ideal (SX D N 128 256) .f32) (c : Fin 256) :
    Host.divf (F := Ideal) (weights fc s) (broadcastInDim (SX D N 128 256) ![0, 1, 2, 3, 4, 5] fc.b_X1_X (masses fc s)) (ix6 b r n a h c)
      = Ideal.div (wt (fun c => s (ix6 b r n a h c)) c) (mass fun c => s (ix6 b r n a h c)) := by
  show Ideal.div (weights fc s _) (broadcastInDim (SX D N 128 256) ![0, 1, 2, 3, 4, 5] fc.b_X1_X (masses fc s) (ix6 b r n a h c)) = _
  rw [b_X1_apply, weights_apply, masses_apply]

theorem mixed_apply (s : FVec Ideal (SX D N 128 256) .f32) (v : FVec Ideal (SA D L) .bf16) (e : Fin 128) :
    mixed fc s v (ix6 b r n a h e) = ∑ c : Fin 256, pairs (F := Ideal) fc (blocks fc v) (ix6 b r n c h e)
      * Ideal.div (wt (fun c => s (ix6 b r n a h c)) c) (mass fun c => s (ix6 b r n a h c)) := by
  have e := share_apply fc b r n a h s
  unfold mixed
  generalize Host.divf (F := Ideal) (weights fc s) _ = w at e ⊢
  pointwise [dotOuts]
  exact Finset.sum_congr rfl fun c _ => congrArg _ (e c)

/-- A row's column comes from the row's block, its position there, the column's head and its position there. -/
theorem outs_at (s : FVec Ideal (SX D N 128 256) .f32) (v : FVec Ideal (SA D L) .bf16) (col : Fin 1024) :
    outs (F := Ideal) fc s v (ix4 b r t col) = mixed fc s v (ix6 b r (blk fc t) (pos t) ⟨col / 128, by omega⟩ ⟨col % 128, by omega⟩) := by
  refine congrArg (mixed fc s v) ?_
  have := fc.rows
  refine Shape.reshapeEquiv_eq_of_vals _ _ _ _ _ (rowMajor_val6 _ _ _ _ _ _ rfl rfl rfl rfl rfl) (rowMajor_val4 _ _ _ _ rfl rfl rfl) ?_
  have e1 := row_blk fc t
  have e2 := Nat.div_add_mod col.val 128
  dsimp
  generalize (blk fc t).val = B at e1 ⊢
  generalize (pos t).val = P at e1 ⊢
  generalize col.val / 128 = H at e2 ⊢
  generalize col.val % 128 = E at e2 ⊢
  rw [← e1, ← e2]
  subst this
  ring

theorem outs_apply (q k v : FVec Ideal (SA D L) .bf16) (hq : ∀ i, ∃ x : ℝ, q i = x) (hk : ∀ i, ∃ x : ℝ, k i = x) (col : Fin 1024) :
    outs (F := Ideal) fc (scores fc q k) v (ix4 b r t col) = attO q k v (ix4 b r t col) := by
  have e2 : 128 * (col.val / 128) + col.val % 128 = col.val := by omega
  rw [outs_at, mixed_apply, row_scores]
  refine rowO_sum (q := ra q b r) (k := ra k b r) (fun _ _ => hq _) (fun _ _ => hk _) t.val (ra v b r) col.val
    (fun c => pairs (F := Ideal) fc (blocks fc v) (ix6 b r (blk fc t) c ⟨col.val / 128, by omega⟩ ⟨col.val % 128, by omega⟩)) fun c hc => ?_
  rw [pairs_apply fc b r _ _ v c _ hc.2]
  show ra v b r (128 * (t.val / 128) + c.val - 128) (128 * (col.val / 128) + col.val % 128) = _
  rw [e2, Nat.mul_comm 128]

theorem lrows_apply (x : FVec Ideal (SX D N 128 1) .f32) (h : Fin 8) :
    lrows (F := Ideal) fc x (ix4 b r t h) = x (ix6 b r (blk fc t) (pos t) h 0) := by
  refine (congrFun (shapeCast_comp x fc.cast_flat fc.cast_rows) _).trans (congrArg x ?_)
  refine Shape.reshapeEquiv_eq_of_vals _ _ _ _ _ (rowMajor_val6 _ _ _ _ _ _ rfl rfl rfl rfl rfl) (rowMajor_val4 _ _ _ _ rfl rfl rfl) ?_
  have := fc.rows
  have e1 := row_blk fc t
  dsimp
  generalize (blk fc t).val = B at e1 ⊢
  generalize (pos t).val = P at e1 ⊢
  rw [← e1]
  subst this
  ring

theorem lanes_apply (x : FVec Ideal (SH D L) .f32) (lane : Fin 128) :
    lanes (F := Ideal) fc x (ix4 b r t lane) = if hh : lane.val < 8 then x (ix4 b r t ⟨lane, hh⟩) else FloatOps.sitofp FTy.f32 0#32 := by
  pointwise [lanes]

theorem sum_apply (x y : FVec Ideal (SX D N 128 1) .f32) (i : (SX D N 128 1).Idx) :
    addf (F := Ideal) x (Host.log y) i = x i + Ideal.log (y i) := rfl

theorem head_apply (q k : FVec Ideal (SA D L) .bf16) (h : Fin 8) :
    lrows (F := Ideal) fc (addf (tops fc (scores fc q k)) (Host.log (masses fc (scores fc q k)))) (ix4 b r t h)
      = lse (rowS (ra q b r) (ra k b r) t h) := by
  rw [lrows_apply, sum_apply, tops_apply, masses_apply, row_scores]
  rfl

theorem lses_apply (q k : FVec Ideal (SA D L) .bf16) (lane : Fin 128) :
    lses (F := Ideal) fc (scores fc q k) (ix4 b r t lane) = attE q k (ix4 b r t lane) := by
  unfold lses
  rw [lanes_apply]
  show _ = if lane.val < 8 then lse (rowS (ra q b r) (ra k b r) t.val lane.val) else 0
  by_cases hl : lane.val < 8
  · rw [dif_pos hl, if_pos hl]
    exact head_apply fc b r t q k ⟨lane, hl⟩
  · rw [dif_neg hl, if_neg hl]
    exact Tile.sitofp_zero

/-- An index is that of its four coordinates. -/
theorem eta4 {n0 n1 n2 n3 : Nat} (y : (⟨4, ![n0, n1, n2, n3]⟩ : Shape).Idx) :
    y = ix4 (n0 := n0) (n1 := n1) (n2 := n2) (n3 := n3) (y 0) (y 1) (y 2) (y 3) := Shape.Idx.norm4 y

/-- The reference's values are the attention's. -/
theorem outs_eq (q k v : FVec Ideal (SA D L) .bf16) (hq : ∀ i, ∃ x : ℝ, q i = x) (hk : ∀ i, ∃ x : ℝ, k i = x) :
    outs (F := Ideal) fc (scores fc q k) v = attO q k v := by
  funext y
  rw [eta4 y]
  exact outs_apply fc _ _ _ q k v hq hk _

/-- The reference's log-sum-exps are the attention's. -/
theorem lses_eq (q k : FVec Ideal (SA D L) .bf16) : lses (F := Ideal) fc (scores fc q k) = attE q k := by
  funext y
  rw [eta4 y]
  exact lses_apply fc _ _ _ q k _

/-- An element whose absolute value is below infinity is a real number. -/
theorem real_of_abs_lt {x : EReal} (h : FloatOps.cmpf (F := Ideal) (φ := .f32) .olt (FloatOps.hostAbsf (F := Ideal) (φ := .f32) x) (Ideal.ofBits .f32 0x7F800000#32) = 1#1) :
    ∃ r : ℝ, x = r := by
  rw [Tile.ofBits_inf] at h
  have h : Ideal.cmp .olt (max x (-x)) ⊤ = 1#1 := h
  induction x with
  | bot => simp [Ideal.cmp] at h
  | top => simp [Ideal.cmp] at h
  | coe r => exact ⟨r, rfl⟩

end Cert.RefAttention

end
-- ==== Proof.RefValue1.lean ====
/-
  The first group's reference: its two results are the attention's reference at this group's classes and blocks.
-/
module

public import proofs.«01_k».proof.Proof.RefAttention
public import proofs.«01_k».proof.Proof.Gen.ReferenceIdeal.Run

@[expose] public section

set_option maxRecDepth 16384

noncomputable section

namespace Cert.RefValue1

open Idealize.ShloMosaic Idealize.ShloMosaic.TcCoe Cert.ReferenceIdeal Cert.ReferenceIdeal.Gen Cert.Attention Cert.RefAttention

/-- The shapes' relations at this group. -/
theorem fc : RefFacts 1 32 4096 := by
  obtain ⟨⟩ := (inferInstance : Facts₀)
  constructor <;> first | assumption | rfl | omega

variable (m : (ℓ : Loc nD τ sig) → Buf (Elt Ideal) ℓ) (c : Dev nD)

/-- The queries, the keys and the values as launched. -/
abbrev rq : (SA 1 4096).Idx → EReal := m ((c : Thread nD τ).loc main_arg0)
abbrev rk : (SA 1 4096).Idx → EReal := m ((c : Thread nD τ).loc main_arg1)
abbrev rv : (SA 1 4096).Idx → EReal := m ((c : Thread nD τ).loc main_arg2)

/-- The values, from finite queries and keys. -/
theorem res_o (hq : ∀ i, ∃ x : ℝ, rq m c i = x) (hk : ∀ i, ∃ x : ℝ, rk m c i = x) :
    Cert.ReferenceIdeal.Value.res_main_v60 (F := Ideal) m c = attO (rq m c) (rk m c) (rv m c) := by
  refine Eq.trans ?_ (outs_eq fc (rq m c) (rk m c) (rv m c) hq hk)
  unfold Cert.ReferenceIdeal.Value.res_main_v60
  rfl

/-- The log-sum-exps. -/
theorem res_e : Cert.ReferenceIdeal.Value.res_main_v62 (F := Ideal) m c = attE (rq m c) (rk m c) := by
  refine Eq.trans ?_ (lses_eq fc (rq m c) (rk m c))
  unfold Cert.ReferenceIdeal.Value.res_main_v62
  rfl

end Cert.RefValue1

end
-- ==== Proof.Claims1.lean ====
/-
  The claims about the first group's call: the frames, and the equality with the reference.
-/
module

public import proofs.«01_k».proof.Defs
public import proofs.«01_k».proof.Proof.KernelValue1
public import proofs.«01_k».proof.Proof.RefValue1
public import proofs.«01_k».proof.Proof.Gen.Kernel.Frame
public import proofs.«01_k».proof.Proof.Gen.Pre_finite_qk
public import Idealize.ShloMosaic.Lib.Quiescent

@[expose] public section

set_option maxRecDepth 16384

noncomputable section

namespace Cert.Claims1

open Idealize.ShloMosaic Idealize.ShloMosaic.TcCoe Idealize.SL.Sem Cert.Attention Cert.RefAttention

/-- The kernel runs and leaves its arguments as they were. -/
theorem frame_k : Cert.quiescent_Kernel := fun m ρ _ => Cert.Kernel.Gen.frame m ρ

/-- The idealised kernel runs and leaves its arguments as they were, with or without the precondition. -/
theorem frame_ki : Cert.quiescent_KernelIdeal := fun m ρ _ => Cert.KernelIdeal.Gen.frame m ρ
theorem frame_ki_pre : Cert.quiescent_KernelIdeal_pre_finite_qk := fun m ρ _ => Cert.KernelIdeal.Gen.frame m ρ

/-- The reference runs and leaves its arguments as they were, with or without the precondition. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)
theorem frame_ri_pre : Cert.quiescent_ReferenceIdeal_pre_finite_qk := fun m ρ _ => frame_ri m ρ trivial

/-- The one named constant is the mask's, and it names the bottom element. -/
theorem preserves : Cert.preserves_Kernel_KernelIdeal :=
  IdealRules.named_const.statement Cert.KernelIdeal.κ "mask" .f32 0xF149F2CA#32 ⊥ rfl

/-- The call's two results are the reference's, from finite queries and keys. -/
theorem algebraic : Cert.algebraic_KernelIdeal_ReferenceIdeal_pre_finite_qk := by
  intro m ρ m' ρ' hpre hag
  have hq (c : Dev Cert.KernelIdeal.nD) (i) : ∃ x : ℝ, KernelValue1.aq m c i = x := real_of_abs_lt (congrFun (hpre c).1 i)
  have hk (c : Dev Cert.KernelIdeal.nD) (i) : ∃ x : ℝ, KernelValue1.ak m c i = x := real_of_abs_lt (congrFun (hpre c).2 i)
  refine ⟨fun c => attO (KernelValue1.aq m c) (KernelValue1.ak m c) (KernelValue1.av m c),
    fun c => attE (KernelValue1.aq m c) (KernelValue1.ak m c), KernelValue1.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · have e := RefValue1.res_o m' c
    rw [RefValue1.rq, RefValue1.rk, RefValue1.rv, (hag c).1, (hag c).2.1, (hag c).2.2] at e
    exact e (hq c) (hk c)
  · have e := RefValue1.res_e m' c
    rw [RefValue1.rq, RefValue1.rk, (hag c).1, (hag c).2.1] at e
    exact e

end Cert.Claims1

end
-- ==== Proof.Dense.lean ====
/-
  A dense layer on its own: a matrix product, the functions applied to it, and the reading of one block of it. Nothing
  here is about a program.
-/
module

public import Idealize.ShloMosaic.PureOps
public import Idealize.ShloMosaic.Lib.Pointwise
public import Idealize.ShloMosaic.PureOps.IdealRules

@[expose] public section

noncomputable section

namespace Cert.Dense

open Idealize.ShloMosaic

/-- Indices of a matrix with `n` rows and `m` columns. -/
abbrev Ix (n m : Nat) : Type := (⟨2, ![n, m]⟩ : Shape).Idx

/-- An index is its row and its column. -/
theorem ext2 {n m : Nat} {y z : Ix n m} (h0 : (y 0).val = (z 0).val) (h1 : (y 1).val = (z 1).val) : y = z := by
  funext a
  match a with
  | ⟨0, _⟩ => exact Fin.ext h0
  | ⟨1, _⟩ => exact Fin.ext h1

/-- The zero offset of a whole block. -/
theorem hz : (![0, 0] : Fin 2 → Nat) = fun _ => 0 := funext fun a => by fin_cases a <;> rfl

/-- Row `i` of `x` times column `j` of `w`. -/
def dot {n k m : Nat} (x : Ix n k → EReal) (w : Ix k m → EReal) (i : Fin n) (j : Fin m) : EReal :=
  ∑ e : Fin k, x (ix2 i e) * w (ix2 e j)

/-- The product of a row and a column depends on their entries only. -/
theorem dot_congr {n k m n' m' : Nat} {x : Ix n k → EReal} {w : Ix k m → EReal} {x' : Ix n' k → EReal} {w' : Ix k m' → EReal}
    {i : Fin n} {j : Fin m} {i' : Fin n'} {j' : Fin m'} (hx : ∀ e, x (ix2 i e) = x' (ix2 i' e)) (hw : ∀ e, w (ix2 e j) = w' (ix2 e j')) :
    dot x w i j = dot x' w' i' j' :=
  Finset.sum_congr rfl fun e _ => by rw [hx e, hw e]

/-- The logistic function. -/
def sigmoid (z : EReal) : EReal := Ideal.div 1 (1 + Ideal.exp (-z))

/-- The logistic function times its argument. -/
def silu (z : EReal) : EReal := z * sigmoid z

/-- The logistic function as the kernel writes it, the argument taken from zero. -/
theorem sigmoid_sub (z : EReal) : Ideal.div 1 (1 + Ideal.exp (0 - z)) = sigmoid z := by rw [zero_sub]; rfl

/-- `act` of the product of `x` with the `n` columns of `w` that start at column `off`. -/
def cols (act : EReal → EReal) (off n : Nat) {r k m : Nat} (h : off + n ≤ m) (x : Ix r k → EReal) (w : Ix k m → EReal) (y : Ix r n) : EReal :=
  act (dot x w (y 0) ⟨off + (y 1).val, lt_of_lt_of_le (Nat.add_lt_add_left (y 1).isLt off) h⟩)

/-- The product of two blocks, read at an index, is the whole product's entry there. The blocks of the left factor, of the
    right factor and of the result are read at `f₀`, `f₁` and `f₂`, whose block numbers along the rows and the columns are
    `a₀ a₁`, `b₀ b₁` and `c₀ c₁`. -/
theorem dot_tile {off n r k m b c : Nat} (h : off + n ≤ m) {x : Ix r k → EReal} {w : Ix k m → EReal} {f₀ : Ix b k → Ix r k}
    {f₁ : Ix k c → Ix k m} {f₂ : Ix b c → Ix r n} {a₀ a₁ b₀ b₁ c₀ c₁ : Nat} (e₀ : a₀ = c₀) (e₁ : a₁ = 0) (e₂ : b₀ = 0)
    (e₃ : b₁ * c = off + c₁ * c) (h₀ : ∀ y, (f₀ y 0).val = a₀ * b + 1 * (y 0).val) (h₁ : ∀ y, (f₀ y 1).val = a₁ * k + 1 * (y 1).val)
    (h₂ : ∀ y, (f₁ y 0).val = b₀ * k + 1 * (y 0).val) (h₃ : ∀ y, (f₁ y 1).val = b₁ * c + 1 * (y 1).val)
    (h₄ : ∀ y, (f₂ y 0).val = c₀ * b + 1 * (y 0).val) (h₅ : ∀ y, (f₂ y 1).val = c₁ * c + 1 * (y 1).val) (i : Fin b) (j : Fin c) :
    dot (fun y => x (f₀ y)) (fun y => w (f₁ y)) i j
      = dot x w (f₂ (ix2 i j) 0) ⟨off + (f₂ (ix2 i j) 1).val, lt_of_lt_of_le (Nat.add_lt_add_left (f₂ (ix2 i j) 1).isLt off) h⟩ := by
  subst e₀ e₁ e₂
  refine dot_congr (fun e => congrArg x (ext2 ?_ ?_)) (fun e => congrArg w (ext2 ?_ ?_))
  · rw [h₀]; exact (h₄ (ix2 i j)).symm
  · rw [h₁]; show 0 * k + 1 * e.val = e.val; omega
  · rw [h₂]; show 0 * k + 1 * e.val = e.val; omega
  · rw [h₃]; show b₁ * c + 1 * j.val = off + (f₂ (ix2 i j) 1).val; rw [h₅, e₃, Nat.add_assoc]; rfl

/-- Every index of a matrix of `p * q` square blocks is in one of them. -/
theorem tile_of (s p q : Nat) {r n : Nat} (hr : r = p * s) (hn : n = q * s) (hs : 0 < s) (i : Ix r n) :
    ∃ t₀ < p, ∃ t₁ < q, (t₀ * s ≤ (i 0).val ∧ (i 0).val < t₀ * s + s) ∧ t₁ * s ≤ (i 1).val ∧ (i 1).val < t₁ * s + s := by
  have h0 : (i 0).val < p * s := hr ▸ (i 0).isLt
  have h1 : (i 1).val < q * s := hn ▸ (i 1).isLt
  refine ⟨(i 0).val / s, Nat.div_lt_of_lt_mul (Nat.mul_comm p s ▸ h0), (i 1).val / s, Nat.div_lt_of_lt_mul (Nat.mul_comm q s ▸ h1),
    ⟨Nat.div_mul_le_self _ _, ?_⟩, Nat.div_mul_le_self _ _, ?_⟩ <;>
  · rw [Nat.mul_comm, ← Nat.mul_succ]; exact Nat.lt_mul_div_succ _ hs

end Cert.Dense

end
-- ==== Proof.AttnGateValue.lean ====
/-
  The call of the attention's gate, run: its result is the SiLU of the projection's columns 9216 to 10239.
-/
module

public import proofs.«01_k».proof.Proof.Dense
public import proofs.«01_k».proof.Proof.Gen.AttnGateIdeal.Value
public import proofs.«01_k».proof.Proof.Gen.RefAttnGateIdeal.Run

@[expose] public section

set_option maxRecDepth 16384

noncomputable section

namespace Cert.AttnGateValue

open Idealize.ShloMosaic Idealize.ShloMosaic.TcCoe Idealize.SL.Sem Cert.AttnGateIdeal Cert.AttnGateIdeal.Gen Cert.Dense

variable (m : (ℓ : Loc nD τ sig) → Buf (Elt Ideal) ℓ) (ρ : Dev nD → PrngReg) (c : Dev nD)

/-- The normalised input and the layer's combined weight as launched. -/
abbrev ax : Ix 8192 2048 → EReal := m ((c : Thread nD τ).loc main_arg0)
abbrev aw : Ix 2048 16384 → EReal := m ((c : Thread nD τ).loc main_arg1)

/-- The body's result, from its blocks. -/
theorem out_apply (x0 : Vec Ideal S1024x2048 .bf16) (x1 : Vec Ideal S2048x1024 .bf16) (i j : Fin 1024) :
    out0_2 (F := Ideal) x0 x1 (ix2 i j) = silu (dot x0 x1 i j) := by
  unfold out0_2
  rw [View.canon_unit_zero hz, View.ld_unit_zero hz, View.ld_unit_zero hz]
  pointwise [k0_pay1]
  exact congrArg (dot x0 x1 i j * ·) (sigmoid_sub _)

/-- The index maps at every point. -/
theorem idx (t : Fin grid0.N) : win0_0.index t 0 = t.val ∧ win0_0.index t 1 = 0 ∧ win0_1.index t 0 = 0
    ∧ win0_1.index t 1 = 9 ∧ win0_2.index t 0 = t.val ∧ win0_2.index t 1 = 0 := by
  revert t; decide +kernel

/-- What a point writes back is its block of the result. -/
theorem flushed (t : Fin cfg0.N) :
    (dats m 0 c).flushed 2 t = (win0_2.blk t).view.read (Elt Ideal) (cols silu 9216 1024 (by decide) (ax m c) (aw m c)) := by
  rw [Cert.AttnGateIdeal.Value.flushed2]
  funext y
  show out0_2 (iblk m c 0 t) (iblk m c 1 t) y = cols silu 9216 1024 (by decide) (ax m c) (aw m c) ((win0_2.rect t).emb y)
  obtain ⟨e0, e1, e2, e3, e4, e5⟩ := idx t
  rw [eq_ix2 (n0 := 1024) (n1 := 1024) y]
  refine (out_apply _ _ _ _).trans (congrArg silu ?_)
  exact dot_tile (x := ax m c) (w := aw m c) (f₀ := (win0_0.rect t).emb) (f₁ := (win0_1.rect t).emb) (f₂ := (win0_2.rect t).emb)
    (a₀ := win0_0.index t 0) (a₁ := win0_0.index t 1) (b₀ := win0_1.index t 0) (b₁ := win0_1.index t 1) (c₀ := win0_2.index t 0) (c₁ := win0_2.index t 1)
    (by decide) (e0.trans e4.symm) e1 e2 (by omega) (fun _ => rfl) (fun _ => rfl) (fun _ => rfl) (fun _ => rfl) (fun _ => rfl) (fun _ => rfl) (y 0) (y 1)

/-- Every index of the result is in the block of some point. -/
theorem cover (i : S8192x1024.Idx) : ∃ t : Fin cfg0.N, (cfg0.win 2).flush t = true ∧ i ∈ ((cfg0.win 2).blk t).view.set := by
  obtain ⟨a, ha, b, hb, hi⟩ := tile_of 1024 8 1 rfl rfl (by decide) i
  have hN := N_0
  let t : Fin grid0.N := ⟨a, by omega⟩
  obtain ⟨-, -, -, -, e4, e5⟩ := idx t
  obtain rfl : b = 0 := by omega
  refine ⟨t, flush0_2 _, ?_⟩
  show i ∈ ((View.whole main_v0).slice (win0_2.rect t)).set
  rw [View.set_slice_whole, Rect.mem_set_unit]
  intro d
  match d with
  | ⟨0, _⟩ => exact (congrArg (fun u => u * 1024 ≤ (i 0).val ∧ (i 0).val < u * 1024 + 1024) e4).mpr hi.1
  | ⟨1, _⟩ => exact (congrArg (fun u => u * 1024 ≤ (i 1).val ∧ (i 1).val < u * 1024 + 1024) e5).mpr hi.2

/-- The call, run. -/
theorem run : θ_run defs (onTc (τ := τ) (main (F := Ideal))) ⟨m, fun _ => 0, ρ⟩ fun r => ∀ c : Dev nD,
      r.2.mem ((c : Thread nD τ).loc main_v0) = cols silu 9216 1024 (by decide) (ax m c) (aw m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) cover), (h c).2⟩)
    (Cert.AttnGateIdeal.Value.run_blocks m ρ)

end Cert.AttnGateValue

end
-- ==== Proof.AttnGateClaims.lean ====
/-
  The claims about the call of the attention's gate.
-/
module

public import proofs.«01_k».proof.Defs
public import proofs.«01_k».proof.Proof.AttnGateValue
public import proofs.«01_k».proof.Proof.Gen.AttnGate.Frame
public import Idealize.ShloMosaic.Lib.Quiescent

@[expose] public section

set_option maxRecDepth 16384

noncomputable section

namespace Cert.AttnGateClaims

open Idealize.ShloMosaic Idealize.ShloMosaic.TcCoe Idealize.SL.Sem Cert.Dense

/-- The call runs and leaves its arguments as they were. -/
theorem frame_k : Cert.quiescent_AttnGate := fun m ρ _ => Cert.AttnGate.Gen.frame m ρ

/-- The idealised call runs and leaves its arguments as they were. -/
theorem frame_ki : Cert.quiescent_AttnGateIdeal := fun m ρ _ => Cert.AttnGateIdeal.Gen.frame m ρ

/-- The reference runs and leaves its arguments as they were. -/
theorem frame_ri : Cert.quiescent_RefAttnGateIdeal := fun m ρ _ =>
  (θ_run Cert.RefAttnGateIdeal.defs _ _).mono (fun r h => ⟨fun c => (h c).2, sem_eq_zero_of_no_sems (by decide) r.2⟩)
    (Cert.RefAttnGateIdeal.Value.run (F := Ideal) m ρ)

/-- The call's result is the reference's. -/
theorem algebraic : Cert.algebraic_AttnGateIdeal_RefAttnGateIdeal := by
  intro m ρ m' ρ' _ hag
  refine ⟨fun c => cols silu 9216 1024 (by decide) (AttnGateValue.ax m c) (AttnGateValue.aw m c), AttnGateValue.run m ρ, ?_⟩
  refine (θ_run Cert.RefAttnGateIdeal.defs _ _).mono (fun _ h c => ⟨(h c).1.trans ?_, (h c).2⟩) (Cert.RefAttnGateIdeal.Value.run (F := Ideal) m' ρ')
  rw [(hag c).1, (hag c).2]
  funext y
  rw [eq_ix2 (n0 := 8192) (n1 := 1024) y]
  generalize y 0 = i, y 1 = j
  change Fin 8192 at i
  change Fin 1024 at j
  pointwise []
  rfl

end Cert.AttnGateClaims

end
-- ==== Proof.GatesValue.lean ====
/-
  The call of the merge's gates, run: its result is the logistic function of the projection's last 4096 columns.
-/
module

public import proofs.«01_k».proof.Proof.Dense
public import proofs.«01_k».proof.Proof.Gen.GatesIdeal.Value
public import proofs.«01_k».proof.Proof.Gen.RefGatesIdeal.Run

@[expose] public section

set_option maxRecDepth 16384

noncomputable section

namespace Cert.GatesValue

open Idealize.ShloMosaic Idealize.ShloMosaic.TcCoe Idealize.SL.Sem Cert.GatesIdeal Cert.GatesIdeal.Gen Cert.Dense

variable (m : (ℓ : Loc nD τ sig) → Buf (Elt Ideal) ℓ) (ρ : Dev nD → PrngReg) (c : Dev nD)

/-- The normalised input and the layer's combined weight as launched. -/
abbrev ax : Ix 8192 2048 → EReal := m ((c : Thread nD τ).loc main_arg0)
abbrev aw : Ix 2048 16384 → EReal := m ((c : Thread nD τ).loc main_arg1)

/-- The body's result, from its blocks. -/
theorem out_apply (x0 : Vec Ideal S1024x2048 .bf16) (x1 : Vec Ideal S2048x1024 .bf16) (i j : Fin 1024) :
    out0_2 (F := Ideal) x0 x1 (ix2 i j) = sigmoid (dot x0 x1 i j) := by
  unfold out0_2
  rw [View.canon_unit_zero hz, View.ld_unit_zero hz, View.ld_unit_zero hz]
  pointwise [k0_pay1]
  exact sigmoid_sub _

/-- The index maps at every point. -/
theorem idx (t : Fin grid0.N) : win0_0.index t 0 = t.val / 4 ∧ win0_0.index t 1 = 0 ∧ win0_1.index t 0 = 0
    ∧ win0_1.index t 1 = 12 + t.val % 4 ∧ win0_2.index t 0 = t.val / 4 ∧ win0_2.index t 1 = t.val % 4 := by
  revert t; decide +kernel

/-- What a point writes back is its block of the gates. -/
theorem flushed (t : Fin cfg0.N) :
    (dats m 0 c).flushed 2 t = (win0_2.blk t).view.read (Elt Ideal) (cols sigmoid 12288 4096 (by decide) (ax m c) (aw m c)) := by
  rw [Cert.GatesIdeal.Value.flushed2]
  funext y
  show out0_2 (iblk m c 0 t) (iblk m c 1 t) y = cols sigmoid 12288 4096 (by decide) (ax m c) (aw m c) ((win0_2.rect t).emb y)
  obtain ⟨e0, e1, e2, e3, e4, e5⟩ := idx t
  rw [eq_ix2 (n0 := 1024) (n1 := 1024) y]
  refine (out_apply _ _ _ _).trans (congrArg sigmoid ?_)
  exact dot_tile (x := ax m c) (w := aw m c) (f₀ := (win0_0.rect t).emb) (f₁ := (win0_1.rect t).emb) (f₂ := (win0_2.rect t).emb)
    (a₀ := win0_0.index t 0) (a₁ := win0_0.index t 1) (b₀ := win0_1.index t 0) (b₁ := win0_1.index t 1) (c₀ := win0_2.index t 0) (c₁ := win0_2.index t 1)
    (by decide) (e0.trans e4.symm) e1 e2 (by omega) (fun _ => rfl) (fun _ => rfl) (fun _ => rfl) (fun _ => rfl) (fun _ => rfl) (fun _ => rfl) (y 0) (y 1)

/-- Every index of the gates is in the block of some point. -/
theorem cover (i : S8192x4096.Idx) : ∃ t : Fin cfg0.N, (cfg0.win 2).flush t = true ∧ i ∈ ((cfg0.win 2).blk t).view.set := by
  obtain ⟨a, ha, b, hb, hi⟩ := tile_of 1024 8 4 rfl rfl (by decide) i
  have hN := N_0
  let t : Fin grid0.N := ⟨4 * a + b, by omega⟩
  obtain ⟨-, -, -, -, e4, e5⟩ := idx t
  rw [show t.val / 4 = a by show (4 * a + b) / 4 = a; omega] at e4
  rw [show t.val % 4 = b by show (4 * a + b) % 4 = b; omega] at e5
  refine ⟨t, flush0_2 _, ?_⟩
  show i ∈ ((View.whole main_v0).slice (win0_2.rect t)).set
  rw [View.set_slice_whole, Rect.mem_set_unit]
  intro d
  match d with
  | ⟨0, _⟩ => exact (congrArg (fun u => u * 1024 ≤ (i 0).val ∧ (i 0).val < u * 1024 + 1024) e4).mpr hi.1
  | ⟨1, _⟩ => exact (congrArg (fun u => u * 1024 ≤ (i 1).val ∧ (i 1).val < u * 1024 + 1024) e5).mpr hi.2

/-- The call, run. -/
theorem run : θ_run defs (onTc (τ := τ) (main (F := Ideal))) ⟨m, fun _ => 0, ρ⟩ fun r => ∀ c : Dev nD,
      r.2.mem ((c : Thread nD τ).loc main_v0) = cols sigmoid 12288 4096 (by decide) (ax m c) (aw m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) cover), (h c).2⟩)
    (Cert.GatesIdeal.Value.run_blocks m ρ)

end Cert.GatesValue

end
-- ==== Proof.GatesClaims.lean ====
/-
  The claims about the call of the merge's gates.
-/
module

public import proofs.«01_k».proof.Defs
public import proofs.«01_k».proof.Proof.GatesValue
public import proofs.«01_k».proof.Proof.Gen.Gates.Frame
public import Idealize.ShloMosaic.Lib.Quiescent

@[expose] public section

set_option maxRecDepth 16384

noncomputable section

namespace Cert.GatesClaims

open Idealize.ShloMosaic Idealize.ShloMosaic.TcCoe Idealize.SL.Sem Cert.Dense

/-- The call runs and leaves its arguments as they were. -/
theorem frame_k : Cert.quiescent_Gates := fun m ρ _ => Cert.Gates.Gen.frame m ρ

/-- The idealised call runs and leaves its arguments as they were. -/
theorem frame_ki : Cert.quiescent_GatesIdeal := fun m ρ _ => Cert.GatesIdeal.Gen.frame m ρ

/-- The reference runs and leaves its arguments as they were. -/
theorem frame_ri : Cert.quiescent_RefGatesIdeal := fun m ρ _ =>
  (θ_run Cert.RefGatesIdeal.defs _ _).mono (fun r h => ⟨fun c => (h c).2, sem_eq_zero_of_no_sems (by decide) r.2⟩)
    (Cert.RefGatesIdeal.Value.run (F := Ideal) m ρ)

/-- The call's result is the reference's. -/
theorem algebraic : Cert.algebraic_GatesIdeal_RefGatesIdeal := by
  intro m ρ m' ρ' _ hag
  refine ⟨fun c => cols sigmoid 12288 4096 (by decide) (GatesValue.ax m c) (GatesValue.aw m c), GatesValue.run m ρ, ?_⟩
  refine (θ_run Cert.RefGatesIdeal.defs _ _).mono (fun _ h c => ⟨(h c).1.trans ?_, (h c).2⟩) (Cert.RefGatesIdeal.Value.run (F := Ideal) m' ρ')
  rw [(hag c).1, (hag c).2]
  funext y
  rw [eq_ix2 (n0 := 8192) (n1 := 4096) y]
  generalize y 0 = i, y 1 = j
  change Fin 8192 at i
  change Fin 4096 at j
  pointwise []
  unfold cols
  split
  · rfl
  · exact congrArg sigmoid (dot_congr (fun _ => rfl) fun e => congrArg _ (ext2 rfl (show 14336 + (j.val - 2048) = 12288 + j.val by omega)))

end Cert.GatesClaims

end
-- ==== Proof.OutValue.lean ====
/-
  The call of the layer's output projection, run: its result is the layer's input plus the merged branches' product with
  the output weight.
-/
module

public import proofs.«01_k».proof.Proof.Dense
public import proofs.«01_k».proof.Proof.Gen.OutIdeal.Value
public import proofs.«01_k».proof.Proof.Gen.RefOutIdeal.Run

@[expose] public section

set_option maxRecDepth 16384

noncomputable section

namespace Cert.OutValue

open Idealize.ShloMosaic Idealize.ShloMosaic.TcCoe Idealize.SL.Sem Cert.OutIdeal Cert.OutIdeal.Gen Cert.Dense

variable (m : (ℓ : Loc nD τ sig) → Buf (Elt Ideal) ℓ) (ρ : Dev nD → PrngReg) (c : Dev nD)

/-- The layer's input, the merged branches and the output weight as launched. -/
abbrev ax : Ix 8192 2048 → EReal := m ((c : Thread nD τ).loc main_arg0)
abbrev am : Ix 8192 2048 → EReal := m ((c : Thread nD τ).loc main_arg1)
abbrev aw : Ix 2048 2048 → EReal := m ((c : Thread nD τ).loc main_arg2)

/-- The layer's output. -/
def out (x g : Ix 8192 2048 → EReal) (w : Ix 2048 2048 → EReal) (y : Ix 8192 2048) : EReal := x y + cols id 0 2048 (by decide) g w y

/-- The body's result, from its blocks. -/
theorem out_apply (x0 : Vec Ideal S1024x1024 .f32) (x1 : Vec Ideal S1024x2048 .bf16) (x2 : Vec Ideal S2048x1024 .bf16) (i j : Fin 1024) :
    out0_3 (F := Ideal) x0 x1 x2 (ix2 i j) = x0 (ix2 i j) + dot x1 x2 i j := by
  unfold out0_3
  rw [View.canon_unit_zero hz, View.ld_unit_zero hz, View.ld_unit_zero hz, View.ld_unit_zero hz]
  pointwise [k0_pay1]
  rfl

/-- The index maps at every point. -/
theorem idx (t : Fin grid0.N) : win0_0.index t 0 = t.val % 8 ∧ win0_0.index t 1 = t.val / 8 ∧ win0_1.index t 0 = t.val % 8 ∧ win0_1.index t 1 = 0
    ∧ win0_2.index t 0 = 0 ∧ win0_2.index t 1 = t.val / 8 ∧ win0_3.index t 0 = t.val % 8 ∧ win0_3.index t 1 = t.val / 8 := by
  revert t; decide +kernel

/-- What a point writes back is its block of the output. -/
theorem flushed (t : Fin cfg0.N) :
    (dats m 0 c).flushed 3 t = (win0_3.blk t).view.read (Elt Ideal) (out (ax m c) (am m c) (aw m c)) := by
  rw [Cert.OutIdeal.Value.flushed3]
  funext y
  show out0_3 (iblk m c 0 t) (iblk m c 1 t) (iblk m c 2 t) y = out (ax m c) (am m c) (aw m c) ((win0_3.rect t).emb y)
  obtain ⟨d0, d1, e0, e1, e2, e3, e4, e5⟩ := idx t
  rw [eq_ix2 (n0 := 1024) (n1 := 1024) y]
  refine (out_apply _ _ _ _ _).trans (congrArg₂ (· + ·) (congrArg (ax m c) (ext2 ?_ ?_)) ?_)
  · exact congrArg (· * 1024 + 1 * (y 0).val) (d0.trans e4.symm)
  · exact congrArg (· * 1024 + 1 * (y 1).val) (d1.trans e5.symm)
  · exact dot_tile (x := am m c) (w := aw m c) (f₀ := (win0_1.rect t).emb) (f₁ := (win0_2.rect t).emb) (f₂ := (win0_3.rect t).emb)
      (a₀ := win0_1.index t 0) (a₁ := win0_1.index t 1) (b₀ := win0_2.index t 0) (b₁ := win0_2.index t 1) (c₀ := win0_3.index t 0) (c₁ := win0_3.index t 1)
      (by decide) (e0.trans e4.symm) e1 e2 (by omega) (fun _ => rfl) (fun _ => rfl) (fun _ => rfl) (fun _ => rfl) (fun _ => rfl) (fun _ => rfl) (y 0) (y 1)

/-- Every index of the output is in the block of some point. -/
theorem cover (i : S8192x2048.Idx) : ∃ t : Fin cfg0.N, (cfg0.win 3).flush t = true ∧ i ∈ ((cfg0.win 3).blk t).view.set := by
  obtain ⟨a, ha, b, hb, hi⟩ := tile_of 1024 8 2 rfl rfl (by decide) i
  have hN := N_0
  let t : Fin grid0.N := ⟨8 * b + a, by omega⟩
  obtain ⟨-, -, -, -, -, -, e4, e5⟩ := idx t
  rw [show t.val % 8 = a by show (8 * b + a) % 8 = a; omega] at e4
  rw [show t.val / 8 = b by show (8 * b + a) / 8 = b; omega] at e5
  refine ⟨t, flush0_3 _, ?_⟩
  show i ∈ ((View.whole main_v0).slice (win0_3.rect t)).set
  rw [View.set_slice_whole, Rect.mem_set_unit]
  intro d
  match d with
  | ⟨0, _⟩ => exact (congrArg (fun u => u * 1024 ≤ (i 0).val ∧ (i 0).val < u * 1024 + 1024) e4).mpr hi.1
  | ⟨1, _⟩ => exact (congrArg (fun u => u * 1024 ≤ (i 1).val ∧ (i 1).val < u * 1024 + 1024) e5).mpr hi.2

/-- The call, run. -/
theorem run : θ_run defs (onTc (τ := τ) (main (F := Ideal))) ⟨m, fun _ => 0, ρ⟩ fun r => ∀ c : Dev nD,
      r.2.mem ((c : Thread nD τ).loc main_v0) = out (ax m c) (am m c) (aw m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 _ (fun t _ => flushed m c t) cover), (h c).2⟩)
    (Cert.OutIdeal.Value.run_blocks m ρ)

end Cert.OutValue

end
-- ==== Proof.OutClaims.lean ====
/-
  The claims about the call of the layer's output projection.
-/
module

public import proofs.«01_k».proof.Defs
public import proofs.«01_k».proof.Proof.OutValue
public import proofs.«01_k».proof.Proof.Gen.Out.Frame
public import Idealize.ShloMosaic.Lib.Quiescent

@[expose] public section

set_option maxRecDepth 16384

noncomputable section

namespace Cert.OutClaims

open Idealize.ShloMosaic Idealize.ShloMosaic.TcCoe Idealize.SL.Sem Cert.Dense

/-- The call runs and leaves its arguments as they were. -/
theorem frame_k : Cert.quiescent_Out := fun m ρ _ => Cert.Out.Gen.frame m ρ

/-- The idealised call runs and leaves its arguments as they were. -/
theorem frame_ki : Cert.quiescent_OutIdeal := fun m ρ _ => Cert.OutIdeal.Gen.frame m ρ

/-- The reference runs and leaves its arguments as they were. -/
theorem frame_ri : Cert.quiescent_RefOutIdeal := fun m ρ _ =>
  (θ_run Cert.RefOutIdeal.defs _ _).mono (fun r h => ⟨fun c => (h c).2, sem_eq_zero_of_no_sems (by decide) r.2⟩)
    (Cert.RefOutIdeal.Value.run (F := Ideal) m ρ)

/-- The call's result is the reference's. -/
theorem algebraic : Cert.algebraic_OutIdeal_RefOutIdeal := by
  intro m ρ m' ρ' _ hag
  refine ⟨fun c => OutValue.out (OutValue.ax m c) (OutValue.am m c) (OutValue.aw m c), OutValue.run m ρ, ?_⟩
  refine (θ_run Cert.RefOutIdeal.defs _ _).mono (fun _ h c => ⟨(h c).1.trans ?_, (h c).2⟩) (Cert.RefOutIdeal.Value.run (F := Ideal) m' ρ')
  rw [(hag c).1, (hag c).2.1, (hag c).2.2]
  funext y
  rw [eq_ix2 (n0 := 8192) (n1 := 2048) y]
  generalize y 0 = i, y 1 = j
  change Fin 8192 at i
  change Fin 2048 at j
  pointwise []
  exact congrArg (fun z : EReal => OutValue.ax m c (ix2 i j) + z) (dot_congr (fun _ => rfl) fun e => congrArg _ (ext2 rfl (Nat.zero_add _).symm))

end Cert.OutClaims

end
-- ==== Proof.SsmGateValue.lean ====
/-
  The call of the state space's gate, run: its result is the SiLU of the projection's columns 11264 to 12287.
-/
module

public import proofs.«01_k».proof.Proof.Dense
public import proofs.«01_k».proof.Proof.Gen.SsmGateIdeal.Value
public import proofs.«01_k».proof.Proof.Gen.RefSsmGateIdeal.Run

@[expose] public section

set_option maxRecDepth 16384

noncomputable section

namespace Cert.SsmGateValue

open Idealize.ShloMosaic Idealize.ShloMosaic.TcCoe Idealize.SL.Sem Cert.SsmGateIdeal Cert.SsmGateIdeal.Gen Cert.Dense

variable (m : (ℓ : Loc nD τ sig) → Buf (Elt Ideal) ℓ) (ρ : Dev nD → PrngReg) (c : Dev nD)

/-- The normalised input and the layer's combined weight as launched. -/
abbrev ax : Ix 8192 2048 → EReal := m ((c : Thread nD τ).loc main_arg0)
abbrev aw : Ix 2048 16384 → EReal := m ((c : Thread nD τ).loc main_arg1)

/-- The body's result, from its blocks. -/
theorem out_apply (x0 : Vec Ideal S1024x2048 .bf16) (x1 : Vec Ideal S2048x1024 .bf16) (i j : Fin 1024) :
    out0_2 (F := Ideal) x0 x1 (ix2 i j) = silu (dot x0 x1 i j) := by
  unfold out0_2
  rw [View.canon_unit_zero hz, View.ld_unit_zero hz, View.ld_unit_zero hz]
  pointwise [k0_pay1]
  exact congrArg (dot x0 x1 i j * ·) (sigmoid_sub _)

/-- The index maps at every point. -/
theorem idx (t : Fin grid0.N) : win0_0.index t 0 = t.val ∧ win0_0.index t 1 = 0 ∧ win0_1.index t 0 = 0
    ∧ win0_1.index t 1 = 11 ∧ win0_2.index t 0 = t.val ∧ win0_2.index t 1 = 0 := by
  revert t; decide +kernel

/-- What a point writes back is its block of the result. -/
theorem flushed (t : Fin cfg0.N) :
    (dats m 0 c).flushed 2 t = (win0_2.blk t).view.read (Elt Ideal) (cols silu 11264 1024 (by decide) (ax m c) (aw m c)) := by
  rw [Cert.SsmGateIdeal.Value.flushed2]
  funext y
  show out0_2 (iblk m c 0 t) (iblk m c 1 t) y = cols silu 11264 1024 (by decide) (ax m c) (aw m c) ((win0_2.rect t).emb y)
  obtain ⟨e0, e1, e2, e3, e4, e5⟩ := idx t
  rw [eq_ix2 (n0 := 1024) (n1 := 1024) y]
  refine (out_apply _ _ _ _).trans (congrArg silu ?_)
  exact dot_tile (x := ax m c) (w := aw m c) (f₀ := (win0_0.rect t).emb) (f₁ := (win0_1.rect t).emb) (f₂ := (win0_2.rect t).emb)
    (a₀ := win0_0.index t 0) (a₁ := win0_0.index t 1) (b₀ := win0_1.index t 0) (b₁ := win0_1.index t 1) (c₀ := win0_2.index t 0) (c₁ := win0_2.index t 1)
    (by decide) (e0.trans e4.symm) e1 e2 (by omega) (fun _ => rfl) (fun _ => rfl) (fun _ => rfl) (fun _ => rfl) (fun _ => rfl) (fun _ => rfl) (y 0) (y 1)

/-- Every index of the result is in the block of some point. -/
theorem cover (i : S8192x1024.Idx) : ∃ t : Fin cfg0.N, (cfg0.win 2).flush t = true ∧ i ∈ ((cfg0.win 2).blk t).view.set := by
  obtain ⟨a, ha, b, hb, hi⟩ := tile_of 1024 8 1 rfl rfl (by decide) i
  have hN := N_0
  let t : Fin grid0.N := ⟨a, by omega⟩
  obtain ⟨-, -, -, -, e4, e5⟩ := idx t
  obtain rfl : b = 0 := by omega
  refine ⟨t, flush0_2 _, ?_⟩
  show i ∈ ((View.whole main_v0).slice (win0_2.rect t)).set
  rw [View.set_slice_whole, Rect.mem_set_unit]
  intro d
  match d with
  | ⟨0, _⟩ => exact (congrArg (fun u => u * 1024 ≤ (i 0).val ∧ (i 0).val < u * 1024 + 1024) e4).mpr hi.1
  | ⟨1, _⟩ => exact (congrArg (fun u => u * 1024 ≤ (i 1).val ∧ (i 1).val < u * 1024 + 1024) e5).mpr hi.2

/-- The call, run. -/
theorem run : θ_run defs (onTc (τ := τ) (main (F := Ideal))) ⟨m, fun _ => 0, ρ⟩ fun r => ∀ c : Dev nD,
      r.2.mem ((c : Thread nD τ).loc main_v0) = cols silu 11264 1024 (by decide) (ax m c) (aw m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) cover), (h c).2⟩)
    (Cert.SsmGateIdeal.Value.run_blocks m ρ)

end Cert.SsmGateValue

end
-- ==== Proof.SsmGateClaims.lean ====
/-
  The claims about the call of the state space's gate.
-/
module

public import proofs.«01_k».proof.Defs
public import proofs.«01_k».proof.Proof.SsmGateValue
public import proofs.«01_k».proof.Proof.Gen.SsmGate.Frame
public import Idealize.ShloMosaic.Lib.Quiescent

@[expose] public section

set_option maxRecDepth 16384

noncomputable section

namespace Cert.SsmGateClaims

open Idealize.ShloMosaic Idealize.ShloMosaic.TcCoe Idealize.SL.Sem Cert.Dense

/-- The call runs and leaves its arguments as they were. -/
theorem frame_k : Cert.quiescent_SsmGate := fun m ρ _ => Cert.SsmGate.Gen.frame m ρ

/-- The idealised call runs and leaves its arguments as they were. -/
theorem frame_ki : Cert.quiescent_SsmGateIdeal := fun m ρ _ => Cert.SsmGateIdeal.Gen.frame m ρ

/-- The reference runs and leaves its arguments as they were. -/
theorem frame_ri : Cert.quiescent_RefSsmGateIdeal := fun m ρ _ =>
  (θ_run Cert.RefSsmGateIdeal.defs _ _).mono (fun r h => ⟨fun c => (h c).2, sem_eq_zero_of_no_sems (by decide) r.2⟩)
    (Cert.RefSsmGateIdeal.Value.run (F := Ideal) m ρ)

/-- The call's result is the reference's. -/
theorem algebraic : Cert.algebraic_SsmGateIdeal_RefSsmGateIdeal := by
  intro m ρ m' ρ' _ hag
  refine ⟨fun c => cols silu 11264 1024 (by decide) (SsmGateValue.ax m c) (SsmGateValue.aw m c), SsmGateValue.run m ρ, ?_⟩
  refine (θ_run Cert.RefSsmGateIdeal.defs _ _).mono (fun _ h c => ⟨(h c).1.trans ?_, (h c).2⟩) (Cert.RefSsmGateIdeal.Value.run (F := Ideal) m' ρ')
  rw [(hag c).1, (hag c).2]
  funext y
  rw [eq_ix2 (n0 := 8192) (n1 := 1024) y]
  generalize y 0 = i, y 1 = j
  change Fin 8192 at i
  change Fin 1024 at j
  pointwise []
  rfl

end Cert.SsmGateClaims

end
-- ==== Proof.SsmInValue.lean ====
/-
  The call of the state space's input, run: its result is the projection's columns 10240 to 11263.
-/
module

public import proofs.«01_k».proof.Proof.Dense
public import proofs.«01_k».proof.Proof.Gen.SsmInIdeal.Value
public import proofs.«01_k».proof.Proof.Gen.RefSsmInIdeal.Run

@[expose] public section

set_option maxRecDepth 16384

noncomputable section

namespace Cert.SsmInValue

open Idealize.ShloMosaic Idealize.ShloMosaic.TcCoe Idealize.SL.Sem Cert.SsmInIdeal Cert.SsmInIdeal.Gen Cert.Dense

variable (m : (ℓ : Loc nD τ sig) → Buf (Elt Ideal) ℓ) (ρ : Dev nD → PrngReg) (c : Dev nD)

/-- The normalised input and the layer's combined weight as launched. -/
abbrev ax : Ix 8192 2048 → EReal := m ((c : Thread nD τ).loc main_arg0)
abbrev aw : Ix 2048 16384 → EReal := m ((c : Thread nD τ).loc main_arg1)

/-- The body's result, from its blocks. -/
theorem out_apply (x0 : Vec Ideal S1024x2048 .bf16) (x1 : Vec Ideal S2048x1024 .bf16) (i j : Fin 1024) :
    out0_2 (F := Ideal) x0 x1 (ix2 i j) = dot x0 x1 i j := by
  unfold out0_2
  rw [View.canon_unit_zero hz, View.ld_unit_zero hz, View.ld_unit_zero hz]
  pointwise [k0_pay1]
  rfl

/-- The index maps at every point. -/
theorem idx (t : Fin grid0.N) : win0_0.index t 0 = t.val ∧ win0_0.index t 1 = 0 ∧ win0_1.index t 0 = 0
    ∧ win0_1.index t 1 = 10 ∧ win0_2.index t 0 = t.val ∧ win0_2.index t 1 = 0 := by
  revert t; decide +kernel

/-- What a point writes back is its block of the result. -/
theorem flushed (t : Fin cfg0.N) :
    (dats m 0 c).flushed 2 t = (win0_2.blk t).view.read (Elt Ideal) (cols id 10240 1024 (by decide) (ax m c) (aw m c)) := by
  rw [Cert.SsmInIdeal.Value.flushed2]
  funext y
  show out0_2 (iblk m c 0 t) (iblk m c 1 t) y = cols id 10240 1024 (by decide) (ax m c) (aw m c) ((win0_2.rect t).emb y)
  obtain ⟨e0, e1, e2, e3, e4, e5⟩ := idx t
  rw [eq_ix2 (n0 := 1024) (n1 := 1024) y]
  refine (out_apply _ _ _ _).trans (congrArg id ?_)
  exact dot_tile (x := ax m c) (w := aw m c) (f₀ := (win0_0.rect t).emb) (f₁ := (win0_1.rect t).emb) (f₂ := (win0_2.rect t).emb)
    (a₀ := win0_0.index t 0) (a₁ := win0_0.index t 1) (b₀ := win0_1.index t 0) (b₁ := win0_1.index t 1) (c₀ := win0_2.index t 0) (c₁ := win0_2.index t 1)
    (by decide) (e0.trans e4.symm) e1 e2 (by omega) (fun _ => rfl) (fun _ => rfl) (fun _ => rfl) (fun _ => rfl) (fun _ => rfl) (fun _ => rfl) (y 0) (y 1)

/-- Every index of the result is in the block of some point. -/
theorem cover (i : S8192x1024.Idx) : ∃ t : Fin cfg0.N, (cfg0.win 2).flush t = true ∧ i ∈ ((cfg0.win 2).blk t).view.set := by
  obtain ⟨a, ha, b, hb, hi⟩ := tile_of 1024 8 1 rfl rfl (by decide) i
  have hN := N_0
  let t : Fin grid0.N := ⟨a, by omega⟩
  obtain ⟨-, -, -, -, e4, e5⟩ := idx t
  obtain rfl : b = 0 := by omega
  refine ⟨t, flush0_2 _, ?_⟩
  show i ∈ ((View.whole main_v0).slice (win0_2.rect t)).set
  rw [View.set_slice_whole, Rect.mem_set_unit]
  intro d
  match d with
  | ⟨0, _⟩ => exact (congrArg (fun u => u * 1024 ≤ (i 0).val ∧ (i 0).val < u * 1024 + 1024) e4).mpr hi.1
  | ⟨1, _⟩ => exact (congrArg (fun u => u * 1024 ≤ (i 1).val ∧ (i 1).val < u * 1024 + 1024) e5).mpr hi.2

/-- The call, run. -/
theorem run : θ_run defs (onTc (τ := τ) (main (F := Ideal))) ⟨m, fun _ => 0, ρ⟩ fun r => ∀ c : Dev nD,
      r.2.mem ((c : Thread nD τ).loc main_v0) = cols id 10240 1024 (by decide) (ax m c) (aw m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) cover), (h c).2⟩)
    (Cert.SsmInIdeal.Value.run_blocks m ρ)

end Cert.SsmInValue

end
-- ==== Proof.SsmInClaims.lean ====
/-
  The claims about the call of the state space's input.
-/
module

public import proofs.«01_k».proof.Defs
public import proofs.«01_k».proof.Proof.SsmInValue
public import proofs.«01_k».proof.Proof.Gen.SsmIn.Frame
public import Idealize.ShloMosaic.Lib.Quiescent

@[expose] public section

set_option maxRecDepth 16384

noncomputable section

namespace Cert.SsmInClaims

open Idealize.ShloMosaic Idealize.ShloMosaic.TcCoe Idealize.SL.Sem Cert.Dense

/-- The call runs and leaves its arguments as they were. -/
theorem frame_k : Cert.quiescent_SsmIn := fun m ρ _ => Cert.SsmIn.Gen.frame m ρ

/-- The idealised call runs and leaves its arguments as they were. -/
theorem frame_ki : Cert.quiescent_SsmInIdeal := fun m ρ _ => Cert.SsmInIdeal.Gen.frame m ρ

/-- The reference runs and leaves its arguments as they were. -/
theorem frame_ri : Cert.quiescent_RefSsmInIdeal := fun m ρ _ =>
  (θ_run Cert.RefSsmInIdeal.defs _ _).mono (fun r h => ⟨fun c => (h c).2, sem_eq_zero_of_no_sems (by decide) r.2⟩)
    (Cert.RefSsmInIdeal.Value.run (F := Ideal) m ρ)

/-- The call's result is the reference's. -/
theorem algebraic : Cert.algebraic_SsmInIdeal_RefSsmInIdeal := by
  intro m ρ m' ρ' _ hag
  refine ⟨fun c => cols id 10240 1024 (by decide) (SsmInValue.ax m c) (SsmInValue.aw m c), SsmInValue.run m ρ, ?_⟩
  refine (θ_run Cert.RefSsmInIdeal.defs _ _).mono (fun _ h c => ⟨(h c).1.trans ?_, (h c).2⟩) (Cert.RefSsmInIdeal.Value.run (F := Ideal) m' ρ')
  rw [(hag c).1, (hag c).2]
  funext y
  rw [eq_ix2 (n0 := 8192) (n1 := 1024) y]
  generalize y 0 = i, y 1 = j
  change Fin 8192 at i
  change Fin 1024 at j
  pointwise []
  rfl

end Cert.SsmInClaims

end
-- ==== Proof.GluValue.lean ====
/-
  The call of the gated unit, run: its result is GELU of the state space path's output, times the logistic function of a
  dense layer of it, times the path's gate.
-/
module

public import proofs.«01_k».proof.Proof.Dense
public import proofs.«01_k».proof.Proof.Gen.GluIdeal.Value

@[expose] public section

set_option maxRecDepth 16384

noncomputable section

namespace Cert.GluValue

open Idealize.ShloMosaic Idealize.ShloMosaic.TcCoe Idealize.SL.Sem Cert.GluIdeal Cert.GluIdeal.Gen Cert.Dense

variable (m : (ℓ : Loc nD τ sig) → Buf (Elt Ideal) ℓ) (ρ : Dev nD → PrngReg) (c : Dev nD)

/-- The state space path's output, its gate, the dense layer's weight and its bias as launched. -/
abbrev ay : Ix 8192 1024 → EReal := m ((c : Thread nD τ).loc main_arg0)
abbrev ag : Ix 8192 1024 → EReal := m ((c : Thread nD τ).loc main_arg1)
abbrev aw : Ix 1024 1024 → EReal := m ((c : Thread nD τ).loc main_arg2)
abbrev ab : (⟨1, ![1024]⟩ : Shape).Idx → EReal := m ((c : Thread nD τ).loc main_arg3)

/-- GELU, by the hyperbolic tangent; its constants are the printed ones. -/
def gelu (y : EReal) : EReal :=
  Ideal.ofBits .f32 0x3F000000#32 * y * (1 + Ideal.tanh (Ideal.ofBits .f32 0x3F4C422A#32 * (y + Ideal.ofBits .f32 0x3D372713#32 * (y * y * y))))

/-- GELU as the reference orders its factors. -/
theorem gelu_eq (y : EReal) : y * (Ideal.ofBits .f32 0x3F000000#32
    * (1 + Ideal.tanh (Ideal.ofBits .f32 0x3F4C422A#32 * (y + Ideal.ofBits .f32 0x3D372713#32 * (y * y * y))))) = gelu y := by
  rw [gelu, ← mul_assoc, mul_comm y]

/-- The gated unit's entry in row `i` and column `j`. -/
def unit {n : Nat} (y g : Ix n 1024 → EReal) (w : Ix 1024 1024 → EReal) (b : Fin 1024 → EReal) (i : Fin n) (j : Fin 1024) : EReal :=
  gelu (y (ix2 i j)) * sigmoid (dot (fun z => gelu (y z)) w i j + b j) * g (ix2 i j)

/-- The body's result, from its blocks. -/
theorem out_apply (x0 : Vec Ideal S1024x1024 .f32) (x1 x2 : Vec Ideal S1024x1024 .bf16) (x3 : Vec Ideal S1x1024 .f32) (i j : Fin 1024) :
    out0_4 (F := Ideal) x0 x1 x2 x3 (ix2 i j) = unit x0 x1 x2 (fun e => x3 (ix2 0 e)) i j := by
  unfold out0_4
  rw [View.canon_unit_zero hz, View.ld_unit_zero hz, View.ld_unit_zero hz, View.ld_unit_zero hz, View.ld_unit_zero hz]
  pointwise [k0_pay1]
  exact congrArg (fun z : EReal => gelu (x0 (ix2 i j)) * z * x1 (ix2 i j)) (sigmoid_sub _)

/-- The bias as the call's host lays it out, a row. -/
theorem bias (j : Fin 1024) : V (F := Ideal) m c main_v0 (ix2 0 j) = ab m c (ix1 j) := by
  unfold V hostOps0
  after_results_simp
  pointwise []

/-- The index maps at every point. -/
theorem idx (t : Fin grid0.N) : win0_0.index t 0 = win0_4.index t 0 ∧ win0_0.index t 1 = 0 ∧ win0_1.index t 0 = win0_4.index t 0 ∧ win0_1.index t 1 = 0
    ∧ win0_2.index t 0 = 0 ∧ win0_2.index t 1 = 0 ∧ win0_3.index t 0 = 0 ∧ win0_3.index t 1 = 0 ∧ win0_4.index t 0 = t.val ∧ win0_4.index t 1 = 0 := by
  revert t; decide +kernel

/-- The call's result. -/
def out (y g : Ix 8192 1024 → EReal) (w : Ix 1024 1024 → EReal) (b : (⟨1, ![1024]⟩ : Shape).Idx → EReal) (z : Ix 8192 1024) : EReal :=
  unit y g w (fun e => b (ix1 e)) (z 0) (z 1)

/-- What a point writes back is its block of the result. -/
theorem flushed (t : Fin cfg0.N) :
    (dats m 0 c).flushed 4 t = (win0_4.blk t).view.read (Elt Ideal) (out (ay m c) (ag m c) (aw m c) (ab m c)) := by
  rw [Cert.GluIdeal.Value.flushed4]
  funext z
  show out0_4 (iblk m c 0 t) (iblk m c 1 t) (iblk m c 2 t) (iblk m c 3 t) z = out (ay m c) (ag m c) (aw m c) (ab m c) ((win0_4.rect t).emb z)
  obtain ⟨d0, d1, d2, d3, d4, d5, d6, d7, -, d9⟩ := idx t
  rw [eq_ix2 (n0 := 1024) (n1 := 1024) z]
  generalize z 0 = i, z 1 = j
  change Fin 1024 at i
  change Fin 1024 at j
  have hj : (win0_4.rect t).emb (ix2 i j) 1 = j := Fin.ext ((congrArg (· * 1024 + 1 * j.val) d9).trans (by omega))
  have hy (e : Fin 1024) : iblk m c 0 t (ix2 i e) = ay m c (ix2 ((win0_4.rect t).emb (ix2 i j) 0) e) :=
    (congrFun (congrArg _ (V_main_arg0 m c)) _).trans (congrArg (ay m c) (ext2 (congrArg (· * 1024 + 1 * i.val) d0)
      ((congrArg (· * 1024 + 1 * e.val) d1).trans (by show 0 * 1024 + 1 * e.val = e.val; omega))))
  have hg : iblk m c 1 t (ix2 i j) = ag m c (ix2 ((win0_4.rect t).emb (ix2 i j) 0) j) :=
    congrArg (ag m c) (ext2 (congrArg (· * 1024 + 1 * i.val) d2)
      ((congrArg (· * 1024 + 1 * j.val) d3).trans (by show 0 * 1024 + 1 * j.val = j.val; omega)))
  have hw (e : Fin 1024) : iblk m c 2 t (ix2 e j) = aw m c (ix2 e j) :=
    congrArg (aw m c) (ext2 ((congrArg (· * 1024 + 1 * e.val) d4).trans (by show 0 * 1024 + 1 * e.val = e.val; omega))
      ((congrArg (· * 1024 + 1 * j.val) d5).trans (by show 0 * 1024 + 1 * j.val = j.val; omega)))
  have hb : iblk m c 3 t (ix2 0 j) = ab m c (ix1 j) :=
    (congrArg (V (F := Ideal) m c main_v0) (ext2 (congrArg (· * 1 + 1 * 0) d6)
      ((congrArg (· * 1024 + 1 * j.val) d7).trans (by show 0 * 1024 + 1 * j.val = j.val; omega)))).trans (bias m c j)
  rw [out_apply, out, hj]
  exact congrArg₂ (fun p q : EReal => p * q) (congrArg₂ (fun p q : EReal => p * q) (congrArg gelu (hy j)) (congrArg sigmoid
    (congrArg₂ (fun p q : EReal => p + q) (dot_congr (fun e => congrArg gelu (hy e)) hw) hb))) hg

/-- Every index of the result is in the block of some point. -/
theorem cover (i : S8192x1024.Idx) : ∃ t : Fin cfg0.N, (cfg0.win 4).flush t = true ∧ i ∈ ((cfg0.win 4).blk t).view.set := by
  obtain ⟨a, ha, b, hb, hi⟩ := tile_of 1024 8 1 rfl rfl (by decide) i
  have hN := N_0
  obtain rfl : b = 0 := by omega
  let t : Fin grid0.N := ⟨a, by omega⟩
  obtain ⟨-, -, -, -, -, -, -, -, e4, e5⟩ := idx t
  refine ⟨t, flush0_4 _, ?_⟩
  show i ∈ ((View.whole main_v1).slice (win0_4.rect t)).set
  rw [View.set_slice_whole, Rect.mem_set_unit]
  intro d
  match d with
  | ⟨0, _⟩ => exact (congrArg (fun u => u * 1024 ≤ (i 0).val ∧ (i 0).val < u * 1024 + 1024) e4).mpr hi.1
  | ⟨1, _⟩ => exact (congrArg (fun u => u * 1024 ≤ (i 1).val ∧ (i 1).val < u * 1024 + 1024) e5).mpr hi.2

/-- The call, run. -/
theorem run : θ_run defs (onTc (τ := τ) (main (F := Ideal))) ⟨m, fun _ => 0, ρ⟩ fun r => ∀ c : Dev nD,
      r.2.mem ((c : Thread nD τ).loc main_v1) = out (ay m c) (ag m c) (aw m c) (ab m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 _ (fun t _ => flushed m c t) cover), (h c).2⟩)
    (Cert.GluIdeal.Value.run_blocks m ρ)

end Cert.GluValue

end
-- ==== Proof.GluClaims.lean ====
/-
  The claims about the call of the gated unit.
-/
module

public import proofs.«01_k».proof.Defs
public import proofs.«01_k».proof.Proof.GluValue
public import proofs.«01_k».proof.Proof.Gen.Glu.Frame
public import proofs.«01_k».proof.Proof.Gen.RefGluIdeal.Run
public import Idealize.ShloMosaic.Lib.Quiescent

@[expose] public section

set_option maxRecDepth 16384

noncomputable section

namespace Cert.GluClaims

open Idealize.ShloMosaic Idealize.ShloMosaic.TcCoe Idealize.SL.Sem Cert.Dense

/-- The call runs and leaves its arguments as they were. -/
theorem frame_k : Cert.quiescent_Glu := fun m ρ _ => Cert.Glu.Gen.frame m ρ

/-- The idealised call runs and leaves its arguments as they were. -/
theorem frame_ki : Cert.quiescent_GluIdeal := fun m ρ _ => Cert.GluIdeal.Gen.frame m ρ

/-- The reference runs and leaves its arguments as they were. -/
theorem frame_ri : Cert.quiescent_RefGluIdeal := fun m ρ _ =>
  (θ_run Cert.RefGluIdeal.defs _ _).mono (fun r h => ⟨fun c => (h c).2, sem_eq_zero_of_no_sems (by decide) r.2⟩)
    (Cert.RefGluIdeal.Value.run (F := Ideal) m ρ)

/-- The call's result is the reference's. -/
theorem algebraic : Cert.algebraic_GluIdeal_RefGluIdeal := by
  intro m ρ m' ρ' _ hag
  refine ⟨fun c => GluValue.out (GluValue.ay m c) (GluValue.ag m c) (GluValue.aw m c) (GluValue.ab m c), GluValue.run m ρ, ?_⟩
  refine (θ_run Cert.RefGluIdeal.defs _ _).mono (fun _ h c => ⟨(h c).1.trans ?_, (h c).2⟩) (Cert.RefGluIdeal.Value.run (F := Ideal) m' ρ')
  rw [(hag c).1, (hag c).2.1, (hag c).2.2.1, (hag c).2.2.2]
  funext y
  rw [eq_ix2 (n0 := 8192) (n1 := 1024) y]
  generalize y 0 = i, y 1 = j
  change Fin 8192 at i
  change Fin 1024 at j
  pointwise []
  simp only [GluValue.gelu_eq]
  rfl

end Cert.GluClaims

end
-- ==== Proof.MergeStage.lean ====
/-
  The merge of the head groups: how its body stages a group's rows in token order, and how it lays the heads side by side.
  A group stepped by `dil` comes as `dil` runs of rows; each run is stored with that stride, so that row `p` of the staged
  block is row `p / dil` of run `p % dil`.
-/
module

public import proofs.«01_k».proof.Proof.Dense
public import proofs.«01_k».proof.Proof.Gen.MergeIdeal.Value

@[expose] public section

set_option maxRecDepth 16384

noncomputable section

namespace Cert.MergeStage

open Idealize.ShloMosaic Idealize.ShloMosaic.TcCoe Idealize.SL.Sem Cert.MergeIdeal Cert.MergeIdeal.Gen Cert.Dense

/-- A piece of the staging block. -/
abbrev Pc : Type := View.Piece (Elt Ideal) S3x512x128 .f32

theorem inb4 (r : Fin 4) : ∀ a, S128x128.size a = 0 ∨ (![r.val, 0] : Fin 2 → Nat) a + (![4, 1] : Fin 2 → Nat) a * (S128x128.size a - 1) < S512x128.size a := by
  revert r; decide

theorem inb16 (r : Fin 16) : ∀ a, S32x128.size a = 0 ∨ (![r.val, 0] : Fin 2 → Nat) a + (![16, 1] : Fin 2 → Nat) a * (S32x128.size a - 1) < S512x128.size a := by
  revert r; decide

theorem spos_4_1' : ∀ a, 0 < (![4, 1] : Fin 2 → Nat) a := by decide

/-- The rows of run `r` in a block of 512, four apart. -/
abbrev rows4 (r : Fin 4) : Rect S512x128 := ⟨⟨![r.val, 0], S128x128.size, ![4, 1], inb4 r⟩, spos_4_1'⟩

/-- The rows of run `r` in a block of 512, sixteen apart. -/
abbrev rows16 (r : Fin 16) : Rect S512x128 := ⟨⟨![r.val, 0], S32x128.size, ![16, 1], inb16 r⟩, spos_16_1⟩

/-- Run `r` of the group stepped by four, placed in the second slab. -/
def piece4 (r : Fin 4) (w : FVec Ideal S128x128 .f32) : Pc :=
  ⟨(Rect.unit (s := S3x512x128) ![1, 0, 0] S1x512x128.size inb_S3x512x128_S1x512x128_1_0_0).within
    ((rows4 r).consLift ![1, 512, 128] rfl (by decide)) (fun _ => rfl),
    Rect.payAlong (r := rows4 r) (R := (rows4 r).consLift ![1, 512, 128] rfl (by decide)) ((rows4 r).numel_consLift _ _ _) w⟩

/-- Run `r` of the group stepped by sixteen, placed in the third slab. -/
def piece16 (r : Fin 16) (w : FVec Ideal S32x128 .f32) : Pc :=
  ⟨(Rect.unit (s := S3x512x128) ![2, 0, 0] S1x512x128.size inb_S3x512x128_S1x512x128_2_0_0).within
    ((rows16 r).consLift ![1, 512, 128] rfl (by decide)) (fun _ => rfl),
    Rect.payAlong (r := rows16 r) (R := (rows16 r).consLift ![1, 512, 128] rfl (by decide)) ((rows16 r).numel_consLift _ _ _) w⟩

/-- The stores of the group stepped by four, the latest first. -/
def stage4 (w : Fin 4 → FVec Ideal S128x128 .f32) : List Pc := ([3, 2, 1, 0] : List (Fin 4)).map fun r => piece4 r (w r)

/-- The stores of the group stepped by sixteen, the latest first. -/
def stage16 (w : Fin 16 → FVec Ideal S32x128 .f32) : List Pc :=
  ([15, 14, 13, 12, 11, 10, 9, 8, 7, 6, 5, 4, 3, 2, 1, 0] : List (Fin 16)).map fun r => piece16 r (w r)

variable (v : View sig .tc .vmem S3x512x128 .f32)

/-- A run's row, as the slab places it. -/
theorem emb4 (r : Fin 4) (w : FVec Ideal S128x128 .f32) (x : (piece4 r w).1.shape.Idx) :
    ((piece4 r w).1.emb x 1).val = r.val + 4 * (x 1).val ∧ ((piece4 r w).1.emb x 2).val = (x 2).val := by
  constructor
  · show 0 + r.val + 4 * (x 1).val = _; omega
  · show 0 + 0 + 1 * (x 2).val = _; omega

/-- What the second slab holds once the four runs are stored. -/
theorem read4 (w : Fin 4 → FVec Ideal S128x128 .f32) (L : List Pc) (i : Fin 512) (l : Fin 128) :
    v.readCov (Val := Elt Ideal) (stage4 w ++ L) (Rect.unit (s := S3x512x128) ![1, 0, 0] S1x512x128.size inb_S3x512x128_S1x512x128_1_0_0).toLoadRect (ix3 0 i l)
      = w ⟨i.val % 4, Nat.mod_lt _ (by decide)⟩ (ix2 ⟨i.val / 4, by omega⟩ l) := by
  unfold View.readCov
  rw [View.writes_append, View.readAt_apply]
  rw [View.read_writes_apply_of_pieces v _ (fun y => w ⟨(y 1).val % 4, Nat.mod_lt _ (by decide)⟩ (ix2 ⟨(y 1).val / 4, by have := (y 1).isLt; change _ < 512 at this; omega⟩ ⟨(y 2).val, (y 2).isLt⟩))]
  · have h1 : ((Rect.unit (s := S3x512x128) ![1, 0, 0] S1x512x128.size inb_S3x512x128_S1x512x128_1_0_0).toLoadRect.idx (ix3 0 i l) 1).val = i.val := by
      show 0 + 1 * i.val = i.val; omega
    have h2 : ((Rect.unit (s := S3x512x128) ![1, 0, 0] S1x512x128.size inb_S3x512x128_S1x512x128_1_0_0).toLoadRect.idx (ix3 0 i l) 2).val = l.val := by
      show 0 + 1 * l.val = l.val; omega
    exact congrArg₂ (fun r z => w r z) (Fin.ext (by dsimp only; rw [h1])) (ext2 (by show _ / 4 = i.val / 4; rw [h1]) h2)
  · intro p hp x
    obtain ⟨r, -, rfl⟩ := List.mem_map.1 hp
    obtain ⟨e1, e2⟩ := emb4 r (w r) x
    have hx : (x 1).val < 128 := (x 1).isLt
    refine (Rect.payAlong_consLift (rows4 r) ![1, 512, 128] rfl (by decide) (w r) _ x (ix2 ⟨(x 1).val, hx⟩ ⟨(x 2).val, (x 2).isLt⟩) ?_).trans ?_
    · intro a
      match a with
      | ⟨0, _⟩ => rfl
      | ⟨1, _⟩ => rfl
    · exact congrArg₂ (fun r z => w r z) (Fin.ext (by dsimp only; rw [e1]; omega)) (ext2 (by show (x 1).val = _ / 4; rw [e1]; omega) e2.symm)
  · refine ⟨piece4 ⟨i.val % 4, Nat.mod_lt _ (by decide)⟩ _, List.mem_map.2 ⟨_, ?_, rfl⟩, ?_⟩
    · generalize (⟨i.val % 4, Nat.mod_lt _ (by decide)⟩ : Fin 4) = r
      revert r; decide
    · refine (LoadRect.mem_set _).2 fun a => ?_
      match a with
      | ⟨0, _⟩ => exact ⟨0, Nat.one_pos, rfl⟩
      | ⟨1, _⟩ => exact ⟨i.val / 4, (by omega : i.val / 4 < 128), (by omega : 0 + 1 * i.val = 0 + i.val % 4 + 4 * (i.val / 4))⟩
      | ⟨2, _⟩ => exact ⟨l.val, l.isLt, (by omega : 0 + 1 * l.val = 0 + 0 + 1 * l.val)⟩

/-- Likewise, sixteen apart, as the slab places it. -/
theorem emb16 (r : Fin 16) (w : FVec Ideal S32x128 .f32) (x : (piece16 r w).1.shape.Idx) :
    ((piece16 r w).1.emb x 1).val = r.val + 16 * (x 1).val ∧ ((piece16 r w).1.emb x 2).val = (x 2).val := by
  constructor
  · show 0 + r.val + 16 * (x 1).val = _; omega
  · show 0 + 0 + 1 * (x 2).val = _; omega

/-- What the third slab holds once the sixteen runs are stored. -/
theorem read16 (w : Fin 16 → FVec Ideal S32x128 .f32) (L : List Pc) (i : Fin 512) (l : Fin 128) :
    v.readCov (Val := Elt Ideal) (stage16 w ++ L) (Rect.unit (s := S3x512x128) ![2, 0, 0] S1x512x128.size inb_S3x512x128_S1x512x128_2_0_0).toLoadRect (ix3 0 i l)
      = w ⟨i.val % 16, Nat.mod_lt _ (by decide)⟩ (ix2 ⟨i.val / 16, by omega⟩ l) := by
  unfold View.readCov
  rw [View.writes_append, View.readAt_apply]
  rw [View.read_writes_apply_of_pieces v _ (fun y => w ⟨(y 1).val % 16, Nat.mod_lt _ (by decide)⟩ (ix2 ⟨(y 1).val / 16, by have := (y 1).isLt; change _ < 512 at this; omega⟩ ⟨(y 2).val, (y 2).isLt⟩))]
  · have h1 : ((Rect.unit (s := S3x512x128) ![2, 0, 0] S1x512x128.size inb_S3x512x128_S1x512x128_2_0_0).toLoadRect.idx (ix3 0 i l) 1).val = i.val := by
      show 0 + 1 * i.val = i.val; omega
    have h2 : ((Rect.unit (s := S3x512x128) ![2, 0, 0] S1x512x128.size inb_S3x512x128_S1x512x128_2_0_0).toLoadRect.idx (ix3 0 i l) 2).val = l.val := by
      show 0 + 1 * l.val = l.val; omega
    exact congrArg₂ (fun r z => w r z) (Fin.ext (by dsimp only; rw [h1])) (ext2 (by show _ / 16 = i.val / 16; rw [h1]) h2)
  · intro p hp x
    obtain ⟨r, -, rfl⟩ := List.mem_map.1 hp
    obtain ⟨e1, e2⟩ := emb16 r (w r) x
    have hx : (x 1).val < 32 := (x 1).isLt
    refine (Rect.payAlong_consLift (rows16 r) ![1, 512, 128] rfl (by decide) (w r) _ x (ix2 ⟨(x 1).val, hx⟩ ⟨(x 2).val, (x 2).isLt⟩) ?_).trans ?_
    · intro a
      match a with
      | ⟨0, _⟩ => rfl
      | ⟨1, _⟩ => rfl
    · exact congrArg₂ (fun r z => w r z) (Fin.ext (by dsimp only; rw [e1]; omega)) (ext2 (by show (x 1).val = _ / 16; rw [e1]; omega) e2.symm)
  · refine ⟨piece16 ⟨i.val % 16, Nat.mod_lt _ (by decide)⟩ _, List.mem_map.2 ⟨_, ?_, rfl⟩, ?_⟩
    · generalize (⟨i.val % 16, Nat.mod_lt _ (by decide)⟩ : Fin 16) = r
      revert r; decide
    · refine (LoadRect.mem_set _).2 fun a => ?_
      match a with
      | ⟨0, _⟩ => exact ⟨0, Nat.one_pos, rfl⟩
      | ⟨1, _⟩ => exact ⟨i.val / 16, (by omega : i.val / 16 < 32), (by omega : 0 + 1 * i.val = 0 + i.val % 16 + 16 * (i.val / 16))⟩
      | ⟨2, _⟩ => exact ⟨l.val, l.isLt, (by omega : 0 + 1 * l.val = 0 + 0 + 1 * l.val)⟩

end Cert.MergeStage

end
-- ==== Proof.MergeHeads.lean ====
/-
  The merge of the head groups: the values its body stages, head by head, and the heads it lays side by side.
-/
module

public import proofs.«01_k».proof.Proof.MergeStage

@[expose] public section

set_option maxRecDepth 16384

noncomputable section

namespace Cert.MergeHeads

open Idealize.ShloMosaic Idealize.ShloMosaic.TcCoe Idealize.SL.Sem Cert.MergeIdeal Cert.MergeIdeal.Gen Cert.Dense Cert.MergeStage

variable (c : Dev nD) (arg1 : Memref sig .tc .vmem S1x1x512x1024 .bf16) (harg1 : arg1.IsWhole)
  (arg2 : Memref sig .tc .vmem S1x4x128x1024 .bf16) (harg2 : arg2.IsWhole) (arg3 : Memref sig .tc .vmem S1x16x32x1024 .bf16) (harg3 : arg3.IsWhole)
  (arg4 : Memref sig .tc .vmem S1x1x512x128 .f32) (harg4 : arg4.IsWhole) (arg5 : Memref sig .tc .vmem S1x4x128x128 .f32) (harg5 : arg5.IsWhole)
  (arg6 : Memref sig .tc .vmem S1x16x32x128 .f32) (harg6 : arg6.IsWhole) (arg7 : Memref sig .tc .vmem S512x1024 .bf16) (harg7 : arg7.IsWhole)
  (arg14 : Memref sig .tc .vmem S512x1024 .bf16) (arg15 arg16 : Memref sig .tc .vmem S3x512x128 .f32)
  (x0 : Vec Ideal S1x1x512x1024 .bf16) (x1 : Vec Ideal S1x4x128x1024 .bf16) (x2 : Vec Ideal S1x16x32x1024 .bf16) (x3 : Vec Ideal S1x1x512x128 .f32)
  (x4 : Vec Ideal S1x4x128x128 .f32) (x5 : Vec Ideal S1x16x32x128 .f32) (x6 : Vec Ideal S512x1024 .bf16)

/-- A load through a whole buffer reads the contents at the rectangle's index. -/
theorem rd {s : Shape} {e : EltTy} {a : Memref sig .tc .vmem s e} (ha : a.IsWhole) (x : Vec Ideal s e) (B : LoadRect s) (y : B.shape.Idx) :
    View.readAt (Elt Ideal) a.view B (ha.unread x) y = x (B.idx y) := by
  rw [View.readAt_apply, ha.read_unread]

/-- Indices with four coordinates agree when their coordinates do. -/
theorem ext4 {s : Fin 4 → Nat} {y z : (⟨4, s⟩ : Shape).Idx} (h0 : (y 0).val = (z 0).val) (h1 : (y 1).val = (z 1).val) (h2 : (y 2).val = (z 2).val)
    (h3 : (y 3).val = (z 3).val) : y = z := by
  funext a
  match a with
  | ⟨0, _⟩ => exact Fin.ext h0
  | ⟨1, _⟩ => exact Fin.ext h1
  | ⟨2, _⟩ => exact Fin.ext h2
  | ⟨3, _⟩ => exact Fin.ext h3

/-- Lane `l` of head `h`. -/
abbrev ln (h : Fin 8) (l : Fin 128) : Fin 1024 := ⟨128 * h.val + l.val, by omega⟩

/-- Head `h`'s lanes of run `r` of the group stepped by four. -/
def chunk4 (h : Fin 8) (r : Fin 4) : FVec Ideal S128x128 .f32 :=
  k0_pay75 (View.readAt (Elt Ideal) arg2.view (Rect.unit (s := S1x4x128x1024) ![0, r.val, 0, 128 * h.val] S1x1x128x128.size
    (by revert r h; decide)).toLoadRect (harg2.unread x1))

/-- Head `h`'s lanes of run `r` of the group stepped by sixteen. -/
def chunk16 (h : Fin 8) (r : Fin 16) : FVec Ideal S32x128 .f32 :=
  k0_pay55 (View.readAt (Elt Ideal) arg3.view (Rect.unit (s := S1x16x32x1024) ![0, r.val, 0, 128 * h.val] S1x1x32x128.size
    (by revert r h; decide)).toLoadRect (harg3.unread x2))

/-- Run `r` of the log-sum-exps of the group stepped by four. -/
def lse4 (r : Fin 4) : FVec Ideal S128x128 .f32 :=
  shapeCast S128x128 (shapeCast S128x128 (View.readAt (Elt Ideal) arg5.view (Rect.unit (s := S1x4x128x128) ![0, r.val, 0, 0] S1x1x128x128.size
    (by revert r; decide)).toLoadRect (harg5.unread x4)) shapeCasts_S1x1x128x128_S128x128) shapeCasts_S128x128_S128x128

/-- Run `r` of the log-sum-exps of the group stepped by sixteen. -/
def lse16 (r : Fin 16) : FVec Ideal S32x128 .f32 :=
  k0_pay28 (View.readAt (Elt Ideal) arg6.view (Rect.unit (s := S1x16x32x128) ![0, r.val, 0, 0] S1x1x32x128.size
    (by revert r; decide)).toLoadRect (harg6.unread x5))

theorem pay4_apply (X : Vec Ideal S1x1x128x128 .bf16) (i l : Fin 128) : k0_pay75 X (ix2 i l) = X (ix4 0 0 i l) := by
  pointwise [k0_pay75]

theorem pay16_apply (X : Vec Ideal S1x1x32x128 .bf16) (i : Fin 32) (l : Fin 128) : k0_pay55 X (ix2 i l) = X (ix4 0 0 i l) := by
  pointwise [k0_pay55]

theorem payl4_apply (X : Vec Ideal S1x1x128x128 .f32) (i l : Fin 128) :
    shapeCast S128x128 (shapeCast S128x128 X shapeCasts_S1x1x128x128_S128x128) shapeCasts_S128x128_S128x128 (ix2 i l) = X (ix4 0 0 i l) := by
  pointwise []

theorem payl16_apply (X : Vec Ideal S1x1x32x128 .f32) (i : Fin 32) (l : Fin 128) : k0_pay28 X (ix2 i l) = X (ix4 0 0 i l) := by
  pointwise [k0_pay28]

theorem chunk4_apply (h : Fin 8) (r : Fin 4) (i l : Fin 128) : chunk4 arg2 harg2 x1 h r (ix2 i l) = x1 (ix4 0 r i (ln h l)) := by
  unfold chunk4
  refine (pay4_apply _ _ _).trans ((rd _ _ _ _).trans ?_)
  exact congrArg x1 (ext4 rfl (by show r.val + 1 * 0 = r.val; omega) (by show 0 + 1 * i.val = i.val; omega) (by show 128 * h.val + 1 * l.val = 128 * h.val + l.val; omega))

theorem chunk16_apply (h : Fin 8) (r : Fin 16) (i : Fin 32) (l : Fin 128) : chunk16 arg3 harg3 x2 h r (ix2 i l) = x2 (ix4 0 r i (ln h l)) := by
  unfold chunk16
  refine (pay16_apply _ _ _).trans ((rd _ _ _ _).trans ?_)
  exact congrArg x2 (ext4 rfl (by show r.val + 1 * 0 = r.val; omega) (by show 0 + 1 * i.val = i.val; omega) (by show 128 * h.val + 1 * l.val = 128 * h.val + l.val; omega))

theorem lse4_apply (r : Fin 4) (i l : Fin 128) : lse4 arg5 harg5 x4 r (ix2 i l) = x4 (ix4 0 r i l) := by
  unfold lse4
  refine (payl4_apply _ _ _).trans ((rd _ _ _ _).trans ?_)
  exact congrArg x4 (ext4 rfl (by show r.val + 1 * 0 = r.val; omega) (by show 0 + 1 * i.val = i.val; omega) (by show 0 + 1 * l.val = l.val; omega))

theorem lse16_apply (r : Fin 16) (i : Fin 32) (l : Fin 128) : lse16 arg6 harg6 x5 r (ix2 i l) = x5 (ix4 0 r i l) := by
  unfold lse16
  refine (payl16_apply _ _ _).trans ((rd _ _ _ _).trans ?_)
  exact congrArg x5 (ext4 rfl (by show r.val + 1 * 0 = r.val; omega) (by show 0 + 1 * i.val = i.val; omega) (by show 0 + 1 * l.val = l.val; omega))

/-- The slab of the group stepped by four, as loaded for each head. -/
def slabs4 : Fin 8 → Vec Ideal S1x512x128 .f32 :=
  ![kernelRun0_A.sl.v212 (F := Ideal) c arg2 harg2 arg15 x1,
    kernelRun0_A.sl.v400 (F := Ideal) c arg2 harg2 arg3 harg3 arg15 x1 x2,
    kernelRun0_A.sl.v594 (F := Ideal) c arg2 harg2 arg3 harg3 arg15 x1 x2,
    kernelRun0_A.sl.v782 (F := Ideal) c arg2 harg2 arg3 harg3 arg15 x1 x2,
    kernelRun0_A.sl.v978 (F := Ideal) c arg2 harg2 arg3 harg3 arg15 x1 x2,
    kernelRun0_A.sl.v1166 (F := Ideal) c arg2 harg2 arg3 harg3 arg15 x1 x2,
    kernelRun0_A.sl.v1362 (F := Ideal) c arg2 harg2 arg3 harg3 arg15 x1 x2,
    kernelRun0_A.sl.v1550 (F := Ideal) c arg2 harg2 arg3 harg3 arg15 x1 x2]

/-- The slab of the group stepped by sixteen, as loaded for each head. -/
def slabs16 : Fin 8 → Vec Ideal S1x512x128 .f32 :=
  ![kernelRun0_A.sl.v347 (F := Ideal) c arg2 harg2 arg3 harg3 arg15 x1 x2,
    kernelRun0_A.sl.v535 (F := Ideal) c arg2 harg2 arg3 harg3 arg15 x1 x2,
    kernelRun0_A.sl.v729 (F := Ideal) c arg2 harg2 arg3 harg3 arg15 x1 x2,
    kernelRun0_A.sl.v917 (F := Ideal) c arg2 harg2 arg3 harg3 arg15 x1 x2,
    kernelRun0_A.sl.v1113 (F := Ideal) c arg2 harg2 arg3 harg3 arg15 x1 x2,
    kernelRun0_A.sl.v1301 (F := Ideal) c arg2 harg2 arg3 harg3 arg15 x1 x2,
    kernelRun0_A.sl.v1497 (F := Ideal) c arg2 harg2 arg3 harg3 arg15 x1 x2,
    kernelRun0_A.sl.v1685 (F := Ideal) c arg2 harg2 arg3 harg3 arg15 x1 x2]

theorem slabs4_apply (h : Fin 8) (i : Fin 512) (l : Fin 128) : slabs4 c arg2 harg2 arg3 harg3 arg15 x1 x2 h (ix3 0 i l)
    = x1 (ix4 0 ⟨i.val % 4, Nat.mod_lt _ (by decide)⟩ ⟨i.val / 4, by omega⟩ (ln h l)) := by
  refine Eq.trans ?_ (chunk4_apply arg2 harg2 x1 h _ _ l)
  match h with
  | ⟨0, _⟩ => exact read4 arg15.view (chunk4 arg2 harg2 x1 0) [] i l
  | ⟨1, _⟩ => exact read4 arg15.view (chunk4 arg2 harg2 x1 1) (kernelRun0_A.sl.HS1_20 (F := Ideal) c arg2 harg2 arg3 harg3 x1 x2) i l
  | ⟨2, _⟩ => exact read4 arg15.view (chunk4 arg2 harg2 x1 2) (kernelRun0_A.sl.HS1_40 (F := Ideal) c arg2 harg2 arg3 harg3 x1 x2) i l
  | ⟨3, _⟩ => exact read4 arg15.view (chunk4 arg2 harg2 x1 3) (kernelRun0_A.sl.HS1_60 (F := Ideal) c arg2 harg2 arg3 harg3 x1 x2) i l
  | ⟨4, _⟩ => exact read4 arg15.view (chunk4 arg2 harg2 x1 4) (kernelRun0_A.sl.HS1_80 (F := Ideal) c arg2 harg2 arg3 harg3 x1 x2) i l
  | ⟨5, _⟩ => exact read4 arg15.view (chunk4 arg2 harg2 x1 5) (kernelRun0_A.sl.HS1_100 (F := Ideal) c arg2 harg2 arg3 harg3 x1 x2) i l
  | ⟨6, _⟩ => exact read4 arg15.view (chunk4 arg2 harg2 x1 6) (kernelRun0_A.sl.HS1_120 (F := Ideal) c arg2 harg2 arg3 harg3 x1 x2) i l
  | ⟨7, _⟩ => exact read4 arg15.view (chunk4 arg2 harg2 x1 7) (kernelRun0_A.sl.HS1_140 (F := Ideal) c arg2 harg2 arg3 harg3 x1 x2) i l

theorem slabs16_apply (h : Fin 8) (i : Fin 512) (l : Fin 128) : slabs16 c arg2 harg2 arg3 harg3 arg15 x1 x2 h (ix3 0 i l)
    = x2 (ix4 0 ⟨i.val % 16, Nat.mod_lt _ (by decide)⟩ ⟨i.val / 16, by omega⟩ (ln h l)) := by
  refine Eq.trans ?_ (chunk16_apply arg3 harg3 x2 h _ _ l)
  match h with
  | ⟨0, _⟩ => exact read16 arg15.view (chunk16 arg3 harg3 x2 0) (kernelRun0_A.sl.HS1_4 (F := Ideal) c arg2 harg2 x1) i l
  | ⟨1, _⟩ => exact read16 arg15.view (chunk16 arg3 harg3 x2 1) (kernelRun0_A.sl.HS1_24 (F := Ideal) c arg2 harg2 arg3 harg3 x1 x2) i l
  | ⟨2, _⟩ => exact read16 arg15.view (chunk16 arg3 harg3 x2 2) (kernelRun0_A.sl.HS1_44 (F := Ideal) c arg2 harg2 arg3 harg3 x1 x2) i l
  | ⟨3, _⟩ => exact read16 arg15.view (chunk16 arg3 harg3 x2 3) (kernelRun0_A.sl.HS1_64 (F := Ideal) c arg2 harg2 arg3 harg3 x1 x2) i l
  | ⟨4, _⟩ => exact read16 arg15.view (chunk16 arg3 harg3 x2 4) (kernelRun0_A.sl.HS1_84 (F := Ideal) c arg2 harg2 arg3 harg3 x1 x2) i l
  | ⟨5, _⟩ => exact read16 arg15.view (chunk16 arg3 harg3 x2 5) (kernelRun0_A.sl.HS1_104 (F := Ideal) c arg2 harg2 arg3 harg3 x1 x2) i l
  | ⟨6, _⟩ => exact read16 arg15.view (chunk16 arg3 harg3 x2 6) (kernelRun0_A.sl.HS1_124 (F := Ideal) c arg2 harg2 arg3 harg3 x1 x2) i l
  | ⟨7, _⟩ => exact read16 arg15.view (chunk16 arg3 harg3 x2 7) (kernelRun0_A.sl.HS1_144 (F := Ideal) c arg2 harg2 arg3 harg3 x1 x2) i l

theorem v30_apply (i : Fin 512) (l : Fin 128) : kernelRun0_A.sl.v30 (F := Ideal) c arg5 harg5 arg16 x4 (ix3 0 i l)
    = x4 (ix4 0 ⟨i.val % 4, Nat.mod_lt _ (by decide)⟩ ⟨i.val / 4, by omega⟩ l) :=
  (read4 arg16.view (lse4 arg5 harg5 x4) [] i l).trans (lse4_apply arg5 harg5 x4 _ _ l)

theorem v144_apply (i : Fin 512) (l : Fin 128) : kernelRun0_A.sl.v144 (F := Ideal) c arg5 harg5 arg6 harg6 arg16 x4 x5 (ix3 0 i l)
    = x5 (ix4 0 ⟨i.val % 16, Nat.mod_lt _ (by decide)⟩ ⟨i.val / 16, by omega⟩ l) :=
  (read16 arg16.view (lse16 arg6 harg6 x5) (kernelRun0_A.sl.HS2_4 (F := Ideal) c arg5 harg5 x4) i l).trans (lse16_apply arg6 harg6 x5 _ _ l)

end Cert.MergeHeads

end
-- ==== Proof.MergeBody.lean ====
/-
  The merge of the head groups: the weights of the groups, the gated heads laid side by side, and the body's result.
-/
module

public import proofs.«01_k».proof.Proof.MergeHeads

@[expose] public section

set_option maxRecDepth 16384

noncomputable section

namespace Cert.MergeBody

open Idealize.ShloMosaic Idealize.ShloMosaic.TcCoe Idealize.SL.Sem Cert.MergeIdeal Cert.MergeIdeal.Gen Cert.Dense Cert.MergeStage Cert.MergeHeads

/-- The softmax of three scores: the weight of the score `x` among `a`, `b` and `d`. -/
def weight (x a b d : EReal) : EReal :=
  Ideal.div (Ideal.exp (x - max (max a b) d))
    (Ideal.exp (a - max (max a b) d) + Ideal.exp (b - max (max a b) d) + Ideal.exp (d - max (max a b) d))

/-- Three values merged by the softmax of their scores. -/
def mix (a b d u v w : EReal) : EReal := weight a a b d * u + weight b a b d * v + weight d a b d * w

section Ops
variable {F : FTy → Type} [FloatOps F]

/-- Column `h` of a block, repeated over the lanes. -/
def spread (h : Fin 8) (w : FVec F S512x128 .f32) : FVec F S512x128 .f32 :=
  broadcastTo S512x128 (shapeCast S512x1 (extractStridedSlice S512x1 ![0, h.val] w (by revert h; decide)) shapeCasts_S512x1_S512x1)
    broadcasts_S512x1_S512x128

/-- One head of the three groups, weighted, added up and gated. -/
def headPay (h : Fin 8) (w0 w1 w2 : FVec F S512x128 .f32) (a : Vec F S1x1x512x128 .bf16) (s t : Vec F S1x512x128 .f32)
    (g : Vec F S512x128 .bf16) : FVec F S512x128 .bf16 :=
  shapeCast S512x128 (truncf .bf16 (mulf (addf (addf
    (mulf (spread h w0) (extf .f32 (shapeCast S512x128 a shapeCasts_S1x1x512x128_S512x128) bitsLt_bf16_f32))
    (mulf (spread h w1) (shapeCast S512x128 s shapeCasts_S1x512x128_S512x128)))
    (mulf (spread h w2) (shapeCast S512x128 t shapeCasts_S1x512x128_S512x128)))
    (extf .f32 g bitsLt_bf16_f32)) bitsLt_bf16_f32) shapeCasts_S512x128_S512x128

end Ops

/-- The lane of head `h` in a row of log-sum-exps. -/
abbrev hl (h : Fin 8) : Fin 128 := ⟨h.val, by omega⟩

theorem spread_apply (h : Fin 8) (w : FVec Ideal S512x128 .f32) (i : Fin 512) (l : Fin 128) : spread h w (ix2 i l) = w (ix2 i (hl h)) := by
  pointwise [spread]

theorem headPay_apply (h : Fin 8) (w0 w1 w2 : FVec Ideal S512x128 .f32) (a : Vec Ideal S1x1x512x128 .bf16) (s t : Vec Ideal S1x512x128 .f32)
    (g : Vec Ideal S512x128 .bf16) (i : Fin 512) (l : Fin 128) :
    headPay h w0 w1 w2 a s t g (ix2 i l) = (w0 (ix2 i (hl h)) * a (ix4 0 0 i l) + w1 (ix2 i (hl h)) * s (ix3 0 i l)
      + w2 (ix2 i (hl h)) * t (ix3 0 i l)) * g (ix2 i l) := by
  rw [← spread_apply h w0 i l, ← spread_apply h w1 i l, ← spread_apply h w2 i l]
  pointwise [headPay]

variable (c : Dev nD) (arg1 : Memref sig .tc .vmem S1x1x512x1024 .bf16) (harg1 : arg1.IsWhole)
  (arg2 : Memref sig .tc .vmem S1x4x128x1024 .bf16) (harg2 : arg2.IsWhole) (arg3 : Memref sig .tc .vmem S1x16x32x1024 .bf16) (harg3 : arg3.IsWhole)
  (arg4 : Memref sig .tc .vmem S1x1x512x128 .f32) (harg4 : arg4.IsWhole) (arg5 : Memref sig .tc .vmem S1x4x128x128 .f32) (harg5 : arg5.IsWhole)
  (arg6 : Memref sig .tc .vmem S1x16x32x128 .f32) (harg6 : arg6.IsWhole) (arg7 : Memref sig .tc .vmem S512x1024 .bf16) (harg7 : arg7.IsWhole)
  (arg14 : Memref sig .tc .vmem S512x1024 .bf16) (arg15 arg16 : Memref sig .tc .vmem S3x512x128 .f32)
  (x0 : Vec Ideal S1x1x512x1024 .bf16) (x1 : Vec Ideal S1x4x128x1024 .bf16) (x2 : Vec Ideal S1x16x32x1024 .bf16) (x3 : Vec Ideal S1x1x512x128 .f32)
  (x4 : Vec Ideal S1x4x128x128 .f32) (x5 : Vec Ideal S1x16x32x128 .f32) (x6 : Vec Ideal S512x1024 .bf16)
  (arg8 : Memref sig .tc .vmem S512x1024 .bf16) (harg8 : arg8.IsWhole) (arg9 : Memref sig .tc .vmem S512x2048 .bf16) (harg9 : arg9.IsWhole)
  (arg10 : Memref sig .tc .vmem S512x2048 .bf16) (harg10 : arg10.IsWhole) (arg11 : Memref sig .tc .vmem S1024x2048 .bf16) (harg11 : arg11.IsWhole)
  (arg12 : Memref sig .tc .vmem S1024x2048 .bf16) (harg12 : arg12.IsWhole)
  (x7 : Vec Ideal S512x1024 .bf16) (x8 x9 : Vec Ideal S512x2048 .bf16) (x10 x11 : Vec Ideal S1024x2048 .bf16)

/-- The log-sum-exp of head `h` in row `i`, of the first group. -/
abbrev l0 (i : Fin 512) (h : Fin 8) : EReal := x3 (ix4 0 0 i (hl h))

/-- The log-sum-exp of head `h` in row `i`, of the group stepped by four. -/
abbrev l1 (i : Fin 512) (h : Fin 8) : EReal := x4 (ix4 0 ⟨i.val % 4, Nat.mod_lt _ (by decide)⟩ ⟨i.val / 4, by omega⟩ (hl h))

/-- The log-sum-exp of head `h` in row `i`, of the group stepped by sixteen. -/
abbrev l2 (i : Fin 512) (h : Fin 8) : EReal := x5 (ix4 0 ⟨i.val % 16, Nat.mod_lt _ (by decide)⟩ ⟨i.val / 16, by omega⟩ (hl h))

/-- The gated heads of row `i`, lane `l` of head `h`. -/
def head (i : Fin 512) (h : Fin 8) (l : Fin 128) : EReal :=
  mix (l0 x3 i h) (l1 x4 i h) (l2 x5 i h) (x0 (ix4 0 0 i (ln h l)))
    (x1 (ix4 0 ⟨i.val % 4, Nat.mod_lt _ (by decide)⟩ ⟨i.val / 4, by omega⟩ (ln h l)))
    (x2 (ix4 0 ⟨i.val % 16, Nat.mod_lt _ (by decide)⟩ ⟨i.val / 16, by omega⟩ (ln h l))) * x6 (ix2 i (ln h l))

/-- The first group's log-sum-exps, as the body reads them. -/
theorem v1_apply (i : Fin 512) (l : Fin 128) : kernelRun0_A.sl.v1 (F := Ideal) c arg4 harg4 x3 (ix2 i l) = x3 (ix4 0 0 i l) := by
  unfold kernelRun0_A.sl.v1
  generalize hX : View.readAt (Elt Ideal) arg4.view _ _ = X
  have hx : X (ix4 0 0 i l) = x3 (ix4 0 0 i l) := by
    rw [← hX, rd]
    exact congrArg x3 (ext4 rfl rfl (by show 0 + 1 * i.val = i.val; omega) (by show 0 + 1 * l.val = l.val; omega))
  rw [← hx]
  pointwise []

theorem v31_apply (i : Fin 512) (l : Fin 128) : kernelRun0_A.sl.v31 (F := Ideal) c arg5 harg5 arg16 x4 (ix2 i l)
    = x4 (ix4 0 ⟨i.val % 4, Nat.mod_lt _ (by decide)⟩ ⟨i.val / 4, by omega⟩ l) := by
  rw [← v30_apply c arg5 harg5 arg16 x4 i l]
  unfold kernelRun0_A.sl.v31
  generalize kernelRun0_A.sl.v30 (F := Ideal) c arg5 harg5 arg16 x4 = X
  pointwise []

/-- The first group's weights. -/
theorem w0_apply (i : Fin 512) (h : Fin 8) : kernelRun0_A.sl.r_3 (F := Ideal) c arg4 harg4 arg5 harg5 arg6 harg6 arg16 x3 x4 x5 (ix2 i (hl h)) = weight (l0 x3 i h) (l0 x3 i h) (l1 x4 i h) (l2 x5 i h) := by
  unfold l0 l1 l2
  rw [← v1_apply c arg4 harg4 x3 i (hl h), ← v31_apply c arg5 harg5 arg16 x4 i (hl h), ← v144_apply c arg5 harg5 arg6 harg6 arg16 x4 x5 i (hl h)]
  unfold kernelRun0_A.sl.r_3 kernelRun0_A.sl.r kernelRun0_A.sl.r_1 kernelRun0_A.sl.r_2
  generalize kernelRun0_A.sl.v1 (F := Ideal) c arg4 harg4 x3 = X, kernelRun0_A.sl.v31 (F := Ideal) c arg5 harg5 arg16 x4 = Y,
    kernelRun0_A.sl.v144 (F := Ideal) c arg5 harg5 arg6 harg6 arg16 x4 x5 = Z
  pointwise [k0_pay29, k0_pay30, k0_pay31, k0_pay32, k0_pay33, k0_pay34, k0_pay35, k0_pay36, weight]

/-- The weights of the group stepped by four. -/
theorem w1_apply (i : Fin 512) (h : Fin 8) : kernelRun0_A.sl.r_4 (F := Ideal) c arg4 harg4 arg5 harg5 arg6 harg6 arg16 x3 x4 x5 (ix2 i (hl h)) = weight (l1 x4 i h) (l0 x3 i h) (l1 x4 i h) (l2 x5 i h) := by
  unfold l0 l1 l2
  rw [← v1_apply c arg4 harg4 x3 i (hl h), ← v31_apply c arg5 harg5 arg16 x4 i (hl h), ← v144_apply c arg5 harg5 arg6 harg6 arg16 x4 x5 i (hl h)]
  unfold kernelRun0_A.sl.r_4 kernelRun0_A.sl.r kernelRun0_A.sl.r_1 kernelRun0_A.sl.r_2
  generalize kernelRun0_A.sl.v1 (F := Ideal) c arg4 harg4 x3 = X, kernelRun0_A.sl.v31 (F := Ideal) c arg5 harg5 arg16 x4 = Y,
    kernelRun0_A.sl.v144 (F := Ideal) c arg5 harg5 arg6 harg6 arg16 x4 x5 = Z
  pointwise [k0_pay29, k0_pay30, k0_pay31, k0_pay32, k0_pay33, k0_pay34, k0_pay35, k0_pay37, weight]

/-- The weights of the group stepped by sixteen. -/
theorem w2_apply (i : Fin 512) (h : Fin 8) : kernelRun0_A.sl.r_5 (F := Ideal) c arg4 harg4 arg5 harg5 arg6 harg6 arg16 x3 x4 x5 (ix2 i (hl h)) = weight (l2 x5 i h) (l0 x3 i h) (l1 x4 i h) (l2 x5 i h) := by
  unfold l0 l1 l2
  rw [← v1_apply c arg4 harg4 x3 i (hl h), ← v31_apply c arg5 harg5 arg16 x4 i (hl h), ← v144_apply c arg5 harg5 arg6 harg6 arg16 x4 x5 i (hl h)]
  unfold kernelRun0_A.sl.r_5 kernelRun0_A.sl.r kernelRun0_A.sl.r_1 kernelRun0_A.sl.r_2
  generalize kernelRun0_A.sl.v1 (F := Ideal) c arg4 harg4 x3 = X, kernelRun0_A.sl.v31 (F := Ideal) c arg5 harg5 arg16 x4 = Y,
    kernelRun0_A.sl.v144 (F := Ideal) c arg5 harg5 arg6 harg6 arg16 x4 x5 = Z
  pointwise [k0_pay29, k0_pay30, k0_pay31, k0_pay32, k0_pay33, k0_pay34, k0_pay35, k0_pay38, weight]

theorem inbH (h : Fin 8) : ∀ a, (![0, 128 * h.val] : Fin 2 → Nat) a + S512x128.size a ≤ S512x1024.size a := by
  revert h; decide

/-- Head `h` as the body stores it. -/
def stored (h : Fin 8) : FVec Ideal S512x128 .bf16 :=
  headPay h (kernelRun0_A.sl.r_3 (F := Ideal) c arg4 harg4 arg5 harg5 arg6 harg6 arg16 x3 x4 x5) (kernelRun0_A.sl.r_4 (F := Ideal) c arg4 harg4 arg5 harg5 arg6 harg6 arg16 x3 x4 x5) (kernelRun0_A.sl.r_5 (F := Ideal) c arg4 harg4 arg5 harg5 arg6 harg6 arg16 x3 x4 x5)
    (View.readAt (Elt Ideal) arg1.view (Rect.unit (s := S1x1x512x1024) ![0, 0, 0, 128 * h.val] S1x1x512x128.size (by revert h; decide)).toLoadRect (harg1.unread x0))
    (slabs4 c arg2 harg2 arg3 harg3 arg15 x1 x2 h) (slabs16 c arg2 harg2 arg3 harg3 arg15 x1 x2 h)
    (View.readAt (Elt Ideal) arg7.view (Rect.unit (s := S512x1024) ![0, 128 * h.val] S512x128.size (inbH h)).toLoadRect (harg7.unread x6))

theorem stored_apply (h : Fin 8) (i : Fin 512) (l : Fin 128) : stored c arg1 harg1 arg2 harg2 arg3 harg3 arg4 harg4 arg5 harg5 arg6 harg6 arg7 harg7 arg15 arg16 x0 x1 x2 x3 x4 x5 x6 h (ix2 i l) = head x0 x1 x2 x3 x4 x5 x6 i h l := by
  have ha : View.readAt (Elt Ideal) arg1.view (Rect.unit (s := S1x1x512x1024) ![0, 0, 0, 128 * h.val] S1x1x512x128.size (by revert h; decide)).toLoadRect (harg1.unread x0)
      (ix4 0 0 i l) = x0 (ix4 0 0 i (ln h l)) :=
    (rd _ _ _ _).trans (congrArg x0 (ext4 rfl rfl (by show 0 + 1 * i.val = i.val; omega) (by show 128 * h.val + 1 * l.val = 128 * h.val + l.val; omega)))
  have hg : View.readAt (Elt Ideal) arg7.view (Rect.unit (s := S512x1024) ![0, 128 * h.val] S512x128.size (inbH h)).toLoadRect (harg7.unread x6)
      (ix2 i l) = x6 (ix2 i (ln h l)) :=
    (rd _ _ _ _).trans (congrArg x6 (ext2 (by show 0 + 1 * i.val = i.val; omega) (by show 128 * h.val + 1 * l.val = 128 * h.val + l.val; omega)))
  unfold stored
  rw [headPay_apply, w0_apply, w1_apply, w2_apply, slabs4_apply, slabs16_apply, ha, hg]
  rfl

/-- Head `h` in its lanes of the block. -/
def lane (h : Fin 8) (w : FVec Ideal S512x128 .bf16) : View.Piece (Elt Ideal) S512x1024 .bf16 :=
  ⟨Rect.unit (s := S512x1024) ![0, 128 * h.val] S512x128.size (inbH h), w⟩

/-- The block's row `i` at column `k`. -/
def gated (i : Fin 512) (k : Fin 1024) : EReal := head x0 x1 x2 x3 x4 x5 x6 i ⟨k.val / 128, by omega⟩ ⟨k.val % 128, Nat.mod_lt _ (by decide)⟩

/-- Where the heads of a list are stored, the block reads as the gated heads. -/
theorem read_lanes (v : View sig .tc .vmem S512x1024 .bf16) (hs : List (Fin 8)) (off : Nat) (hoff : ∀ a, (![0, off] : Fin 2 → Nat) a + S512x256.size a ≤ S512x1024.size a)
    (ho : ∀ k < 256, ∃ h ∈ hs, h.val = (off + k) / 128) (i : Fin 512) (k : Fin 256) :
    v.readCov (Val := Elt Ideal) (hs.map fun h => lane h (stored c arg1 harg1 arg2 harg2 arg3 harg3 arg4 harg4 arg5 harg5 arg6 harg6 arg7 harg7 arg15 arg16 x0 x1 x2 x3 x4 x5 x6 h)) (Rect.unit (s := S512x1024) ![0, off] S512x256.size hoff).toLoadRect (ix2 i k)
      = gated x0 x1 x2 x3 x4 x5 x6 i ⟨off + k.val, by have := hoff 1; change off + 256 ≤ 1024 at this; omega⟩ := by
  unfold View.readCov
  rw [View.readAt_apply]
  have h0 : ((Rect.unit (s := S512x1024) ![0, off] S512x256.size hoff).toLoadRect.idx (ix2 i k) 0).val = i.val := by show 0 + 1 * i.val = i.val; omega
  have h1 : ((Rect.unit (s := S512x1024) ![0, off] S512x256.size hoff).toLoadRect.idx (ix2 i k) 1).val = off + k.val := by show off + 1 * k.val = off + k.val; omega
  refine (View.read_writes_apply_of_pieces v _ (fun y => gated x0 x1 x2 x3 x4 x5 x6 (y 0) (y 1)) _ ?_ _ ?_).trans
    (congrArg₂ (gated x0 x1 x2 x3 x4 x5 x6) (Fin.ext h0) (Fin.ext h1))
  · intro p hp x
    obtain ⟨h, -, rfl⟩ := List.mem_map.1 hp
    have hx : (x 1).val < 128 := (x 1).isLt
    refine (congrArg (stored c arg1 harg1 arg2 harg2 arg3 harg3 arg4 harg4 arg5 harg5 arg6 harg6 arg7 harg7 arg15 arg16 x0 x1 x2 x3 x4 x5 x6 h) (eq_ix2 (n0 := 512) (n1 := 128) x)).trans
      ((stored_apply c arg1 harg1 arg2 harg2 arg3 harg3 arg4 harg4 arg5 harg5 arg6 harg6 arg7 harg7 arg15 arg16 x0 x1 x2 x3 x4 x5 x6 h (x 0) (x 1)).trans ?_)
    have e0 : (lane h (stored c arg1 harg1 arg2 harg2 arg3 harg3 arg4 harg4 arg5 harg5 arg6 harg6 arg7 harg7 arg15 arg16 x0 x1 x2 x3 x4 x5 x6 h)).1.emb x 0 = x 0 := Fin.ext (by show 0 + 1 * (x 0).val = (x 0).val; omega)
    have e1 : ((lane h (stored c arg1 harg1 arg2 harg2 arg3 harg3 arg4 harg4 arg5 harg5 arg6 harg6 arg7 harg7 arg15 arg16 x0 x1 x2 x3 x4 x5 x6 h)).1.emb x 1).val = 128 * h.val + (x 1).val := by
      show 128 * h.val + 1 * (x 1).val = _; omega
    show _ = gated x0 x1 x2 x3 x4 x5 x6 ((lane h (stored c arg1 harg1 arg2 harg2 arg3 harg3 arg4 harg4 arg5 harg5 arg6 harg6 arg7 harg7 arg15 arg16 x0 x1 x2 x3 x4 x5 x6 h)).1.emb x 0) ((lane h (stored c arg1 harg1 arg2 harg2 arg3 harg3 arg4 harg4 arg5 harg5 arg6 harg6 arg7 harg7 arg15 arg16 x0 x1 x2 x3 x4 x5 x6 h)).1.emb x 1)
    rw [e0]
    exact congrArg₂ (head x0 x1 x2 x3 x4 x5 x6 (x 0)) (Fin.ext (by dsimp only; rw [e1]; omega)) (Fin.ext (by dsimp only; rw [e1]; omega))
  · obtain ⟨h, hm, e⟩ := ho k.val k.isLt
    refine ⟨lane h _, List.mem_map.2 ⟨h, hm, rfl⟩, (LoadRect.mem_set _).2 fun a => ?_⟩
    match a with
    | ⟨0, _⟩ => exact ⟨i.val, i.isLt, rfl⟩
    | ⟨1, _⟩ => exact ⟨(off + k.val) % 128, (Nat.mod_lt _ (by decide) : _ < 128), (by omega : off + 1 * k.val = 128 * h.val + 1 * ((off + k.val) % 128))⟩

/-- The block's pieces when 2 heads are stored. -/
theorem pieces2 : kernelRun0_A.sl.HS0_2 (F := Ideal) c arg1 harg1 arg2 harg2 arg3 harg3 arg4 harg4 arg5 harg5 arg6 harg6 arg7 harg7 arg15 arg16 x0 x1 x2 x3 x4 x5 x6 = ([1, 0] : List (Fin 8)).map fun h => lane h (stored c arg1 harg1 arg2 harg2 arg3 harg3 arg4 harg4 arg5 harg5 arg6 harg6 arg7 harg7 arg15 arg16 x0 x1 x2 x3 x4 x5 x6 h) := rfl

theorem v546_apply (i : Fin 512) (k : Fin 256) : kernelRun0_A.sl.v546 (F := Ideal) c arg1 harg1 arg2 harg2 arg3 harg3 arg4 harg4 arg5 harg5 arg6 harg6 arg7 harg7 arg14 arg15 arg16 x0 x1 x2 x3 x4 x5 x6 (ix2 i k) = gated x0 x1 x2 x3 x4 x5 x6 i ⟨0 + k.val, by omega⟩ := by
  unfold kernelRun0_A.sl.v546
  rw [pieces2]
  exact read_lanes c arg1 harg1 arg2 harg2 arg3 harg3 arg4 harg4 arg5 harg5 arg6 harg6 arg7 harg7 arg15 arg16 x0 x1 x2 x3 x4 x5 x6 arg14.view _ 0 inb_S512x1024_S512x256_0_0 (by decide) i k

/-- The block's pieces when 4 heads are stored. -/
theorem pieces4 : kernelRun0_A.sl.HS0_4 (F := Ideal) c arg1 harg1 arg2 harg2 arg3 harg3 arg4 harg4 arg5 harg5 arg6 harg6 arg7 harg7 arg15 arg16 x0 x1 x2 x3 x4 x5 x6 = ([3, 2, 1, 0] : List (Fin 8)).map fun h => lane h (stored c arg1 harg1 arg2 harg2 arg3 harg3 arg4 harg4 arg5 harg5 arg6 harg6 arg7 harg7 arg15 arg16 x0 x1 x2 x3 x4 x5 x6 h) := rfl

theorem v928_apply (i : Fin 512) (k : Fin 256) : kernelRun0_A.sl.v928 (F := Ideal) c arg1 harg1 arg2 harg2 arg3 harg3 arg4 harg4 arg5 harg5 arg6 harg6 arg7 harg7 arg14 arg15 arg16 x0 x1 x2 x3 x4 x5 x6 (ix2 i k) = gated x0 x1 x2 x3 x4 x5 x6 i ⟨256 + k.val, by omega⟩ := by
  unfold kernelRun0_A.sl.v928
  rw [pieces4]
  exact read_lanes c arg1 harg1 arg2 harg2 arg3 harg3 arg4 harg4 arg5 harg5 arg6 harg6 arg7 harg7 arg15 arg16 x0 x1 x2 x3 x4 x5 x6 arg14.view _ 256 inb_S512x1024_S512x256_0_256 (by decide) i k

/-- The block's pieces when 6 heads are stored. -/
theorem pieces6 : kernelRun0_A.sl.HS0_6 (F := Ideal) c arg1 harg1 arg2 harg2 arg3 harg3 arg4 harg4 arg5 harg5 arg6 harg6 arg7 harg7 arg15 arg16 x0 x1 x2 x3 x4 x5 x6 = ([5, 4, 3, 2, 1, 0] : List (Fin 8)).map fun h => lane h (stored c arg1 harg1 arg2 harg2 arg3 harg3 arg4 harg4 arg5 harg5 arg6 harg6 arg7 harg7 arg15 arg16 x0 x1 x2 x3 x4 x5 x6 h) := rfl

theorem v1312_apply (i : Fin 512) (k : Fin 256) : kernelRun0_A.sl.v1312 (F := Ideal) c arg1 harg1 arg2 harg2 arg3 harg3 arg4 harg4 arg5 harg5 arg6 harg6 arg7 harg7 arg14 arg15 arg16 x0 x1 x2 x3 x4 x5 x6 (ix2 i k) = gated x0 x1 x2 x3 x4 x5 x6 i ⟨512 + k.val, by omega⟩ := by
  unfold kernelRun0_A.sl.v1312
  rw [pieces6]
  exact read_lanes c arg1 harg1 arg2 harg2 arg3 harg3 arg4 harg4 arg5 harg5 arg6 harg6 arg7 harg7 arg15 arg16 x0 x1 x2 x3 x4 x5 x6 arg14.view _ 512 inb_S512x1024_S512x256_0_512 (by decide) i k

/-- The block's pieces when 8 heads are stored. -/
theorem pieces8 : kernelRun0_A.sl.HS0_8 (F := Ideal) c arg1 harg1 arg2 harg2 arg3 harg3 arg4 harg4 arg5 harg5 arg6 harg6 arg7 harg7 arg15 arg16 x0 x1 x2 x3 x4 x5 x6 = ([7, 6, 5, 4, 3, 2, 1, 0] : List (Fin 8)).map fun h => lane h (stored c arg1 harg1 arg2 harg2 arg3 harg3 arg4 harg4 arg5 harg5 arg6 harg6 arg7 harg7 arg15 arg16 x0 x1 x2 x3 x4 x5 x6 h) := rfl

theorem v1696_apply (i : Fin 512) (k : Fin 256) : kernelRun0_A.sl.v1696 (F := Ideal) c arg1 harg1 arg2 harg2 arg3 harg3 arg4 harg4 arg5 harg5 arg6 harg6 arg7 harg7 arg14 arg15 arg16 x0 x1 x2 x3 x4 x5 x6 (ix2 i k) = gated x0 x1 x2 x3 x4 x5 x6 i ⟨768 + k.val, by omega⟩ := by
  unfold kernelRun0_A.sl.v1696
  rw [pieces8]
  exact read_lanes c arg1 harg1 arg2 harg2 arg3 harg3 arg4 harg4 arg5 harg5 arg6 harg6 arg7 harg7 arg15 arg16 x0 x1 x2 x3 x4 x5 x6 arg14.view _ 768 inb_S512x1024_S512x256_0_768 (by decide) i k

end Cert.MergeBody

end
-- ==== Proof.MergeBlock.lean ====
/-
  The merge of the head groups, one block: 512 rows of the gated heads times one matrix, of the state space path's output
  times the other, each weighted by its gate. The body works in two halves of the columns and adds the first product up over
  four parts of its 1024 columns.
-/
module

public import proofs.«01_k».proof.Proof.MergeBody

@[expose] public section

set_option maxRecDepth 16384

noncomputable section

namespace Cert.MergeBlock

open Idealize.ShloMosaic Idealize.ShloMosaic.TcCoe Idealize.SL.Sem Cert.MergeIdeal Cert.MergeIdeal.Gen Cert.Dense Cert.MergeStage Cert.MergeHeads
open Cert.MergeBody hiding stored stored_apply

section Payloads
variable (a s : FVec Ideal S512x1024 .f32) (g : Vec Ideal S512x256 .bf16) (w : Vec Ideal S256x1024 .bf16) (ma : Vec Ideal S512x1024 .bf16)
  (i : Fin 512) (j : Fin 1024)

/-- The stored half: the last part of the product added, weighted, and the other product added. -/
theorem pay2_apply : k0_pay2 a s g w ma (ix2 i j) = ma (ix2 i j) * (s (ix2 i j) + dot g w i j) + a (ix2 i j) := by
  pointwise [k0_pay2, dot]

/-- The state space path's product, weighted. -/
theorem pay39_apply (ys ms : Vec Ideal S512x1024 .bf16) (u : Vec Ideal S1024x1024 .bf16) :
    (k0_pay39 ys ms u (ix2 i j) : EReal) = ms (ix2 i j) * dot ys u i j := by
  pointwise [k0_pay39, dot]

/-- The first part of the gated heads' product. -/
theorem pay100_apply : (k0_pay100 g w (ix2 i j) : EReal) = dot g w i j := by
  pointwise [k0_pay100, dot]

/-- A further part of it, added. -/
theorem pay163_apply : k0_pay163 s g w (ix2 i j) = s (ix2 i j) + dot g w i j := by
  pointwise [k0_pay163, dot]

end Payloads

/-- A sum over 1024 columns, taken 256 at a time. -/
theorem sum4 (f : Fin 1024 → EReal) :
    (∑ k : Fin 256, f ⟨0 + k.val, by omega⟩) + (∑ k : Fin 256, f ⟨256 + k.val, by omega⟩) + (∑ k : Fin 256, f ⟨512 + k.val, by omega⟩)
      + (∑ k : Fin 256, f ⟨768 + k.val, by omega⟩) = ∑ k, f k := by
  obtain ⟨F, hF⟩ : ∃ F : Nat → EReal, ∀ k : Fin 1024, f k = F k.val :=
    ⟨fun n => if h : n < 1024 then f ⟨n, h⟩ else 0, fun k => by simp⟩
  simp only [hF]
  rw [Fin.sum_univ_eq_sum_range (fun k => F (0 + k)) 256, Fin.sum_univ_eq_sum_range (fun k => F (256 + k)) 256,
    Fin.sum_univ_eq_sum_range (fun k => F (512 + k)) 256, Fin.sum_univ_eq_sum_range (fun k => F (768 + k)) 256,
    Fin.sum_univ_eq_sum_range (fun k => F k) 1024, show 1024 = 256 + 256 + 256 + 256 from rfl,
    Finset.sum_range_add, Finset.sum_range_add, Finset.sum_range_add]
  simp only [Nat.zero_add]

/-- A load of a block of a matrix reads the matrix there. -/
theorem rd2 {n m p q : Nat} {e : EltTy} {a : Memref sig .tc .vmem ⟨2, ![n, m]⟩ e} (ha : a.IsWhole) (x : Vec Ideal ⟨2, ![n, m]⟩ e) (ro co : Nat)
    (h : ∀ a, (![ro, co] : Fin 2 → Nat) a + (![p, q] : Fin 2 → Nat) a ≤ (⟨2, ![n, m]⟩ : Shape).size a) (i : Fin p) (j : Fin q)
    (hi : ro + i.val < n) (hj : co + j.val < m) :
    View.readAt (Elt Ideal) a.view (Rect.unit (s := ⟨2, ![n, m]⟩) ![ro, co] ![p, q] h).toLoadRect (ha.unread x) (ix2 i j)
      = x (ix2 ⟨ro + i.val, hi⟩ ⟨co + j.val, hj⟩) :=
  (rd _ _ _ _).trans (congrArg x (ext2 (by show ro + 1 * i.val = ro + i.val; omega) (by show co + 1 * j.val = co + j.val; omega)))

variable (c : Dev nD) (arg1 : Memref sig .tc .vmem S1x1x512x1024 .bf16) (harg1 : arg1.IsWhole)
  (arg2 : Memref sig .tc .vmem S1x4x128x1024 .bf16) (harg2 : arg2.IsWhole) (arg3 : Memref sig .tc .vmem S1x16x32x1024 .bf16) (harg3 : arg3.IsWhole)
  (arg4 : Memref sig .tc .vmem S1x1x512x128 .f32) (harg4 : arg4.IsWhole) (arg5 : Memref sig .tc .vmem S1x4x128x128 .f32) (harg5 : arg5.IsWhole)
  (arg6 : Memref sig .tc .vmem S1x16x32x128 .f32) (harg6 : arg6.IsWhole) (arg7 : Memref sig .tc .vmem S512x1024 .bf16) (harg7 : arg7.IsWhole)
  (arg14 : Memref sig .tc .vmem S512x1024 .bf16) (arg15 arg16 : Memref sig .tc .vmem S3x512x128 .f32)
  (x0 : Vec Ideal S1x1x512x1024 .bf16) (x1 : Vec Ideal S1x4x128x1024 .bf16) (x2 : Vec Ideal S1x16x32x1024 .bf16) (x3 : Vec Ideal S1x1x512x128 .f32)
  (x4 : Vec Ideal S1x4x128x128 .f32) (x5 : Vec Ideal S1x16x32x128 .f32) (x6 : Vec Ideal S512x1024 .bf16)
  (arg8 : Memref sig .tc .vmem S512x1024 .bf16) (harg8 : arg8.IsWhole) (arg9 : Memref sig .tc .vmem S512x2048 .bf16) (harg9 : arg9.IsWhole)
  (arg10 : Memref sig .tc .vmem S512x2048 .bf16) (harg10 : arg10.IsWhole) (arg11 : Memref sig .tc .vmem S1024x2048 .bf16) (harg11 : arg11.IsWhole)
  (arg12 : Memref sig .tc .vmem S1024x2048 .bf16) (harg12 : arg12.IsWhole)
  (x7 : Vec Ideal S512x1024 .bf16) (x8 x9 : Vec Ideal S512x2048 .bf16) (x10 x11 : Vec Ideal S1024x2048 .bf16)

/-- Row `i` and column `j` of the block. -/
def out (i : Fin 512) (j : Fin 2048) : EReal :=
  x8 (ix2 i j) * (∑ k, gated x0 x1 x2 x3 x4 x5 x6 i k * x10 (ix2 k j)) + x9 (ix2 i j) * dot x7 x11 i j

/-- A stored half of the block, from the loads of that half. -/
theorem half (g0 g1 g2 g3 : Vec Ideal S512x256 .bf16) (p q r s : Vec Ideal S256x1024 .bf16) (ma ms : Vec Ideal S512x1024 .bf16)
    (ys : Vec Ideal S512x1024 .bf16) (u : Vec Ideal S1024x1024 .bf16) (i : Fin 512) (j : Fin 1024) (J : Fin 2048)
    (h0 : ∀ k : Fin 256, g0 (ix2 i k) = gated x0 x1 x2 x3 x4 x5 x6 i ⟨0 + k.val, by omega⟩)
    (h1 : ∀ k : Fin 256, g1 (ix2 i k) = gated x0 x1 x2 x3 x4 x5 x6 i ⟨256 + k.val, by omega⟩)
    (h2 : ∀ k : Fin 256, g2 (ix2 i k) = gated x0 x1 x2 x3 x4 x5 x6 i ⟨512 + k.val, by omega⟩)
    (h3 : ∀ k : Fin 256, g3 (ix2 i k) = gated x0 x1 x2 x3 x4 x5 x6 i ⟨768 + k.val, by omega⟩)
    (hp : ∀ k : Fin 256, p (ix2 k j) = x10 (ix2 ⟨0 + k.val, by omega⟩ J)) (hq : ∀ k : Fin 256, q (ix2 k j) = x10 (ix2 ⟨256 + k.val, by omega⟩ J))
    (hr : ∀ k : Fin 256, r (ix2 k j) = x10 (ix2 ⟨512 + k.val, by omega⟩ J)) (hs : ∀ k : Fin 256, s (ix2 k j) = x10 (ix2 ⟨768 + k.val, by omega⟩ J))
    (hma : ma (ix2 i j) = x8 (ix2 i J)) (hms : ms (ix2 i j) = x9 (ix2 i J)) (hys : ∀ k, ys (ix2 i k) = x7 (ix2 i k)) (hu : ∀ k, u (ix2 k j) = x11 (ix2 k J)) :
    (k0_pay2 (k0_pay39 ys ms u) (k0_pay163 (k0_pay163 (k0_pay100 g0 p) g1 q) g2 r) g3 s ma (ix2 i j) : EReal)
      = out x0 x1 x2 x3 x4 x5 x6 x7 x8 x9 x10 x11 i J := by
  refine (pay2_apply _ _ _ _ _ _ _).trans ?_
  rw [pay39_apply, pay163_apply, pay163_apply, pay100_apply, hma, hms, dot_congr hys hu]
  unfold out
  rw [← sum4]
  unfold dot
  simp only [h0, h1, h2, h3, hp, hq, hr, hs]

theorem inb (p ro o n : Nat) (hn : ro + p ≤ n) (ho : o + 1024 ≤ 2048) :
    ∀ a, (![ro, o] : Fin 2 → Nat) a + (![p, 1024] : Fin 2 → Nat) a ≤ (⟨2, ![n, 2048]⟩ : Shape).size a := fun a =>
  match a with
  | ⟨0, _⟩ => hn
  | ⟨1, _⟩ => ho

/-- The loads of the half that starts at column `o`: of the first matrix, of the second, and of the two gates. -/
abbrev wA (o ro : Nat) (ho : o + 1024 ≤ 2048) (hr : ro + 256 ≤ 1024) : Vec Ideal S256x1024 .bf16 :=
  View.readAt (Elt Ideal) arg11.view (Rect.unit (s := S1024x2048) ![ro, o] ![256, 1024] (inb 256 ro o 1024 hr ho)).toLoadRect (harg11.unread x10)
abbrev wS (o : Nat) (ho : o + 1024 ≤ 2048) : Vec Ideal S1024x1024 .bf16 :=
  View.readAt (Elt Ideal) arg12.view (Rect.unit (s := S1024x2048) ![0, o] ![1024, 1024] (inb 1024 0 o 1024 (by decide) ho)).toLoadRect (harg12.unread x11)
abbrev mA (o : Nat) (ho : o + 1024 ≤ 2048) : Vec Ideal S512x1024 .bf16 :=
  View.readAt (Elt Ideal) arg9.view (Rect.unit (s := S512x2048) ![0, o] ![512, 1024] (inb 512 0 o 512 (by decide) ho)).toLoadRect (harg9.unread x8)
abbrev mS (o : Nat) (ho : o + 1024 ≤ 2048) : Vec Ideal S512x1024 .bf16 :=
  View.readAt (Elt Ideal) arg10.view (Rect.unit (s := S512x2048) ![0, o] ![512, 1024] (inb 512 0 o 512 (by decide) ho)).toLoadRect (harg10.unread x9)
abbrev yS : Vec Ideal S512x1024 .bf16 :=
  View.readAt (Elt Ideal) arg8.view (Rect.unit (s := S512x1024) ![0, 0] S512x1024.size inb_S512x1024_S512x1024_0_0).toLoadRect (harg8.unread x7)

/-- The stored half that starts at column `o`. -/
def stored (o : Nat) (ho : o + 1024 ≤ 2048) : FVec Ideal S512x1024 .bf16 :=
  k0_pay2 (k0_pay39 (yS arg8 harg8 x7) (mS arg10 harg10 x9 o ho) (wS arg12 harg12 x11 o ho))
    (k0_pay163 (k0_pay163 (k0_pay100 (kernelRun0_A.sl.v546 (F := Ideal) c arg1 harg1 arg2 harg2 arg3 harg3 arg4 harg4 arg5 harg5 arg6 harg6 arg7 harg7 arg14 arg15 arg16 x0 x1 x2 x3 x4 x5 x6) (wA arg11 harg11 x10 o 0 ho (by decide))) (kernelRun0_A.sl.v928 (F := Ideal) c arg1 harg1 arg2 harg2 arg3 harg3 arg4 harg4 arg5 harg5 arg6 harg6 arg7 harg7 arg14 arg15 arg16 x0 x1 x2 x3 x4 x5 x6) (wA arg11 harg11 x10 o 256 ho (by decide))) (kernelRun0_A.sl.v1312 (F := Ideal) c arg1 harg1 arg2 harg2 arg3 harg3 arg4 harg4 arg5 harg5 arg6 harg6 arg7 harg7 arg14 arg15 arg16 x0 x1 x2 x3 x4 x5 x6)
      (wA arg11 harg11 x10 o 512 ho (by decide))) (kernelRun0_A.sl.v1696 (F := Ideal) c arg1 harg1 arg2 harg2 arg3 harg3 arg4 harg4 arg5 harg5 arg6 harg6 arg7 harg7 arg14 arg15 arg16 x0 x1 x2 x3 x4 x5 x6) (wA arg11 harg11 x10 o 768 ho (by decide)) (mA arg9 harg9 x8 o ho)

theorem stored_apply (o : Nat) (ho : o + 1024 ≤ 2048) (i : Fin 512) (j : Fin 1024) :
    stored c arg1 harg1 arg2 harg2 arg3 harg3 arg4 harg4 arg5 harg5 arg6 harg6 arg7 harg7 arg14 arg15 arg16 x0 x1 x2 x3 x4 x5 x6 arg8 harg8 arg9 harg9 arg10 harg10 arg11 harg11 arg12 harg12 x7 x8 x9 x10 x11 o ho (ix2 i j) = out x0 x1 x2 x3 x4 x5 x6 x7 x8 x9 x10 x11 i ⟨o + j.val, by omega⟩ := by
  have h0 (r n : Nat) (h : 0 + r < n) (h' : r < n) : (⟨0 + r, h⟩ : Fin n) = ⟨r, h'⟩ := Fin.ext (Nat.zero_add r)
  refine half x0 x1 x2 x3 x4 x5 x6 x7 x8 x9 x10 x11 _ _ _ _ _ _ _ _ _ _ _ _ i j _ (v546_apply c arg1 harg1 arg2 harg2 arg3 harg3 arg4 harg4 arg5 harg5 arg6 harg6 arg7 harg7 arg14 arg15 arg16 x0 x1 x2 x3 x4 x5 x6 i) (v928_apply c arg1 harg1 arg2 harg2 arg3 harg3 arg4 harg4 arg5 harg5 arg6 harg6 arg7 harg7 arg14 arg15 arg16 x0 x1 x2 x3 x4 x5 x6 i) (v1312_apply c arg1 harg1 arg2 harg2 arg3 harg3 arg4 harg4 arg5 harg5 arg6 harg6 arg7 harg7 arg14 arg15 arg16 x0 x1 x2 x3 x4 x5 x6 i) (v1696_apply c arg1 harg1 arg2 harg2 arg3 harg3 arg4 harg4 arg5 harg5 arg6 harg6 arg7 harg7 arg14 arg15 arg16 x0 x1 x2 x3 x4 x5 x6 i)
    (fun k => rd2 harg11 x10 0 o _ k j _ _) (fun k => rd2 harg11 x10 256 o _ k j _ _) (fun k => rd2 harg11 x10 512 o _ k j _ _)
    (fun k => rd2 harg11 x10 768 o _ k j _ _) ?_ ?_ (fun k => ?_) (fun k => ?_)
  · exact (rd2 harg9 x8 0 o _ i j (by omega) (by omega)).trans (congrArg (fun r => x8 (ix2 r _)) (h0 _ _ _ _))
  · exact (rd2 harg10 x9 0 o _ i j (by omega) (by omega)).trans (congrArg (fun r => x9 (ix2 r _)) (h0 _ _ _ _))
  · exact (rd2 harg8 x7 0 0 _ i k (by omega) (by omega)).trans (congrArg₂ (fun r e => x7 (ix2 r e)) (h0 _ _ _ _) (h0 _ _ _ _))
  · exact (rd2 harg12 x11 0 o _ k j (by omega) (by omega)).trans (congrArg (fun r => x11 (ix2 r _)) (h0 _ _ _ _))

/-- A stored half in its columns of the block. -/
def piece (o : Nat) (ho : o + 1024 ≤ 2048) (w : FVec Ideal S512x1024 .bf16) : View.Piece (Elt Ideal) S512x2048 .bf16 :=
  ⟨Rect.unit (s := S512x2048) ![0, o] ![512, 1024] (inb 512 0 o 512 (by decide) ho), w⟩

/-- A half agrees with the block. -/
theorem piece_apply (o : Nat) (ho : o + 1024 ≤ 2048) (y : (piece o ho (stored c arg1 harg1 arg2 harg2 arg3 harg3 arg4 harg4 arg5 harg5 arg6 harg6 arg7 harg7 arg14 arg15 arg16 x0 x1 x2 x3 x4 x5 x6 arg8 harg8 arg9 harg9 arg10 harg10 arg11 harg11 arg12 harg12 x7 x8 x9 x10 x11 o ho)).1.shape.Idx) :
    (piece o ho (stored c arg1 harg1 arg2 harg2 arg3 harg3 arg4 harg4 arg5 harg5 arg6 harg6 arg7 harg7 arg14 arg15 arg16 x0 x1 x2 x3 x4 x5 x6 arg8 harg8 arg9 harg9 arg10 harg10 arg11 harg11 arg12 harg12 x7 x8 x9 x10 x11 o ho)).2 y = out x0 x1 x2 x3 x4 x5 x6 x7 x8 x9 x10 x11 ((piece o ho (stored c arg1 harg1 arg2 harg2 arg3 harg3 arg4 harg4 arg5 harg5 arg6 harg6 arg7 harg7 arg14 arg15 arg16 x0 x1 x2 x3 x4 x5 x6 arg8 harg8 arg9 harg9 arg10 harg10 arg11 harg11 arg12 harg12 x7 x8 x9 x10 x11 o ho)).1.emb y 0) ((piece o ho (stored c arg1 harg1 arg2 harg2 arg3 harg3 arg4 harg4 arg5 harg5 arg6 harg6 arg7 harg7 arg14 arg15 arg16 x0 x1 x2 x3 x4 x5 x6 arg8 harg8 arg9 harg9 arg10 harg10 arg11 harg11 arg12 harg12 x7 x8 x9 x10 x11 o ho)).1.emb y 1) := by
  have hy : (y 1).val < 1024 := (y 1).isLt
  refine (congrArg (stored c arg1 harg1 arg2 harg2 arg3 harg3 arg4 harg4 arg5 harg5 arg6 harg6 arg7 harg7 arg14 arg15 arg16 x0 x1 x2 x3 x4 x5 x6 arg8 harg8 arg9 harg9 arg10 harg10 arg11 harg11 arg12 harg12 x7 x8 x9 x10 x11 o ho) (eq_ix2 (n0 := 512) (n1 := 1024) y)).trans ((stored_apply c arg1 harg1 arg2 harg2 arg3 harg3 arg4 harg4 arg5 harg5 arg6 harg6 arg7 harg7 arg14 arg15 arg16 x0 x1 x2 x3 x4 x5 x6 arg8 harg8 arg9 harg9 arg10 harg10 arg11 harg11 arg12 harg12 x7 x8 x9 x10 x11 o ho (y 0) (y 1)).trans ?_)
  exact congrArg₂ (out x0 x1 x2 x3 x4 x5 x6 x7 x8 x9 x10 x11) (Fin.ext (by show (y 0).val = 0 + 1 * (y 0).val; omega))
    (Fin.ext (by show o + (y 1).val = o + 1 * (y 1).val; omega))

/-- The body's stores: its two halves. -/
theorem stores (t : grid0.Coords) (arg13 : Memref sig .tc .vmem S512x2048 .bf16) (harg13 : arg13.IsWhole) (harg14 : arg14.IsWhole) (harg15 : arg15.IsWhole)
    (harg16 : arg16.IsWhole) : (kernelRun0_A (F := Ideal) c t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).1
      = [piece 1024 (by decide) (stored c arg1 harg1 arg2 harg2 arg3 harg3 arg4 harg4 arg5 harg5 arg6 harg6 arg7 harg7 arg14 arg15 arg16 x0 x1 x2 x3 x4 x5 x6 arg8 harg8 arg9 harg9 arg10 harg10 arg11 harg11 arg12 harg12 x7 x8 x9 x10 x11 1024 (by decide)), piece 0 (by decide) (stored c arg1 harg1 arg2 harg2 arg3 harg3 arg4 harg4 arg5 harg5 arg6 harg6 arg7 harg7 arg14 arg15 arg16 x0 x1 x2 x3 x4 x5 x6 arg8 harg8 arg9 harg9 arg10 harg10 arg11 harg11 arg12 harg12 x7 x8 x9 x10 x11 0 (by decide))] := by
  unfold kernelRun0_A
  rfl

/-- The body's block, read at an index. -/
theorem out_apply (t : grid0.Coords) (arg13 : Memref sig .tc .vmem S512x2048 .bf16) (harg13 : arg13.IsWhole) (harg14 : arg14.IsWhole) (harg15 : arg15.IsWhole)
    (harg16 : arg16.IsWhole) (z : S512x2048.Idx) :
    out0_A_12 (F := Ideal) c t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 z = out x0 x1 x2 x3 x4 x5 x6 x7 x8 x9 x10 x11 (z 0) (z 1) := by
  unfold out0_A_12
  rw [stores]
  refine View.read_writes_apply_of_pieces (Val := Elt Ideal) VO0_12 _ (fun y => out x0 x1 x2 x3 x4 x5 x6 x7 x8 x9 x10 x11 (y 0) (y 1)) _ ?_ z ?_
  · intro p hp
    rcases List.mem_cons.1 hp with rfl | hp
    · exact piece_apply c arg1 harg1 arg2 harg2 arg3 harg3 arg4 harg4 arg5 harg5 arg6 harg6 arg7 harg7 arg14 arg15 arg16 x0 x1 x2 x3 x4 x5 x6 arg8 harg8 arg9 harg9 arg10 harg10 arg11 harg11 arg12 harg12 x7 x8 x9 x10 x11 1024 (by decide)
    · obtain rfl := List.mem_singleton.1 hp
      exact piece_apply c arg1 harg1 arg2 harg2 arg3 harg3 arg4 harg4 arg5 harg5 arg6 harg6 arg7 harg7 arg14 arg15 arg16 x0 x1 x2 x3 x4 x5 x6 arg8 harg8 arg9 harg9 arg10 harg10 arg11 harg11 arg12 harg12 x7 x8 x9 x10 x11 0 (by decide)
  · have hz0 : (z 0).val < 512 := (z 0).isLt
    have hz1 : (z 1).val < 2048 := (z 1).isLt
    rcases Nat.lt_or_ge (z 1).val 1024 with h | h
    · refine ⟨_, List.mem_cons_of_mem _ List.mem_cons_self, (LoadRect.mem_set _).2 fun a => ?_⟩
      match a with
      | ⟨0, _⟩ => exact ⟨(z 0).val, hz0, (by omega : (z 0).val = 0 + 1 * (z 0).val)⟩
      | ⟨1, _⟩ => exact ⟨(z 1).val, h, (by omega : (z 1).val = 0 + 1 * (z 1).val)⟩
    · refine ⟨_, List.mem_cons_self, (LoadRect.mem_set _).2 fun a => ?_⟩
      match a with
      | ⟨0, _⟩ => exact ⟨(z 0).val, hz0, (by omega : (z 0).val = 0 + 1 * (z 0).val)⟩
      | ⟨1, _⟩ => exact ⟨(z 1).val - 1024, (by omega : (z 1).val - 1024 < 1024), (by omega : (z 1).val = 1024 + 1 * ((z 1).val - 1024))⟩

end Cert.MergeBlock

end
-- ==== Proof.MergeValue.lean ====
/-
  The call that merges the head groups, run: each head is the three groups' heads weighted by the softmax of their
  log-sum-exps and gated; the heads side by side and the state space path's output each meet a matrix, and the two products
  are added under their gates.
-/
module

public import proofs.«01_k».proof.Proof.MergeBlock

@[expose] public section

set_option maxRecDepth 16384

noncomputable section

namespace Cert.MergeValue

open Idealize.ShloMosaic Idealize.ShloMosaic.TcCoe Idealize.SL.Sem Cert.MergeIdeal Cert.MergeIdeal.Gen Cert.Dense Cert.MergeHeads
open Cert.MergeBody (mix hl)

/-- Indices of a head group's rows: the sequence, the run, the row of the run, the lane. -/
abbrev Gx (d n l : Nat) : Type := (⟨4, ![2, d, n, l]⟩ : Shape).Idx

section Result
variable (a0 : Gx 1 4096 1024 → EReal) (a1 : Gx 4 1024 1024 → EReal) (a2 : Gx 16 256 1024 → EReal) (a3 : Gx 1 4096 128 → EReal)
  (a4 : Gx 4 1024 128 → EReal) (a5 : Gx 16 256 128 → EReal) (a6 a7 : Ix 8192 1024 → EReal) (a8 : Ix 8192 4096 → EReal) (a9 a10 : Ix 1024 2048 → EReal)

/-- Where row `r` of the tokens stands in a group stepped by `d`. -/
abbrev at1 {l : Nat} (r : Fin 8192) (e : Fin l) : Gx 1 4096 l := ix4 ⟨r.val / 4096, by omega⟩ 0 ⟨r.val % 4096, by omega⟩ e
abbrev at4 {l : Nat} (r : Fin 8192) (e : Fin l) : Gx 4 1024 l :=
  ix4 ⟨r.val / 4096, by omega⟩ ⟨r.val % 4096 % 4, by omega⟩ ⟨r.val % 4096 / 4, by omega⟩ e
abbrev at16 {l : Nat} (r : Fin 8192) (e : Fin l) : Gx 16 256 l :=
  ix4 ⟨r.val / 4096, by omega⟩ ⟨r.val % 4096 % 16, by omega⟩ ⟨r.val % 4096 / 16, by omega⟩ e

/-- The merged and gated heads: row `r`, lane `l` of head `h`. -/
def head (r : Fin 8192) (h : Fin 8) (l : Fin 128) : EReal :=
  mix (a3 (at1 r (hl h))) (a4 (at4 r (hl h))) (a5 (at16 r (hl h))) (a0 (at1 r (ln h l))) (a1 (at4 r (ln h l))) (a2 (at16 r (ln h l))) * a6 (ix2 r (ln h l))

/-- The heads side by side. -/
def heads (z : Ix 8192 1024) : EReal := head a0 a1 a2 a3 a4 a5 a6 (z 0) ⟨(z 1).val / 128, by have := (z 1).isLt; change _ < 1024 at this; omega⟩ ⟨(z 1).val % 128, Nat.mod_lt _ (by decide)⟩

/-- The call's result. -/
def out (z : Ix 8192 2048) : EReal :=
  a8 (ix2 (z 0) ⟨(z 1).val, lt_trans (z 1).isLt (by decide)⟩) * dot (heads a0 a1 a2 a3 a4 a5 a6) a9 (z 0) (z 1)
    + a8 (ix2 (z 0) ⟨2048 + (z 1).val, Nat.add_lt_add_left (z 1).isLt 2048⟩) * dot a7 a10 (z 0) (z 1)

/-- A block whose entries are the arrays' has the result's entries. -/
theorem out_congr {x0 : Vec Ideal S1x1x512x1024 .bf16} {x1 : Vec Ideal S1x4x128x1024 .bf16} {x2 : Vec Ideal S1x16x32x1024 .bf16} {x3 : Vec Ideal S1x1x512x128 .f32}
    {x4 : Vec Ideal S1x4x128x128 .f32} {x5 : Vec Ideal S1x16x32x128 .f32} {x6 x7 : Vec Ideal S512x1024 .bf16} {x8 x9 : Vec Ideal S512x2048 .bf16}
    {x10 x11 : Vec Ideal S1024x2048 .bf16} {i : Fin 512} {j : Fin 2048} {r : Fin 8192}
    (h0 : ∀ e, x0 (ix4 0 0 i e) = a0 (at1 r e)) (h1 : ∀ e, x1 (ix4 0 ⟨i.val % 4, Nat.mod_lt _ (by decide)⟩ ⟨i.val / 4, by omega⟩ e) = a1 (at4 r e))
    (h2 : ∀ e, x2 (ix4 0 ⟨i.val % 16, Nat.mod_lt _ (by decide)⟩ ⟨i.val / 16, by omega⟩ e) = a2 (at16 r e)) (h3 : ∀ e, x3 (ix4 0 0 i e) = a3 (at1 r e))
    (h4 : ∀ e, x4 (ix4 0 ⟨i.val % 4, Nat.mod_lt _ (by decide)⟩ ⟨i.val / 4, by omega⟩ e) = a4 (at4 r e))
    (h5 : ∀ e, x5 (ix4 0 ⟨i.val % 16, Nat.mod_lt _ (by decide)⟩ ⟨i.val / 16, by omega⟩ e) = a5 (at16 r e)) (h6 : ∀ e, x6 (ix2 i e) = a6 (ix2 r e))
    (h7 : ∀ e, x7 (ix2 i e) = a7 (ix2 r e)) (h8 : x8 (ix2 i j) = a8 (ix2 r ⟨j.val, by omega⟩)) (h9 : x9 (ix2 i j) = a8 (ix2 r ⟨2048 + j.val, by omega⟩))
    (h10 : ∀ e, x10 (ix2 e j) = a9 (ix2 e j)) (h11 : ∀ e, x11 (ix2 e j) = a10 (ix2 e j)) :
    MergeBlock.out x0 x1 x2 x3 x4 x5 x6 x7 x8 x9 x10 x11 i j = out a0 a1 a2 a3 a4 a5 a6 a7 a8 a9 a10 (ix2 r j) := by
  unfold MergeBlock.out MergeBody.gated MergeBody.head MergeBody.l0 MergeBody.l1 MergeBody.l2 out heads head
  unfold dot
  simp only [h0, h1, h2, h3, h4, h5, h6, h7, h8, h9, h10, h11]
  rfl

end Result

variable (m : (ℓ : Loc nD τ sig) → Buf (Elt Ideal) ℓ) (ρ : Dev nD → PrngReg) (c : Dev nD)

/-- The three groups' heads, their log-sum-exps, the heads' gate, the state space path's output, the two paths' gates and the two matrices as launched. -/
abbrev b0 : Gx 1 4096 1024 → EReal := m ((c : Thread nD τ).loc main_arg0)
abbrev b1 : Gx 4 1024 1024 → EReal := m ((c : Thread nD τ).loc main_arg1)
abbrev b2 : Gx 16 256 1024 → EReal := m ((c : Thread nD τ).loc main_arg2)
abbrev b3 : Gx 1 4096 128 → EReal := m ((c : Thread nD τ).loc main_arg3)
abbrev b4 : Gx 4 1024 128 → EReal := m ((c : Thread nD τ).loc main_arg4)
abbrev b5 : Gx 16 256 128 → EReal := m ((c : Thread nD τ).loc main_arg5)
abbrev b6 : Ix 8192 1024 → EReal := m ((c : Thread nD τ).loc main_arg6)
abbrev b7 : Ix 8192 1024 → EReal := m ((c : Thread nD τ).loc main_arg7)
abbrev b8 : Ix 8192 4096 → EReal := m ((c : Thread nD τ).loc main_arg8)
abbrev b9 : Ix 1024 2048 → EReal := m ((c : Thread nD τ).loc main_arg9)
abbrev b10 : Ix 1024 2048 → EReal := m ((c : Thread nD τ).loc main_arg10)

/-- The call's result, of the launch's arrays. -/
abbrev res : Ix 8192 2048 → EReal :=
  out (b0 m c) (b1 m c) (b2 m c) (b3 m c) (b4 m c) (b5 m c) (b6 m c) (b7 m c) (b8 m c) (b9 m c) (b10 m c)

/-- A head group's index map at every point: the sequence, then the block of its rows. -/
abbrev Grp (f : Fin 4 → Nat) (t : Nat) : Prop := f 0 = t / 8 ∧ f 1 = 0 ∧ f 2 = t % 8 ∧ f 3 = 0

theorem idxG (t : Fin grid0.N) : Grp (win0_0.index t) t.val ∧ Grp (win0_1.index t) t.val ∧ Grp (win0_2.index t) t.val ∧ Grp (win0_3.index t) t.val
    ∧ Grp (win0_4.index t) t.val ∧ Grp (win0_5.index t) t.val := by
  revert t; decide +kernel

/-- The other index maps at every point. -/
theorem idx (t : Fin grid0.N) : (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 1)
    ∧ (win0_10.index t 0 = 0 ∧ win0_10.index t 1 = 0) ∧ (win0_11.index t 0 = 0 ∧ win0_11.index t 1 = 0)
    ∧ (win0_12.index t 0 = t.val ∧ win0_12.index t 1 = 0) := by
  revert t; decide +kernel

section Blocks
variable (t : Fin grid0.N) {i : Fin 512} {r : Fin 8192}

/-! Each window's block, read at a row of the block, is the array at the row of the tokens. -/

theorem read_0 (hr : r.val = t.val * 512 + 1 * i.val) (e : Fin 1024) :
    (iblk m c 0 t : Vec Ideal S1x1x512x1024 .bf16) (ix4 0 0 i e) = b0 m c (at1 r e) := by
  have g0 := (idxG t).1
  exact congrArg (b0 m c) (ext4
      ((congrArg (· * 1 + 1 * 0) g0.1).trans (by show t.val / 8 * 1 + 1 * 0 = r.val / 4096; omega))
      ((congrArg (· * 1 + 1 * (0)) g0.2.1).trans (by show 0 * 1 + 1 * (0) = 0; omega))
      ((congrArg (· * 512 + 1 * (i.val)) g0.2.2.1).trans (by show t.val % 8 * 512 + 1 * (i.val) = r.val % 4096; omega))
      ((congrArg (· * 1024 + 1 * e.val) g0.2.2.2).trans (by show 0 * 1024 + 1 * e.val = e.val; omega)))

theorem read_1 (hr : r.val = t.val * 512 + 1 * i.val) (e : Fin 1024) :
    (iblk m c 1 t : Vec Ideal S1x4x128x1024 .bf16) (ix4 0 ⟨i.val % 4, Nat.mod_lt _ (by decide)⟩ ⟨i.val / 4, by omega⟩ e) = b1 m c (at4 r e) := by
  have g1 := (idxG t).2.1
  exact congrArg (b1 m c) (ext4
      ((congrArg (· * 1 + 1 * 0) g1.1).trans (by show t.val / 8 * 1 + 1 * 0 = r.val / 4096; omega))
      ((congrArg (· * 4 + 1 * (i.val % 4)) g1.2.1).trans (by show 0 * 4 + 1 * (i.val % 4) = r.val % 4096 % 4; omega))
      ((congrArg (· * 128 + 1 * (i.val / 4)) g1.2.2.1).trans (by show t.val % 8 * 128 + 1 * (i.val / 4) = r.val % 4096 / 4; omega))
      ((congrArg (· * 1024 + 1 * e.val) g1.2.2.2).trans (by show 0 * 1024 + 1 * e.val = e.val; omega)))

theorem read_2 (hr : r.val = t.val * 512 + 1 * i.val) (e : Fin 1024) :
    (iblk m c 2 t : Vec Ideal S1x16x32x1024 .bf16) (ix4 0 ⟨i.val % 16, Nat.mod_lt _ (by decide)⟩ ⟨i.val / 16, by omega⟩ e) = b2 m c (at16 r e) := by
  have g2 := (idxG t).2.2.1
  exact congrArg (b2 m c) (ext4
      ((congrArg (· * 1 + 1 * 0) g2.1).trans (by show t.val / 8 * 1 + 1 * 0 = r.val / 4096; omega))
      ((congrArg (· * 16 + 1 * (i.val % 16)) g2.2.1).trans (by show 0 * 16 + 1 * (i.val % 16) = r.val % 4096 % 16; omega))
      ((congrArg (· * 32 + 1 * (i.val / 16)) g2.2.2.1).trans (by show t.val % 8 * 32 + 1 * (i.val / 16) = r.val % 4096 / 16; omega))
      ((congrArg (· * 1024 + 1 * e.val) g2.2.2.2).trans (by show 0 * 1024 + 1 * e.val = e.val; omega)))

theorem read_3 (hr : r.val = t.val * 512 + 1 * i.val) (e : Fin 128) :
    (iblk m c 3 t : Vec Ideal S1x1x512x128 .f32) (ix4 0 0 i e) = b3 m c (at1 r e) := by
  have g3 := (idxG t).2.2.2.1
  exact congrArg (b3 m c) (ext4
      ((congrArg (· * 1 + 1 * 0) g3.1).trans (by show t.val / 8 * 1 + 1 * 0 = r.val / 4096; omega))
      ((congrArg (· * 1 + 1 * (0)) g3.2.1).trans (by show 0 * 1 + 1 * (0) = 0; omega))
      ((congrArg (· * 512 + 1 * (i.val)) g3.2.2.1).trans (by show t.val % 8 * 512 + 1 * (i.val) = r.val % 4096; omega))
      ((congrArg (· * 128 + 1 * e.val) g3.2.2.2).trans (by show 0 * 128 + 1 * e.val = e.val; omega)))

theorem read_4 (hr : r.val = t.val * 512 + 1 * i.val) (e : Fin 128) :
    (iblk m c 4 t : Vec Ideal S1x4x128x128 .f32) (ix4 0 ⟨i.val % 4, Nat.mod_lt _ (by decide)⟩ ⟨i.val / 4, by omega⟩ e) = b4 m c (at4 r e) := by
  have g4 := (idxG t).2.2.2.2.1
  exact congrArg (b4 m c) (ext4
      ((congrArg (· * 1 + 1 * 0) g4.1).trans (by show t.val / 8 * 1 + 1 * 0 = r.val / 4096; omega))
      ((congrArg (· * 4 + 1 * (i.val % 4)) g4.2.1).trans (by show 0 * 4 + 1 * (i.val % 4) = r.val % 4096 % 4; omega))
      ((congrArg (· * 128 + 1 * (i.val / 4)) g4.2.2.1).trans (by show t.val % 8 * 128 + 1 * (i.val / 4) = r.val % 4096 / 4; omega))
      ((congrArg (· * 128 + 1 * e.val) g4.2.2.2).trans (by show 0 * 128 + 1 * e.val = e.val; omega)))

theorem read_5 (hr : r.val = t.val * 512 + 1 * i.val) (e : Fin 128) :
    (iblk m c 5 t : Vec Ideal S1x16x32x128 .f32) (ix4 0 ⟨i.val % 16, Nat.mod_lt _ (by decide)⟩ ⟨i.val / 16, by omega⟩ e) = b5 m c (at16 r e) := by
  have g5 := (idxG t).2.2.2.2.2
  exact congrArg (b5 m c) (ext4
      ((congrArg (· * 1 + 1 * 0) g5.1).trans (by show t.val / 8 * 1 + 1 * 0 = r.val / 4096; omega))
      ((congrArg (· * 16 + 1 * (i.val % 16)) g5.2.1).trans (by show 0 * 16 + 1 * (i.val % 16) = r.val % 4096 % 16; omega))
      ((congrArg (· * 32 + 1 * (i.val / 16)) g5.2.2.1).trans (by show t.val % 8 * 32 + 1 * (i.val / 16) = r.val % 4096 / 16; omega))
      ((congrArg (· * 128 + 1 * e.val) g5.2.2.2).trans (by show 0 * 128 + 1 * e.val = e.val; omega)))

theorem read_6 (hr : r.val = t.val * 512 + 1 * i.val) (e : Fin 1024) :
    (iblk m c 6 t : Vec Ideal S512x1024 .bf16) (ix2 i e) = b6 m c (ix2 r e) := by
  have d6 := (idx t).1
  exact congrArg (b6 m c) (ext2
      ((congrArg (· * 512 + 1 * i.val) d6.1).trans (by show t.val * 512 + 1 * i.val = r.val; omega))
      ((congrArg (· * 1024 + 1 * e.val) d6.2).trans (by show 0 * 1024 + 1 * e.val = e.val; omega)))

theorem read_7 (hr : r.val = t.val * 512 + 1 * i.val) (e : Fin 1024) :
    (iblk m c 7 t : Vec Ideal S512x1024 .bf16) (ix2 i e) = b7 m c (ix2 r e) := by
  have d7 := (idx t).2.1
  exact congrArg (b7 m c) (ext2
      ((congrArg (· * 512 + 1 * i.val) d7.1).trans (by show t.val * 512 + 1 * i.val = r.val; omega))
      ((congrArg (· * 1024 + 1 * e.val) d7.2).trans (by show 0 * 1024 + 1 * e.val = e.val; omega)))

theorem read_8 (hr : r.val = t.val * 512 + 1 * i.val) (j : Fin 2048) :
    (iblk m c 8 t : Vec Ideal S512x2048 .bf16) (ix2 i j) = b8 m c (ix2 r ⟨j.val, by omega⟩) := by
  have d8 := (idx t).2.2.1
  exact congrArg (b8 m c) (ext2
      ((congrArg (· * 512 + 1 * i.val) d8.1).trans (by show t.val * 512 + 1 * i.val = r.val; omega))
      ((congrArg (· * 2048 + 1 * j.val) d8.2).trans (by show 0 * 2048 + 1 * j.val = j.val; omega)))

theorem read_9 (hr : r.val = t.val * 512 + 1 * i.val) (j : Fin 2048) :
    (iblk m c 9 t : Vec Ideal S512x2048 .bf16) (ix2 i j) = b8 m c (ix2 r ⟨2048 + j.val, by omega⟩) := by
  have d9 := (idx t).2.2.2.1
  exact congrArg (b8 m c) (ext2
      ((congrArg (· * 512 + 1 * i.val) d9.1).trans (by show t.val * 512 + 1 * i.val = r.val; omega))
      ((congrArg (· * 2048 + 1 * j.val) d9.2).trans (by show 1 * 2048 + 1 * j.val = 2048 + j.val; omega)))

theorem read_10 (j : Fin 2048) (e : Fin 1024) :
    (iblk m c 10 t : Vec Ideal S1024x2048 .bf16) (ix2 e j) = b9 m c (ix2 e j) := by
  have d10 := (idx t).2.2.2.2.1
  exact congrArg (b9 m c) (ext2
      ((congrArg (· * 1024 + 1 * e.val) d10.1).trans (by show 0 * 1024 + 1 * e.val = e.val; omega))
      ((congrArg (· * 2048 + 1 * j.val) d10.2).trans (by show 0 * 2048 + 1 * j.val = j.val; omega)))

theorem read_11 (j : Fin 2048) (e : Fin 1024) :
    (iblk m c 11 t : Vec Ideal S1024x2048 .bf16) (ix2 e j) = b10 m c (ix2 e j) := by
  have d11 := (idx t).2.2.2.2.2.1
  exact congrArg (b10 m c) (ext2
      ((congrArg (· * 1024 + 1 * e.val) d11.1).trans (by show 0 * 1024 + 1 * e.val = e.val; omega))
      ((congrArg (· * 2048 + 1 * j.val) d11.2).trans (by show 0 * 2048 + 1 * j.val = j.val; omega)))

end Blocks

/-- What a point writes back is its block of the result. -/
theorem flushed (t : Fin cfg0.N) : (dats m 0 c).flushed 12 t = (win0_12.blk t).view.read (Elt Ideal) (res m c) := by
  rw [Cert.MergeIdeal.Value.flushed12_A]
  funext z
  refine (MergeBlock.out_apply _ _ _ _ _ _ _ _ _ _ _ _ _ _ _ _ _ _ (iblk m c 0 t) (iblk m c 1 t) (iblk m c 2 t) (iblk m c 3 t) (iblk m c 4 t) (iblk m c 5 t)
    (iblk m c 6 t) _ _ _ _ _ _ _ _ _ _ (iblk m c 7 t) (iblk m c 8 t) (iblk m c 9 t) (iblk m c 10 t) (iblk m c 11 t) _ _ _ _ _ _ z).trans ?_
  show _ = res m c ((win0_12.rect t).emb z)
  have d12 := (idx t).2.2.2.2.2.2
  rw [eq_ix2 (n0 := 512) (n1 := 2048) z]
  generalize z 0 = i, z 1 = j
  change Fin 512 at i
  change Fin 2048 at j
  have hj : (win0_12.rect t).emb (ix2 i j) 1 = j := Fin.ext ((congrArg (· * 2048 + 1 * j.val) d12.2).trans (by show 0 * 2048 + 1 * j.val = j.val; omega))
  have hr : ((win0_12.rect t).emb (ix2 i j) 0).val = t.val * 512 + 1 * i.val := congrArg (· * 512 + 1 * i.val) d12.1
  rw [eq_ix2 (n0 := 8192) (n1 := 2048) ((win0_12.rect t).emb (ix2 i j)), hj]
  revert hr
  generalize (win0_12.rect t).emb (ix2 i j) 0 = r
  change Fin 8192 at r
  intro hr
  exact out_congr (b0 m c) (b1 m c) (b2 m c) (b3 m c) (b4 m c) (b5 m c) (b6 m c) (b7 m c) (b8 m c) (b9 m c) (b10 m c)
    (read_0 m c t hr) (read_1 m c t hr) (read_2 m c t hr) (read_3 m c t hr) (read_4 m c t hr) (read_5 m c t hr) (read_6 m c t hr) (read_7 m c t hr)
    (read_8 m c t hr j) (read_9 m c t hr j) (read_10 m c t j) (read_11 m c t j)

/-- A row is in the block of 512 rows that its quotient names. -/
theorem in_rows {a : Nat} : a / 512 * 512 ≤ a ∧ a < a / 512 * 512 + 512 := by omega

theorem in_lanes {a : Nat} (h : a < 2048) : 0 * 2048 ≤ a ∧ a < 0 * 2048 + 2048 := by omega

/-- The point of a row. -/
theorem point {a : Nat} (h : a < 8192) : ∃ t : Fin grid0.N, t.val = a / 512 :=
  ⟨⟨a / 512, N_0 ▸ (by omega : a / 512 < 16)⟩, rfl⟩

/-- Every index of the result is in the block of some point. -/
theorem cover (i : S8192x2048.Idx) : ∃ t : Fin cfg0.N, (cfg0.win 12).flush t = true ∧ i ∈ ((cfg0.win 12).blk t).view.set := by
  obtain ⟨t, ht⟩ := point (a := (i 0).val) (i 0).isLt
  have e0 := (idx t).2.2.2.2.2.2.1.trans ht
  have e1 := (idx t).2.2.2.2.2.2.2
  refine ⟨t, flush0_12 _, ?_⟩
  show i ∈ ((View.whole main_v0).slice (win0_12.rect t)).set
  rw [View.set_slice_whole, Rect.mem_set_unit]
  intro d
  match d with
  | ⟨0, _⟩ => exact (congrArg (fun u => u * 512 ≤ (i 0).val ∧ (i 0).val < u * 512 + 512) e0).mpr in_rows
  | ⟨1, _⟩ => exact (congrArg (fun u => u * 2048 ≤ (i 1).val ∧ (i 1).val < u * 2048 + 2048) e1).mpr (in_lanes (i 1).isLt)

/-- The call, run. -/
theorem run : θ_run defs (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((dats m 0 c).arrAt_eq_of_cover 12 _ (fun t _ => flushed m c t) cover), (h c).2⟩)
    (Cert.MergeIdeal.Value.run_blocks m ρ)

end Cert.MergeValue

end
-- ==== Proof.RefMerge.lean ====
/-
  The reference of the merge read at an index: the groups brought to the order of the tokens, the softmax of their
  log-sum-exps, the gated heads and the two products.
-/
module

public import proofs.«01_k».proof.Proof.MergeValue
public import proofs.«01_k».proof.Proof.Tile
public import proofs.«01_k».proof.Proof.Gen.RefMergeIdeal.Run

@[expose] public section

set_option maxRecDepth 16384

noncomputable section

namespace Cert.RefMerge

open Idealize.ShloMosaic Idealize.ShloMosaic.TcCoe Idealize.SL.Sem Cert.Dense Cert.RefMergeIdeal Cert.RefMergeIdeal.Gen Cert.RefMergeIdeal.Facts
open Cert.MergeBody (weight mix hl)
open Cert.MergeValue (Gx at1 at4 at16)
open Cert.MergeHeads (ln ext4)

section Terms
variable {F : FTy → Type} [FloatOps F]

/-! The three groups' heads and log-sum-exps in the order of the tokens. -/

def tok1 (x : FVec F S2x1x4096x1024 .bf16) : FVec F S8192x8x128 .f32 :=
  shapeCast S8192x8x128 (shapeCast S8192x1024 (transpose S2x4096x1x1024 [0, 2, 1, 3] (extf .f32 x bitsLt_bf16_f32) transposes_S2x1x4096x1024_S2x4096x1x1024_0_2_1_3)
    shapeCasts_S2x4096x1x1024_S8192x1024) shapeCasts_S8192x1024_S8192x8x128

def lse1 (x : FVec F S2x1x4096x128 .f32) : FVec F S8192x8 .f32 :=
  extractStridedSlice S8192x8 ![0, 0] (shapeCast S8192x128 (transpose S2x4096x1x128 [0, 2, 1, 3] x transposes_S2x1x4096x128_S2x4096x1x128_0_2_1_3)
    shapeCasts_S2x4096x1x128_S8192x128) slices_S8192x128_S8192x8_0_0

def tok4 (x : FVec F S2x4x1024x1024 .bf16) : FVec F S8192x8x128 .f32 :=
  shapeCast S8192x8x128 (shapeCast S8192x1024 (transpose S2x1024x4x1024 [0, 2, 1, 3] (extf .f32 x bitsLt_bf16_f32) transposes_S2x4x1024x1024_S2x1024x4x1024_0_2_1_3)
    shapeCasts_S2x1024x4x1024_S8192x1024) shapeCasts_S8192x1024_S8192x8x128

def lse4 (x : FVec F S2x4x1024x128 .f32) : FVec F S8192x8 .f32 :=
  extractStridedSlice S8192x8 ![0, 0] (shapeCast S8192x128 (transpose S2x1024x4x128 [0, 2, 1, 3] x transposes_S2x4x1024x128_S2x1024x4x128_0_2_1_3)
    shapeCasts_S2x1024x4x128_S8192x128) slices_S8192x128_S8192x8_0_0

def tok16 (x : FVec F S2x16x256x1024 .bf16) : FVec F S8192x8x128 .f32 :=
  shapeCast S8192x8x128 (shapeCast S8192x1024 (transpose S2x256x16x1024 [0, 2, 1, 3] (extf .f32 x bitsLt_bf16_f32) transposes_S2x16x256x1024_S2x256x16x1024_0_2_1_3)
    shapeCasts_S2x256x16x1024_S8192x1024) shapeCasts_S8192x1024_S8192x8x128

def lse16 (x : FVec F S2x16x256x128 .f32) : FVec F S8192x8 .f32 :=
  extractStridedSlice S8192x8 ![0, 0] (shapeCast S8192x128 (transpose S2x256x16x128 [0, 2, 1, 3] x transposes_S2x16x256x128_S2x256x16x128_0_2_1_3)
    shapeCasts_S2x256x16x128_S8192x128) slices_S8192x128_S8192x8_0_0

/-- Three arrays, one after another. -/
def scores (l0 l1 l2 : FVec F S8192x8 .f32) : FVec F S3x8192x8 .f32 :=
  concatenate S3x8192x8 0 [⟨S1x8192x8, (broadcastInDim S1x8192x8 ![1, 2] bcast_S8192x8_S1x8192x8_1_2 l0 : FVec F S1x8192x8 .f32)⟩,
    ⟨S1x8192x8, (broadcastInDim S1x8192x8 ![1, 2] bcast_S8192x8_S1x8192x8_1_2 l1 : FVec F S1x8192x8 .f32)⟩,
    ⟨S1x8192x8, (broadcastInDim S1x8192x8 ![1, 2] bcast_S8192x8_S1x8192x8_1_2 l2 : FVec F S1x8192x8 .f32)⟩]
    concatenates_S1x8192x8_S1x8192x8_S1x8192x8_S3x8192x8_d0

def stack (o0 o1 o2 : FVec F S8192x8x128 .f32) : FVec F S3x8192x8x128 .f32 :=
  concatenate S3x8192x8x128 0 [⟨S1x8192x8x128, (broadcastInDim S1x8192x8x128 ![1, 2, 3] bcast_S8192x8x128_S1x8192x8x128_1_2_3 o0 : FVec F S1x8192x8x128 .f32)⟩,
    ⟨S1x8192x8x128, (broadcastInDim S1x8192x8x128 ![1, 2, 3] bcast_S8192x8x128_S1x8192x8x128_1_2_3 o1 : FVec F S1x8192x8x128 .f32)⟩,
    ⟨S1x8192x8x128, (broadcastInDim S1x8192x8x128 ![1, 2, 3] bcast_S8192x8x128_S1x8192x8x128_1_2_3 o2 : FVec F S1x8192x8x128 .f32)⟩]
    concatenates_S1x8192x8x128_S1x8192x8x128_S1x8192x8x128_S3x8192x8x128_d0

/-- A row of heads, once for every group. -/
def thrice (x : FVec F S8192x8 .f32) : FVec F S3x8192x8 .f32 :=
  broadcastInDim S3x8192x8 ![0, 1, 2] bcast_S1x8192x8_S3x8192x8_0_1_2 (broadcastInDim S1x8192x8 ![1, 2] bcast_S8192x8_S1x8192x8_1_2 x)

/-- The largest score of the groups. -/
def tops (s : FVec F S3x8192x8 .f32) : FVec F S8192x8 .f32 :=
  maximumf (broadcastInDim S8192x8 ![] bcast_S_S8192x8 (constant S_ .f32 0xFF800000#32))
    (Host.reduce FloatOps.maximumf s (constant S_ .f32 0xFF800000#32) reducesTo_S3x8192x8_S8192x8_d0 h_S_)

/-- The exponentials of the scores less the largest. -/
def exps (s : FVec F S3x8192x8 .f32) : FVec F S3x8192x8 .f32 := Host.exp (subf s (thrice (tops s)))

/-- Their sum over the groups. -/
def sums (x : FVec F S3x8192x8 .f32) : FVec F S8192x8 .f32 := Host.reduceAdd x (constant S_ .f32 0x00000000#32) reducesTo_S3x8192x8_S8192x8_d0 h_S_

/-- The softmax over the groups. -/
def weights (s : FVec F S3x8192x8 .f32) : FVec F S3x8192x8 .f32 := Host.divf (exps s) (thrice (sums (exps s)))

/-- The heads of the groups, weighted and added up. -/
def merged (w : FVec F S3x8192x8 .f32) (o : FVec F S3x8192x8x128 .f32) : FVec F S8192x8x128 .f32 :=
  Host.reduceAdd (mulf (broadcastInDim S3x8192x8x128 ![0, 1, 2, 3] bcast_S3x8192x8x1_S3x8192x8x128_0_1_2_3
    (broadcastInDim S3x8192x8x1 ![0, 1, 2] bcast_S3x8192x8_S3x8192x8x1_0_1_2 w)) o) (constant S_ .f32 0x00000000#32) reducesTo_S3x8192x8x128_S8192x8x128_d0 h_S_

/-- The merged heads side by side, gated. -/
def gated (x : FVec F S8192x8x128 .f32) (g : FVec F S8192x1024 .bf16) : FVec F S8192x1024 .f32 :=
  mulf (shapeCast S8192x1024 x shapeCasts_S8192x8x128_S8192x1024) (extf .f32 g bitsLt_bf16_f32)

/-- The two products under their gates, added. -/
def total (x : FVec F S8192x1024 .f32) (y : FVec F S8192x1024 .bf16) (g : FVec F S8192x4096 .bf16) (wa ws : FVec F S1024x2048 .bf16) : FVec F S8192x2048 .bf16 :=
  truncf .bf16 (addf
    (mulf (extractStridedSlice S8192x2048 ![0, 0] (extf .f32 g bitsLt_bf16_f32) slices_S8192x4096_S8192x2048_0_0)
      (Host.dotGeneral dot_S8192x1024_S1024x2048_S8192x2048_1_0_0_1_n_n none x (extf .f32 wa bitsLt_bf16_f32)))
    (mulf (extractStridedSlice S8192x2048 ![0, 2048] (extf .f32 g bitsLt_bf16_f32) slices_S8192x4096_S8192x2048_0_2048)
      (Host.dotGeneral dot_S8192x1024_S1024x2048_S8192x2048_1_0_0_1_n_n none (extf .f32 y bitsLt_bf16_f32) (extf .f32 ws bitsLt_bf16_f32)))) bitsLt_bf16_f32

end Terms

variable (m : (ℓ : Loc nD τ sig) → Buf (Elt Ideal) ℓ) (c : Dev nD)

/-- The reference's result in these terms. -/
theorem res_eq : Cert.RefMergeIdeal.Value.res_main_v58 (F := Ideal) m c
    = total (F := Ideal) (gated (F := Ideal) (merged (F := Ideal)
        (weights (F := Ideal) (scores (F := Ideal) (lse1 (m ((c : Thread nD τ).loc main_arg3))) (lse4 (m ((c : Thread nD τ).loc main_arg4))) (lse16 (m ((c : Thread nD τ).loc main_arg5)))))
        (stack (F := Ideal) (tok1 (m ((c : Thread nD τ).loc main_arg0))) (tok4 (m ((c : Thread nD τ).loc main_arg1))) (tok16 (m ((c : Thread nD τ).loc main_arg2)))))
        (m ((c : Thread nD τ).loc main_arg6))) (m ((c : Thread nD τ).loc main_arg7)) (m ((c : Thread nD τ).loc main_arg8))
        (m ((c : Thread nD τ).loc main_arg9)) (m ((c : Thread nD τ).loc main_arg10)) := by
  unfold Cert.RefMergeIdeal.Value.res_main_v58
  rfl

/-! ## The terms read at an index -/

variable (r : Fin 8192) (h : Fin 8) (l : Fin 128)

theorem tok1_apply (x : FVec Ideal S2x1x4096x1024 .bf16) : tok1 (F := Ideal) x (ix3 r h l) = x (at1 r (ln h l)) := by
  pointwise [tok1]
  exact congrArg x (ext4 rfl rfl rfl (by show h.val * 128 + l.val = 128 * h.val + l.val; omega))

theorem lse1_apply (x : FVec Ideal S2x1x4096x128 .f32) : lse1 (F := Ideal) x (ix2 r h) = x (at1 r (hl h)) := by
  pointwise [lse1]

theorem tok4_apply (x : FVec Ideal S2x4x1024x1024 .bf16) : tok4 (F := Ideal) x (ix3 r h l) = x (at4 r (ln h l)) := by
  pointwise [tok4]
  exact congrArg x (ext4 rfl (by show r.val % 4 = r.val % 4096 % 4; omega) (by show r.val / 4 % 1024 = r.val % 4096 / 4; omega) (by show h.val * 128 + l.val = 128 * h.val + l.val; omega))

theorem lse4_apply (x : FVec Ideal S2x4x1024x128 .f32) : lse4 (F := Ideal) x (ix2 r h) = x (at4 r (hl h)) := by
  pointwise [lse4]
  exact congrArg x (ext4 rfl (by show r.val % 4 = r.val % 4096 % 4; omega) (by show r.val / 4 % 1024 = r.val % 4096 / 4; omega) rfl)

theorem tok16_apply (x : FVec Ideal S2x16x256x1024 .bf16) : tok16 (F := Ideal) x (ix3 r h l) = x (at16 r (ln h l)) := by
  pointwise [tok16]
  exact congrArg x (ext4 rfl (by show r.val % 16 = r.val % 4096 % 16; omega) (by show r.val / 16 % 256 = r.val % 4096 / 16; omega) (by show h.val * 128 + l.val = 128 * h.val + l.val; omega))

theorem lse16_apply (x : FVec Ideal S2x16x256x128 .f32) : lse16 (F := Ideal) x (ix2 r h) = x (at16 r (hl h)) := by
  pointwise [lse16]
  exact congrArg x (ext4 rfl (by show r.val % 16 = r.val % 4096 % 16; omega) (by show r.val / 16 % 256 = r.val % 4096 / 16; omega) rfl)

theorem scores_0 (l0 l1 l2 : FVec Ideal S8192x8 .f32) : scores (F := Ideal) l0 l1 l2 (ix3 0 r h) = l0 (ix2 r h) := by
  pointwise [scores]

theorem stack_0 (o0 o1 o2 : FVec Ideal S8192x8x128 .f32) : stack (F := Ideal) o0 o1 o2 (ix4 0 r h l) = o0 (ix3 r h l) := by
  pointwise [stack]

theorem scores_1 (l0 l1 l2 : FVec Ideal S8192x8 .f32) : scores (F := Ideal) l0 l1 l2 (ix3 1 r h) = l1 (ix2 r h) := by
  pointwise [scores]

theorem stack_1 (o0 o1 o2 : FVec Ideal S8192x8x128 .f32) : stack (F := Ideal) o0 o1 o2 (ix4 1 r h l) = o1 (ix3 r h l) := by
  pointwise [stack]

theorem scores_2 (l0 l1 l2 : FVec Ideal S8192x8 .f32) : scores (F := Ideal) l0 l1 l2 (ix3 2 r h) = l2 (ix2 r h) := by
  pointwise [scores]

theorem stack_2 (o0 o1 o2 : FVec Ideal S8192x8x128 .f32) : stack (F := Ideal) o0 o1 o2 (ix4 2 r h l) = o2 (ix3 r h l) := by
  pointwise [stack]

theorem max3 (f : Fin 3 → EReal) : max ⊥ ((Finset.univ : Finset (Fin 3)).fold max ⊥ f) = max (max (f 0) (f 1)) (f 2) := by
  rw [max_eq_right bot_le, show (Finset.univ : Finset (Fin 3)) = {0, 1, 2} from by decide, Finset.fold_insert (by decide), Finset.fold_insert (by decide),
    Finset.fold_singleton, max_eq_left (a := f 2) bot_le, max_assoc]

theorem tops_apply (s : FVec Ideal S3x8192x8 .f32) :
    tops (F := Ideal) s (ix2 r h) = max (max (s (ix3 0 r h)) (s (ix3 1 r h))) (s (ix3 2 r h)) := by
  pointwise [tops]
  rw [Tile.ofBits_neg_inf]
  exact max3 fun x => s (ix3 x r h)

theorem exps_apply (s : FVec Ideal S3x8192x8 .f32) (g : Fin 3) :
    exps (F := Ideal) s (ix3 g r h) = Ideal.exp (s (ix3 g r h) - max (max (s (ix3 0 r h)) (s (ix3 1 r h))) (s (ix3 2 r h))) := by
  rw [← tops_apply]
  pointwise [exps, thrice]

theorem sums_apply (x : FVec Ideal S3x8192x8 .f32) : sums (F := Ideal) x (ix2 r h) = x (ix3 0 r h) + x (ix3 1 r h) + x (ix3 2 r h) := by
  pointwise [sums]
  exact Fin.sum_univ_three _

theorem weights_apply (s : FVec Ideal S3x8192x8 .f32) (g : Fin 3) :
    weights (F := Ideal) s (ix3 g r h) = weight (s (ix3 g r h)) (s (ix3 0 r h)) (s (ix3 1 r h)) (s (ix3 2 r h)) := by
  unfold weight
  rw [← exps_apply, ← exps_apply, ← exps_apply, ← exps_apply, ← sums_apply]
  pointwise [weights, thrice]

theorem merged_apply (w : FVec Ideal S3x8192x8 .f32) (o : FVec Ideal S3x8192x8x128 .f32) :
    merged (F := Ideal) w o (ix3 r h l) = w (ix3 0 r h) * o (ix4 0 r h l) + w (ix3 1 r h) * o (ix4 1 r h l) + w (ix3 2 r h) * o (ix4 2 r h l) := by
  pointwise [merged]
  exact Fin.sum_univ_three _

theorem gated_apply (x : FVec Ideal S8192x8x128 .f32) (g : FVec Ideal S8192x1024 .bf16) (k : Fin 1024) :
    gated (F := Ideal) x g (ix2 r k) = x (ix3 r ⟨k.val / 128, by omega⟩ ⟨k.val % 128, by omega⟩) * g (ix2 r k) := by
  pointwise [gated]

theorem total_apply (x : FVec Ideal S8192x1024 .f32) (y : FVec Ideal S8192x1024 .bf16) (g : FVec Ideal S8192x4096 .bf16)
    (wa ws : FVec Ideal S1024x2048 .bf16) (j : Fin 2048) :
    total (F := Ideal) x y g wa ws (ix2 r j) = g (ix2 r ⟨j.val, by omega⟩) * dot x wa r j + g (ix2 r ⟨2048 + j.val, by omega⟩) * dot y ws r j := by
  pointwise [total]
  rfl

section Heads
variable (a0 : FVec Ideal S2x1x4096x1024 .bf16) (a1 : FVec Ideal S2x4x1024x1024 .bf16) (a2 : FVec Ideal S2x16x256x1024 .bf16)
  (a3 : FVec Ideal S2x1x4096x128 .f32) (a4 : FVec Ideal S2x4x1024x128 .f32) (a5 : FVec Ideal S2x16x256x128 .f32) (a6 : FVec Ideal S8192x1024 .bf16)

/-- The gated heads are the call's. -/
theorem heads_eq : gated (F := Ideal) (merged (F := Ideal) (weights (F := Ideal) (scores (F := Ideal) (lse1 a3) (lse4 a4) (lse16 a5)))
    (stack (F := Ideal) (tok1 a0) (tok4 a1) (tok16 a2))) a6 = MergeValue.heads a0 a1 a2 a3 a4 a5 a6 := by
  funext z
  rw [eq_ix2 (n0 := 8192) (n1 := 1024) z]
  generalize z 0 = i, z 1 = k
  change Fin 8192 at i
  change Fin 1024 at k
  rw [gated_apply, merged_apply, weights_apply, weights_apply, weights_apply, scores_0, scores_1, scores_2, stack_0, stack_1, stack_2,
    lse1_apply, lse4_apply, lse16_apply, tok1_apply, tok4_apply, tok16_apply]
  unfold MergeValue.heads MergeValue.head mix
  have e : ix2 i k = ix2 i (ln ⟨k.val / 128, by omega⟩ ⟨k.val % 128, by omega⟩) := ext2 rfl (by show k.val = 128 * (k.val / 128) + k.val % 128; omega)
  exact congrArg (_ * ·) (congrArg a6 e)

end Heads

end Cert.RefMerge

end
-- ==== Proof.MergeClaims.lean ====
/-
  The claims about the call that merges the head groups.
-/
module

public import proofs.«01_k».proof.Defs
public import proofs.«01_k».proof.Proof.RefMerge
public import proofs.«01_k».proof.Proof.Gen.Merge.Frame
public import Idealize.ShloMosaic.Lib.Quiescent

@[expose] public section

set_option maxRecDepth 16384

noncomputable section

namespace Cert.MergeClaims

open Idealize.ShloMosaic Idealize.ShloMosaic.TcCoe Idealize.SL.Sem Cert.Dense

/-- The call runs and leaves its arguments as they were. -/
theorem frame_k : Cert.quiescent_Merge := fun m ρ _ => Cert.Merge.Gen.frame m ρ

/-- The idealised call runs and leaves its arguments as they were. -/
theorem frame_ki : Cert.quiescent_MergeIdeal := fun m ρ _ => Cert.MergeIdeal.Gen.frame m ρ

/-- The reference runs and leaves its arguments as they were. -/
theorem frame_ri : Cert.quiescent_RefMergeIdeal := fun m ρ _ =>
  (θ_run Cert.RefMergeIdeal.defs _ _).mono (fun r h => ⟨fun c => (h c).2, sem_eq_zero_of_no_sems (by decide) r.2⟩)
    (Cert.RefMergeIdeal.Value.run (F := Ideal) m ρ)

/-- The call's result is the reference's. -/
theorem algebraic : Cert.algebraic_MergeIdeal_RefMergeIdeal := by
  intro m ρ m' ρ' _ hag
  refine ⟨fun c => MergeValue.res m c, MergeValue.run m ρ, ?_⟩
  refine (θ_run Cert.RefMergeIdeal.defs _ _).mono (fun _ h c => ⟨(h c).1.trans ?_, (h c).2⟩) (Cert.RefMergeIdeal.Value.run (F := Ideal) m' ρ')
  obtain ⟨h0, h1, h2, h3, h4, h5, h6, h7, h8, h9, h10⟩ := hag c
  rw [RefMerge.res_eq, h0, h1, h2, h3, h4, h5, h6, h7, h8, h9, h10, RefMerge.heads_eq]
  funext y
  rw [eq_ix2 (n0 := 8192) (n1 := 2048) y]
  exact RefMerge.total_apply _ _ _ _ _ _ _

end Cert.MergeClaims

end
-- ==== Proof.Body16.lean ====
/-
  The body of the third group's call: what it leaves in the two staging buffers of its results is the block of the
  attention's values and the block of its log-sum-exps.
-/
module

public import proofs.«01_k».proof.Proof.Block
public import proofs.«01_k».proof.Proof.Gen.AttnD16Ideal.Frame

@[expose] public section

set_option maxRecDepth 1000000

noncomputable section

namespace Cert.Body16

open Idealize.ShloMosaic Cert.AttnD16Ideal Cert.AttnD16Ideal.Gen Cert.AttnD16Ideal.Facts Cert.Tile Cert.Block

variable (i : grid0.Coords) (x0 : Vec Ideal S1x1x256x1024 .bf16) (x1 : Vec Ideal S1x1x128x1024 .bf16)
  (x2 : Vec Ideal S1x1x256x1024 .bf16) (x3 : Vec Ideal S1x1x128x1024 .bf16) (x4 : Vec Ideal S1x1x256x1024 .bf16)

/-- The values' staging buffer after the body. -/
theorem out5_apply (hg : (i 2).val < 1024) (y : S1x1x256x1024.Idx) :
    out0_5 (F := Ideal) i x0 x1 x2 x3 x4 y = GO (R := 256) (i 2).val x0 x1 x2 x3 x4 y := by
  unfold out0_5
  refine View.canon_apply_of_pieces (Val := Elt Ideal) (GO (R := 256) (i 2).val x0 x1 x2 x3 x4) _ ?_ y (cover0_5 _ _ _ _ _ _ _ _ _ _ _ _ _ _ _ _ y)
  refine eight (storeO_mid (R := 256) x0 x2 x4 0 (by omega) (by omega)) (fun h => pieceO_mid (R := 256) x0 x2 x4 x1 x3 (i 2).val 0 h (by omega) (by omega)) ?_
  refine eight (storeO_first (R := 256) x0 x2 x4 x1 x3 (i 2).val (by omega)) (fun h => pieceO_first (R := 256) x0 x2 x4 x1 x3 (i 2).val hg h (by omega)) ?_
  exact fun _ hp => absurd hp List.not_mem_nil

/-- The log-sum-exps' staging buffer after the body. -/
theorem out6_apply (hg : (i 2).val < 1024) (y : S1x1x256x128.Idx) :
    out0_6 (F := Ideal) i x0 x1 x2 x3 x4 y = GE (R := 256) (i 2).val x0 x1 x2 y := by
  unfold out0_6
  refine View.canon_apply_of_pieces (Val := Elt Ideal) (GE (R := 256) (i 2).val x0 x1 x2) _ ?_ y (cover0_6 _ _ y)
  refine List.forall_mem_cons.2 ⟨piece (pieceE_mid (R := 256) x0 x2 x1 (i 2).val 0 (by omega) (by omega)) (by dsimp only; rfl), ?_⟩
  refine List.forall_mem_cons.2 ⟨piece (pieceE_first (R := 256) x0 x2 x1 (i 2).val hg (by omega)) (by dsimp only; rfl), ?_⟩
  exact fun _ hp => absurd hp List.not_mem_nil

end Cert.Body16

end
-- ==== Proof.KernelValue16.lean ====
/-
  The third group's call, run: its two results are the attention's values and log-sum-exps of its three arguments.
-/
module

public import proofs.«01_k».proof.Proof.Grid
public import proofs.«01_k».proof.Proof.Body16
public import proofs.«01_k».proof.Proof.Gen.AttnD16Ideal.Value

@[expose] public section

set_option maxRecDepth 16384

noncomputable section

namespace Cert.KernelValue16

open Idealize.ShloMosaic Idealize.ShloMosaic.TcCoe Idealize.SL.Sem Cert.AttnD16Ideal Cert.AttnD16Ideal.Gen Cert.Block Cert.Attention Cert.Grid

variable (m : (ℓ : Loc nD τ sig) → Buf (Elt Ideal) ℓ) (ρ : Dev nD → PrngReg) (c : Dev nD)

/-- The queries, the keys and the values as launched. -/
abbrev aq : (SA 16 256).Idx → EReal := m ((c : Thread nD τ).loc main_arg0)
abbrev ak : (SA 16 256).Idx → EReal := m ((c : Thread nD τ).loc main_arg1)
abbrev av : (SA 16 256).Idx → EReal := m ((c : Thread nD τ).loc main_arg2)

/-- A point's sequence, class and row of blocks. -/
def pb (t : Fin grid0.N) : Fin 2 := ⟨seqOf 16 1 t.val, seqOf_lt (lt_of_lt_of_eq t.isLt N_0)⟩
def pr (t : Fin grid0.N) : Fin 16 := ⟨classOf 16 1 t.val, Nat.mod_lt _ (by decide)⟩
def pn (t : Fin grid0.N) : Nat := rowOf 1 t.val

/-- The index maps at every point. -/
theorem idx_cur (t : Fin grid0.N) : win0_0.index t 0 = (pb t).val ∧ win0_0.index t 1 = (pr t).val ∧ win0_0.index t 2 = pn t ∧ win0_0.index t 3 = 0 := by
  revert t; decide +kernel
theorem idx_prev (t : Fin grid0.N) : win0_1.index t 0 = (pb t).val ∧ win0_1.index t 1 = (pr t).val ∧ win0_1.index t 2 = 2 * pn t - 1 ∧ win0_1.index t 3 = 0 := by
  revert t; decide +kernel
theorem idx_out (t : Fin grid0.N) : win0_5.index t 0 = (pb t).val ∧ win0_5.index t 1 = (pr t).val ∧ win0_5.index t 2 = pn t ∧ win0_5.index t 3 = 0 := by
  revert t; decide +kernel
theorem idx_lse (t : Fin grid0.N) : win0_6.index t 0 = (pb t).val ∧ win0_6.index t 1 = (pr t).val ∧ win0_6.index t 2 = pn t ∧ win0_6.index t 3 = 0 := by
  revert t; decide +kernel
theorem coord_row (t : Fin grid0.N) : (grid0.coords t 2).val = pn t := by
  revert t; decide +kernel
theorem coord_lt (t : Fin grid0.N) : (grid0.coords t 2).val < 1024 :=
  lt_of_lt_of_le (lt_of_eq_of_lt (coord_row t) (Nat.mod_lt _ (by decide : 0 < 1))) (by decide)

/-- The windows' blocks at every point. -/
theorem place_cur (t : Fin grid0.N) : Place (D := 16) (L := 256) (R := 256) (win0_0.index t) (win0_0.rect t).emb :=
  ⟨fun _ => rfl, fun _ => rfl, fun _ => rfl, fun _ => rfl⟩
theorem place_prev (t : Fin grid0.N) : Place (D := 16) (L := 256) (R := 128) (win0_1.index t) (win0_1.rect t).emb :=
  ⟨fun _ => rfl, fun _ => rfl, fun _ => rfl, fun _ => rfl⟩
theorem place_out (t : Fin grid0.N) : Place (D := 16) (L := 256) (R := 256) (win0_5.index t) (win0_5.rect t).emb :=
  ⟨fun _ => rfl, fun _ => rfl, fun _ => rfl, fun _ => rfl⟩
theorem place_lse (t : Fin grid0.N) : Place (D := 16) (L := 256) (R := 256) (win0_6.index t) (win0_6.rect t).emb :=
  ⟨fun _ => rfl, fun _ => rfl, fun _ => rfl, fun _ => rfl⟩

/-- What a point writes back of the values is its block of the attention's values. -/
theorem flushed_o (t : Fin cfg0.N) :
    (dats m 0 c).flushed 5 t = (win0_5.blk t).view.read (Elt Ideal) (attO (aq m c) (ak m c) (av m c)) := by
  rw [Cert.AttnD16Ideal.Value.flushed5]
  funext y
  show out0_5 (grid0.coords t) (iblk m c 0 t) (iblk m c 1 t) (iblk m c 2 t) (iblk m c 3 t) (iblk m c 4 t) y
    = attO (aq m c) (ak m c) (av m c) ((win0_5.rect t).emb y)
  rw [Body16.out5_apply _ _ _ _ _ _ (coord_lt t) y, coord_row]
  exact block_o (T := 2) (place_cur t) (place_prev t) (by decide) rfl (idx_cur t) (idx_prev t)
    (fun _ => rfl) (fun _ => rfl) (fun _ => rfl) (fun _ => rfl) (fun _ => rfl) (place_out t) (idx_out t) y

/-- What a point writes back of the log-sum-exps is its block of them. -/
theorem flushed_e (t : Fin cfg0.N) :
    (dats m 0 c).flushed 6 t = (win0_6.blk t).view.read (Elt Ideal) (attE (aq m c) (ak m c)) := by
  rw [Cert.AttnD16Ideal.Value.flushed6]
  funext y
  show out0_6 (grid0.coords t) (iblk m c 0 t) (iblk m c 1 t) (iblk m c 2 t) (iblk m c 3 t) (iblk m c 4 t) y
    = attE (aq m c) (ak m c) ((win0_6.rect t).emb y)
  rw [Body16.out6_apply _ _ _ _ _ _ (coord_lt t) y, coord_row]
  exact block_e (T := 2) (place_cur t) (place_prev t) (by decide) rfl (idx_cur t) (idx_prev t)
    (fun _ => rfl) (fun _ => rfl) (fun _ => rfl) (place_lse t) (idx_lse t) y

/-- The point whose blocks hold a sequence, class and row. -/
theorem pt {b r row : Nat} (hb : b < 2) (hr : r < 16) (hrow : row < 256) :
    ∃ t : Fin grid0.N, (pb t).val = b ∧ (pr t).val = r ∧ pn t = row / 256 := by
  obtain ⟨t, ht, h⟩ := point (G := 1) hb hr (show row / 256 < 1 by omega)
  exact ⟨⟨t, lt_of_lt_of_eq ht N_0.symm⟩, h⟩

/-- Every index of the values is in the block of some point. -/
theorem cover_o (i : S2x16x256x1024.Idx) : ∃ t : Fin cfg0.N, (cfg0.win 5).flush t = true ∧ i ∈ ((cfg0.win 5).blk t).view.set := by
  obtain ⟨t, h0, h1, h2⟩ := pt (i 0).isLt (i 1).isLt (i 2).isLt
  refine ⟨t, flush0_5 _, ?_⟩
  have e := idx_out t
  rw [h0, h1, h2] at e
  show i ∈ ((View.whole main_v0_0).slice (win0_5.rect t)).set
  rw [View.set_slice_whole, Rect.mem_set_unit]
  have h := holds (R := 256) (by decide) (i 3).isLt e
  exact fun | 0 => h 0 | 1 => h 1 | 2 => h 2 | 3 => h 3

/-- Every index of the log-sum-exps is in the block of some point. -/
theorem cover_e (i : S2x16x256x128.Idx) : ∃ t : Fin cfg0.N, (cfg0.win 6).flush t = true ∧ i ∈ ((cfg0.win 6).blk t).view.set := by
  obtain ⟨t, h0, h1, h2⟩ := pt (i 0).isLt (i 1).isLt (i 2).isLt
  refine ⟨t, flush0_6 _, ?_⟩
  have e := idx_lse t
  rw [h0, h1, h2] at e
  show i ∈ ((View.whole main_v0_1).slice (win0_6.rect t)).set
  rw [View.set_slice_whole, Rect.mem_set_unit]
  have h := holds (R := 256) (by decide) (i 3).isLt e
  exact fun | 0 => h 0 | 1 => h 1 | 2 => h 2 | 3 => h 3

/-- The call, run: its results are the attention's values and log-sum-exps, its arguments are unchanged. -/
theorem run : θ_run defs (onTc (τ := τ) (main (F := Ideal))) ⟨m, fun _ => 0, ρ⟩ fun r => ∀ c : Dev nD,
      r.2.mem ((c : Thread nD τ).loc main_v0_0) = attO (aq m c) (ak m c) (av m c)
      ∧ r.2.mem ((c : Thread nD τ).loc main_v0_1) = attE (aq m c) (ak m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 5 _ (fun t _ => flushed_o m c t) cover_o),
      (h c).2.1.trans ((dats m 0 c).arrAt_eq_of_cover 6 _ (fun t _ => flushed_e m c t) cover_e), (h c).2.2⟩)
    (Cert.AttnD16Ideal.Value.run_blocks m ρ)

end Cert.KernelValue16

end
-- ==== Proof.RefValue16.lean ====
/-
  The third group's reference: its two results are the attention's reference at this group's classes and blocks.
-/
module

public import proofs.«01_k».proof.Proof.RefAttention
public import proofs.«01_k».proof.Proof.Gen.RefAttnD16Ideal.Run

@[expose] public section

set_option maxRecDepth 16384

noncomputable section

namespace Cert.RefValue16

open Idealize.ShloMosaic Idealize.ShloMosaic.TcCoe Cert.RefAttnD16Ideal Cert.RefAttnD16Ideal.Gen Cert.Attention Cert.RefAttention

/-- The shapes' relations at this group. -/
theorem fc : RefFacts 16 2 256 := by
  obtain ⟨⟩ := (inferInstance : Facts₀)
  constructor <;> first | assumption | rfl | omega

variable (m : (ℓ : Loc nD τ sig) → Buf (Elt Ideal) ℓ) (c : Dev nD)

/-- The queries, the keys and the values as launched. -/
abbrev rq : (SA 16 256).Idx → EReal := m ((c : Thread nD τ).loc main_arg0)
abbrev rk : (SA 16 256).Idx → EReal := m ((c : Thread nD τ).loc main_arg1)
abbrev rv : (SA 16 256).Idx → EReal := m ((c : Thread nD τ).loc main_arg2)

/-- The values, from finite queries and keys. -/
theorem res_o (hq : ∀ i, ∃ x : ℝ, rq m c i = x) (hk : ∀ i, ∃ x : ℝ, rk m c i = x) :
    Cert.RefAttnD16Ideal.Value.res_main_v60 (F := Ideal) m c = attO (rq m c) (rk m c) (rv m c) := by
  refine Eq.trans ?_ (outs_eq fc (rq m c) (rk m c) (rv m c) hq hk)
  unfold Cert.RefAttnD16Ideal.Value.res_main_v60
  rfl

/-- The log-sum-exps. -/
theorem res_e : Cert.RefAttnD16Ideal.Value.res_main_v62 (F := Ideal) m c = attE (rq m c) (rk m c) := by
  refine Eq.trans ?_ (lses_eq fc (rq m c) (rk m c))
  unfold Cert.RefAttnD16Ideal.Value.res_main_v62
  rfl

end Cert.RefValue16

end
-- ==== Proof.AttnD16Claims.lean ====
/-
  The claims about the third group's call: the frames, and the equality with the reference.
-/
module

public import proofs.«01_k».proof.Defs
public import proofs.«01_k».proof.Proof.KernelValue16
public import proofs.«01_k».proof.Proof.RefValue16
public import proofs.«01_k».proof.Proof.Gen.AttnD16.Frame
public import proofs.«01_k».proof.Proof.Gen.Pre_finite_qk_d16
public import Idealize.ShloMosaic.Lib.Quiescent

@[expose] public section

set_option maxRecDepth 16384

noncomputable section

namespace Cert.AttnD16Claims

open Idealize.ShloMosaic Idealize.ShloMosaic.TcCoe Idealize.SL.Sem Cert.Attention Cert.RefAttention

/-- The kernel runs and leaves its arguments as they were. -/
theorem frame_k : Cert.quiescent_AttnD16 := fun m ρ _ => Cert.AttnD16.Gen.frame m ρ

/-- The idealised kernel runs and leaves its arguments as they were, with or without the precondition. -/
theorem frame_ki : Cert.quiescent_AttnD16Ideal := fun m ρ _ => Cert.AttnD16Ideal.Gen.frame m ρ
theorem frame_ki_pre : Cert.quiescent_AttnD16Ideal_pre_finite_qk_d16 := fun m ρ _ => Cert.AttnD16Ideal.Gen.frame m ρ

/-- The reference runs and leaves its arguments as they were, with or without the precondition. -/
theorem frame_ri : Cert.quiescent_RefAttnD16Ideal := fun m ρ _ =>
  (θ_run Cert.RefAttnD16Ideal.defs _ _).mono (fun r h => ⟨fun c => (h c).2.2,
      Idealize.ShloMosaic.sem_eq_zero_of_no_sems (by decide) r.2⟩)
    (Cert.RefAttnD16Ideal.Value.run (F := Ideal) m ρ)
theorem frame_ri_pre : Cert.quiescent_RefAttnD16Ideal_pre_finite_qk_d16 := fun m ρ _ => frame_ri m ρ trivial

/-- The one named constant is the mask's, and it names the bottom element. -/
theorem preserves : Cert.preserves_AttnD16_AttnD16Ideal :=
  IdealRules.named_const.statement Cert.AttnD16Ideal.κ "mask" .f32 0xF149F2CA#32 ⊥ rfl

/-- The call's two results are the reference's, from finite queries and keys. -/
theorem algebraic : Cert.algebraic_AttnD16Ideal_RefAttnD16Ideal_pre_finite_qk_d16 := by
  intro m ρ m' ρ' hpre hag
  have hq (c : Dev Cert.AttnD16Ideal.nD) (i) : ∃ x : ℝ, KernelValue16.aq m c i = x := real_of_abs_lt (congrFun (hpre c).1 i)
  have hk (c : Dev Cert.AttnD16Ideal.nD) (i) : ∃ x : ℝ, KernelValue16.ak m c i = x := real_of_abs_lt (congrFun (hpre c).2 i)
  refine ⟨fun c => attO (KernelValue16.aq m c) (KernelValue16.ak m c) (KernelValue16.av m c),
    fun c => attE (KernelValue16.aq m c) (KernelValue16.ak m c), KernelValue16.run m ρ, ?_⟩
  refine (θ_run Cert.RefAttnD16Ideal.defs _ _).mono (fun _ h c => ⟨(h c).1.trans ?_, (h c).2.1.trans ?_, (h c).2.2⟩)
    (Cert.RefAttnD16Ideal.Value.run (F := Ideal) m' ρ')
  · have e := RefValue16.res_o m' c
    rw [RefValue16.rq, RefValue16.rk, RefValue16.rv, (hag c).1, (hag c).2.1, (hag c).2.2] at e
    exact e (hq c) (hk c)
  · have e := RefValue16.res_e m' c
    rw [RefValue16.rq, RefValue16.rk, (hag c).1, (hag c).2.1] at e
    exact e

end Cert.AttnD16Claims

end
-- ==== Proof.Body4.lean ====
/-
  The body of the second group's call: what it leaves in the two staging buffers of its results is the block of the
  attention's values and the block of its log-sum-exps.
-/
module

public import proofs.«01_k».proof.Proof.Block
public import proofs.«01_k».proof.Proof.Gen.AttnD4Ideal.Frame

@[expose] public section

set_option maxRecDepth 1000000

noncomputable section

namespace Cert.Body4

open Idealize.ShloMosaic Cert.AttnD4Ideal Cert.AttnD4Ideal.Gen Cert.AttnD4Ideal.Facts Cert.Tile Cert.Block

variable (i : grid0.Coords) (x0 : Vec Ideal S1x1x512x1024 .bf16) (x1 : Vec Ideal S1x1x128x1024 .bf16)
  (x2 : Vec Ideal S1x1x512x1024 .bf16) (x3 : Vec Ideal S1x1x128x1024 .bf16) (x4 : Vec Ideal S1x1x512x1024 .bf16)

/-- The values' staging buffer after the body. -/
theorem out5_apply (hg : (i 2).val < 1024) (y : S1x1x512x1024.Idx) :
    out0_5 (F := Ideal) i x0 x1 x2 x3 x4 y = GO (R := 512) (i 2).val x0 x1 x2 x3 x4 y := by
  unfold out0_5
  refine View.canon_apply_of_pieces (Val := Elt Ideal) (GO (R := 512) (i 2).val x0 x1 x2 x3 x4) _ ?_ y (cover0_5 _ _ _ _ _ _ _ _ _ _ _ _ _ _ _ _ _ _ _ _ _ _ _ _ _ _ _ _ _ _ _ _ y)
  refine eight (storeO_mid (R := 512) x0 x2 x4 2 (by omega) (by omega)) (fun h => pieceO_mid (R := 512) x0 x2 x4 x1 x3 (i 2).val 2 h (by omega) (by omega)) ?_
  refine eight (storeO_mid (R := 512) x0 x2 x4 1 (by omega) (by omega)) (fun h => pieceO_mid (R := 512) x0 x2 x4 x1 x3 (i 2).val 1 h (by omega) (by omega)) ?_
  refine eight (storeO_mid (R := 512) x0 x2 x4 0 (by omega) (by omega)) (fun h => pieceO_mid (R := 512) x0 x2 x4 x1 x3 (i 2).val 0 h (by omega) (by omega)) ?_
  refine eight (storeO_first (R := 512) x0 x2 x4 x1 x3 (i 2).val (by omega)) (fun h => pieceO_first (R := 512) x0 x2 x4 x1 x3 (i 2).val hg h (by omega)) ?_
  exact fun _ hp => absurd hp List.not_mem_nil

/-- The log-sum-exps' staging buffer after the body. -/
theorem out6_apply (hg : (i 2).val < 1024) (y : S1x1x512x128.Idx) :
    out0_6 (F := Ideal) i x0 x1 x2 x3 x4 y = GE (R := 512) (i 2).val x0 x1 x2 y := by
  unfold out0_6
  refine View.canon_apply_of_pieces (Val := Elt Ideal) (GE (R := 512) (i 2).val x0 x1 x2) _ ?_ y (cover0_6 _ _ _ _ y)
  refine List.forall_mem_cons.2 ⟨piece (pieceE_mid (R := 512) x0 x2 x1 (i 2).val 2 (by omega) (by omega)) (by dsimp only; rfl), ?_⟩
  refine List.forall_mem_cons.2 ⟨piece (pieceE_mid (R := 512) x0 x2 x1 (i 2).val 1 (by omega) (by omega)) (by dsimp only; rfl), ?_⟩
  refine List.forall_mem_cons.2 ⟨piece (pieceE_mid (R := 512) x0 x2 x1 (i 2).val 0 (by omega) (by omega)) (by dsimp only; rfl), ?_⟩
  refine List.forall_mem_cons.2 ⟨piece (pieceE_first (R := 512) x0 x2 x1 (i 2).val hg (by omega)) (by dsimp only; rfl), ?_⟩
  exact fun _ hp => absurd hp List.not_mem_nil

end Cert.Body4

end
-- ==== Proof.KernelValue4.lean ====
/-
  The second group's call, run: its two results are the attention's values and log-sum-exps of its three arguments.
-/
module

public import proofs.«01_k».proof.Proof.Grid
public import proofs.«01_k».proof.Proof.Body4
public import proofs.«01_k».proof.Proof.Gen.AttnD4Ideal.Value

@[expose] public section

set_option maxRecDepth 16384

noncomputable section

namespace Cert.KernelValue4

open Idealize.ShloMosaic Idealize.ShloMosaic.TcCoe Idealize.SL.Sem Cert.AttnD4Ideal Cert.AttnD4Ideal.Gen Cert.Block Cert.Attention Cert.Grid

variable (m : (ℓ : Loc nD τ sig) → Buf (Elt Ideal) ℓ) (ρ : Dev nD → PrngReg) (c : Dev nD)

/-- The queries, the keys and the values as launched. -/
abbrev aq : (SA 4 1024).Idx → EReal := m ((c : Thread nD τ).loc main_arg0)
abbrev ak : (SA 4 1024).Idx → EReal := m ((c : Thread nD τ).loc main_arg1)
abbrev av : (SA 4 1024).Idx → EReal := m ((c : Thread nD τ).loc main_arg2)

/-- A point's sequence, class and row of blocks. -/
def pb (t : Fin grid0.N) : Fin 2 := ⟨seqOf 4 2 t.val, seqOf_lt (lt_of_lt_of_eq t.isLt N_0)⟩
def pr (t : Fin grid0.N) : Fin 4 := ⟨classOf 4 2 t.val, Nat.mod_lt _ (by decide)⟩
def pn (t : Fin grid0.N) : Nat := rowOf 2 t.val

/-- The index maps at every point. -/
theorem idx_cur (t : Fin grid0.N) : win0_0.index t 0 = (pb t).val ∧ win0_0.index t 1 = (pr t).val ∧ win0_0.index t 2 = pn t ∧ win0_0.index t 3 = 0 := by
  revert t; decide +kernel
theorem idx_prev (t : Fin grid0.N) : win0_1.index t 0 = (pb t).val ∧ win0_1.index t 1 = (pr t).val ∧ win0_1.index t 2 = 4 * pn t - 1 ∧ win0_1.index t 3 = 0 := by
  revert t; decide +kernel
theorem idx_out (t : Fin grid0.N) : win0_5.index t 0 = (pb t).val ∧ win0_5.index t 1 = (pr t).val ∧ win0_5.index t 2 = pn t ∧ win0_5.index t 3 = 0 := by
  revert t; decide +kernel
theorem idx_lse (t : Fin grid0.N) : win0_6.index t 0 = (pb t).val ∧ win0_6.index t 1 = (pr t).val ∧ win0_6.index t 2 = pn t ∧ win0_6.index t 3 = 0 := by
  revert t; decide +kernel
theorem coord_row (t : Fin grid0.N) : (grid0.coords t 2).val = pn t := by
  revert t; decide +kernel
theorem coord_lt (t : Fin grid0.N) : (grid0.coords t 2).val < 1024 :=
  lt_of_lt_of_le (lt_of_eq_of_lt (coord_row t) (Nat.mod_lt _ (by decide : 0 < 2))) (by decide)

/-- The windows' blocks at every point. -/
theorem place_cur (t : Fin grid0.N) : Place (D := 4) (L := 1024) (R := 512) (win0_0.index t) (win0_0.rect t).emb :=
  ⟨fun _ => rfl, fun _ => rfl, fun _ => rfl, fun _ => rfl⟩
theorem place_prev (t : Fin grid0.N) : Place (D := 4) (L := 1024) (R := 128) (win0_1.index t) (win0_1.rect t).emb :=
  ⟨fun _ => rfl, fun _ => rfl, fun _ => rfl, fun _ => rfl⟩
theorem place_out (t : Fin grid0.N) : Place (D := 4) (L := 1024) (R := 512) (win0_5.index t) (win0_5.rect t).emb :=
  ⟨fun _ => rfl, fun _ => rfl, fun _ => rfl, fun _ => rfl⟩
theorem place_lse (t : Fin grid0.N) : Place (D := 4) (L := 1024) (R := 512) (win0_6.index t) (win0_6.rect t).emb :=
  ⟨fun _ => rfl, fun _ => rfl, fun _ => rfl, fun _ => rfl⟩

/-- What a point writes back of the values is its block of the attention's values. -/
theorem flushed_o (t : Fin cfg0.N) :
    (dats m 0 c).flushed 5 t = (win0_5.blk t).view.read (Elt Ideal) (attO (aq m c) (ak m c) (av m c)) := by
  rw [Cert.AttnD4Ideal.Value.flushed5]
  funext y
  show out0_5 (grid0.coords t) (iblk m c 0 t) (iblk m c 1 t) (iblk m c 2 t) (iblk m c 3 t) (iblk m c 4 t) y
    = attO (aq m c) (ak m c) (av m c) ((win0_5.rect t).emb y)
  rw [Body4.out5_apply _ _ _ _ _ _ (coord_lt t) y, coord_row]
  exact block_o (T := 4) (place_cur t) (place_prev t) (by decide) rfl (idx_cur t) (idx_prev t)
    (fun _ => rfl) (fun _ => rfl) (fun _ => rfl) (fun _ => rfl) (fun _ => rfl) (place_out t) (idx_out t) y

/-- What a point writes back of the log-sum-exps is its block of them. -/
theorem flushed_e (t : Fin cfg0.N) :
    (dats m 0 c).flushed 6 t = (win0_6.blk t).view.read (Elt Ideal) (attE (aq m c) (ak m c)) := by
  rw [Cert.AttnD4Ideal.Value.flushed6]
  funext y
  show out0_6 (grid0.coords t) (iblk m c 0 t) (iblk m c 1 t) (iblk m c 2 t) (iblk m c 3 t) (iblk m c 4 t) y
    = attE (aq m c) (ak m c) ((win0_6.rect t).emb y)
  rw [Body4.out6_apply _ _ _ _ _ _ (coord_lt t) y, coord_row]
  exact block_e (T := 4) (place_cur t) (place_prev t) (by decide) rfl (idx_cur t) (idx_prev t)
    (fun _ => rfl) (fun _ => rfl) (fun _ => rfl) (place_lse t) (idx_lse t) y

/-- The point whose blocks hold a sequence, class and row. -/
theorem pt {b r row : Nat} (hb : b < 2) (hr : r < 4) (hrow : row < 1024) :
    ∃ t : Fin grid0.N, (pb t).val = b ∧ (pr t).val = r ∧ pn t = row / 512 := by
  obtain ⟨t, ht, h⟩ := point (G := 2) hb hr (show row / 512 < 2 by omega)
  exact ⟨⟨t, lt_of_lt_of_eq ht N_0.symm⟩, h⟩

/-- Every index of the values is in the block of some point. -/
theorem cover_o (i : S2x4x1024x1024.Idx) : ∃ t : Fin cfg0.N, (cfg0.win 5).flush t = true ∧ i ∈ ((cfg0.win 5).blk t).view.set := by
  obtain ⟨t, h0, h1, h2⟩ := pt (i 0).isLt (i 1).isLt (i 2).isLt
  refine ⟨t, flush0_5 _, ?_⟩
  have e := idx_out t
  rw [h0, h1, h2] at e
  show i ∈ ((View.whole main_v0_0).slice (win0_5.rect t)).set
  rw [View.set_slice_whole, Rect.mem_set_unit]
  have h := holds (R := 512) (by decide) (i 3).isLt e
  exact fun | 0 => h 0 | 1 => h 1 | 2 => h 2 | 3 => h 3

/-- Every index of the log-sum-exps is in the block of some point. -/
theorem cover_e (i : S2x4x1024x128.Idx) : ∃ t : Fin cfg0.N, (cfg0.win 6).flush t = true ∧ i ∈ ((cfg0.win 6).blk t).view.set := by
  obtain ⟨t, h0, h1, h2⟩ := pt (i 0).isLt (i 1).isLt (i 2).isLt
  refine ⟨t, flush0_6 _, ?_⟩
  have e := idx_lse t
  rw [h0, h1, h2] at e
  show i ∈ ((View.whole main_v0_1).slice (win0_6.rect t)).set
  rw [View.set_slice_whole, Rect.mem_set_unit]
  have h := holds (R := 512) (by decide) (i 3).isLt e
  exact fun | 0 => h 0 | 1 => h 1 | 2 => h 2 | 3 => h 3

/-- The call, run: its results are the attention's values and log-sum-exps, its arguments are unchanged. -/
theorem run : θ_run defs (onTc (τ := τ) (main (F := Ideal))) ⟨m, fun _ => 0, ρ⟩ fun r => ∀ c : Dev nD,
      r.2.mem ((c : Thread nD τ).loc main_v0_0) = attO (aq m c) (ak m c) (av m c)
      ∧ r.2.mem ((c : Thread nD τ).loc main_v0_1) = attE (aq m c) (ak m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 5 _ (fun t _ => flushed_o m c t) cover_o),
      (h c).2.1.trans ((dats m 0 c).arrAt_eq_of_cover 6 _ (fun t _ => flushed_e m c t) cover_e), (h c).2.2⟩)
    (Cert.AttnD4Ideal.Value.run_blocks m ρ)

end Cert.KernelValue4

end
-- ==== Proof.RefValue4.lean ====
/-
  The second group's reference: its two results are the attention's reference at this group's classes and blocks.
-/
module

public import proofs.«01_k».proof.Proof.RefAttention
public import proofs.«01_k».proof.Proof.Gen.RefAttnD4Ideal.Run

@[expose] public section

set_option maxRecDepth 16384

noncomputable section

namespace Cert.RefValue4

open Idealize.ShloMosaic Idealize.ShloMosaic.TcCoe Cert.RefAttnD4Ideal Cert.RefAttnD4Ideal.Gen Cert.Attention Cert.RefAttention

/-- The shapes' relations at this group. -/
theorem fc : RefFacts 4 8 1024 := by
  obtain ⟨⟩ := (inferInstance : Facts₀)
  constructor <;> first | assumption | rfl | omega

variable (m : (ℓ : Loc nD τ sig) → Buf (Elt Ideal) ℓ) (c : Dev nD)

/-- The queries, the keys and the values as launched. -/
abbrev rq : (SA 4 1024).Idx → EReal := m ((c : Thread nD τ).loc main_arg0)
abbrev rk : (SA 4 1024).Idx → EReal := m ((c : Thread nD τ).loc main_arg1)
abbrev rv : (SA 4 1024).Idx → EReal := m ((c : Thread nD τ).loc main_arg2)

/-- The values, from finite queries and keys. -/
theorem res_o (hq : ∀ i, ∃ x : ℝ, rq m c i = x) (hk : ∀ i, ∃ x : ℝ, rk m c i = x) :
    Cert.RefAttnD4Ideal.Value.res_main_v60 (F := Ideal) m c = attO (rq m c) (rk m c) (rv m c) := by
  refine Eq.trans ?_ (outs_eq fc (rq m c) (rk m c) (rv m c) hq hk)
  unfold Cert.RefAttnD4Ideal.Value.res_main_v60
  rfl

/-- The log-sum-exps. -/
theorem res_e : Cert.RefAttnD4Ideal.Value.res_main_v62 (F := Ideal) m c = attE (rq m c) (rk m c) := by
  refine Eq.trans ?_ (lses_eq fc (rq m c) (rk m c))
  unfold Cert.RefAttnD4Ideal.Value.res_main_v62
  rfl

end Cert.RefValue4

end
-- ==== Proof.AttnD4Claims.lean ====
/-
  The claims about the second group's call: the frames, and the equality with the reference.
-/
module

public import proofs.«01_k».proof.Defs
public import proofs.«01_k».proof.Proof.KernelValue4
public import proofs.«01_k».proof.Proof.RefValue4
public import proofs.«01_k».proof.Proof.Gen.AttnD4.Frame
public import proofs.«01_k».proof.Proof.Gen.Pre_finite_qk_d4
public import Idealize.ShloMosaic.Lib.Quiescent

@[expose] public section

set_option maxRecDepth 16384

noncomputable section

namespace Cert.AttnD4Claims

open Idealize.ShloMosaic Idealize.ShloMosaic.TcCoe Idealize.SL.Sem Cert.Attention Cert.RefAttention

/-- The kernel runs and leaves its arguments as they were. -/
theorem frame_k : Cert.quiescent_AttnD4 := fun m ρ _ => Cert.AttnD4.Gen.frame m ρ

/-- The idealised kernel runs and leaves its arguments as they were, with or without the precondition. -/
theorem frame_ki : Cert.quiescent_AttnD4Ideal := fun m ρ _ => Cert.AttnD4Ideal.Gen.frame m ρ
theorem frame_ki_pre : Cert.quiescent_AttnD4Ideal_pre_finite_qk_d4 := fun m ρ _ => Cert.AttnD4Ideal.Gen.frame m ρ

/-- The reference runs and leaves its arguments as they were, with or without the precondition. -/
theorem frame_ri : Cert.quiescent_RefAttnD4Ideal := fun m ρ _ =>
  (θ_run Cert.RefAttnD4Ideal.defs _ _).mono (fun r h => ⟨fun c => (h c).2.2,
      Idealize.ShloMosaic.sem_eq_zero_of_no_sems (by decide) r.2⟩)
    (Cert.RefAttnD4Ideal.Value.run (F := Ideal) m ρ)
theorem frame_ri_pre : Cert.quiescent_RefAttnD4Ideal_pre_finite_qk_d4 := fun m ρ _ => frame_ri m ρ trivial

/-- The one named constant is the mask's, and it names the bottom element. -/
theorem preserves : Cert.preserves_AttnD4_AttnD4Ideal :=
  IdealRules.named_const.statement Cert.AttnD4Ideal.κ "mask" .f32 0xF149F2CA#32 ⊥ rfl

/-- The call's two results are the reference's, from finite queries and keys. -/
theorem algebraic : Cert.algebraic_AttnD4Ideal_RefAttnD4Ideal_pre_finite_qk_d4 := by
  intro m ρ m' ρ' hpre hag
  have hq (c : Dev Cert.AttnD4Ideal.nD) (i) : ∃ x : ℝ, KernelValue4.aq m c i = x := real_of_abs_lt (congrFun (hpre c).1 i)
  have hk (c : Dev Cert.AttnD4Ideal.nD) (i) : ∃ x : ℝ, KernelValue4.ak m c i = x := real_of_abs_lt (congrFun (hpre c).2 i)
  refine ⟨fun c => attO (KernelValue4.aq m c) (KernelValue4.ak m c) (KernelValue4.av m c),
    fun c => attE (KernelValue4.aq m c) (KernelValue4.ak m c), KernelValue4.run m ρ, ?_⟩
  refine (θ_run Cert.RefAttnD4Ideal.defs _ _).mono (fun _ h c => ⟨(h c).1.trans ?_, (h c).2.1.trans ?_, (h c).2.2⟩)
    (Cert.RefAttnD4Ideal.Value.run (F := Ideal) m' ρ')
  · have e := RefValue4.res_o m' c
    rw [RefValue4.rq, RefValue4.rk, RefValue4.rv, (hag c).1, (hag c).2.1, (hag c).2.2] at e
    exact e (hq c) (hk c)
  · have e := RefValue4.res_e m' c
    rw [RefValue4.rq, RefValue4.rk, (hag c).1, (hag c).2.1] at e
    exact e

end Cert.AttnD4Claims

end
-- ==== Proof.NormValue.lean ====
/-
  The call of a layer's first norm, run: its result is the row divided by the root of its mean square, times the weight.
-/
module

public import proofs.«01_k».proof.Proof.Dense
public import proofs.«01_k».proof.Proof.Gen.NormIdeal.Value

@[expose] public section

set_option maxRecDepth 16384

noncomputable section

namespace Cert.NormValue

open Idealize.ShloMosaic Idealize.ShloMosaic.TcCoe Idealize.SL.Sem Cert.NormIdeal Cert.NormIdeal.Gen Cert.Dense

variable (m : (ℓ : Loc nD τ sig) → Buf (Elt Ideal) ℓ) (ρ : Dev nD → PrngReg) (c : Dev nD)

/-- The layer's input and the norm's weight as launched. -/
abbrev ax : Ix 8192 2048 → EReal := m ((c : Thread nD τ).loc main_arg0)
abbrev aw : (⟨1, ![2048]⟩ : Shape).Idx → EReal := m ((c : Thread nD τ).loc main_arg1)

/-- The normalised entry in row `i` and column `j`; the row's length and the small term are the printed constants. -/
def normed {n : Nat} (x : Ix n 2048 → EReal) (w : Fin 2048 → EReal) (i : Fin n) (j : Fin 2048) : EReal :=
  x (ix2 i j) * Ideal.rsqrt (Ideal.div (∑ e : Fin 2048, x (ix2 i e) * x (ix2 i e)) (Ideal.ofBits .f32 0x45000000#32)
    + Ideal.ofBits .f32 0x358637BD#32) * w j

/-- The body's result, from its blocks. -/
theorem out_apply (x0 : Vec Ideal S512x2048 .f32) (x1 : Vec Ideal S1x2048 .f32) (i : Fin 512) (j : Fin 2048) :
    out0_2 (F := Ideal) x0 x1 (ix2 i j) = normed x0 (fun e => x1 (ix2 0 e)) i j := by
  unfold out0_2
  rw [View.canon_unit_zero hz, View.ld_unit_zero hz, View.ld_unit_zero hz]
  pointwise [k0_pay1]
  rfl

/-- The weight as the call's host lays it out, a row. -/
theorem weight (j : Fin 2048) : V (F := Ideal) m c main_v0 (ix2 0 j) = aw m c (ix1 j) := by
  unfold V hostOps0
  after_results_simp
  pointwise []

/-- The index maps at every point. -/
theorem idx (t : Fin grid0.N) : win0_0.index t 0 = win0_2.index t 0 ∧ win0_0.index t 1 = 0 ∧ win0_1.index t 0 = 0 ∧ win0_1.index t 1 = 0
    ∧ win0_2.index t 0 = t.val ∧ win0_2.index t 1 = 0 := by
  revert t; decide +kernel

/-- The call's result. -/
def out (x : Ix 8192 2048 → EReal) (w : (⟨1, ![2048]⟩ : Shape).Idx → EReal) (z : Ix 8192 2048) : EReal :=
  normed x (fun e => w (ix1 e)) (z 0) (z 1)

/-- What a point writes back is its block of the result. -/
theorem flushed (t : Fin cfg0.N) :
    (dats m 0 c).flushed 2 t = (win0_2.blk t).view.read (Elt Ideal) (out (ax m c) (aw m c)) := by
  rw [Cert.NormIdeal.Value.flushed2]
  funext z
  show out0_2 (iblk m c 0 t) (iblk m c 1 t) z = out (ax m c) (aw m c) ((win0_2.rect t).emb z)
  obtain ⟨d0, d1, d2, d3, -, d5⟩ := idx t
  rw [eq_ix2 (n0 := 512) (n1 := 2048) z]
  generalize z 0 = i, z 1 = j
  change Fin 512 at i
  change Fin 2048 at j
  have hj : (win0_2.rect t).emb (ix2 i j) 1 = j := Fin.ext ((congrArg (· * 2048 + 1 * j.val) d5).trans (by omega))
  have hx (e : Fin 2048) : iblk m c 0 t (ix2 i e) = ax m c (ix2 ((win0_2.rect t).emb (ix2 i j) 0) e) :=
    (congrFun (congrArg _ (V_main_arg0 m c)) _).trans (congrArg (ax m c) (ext2 (congrArg (· * 512 + 1 * i.val) d0)
      ((congrArg (· * 2048 + 1 * e.val) d1).trans (by show 0 * 2048 + 1 * e.val = e.val; omega))))
  have hw : iblk m c 1 t (ix2 0 j) = aw m c (ix1 j) :=
    (congrArg (V (F := Ideal) m c main_v0) (ext2 (congrArg (· * 1 + 1 * 0) d2)
      ((congrArg (· * 2048 + 1 * j.val) d3).trans (by show 0 * 2048 + 1 * j.val = j.val; omega)))).trans (weight m c j)
  rw [out_apply, out, hj]
  exact congrArg₂ (fun p q : EReal => p * q) (congrArg₂ (fun p q : EReal => p * Ideal.rsqrt (Ideal.div q _ + _)) (hx j)
    (Finset.sum_congr rfl fun e _ => congrArg (fun p : EReal => p * p) (hx e))) hw

/-- A row is in one of the 16 blocks of rows, a column in the one block of columns. -/
theorem row_block {u : Nat} (h : u < 8192) : ∃ a < 16, a * 512 ≤ u ∧ u < a * 512 + 512 := ⟨u / 512, by omega, by omega, by omega⟩
theorem col_block {u : Nat} (h : u < 2048) : 0 * 2048 ≤ u ∧ u < 0 * 2048 + 2048 := by omega

/-- Every index of the result is in the block of some point. -/
theorem cover (i : S8192x2048.Idx) : ∃ t : Fin cfg0.N, (cfg0.win 2).flush t = true ∧ i ∈ ((cfg0.win 2).blk t).view.set := by
  obtain ⟨a, ha, b0⟩ := row_block (i 0).isLt
  have b1 := col_block (i 1).isLt
  have hN := N_0
  let t : Fin grid0.N := ⟨a, by omega⟩
  obtain ⟨-, -, -, -, e4, e5⟩ := idx t
  refine ⟨t, flush0_2 _, ?_⟩
  show i ∈ ((View.whole main_v1).slice (win0_2.rect t)).set
  rw [View.set_slice_whole, Rect.mem_set_unit]
  intro d
  match d with
  | ⟨0, _⟩ => exact (congrArg (fun u => u * 512 ≤ (i 0).val ∧ (i 0).val < u * 512 + 512) e4).mpr b0
  | ⟨1, _⟩ => exact (congrArg (fun u => u * 2048 ≤ (i 1).val ∧ (i 1).val < u * 2048 + 2048) e5).mpr b1

/-- The call, run. -/
theorem run : θ_run defs (onTc (τ := τ) (main (F := Ideal))) ⟨m, fun _ => 0, ρ⟩ fun r => ∀ c : Dev nD,
      r.2.mem ((c : Thread nD τ).loc main_v1) = out (ax m c) (aw m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) cover), (h c).2⟩)
    (Cert.NormIdeal.Value.run_blocks m ρ)

end Cert.NormValue

end
-- ==== Proof.NormClaims.lean ====
/-
  The claims about the call of a layer's first norm.
-/
module

public import proofs.«01_k».proof.Defs
public import proofs.«01_k».proof.Proof.NormValue
public import proofs.«01_k».proof.Proof.Gen.Norm.Frame
public import proofs.«01_k».proof.Proof.Gen.RefNormIdeal.Run
public import Idealize.ShloMosaic.Lib.Quiescent

@[expose] public section

set_option maxRecDepth 16384

noncomputable section

namespace Cert.NormClaims

open Idealize.ShloMosaic Idealize.ShloMosaic.TcCoe Idealize.SL.Sem Cert.Dense

/-- The call runs and leaves its arguments as they were. -/
theorem frame_k : Cert.quiescent_Norm := fun m ρ _ => Cert.Norm.Gen.frame m ρ

/-- The idealised call runs and leaves its arguments as they were. -/
theorem frame_ki : Cert.quiescent_NormIdeal := fun m ρ _ => Cert.NormIdeal.Gen.frame m ρ

/-- The reference runs and leaves its arguments as they were. -/
theorem frame_ri : Cert.quiescent_RefNormIdeal := fun m ρ _ =>
  (θ_run Cert.RefNormIdeal.defs _ _).mono (fun r h => ⟨fun c => (h c).2, sem_eq_zero_of_no_sems (by decide) r.2⟩)
    (Cert.RefNormIdeal.Value.run (F := Ideal) m ρ)

/-- The call's result is the reference's. -/
theorem algebraic : Cert.algebraic_NormIdeal_RefNormIdeal := by
  intro m ρ m' ρ' _ hag
  refine ⟨fun c => NormValue.out (NormValue.ax m c) (NormValue.aw m c), NormValue.run m ρ, ?_⟩
  refine (θ_run Cert.RefNormIdeal.defs _ _).mono (fun _ h c => ⟨(h c).1.trans ?_, (h c).2⟩) (Cert.RefNormIdeal.Value.run (F := Ideal) m' ρ')
  rw [(hag c).1, (hag c).2]
  funext y
  rw [eq_ix2 (n0 := 8192) (n1 := 2048) y]
  generalize y 0 = i, y 1 = j
  change Fin 8192 at i
  change Fin 2048 at j
  pointwise []
  rfl

end Cert.NormClaims

end
-- ==== Proof.S5.lean ====
/-
  The state space's recurrence for one row of the batch and one block of 8 groups, in plain mathematics: a complex state of
  512 entries held by its parts, h <- a h + B u, and the output Re(C h) + d u. Nothing here is about a program.
-/
module

public import proofs.«01_k».proof.Proof.Dense

@[expose] public section

noncomputable section

namespace Cert.S5

open Idealize.ShloMosaic Cert.Dense

/-- The column of a state's real part among 1024. -/
abbrev re (s : Fin 512) : Fin 1024 := ⟨s.val, by omega⟩

/-- The column of a state's imaginary part among 1024. -/
abbrev im (s : Fin 512) : Fin 1024 := ⟨512 + s.val, by omega⟩

/-- The input brought into the state's columns. -/
def bu (B : Fin 128 → Fin 1024 → EReal) (u : Fin 128 → EReal) (e : Fin 1024) : EReal := ∑ d : Fin 128, u d * B d e

/-- The state's two parts. -/
abbrev St : Type := (Fin 512 → EReal) × (Fin 512 → EReal)

/-- One step of the recurrence. -/
def step (ar ai : Fin 512 → EReal) (B : Fin 128 → Fin 1024 → EReal) (h : St) (u : Fin 128 → EReal) : St :=
  (fun s => ar s * h.1 s - ai s * h.2 s + bu B u (re s), fun s => ar s * h.2 s + ai s * h.1 s + bu B u (im s))

/-- The state after `t` steps. -/
def after (ar ai : Fin 512 → EReal) (B : Fin 128 → Fin 1024 → EReal) (h : St) (U : Nat → Fin 128 → EReal) : Nat → St
  | 0 => h
  | t + 1 => step ar ai B (after ar ai B h U t) (U t)

/-- The output read from a state and its step's input. -/
def readout (C : Fin 1024 → Fin 128 → EReal) (D : Fin 128 → EReal) (h : St) (u : Fin 128 → EReal) (c : Fin 128) : EReal :=
  ∑ s : Fin 512, h.1 s * C (re s) c + ∑ s : Fin 512, -h.2 s * C (im s) c + D c * u c

/-! ## All rows and all blocks of groups, from the arrays -/

/-- Entry `s` of the state in block `j`, among all 4096. -/
abbrev col (j : Fin 8) (s : Fin 512) : Fin 4096 := ⟨j.val * 512 + s.val, by omega⟩

/-- Channel `d` of block `j`, among all 1024. -/
abbrev ch (j : Fin 8) (d : Fin 128) : Fin 1024 := ⟨j.val * 128 + d.val, by omega⟩

section Arrays
variable (U : (⟨3, ![4, 8, 1024]⟩ : Shape).Idx → EReal) (H J : Ix 8 4096 → EReal) (B : (⟨3, ![8, 128, 1024]⟩ : Shape).Idx → EReal)
  (P : (⟨4, ![2, 128, 8, 4096]⟩ : Shape).Idx → EReal) (C : (⟨3, ![8, 1024, 128]⟩ : Shape).Idx → EReal) (D : (⟨1, ![1024]⟩ : Shape).Idx → EReal)

/-- The inputs of a row and a block, step by step. -/
abbrev input (j b : Fin 8) (t : Nat) (p : Fin 128) : EReal := U (ix3 ⟨t % 4, Nat.mod_lt _ (by decide)⟩ b (ch j p))

/-- The state of a row and a block after `t` steps. -/
def state (j b : Fin 8) (t : Nat) : St :=
  after (fun s => P (ix4 0 0 0 (col j s))) (fun s => P (ix4 1 0 0 (col j s))) (fun p e => B (ix3 j p e))
    (fun s => H (ix2 b (col j s)), fun s => J (ix2 b (col j s))) (input U j b) t

/-- The output of a row and a block at step `t`. -/
def output (j b : Fin 8) (t : Nat) (c : Fin 128) : EReal :=
  readout (fun e c => C (ix3 j e c)) (fun c => D (ix1 (ch j c))) (state U H J B P j b (t + 1)) (input U j b t) c

/-- The call's three results. -/
def outY (z : (⟨3, ![4, 8, 1024]⟩ : Shape).Idx) : EReal :=
  output U H J B P C D ⟨(z 2).val / 128, Nat.div_lt_of_lt_mul (z 2).isLt⟩ (z 1) (z 0).val ⟨(z 2).val % 128, Nat.mod_lt _ (by decide)⟩
def outRe (z : Ix 8 4096) : EReal :=
  (state U H J B P ⟨(z 1).val / 512, Nat.div_lt_of_lt_mul (z 1).isLt⟩ (z 0) 4).1 ⟨(z 1).val % 512, Nat.mod_lt _ (by decide)⟩
def outIm (z : Ix 8 4096) : EReal :=
  (state U H J B P ⟨(z 1).val / 512, Nat.div_lt_of_lt_mul (z 1).isLt⟩ (z 0) 4).2 ⟨(z 1).val % 512, Nat.mod_lt _ (by decide)⟩

theorem parts {w : Nat} (hw : 0 < w) {u j s : Nat} (hs : s < w) (h : u = j * w + s) : u / w = j ∧ u % w = s := by
  rw [h, Nat.mul_comm]
  exact ⟨by rw [Nat.mul_add_div hw, Nat.div_eq_of_lt hs, Nat.add_zero], by rw [Nat.mul_add_mod, Nat.mod_eq_of_lt hs]⟩

theorem outY_at (z : (⟨3, ![4, 8, 1024]⟩ : Shape).Idx) (j b : Fin 8) (t : Nat) (c : Fin 128) (h0 : (z 0).val = t) (h1 : z 1 = b)
    (h2 : (z 2).val = j.val * 128 + c.val) : outY U H J B P C D z = output U H J B P C D j b t c := by
  obtain ⟨e1, e2⟩ := parts (by decide) c.isLt h2
  unfold outY
  rw [h0, h1, show (⟨(z 2).val / 128, Nat.div_lt_of_lt_mul (z 2).isLt⟩ : Fin 8) = j from Fin.ext e1,
    show (⟨(z 2).val % 128, Nat.mod_lt _ (by decide)⟩ : Fin 128) = c from Fin.ext e2]

theorem outRe_at (z : Ix 8 4096) (j b : Fin 8) (s : Fin 512) (h0 : z 0 = b) (h1 : (z 1).val = j.val * 512 + s.val) :
    outRe U H J B P z = (state U H J B P j b 4).1 s := by
  obtain ⟨e1, e2⟩ := parts (by decide) s.isLt h1
  unfold outRe
  rw [h0, show (⟨(z 1).val / 512, Nat.div_lt_of_lt_mul (z 1).isLt⟩ : Fin 8) = j from Fin.ext e1,
    show (⟨(z 1).val % 512, Nat.mod_lt _ (by decide)⟩ : Fin 512) = s from Fin.ext e2]

theorem outIm_at (z : Ix 8 4096) (j b : Fin 8) (s : Fin 512) (h0 : z 0 = b) (h1 : (z 1).val = j.val * 512 + s.val) :
    outIm U H J B P z = (state U H J B P j b 4).2 s := by
  obtain ⟨e1, e2⟩ := parts (by decide) s.isLt h1
  unfold outIm
  rw [h0, show (⟨(z 1).val / 512, Nat.div_lt_of_lt_mul (z 1).isLt⟩ : Fin 8) = j from Fin.ext e1,
    show (⟨(z 1).val % 512, Nat.mod_lt _ (by decide)⟩ : Fin 512) = s from Fin.ext e2]

end Arrays

end Cert.S5

end
-- ==== Proof.S5SampleBody.lean ====
/-
  The body of the sample's state space call, read at an index: four steps of the recurrence and four outputs.
-/
module

public import proofs.«01_k».proof.Proof.S5
public import proofs.«01_k».proof.Proof.Gen.S5SampleIdeal.Value

@[expose] public section

set_option maxRecDepth 16384

noncomputable section

namespace Cert.S5SampleBody

open Idealize.ShloMosaic Cert.S5SampleIdeal Cert.S5SampleIdeal.Gen Cert.Dense Cert.S5

/-- The zero offset of a whole three-axis block. -/
theorem hz3 : (![0, 0, 0] : Fin 3 → Nat) = fun _ => 0 := funext fun a => by fin_cases a <;> rfl

section Step
variable (v1 v3 : FVec Ideal S1x512 .f32) (hr hi : FVec Ideal S8x512 .f32) (u : Vec Ideal S1x8x128 .f32) (w : Vec Ideal S1x128x1024 .bf16)
  (cm : Vec Ideal S1x1024x128 .bf16) (d : Vec Ideal S1x128 .f32) (b : Fin 8)

/-- The state held by a row of two arrays. -/
abbrev row : St := (fun s => hr (ix2 b s), fun s => hi (ix2 b s))

/-- The step as the body computes it, on one row. -/
abbrev stepped : St := step (fun s => v1 (ix2 0 s)) (fun s => v3 (ix2 0 s)) (fun p e => w (ix3 0 p e)) (row hr hi b) (fun p => u (ix3 0 b p))

theorem bu_apply (e : Fin 1024) : k0_pay10 (F := Ideal) u w (ix2 b e) = bu (fun p e => w (ix3 0 p e)) (fun p => u (ix3 0 b p)) e := by
  pointwise [k0_pay10, k0_pay9]
  rfl

/-- The state's real part after a step. -/
theorem re_apply (s : Fin 512) : k0_pay11 (F := Ideal) v1 v3 hr hi u w (ix2 b s) = (stepped v1 v3 hr hi u w b).1 s := by
  have h := bu_apply u w b (re s)
  unfold k0_pay11
  generalize k0_pay10 (F := Ideal) u w = X at h ⊢
  pointwise []
  show _ = v1 (ix2 0 s) * hr (ix2 b s) - v3 (ix2 0 s) * hi (ix2 b s) + bu _ _ (re s)
  rw [← h, sub_eq_add_neg, sub_eq_add_neg, add_assoc, add_comm]

/-- The state's imaginary part after a step. -/
theorem im_apply (s : Fin 512) : k0_pay12 (F := Ideal) v1 v3 hr hi u w (ix2 b s) = (stepped v1 v3 hr hi u w b).2 s := by
  have h := bu_apply u w b (im s)
  unfold k0_pay12
  generalize k0_pay10 (F := Ideal) u w = X at h ⊢
  pointwise []
  show _ = v1 (ix2 0 s) * hi (ix2 b s) + v3 (ix2 0 s) * hr (ix2 b s) + bu _ _ (im s)
  rw [← h, add_assoc, add_comm]

/-- The output after a step. -/
theorem y_apply (c : Fin 128) : k0_pay14 (F := Ideal) (k0_pay13 v1 v3 hr hi u w cm d) (ix3 0 b c)
    = readout (fun e c => cm (ix3 0 e c)) (fun c => d (ix2 0 c)) (stepped v1 v3 hr hi u w b) (fun p => u (ix3 0 b p)) c := by
  have h1 := fun s => re_apply v1 v3 hr hi u w b s
  have h2 := fun s => im_apply v1 v3 hr hi u w b s
  unfold k0_pay14 k0_pay13
  generalize k0_pay11 (F := Ideal) v1 v3 hr hi u w = X at h1 ⊢
  generalize k0_pay12 (F := Ideal) v1 v3 hr hi u w = Y at h2 ⊢
  pointwise [k0_pay9]
  simp only [h1, h2, zero_sub]
  rfl

end Step

/-- An index of three coordinates is known by them. -/
theorem ext3 {n0 n1 n2 : Nat} {y z : (⟨3, ![n0, n1, n2]⟩ : Shape).Idx} (h0 : (y 0).val = (z 0).val) (h1 : (y 1).val = (z 1).val)
    (h2 : (y 2).val = (z 2).val) : y = z := by
  funext a
  match a with
  | ⟨0, _⟩ => exact Fin.ext h0
  | ⟨1, _⟩ => exact Fin.ext h1
  | ⟨2, _⟩ => exact Fin.ext h2

/-- An index of four coordinates is known by them. -/
theorem ext4 {n0 n1 n2 n3 : Nat} {y z : (⟨4, ![n0, n1, n2, n3]⟩ : Shape).Idx} (h0 : (y 0).val = (z 0).val) (h1 : (y 1).val = (z 1).val)
    (h2 : (y 2).val = (z 2).val) (h3 : (y 3).val = (z 3).val) : y = z := by
  funext a
  match a with
  | ⟨0, _⟩ => exact Fin.ext h0
  | ⟨1, _⟩ => exact Fin.ext h1
  | ⟨2, _⟩ => exact Fin.ext h2
  | ⟨3, _⟩ => exact Fin.ext h3

section Block
variable (x0 : Vec Ideal S4x8x128 .f32) (x1 x2 : Vec Ideal S8x512 .f32) (x3 : Vec Ideal S1x128x1024 .bf16) (x4 : Vec Ideal S2x1x8x512 .f32)
  (x5 : Vec Ideal S1x1024x128 .bf16) (x6 : Vec Ideal S1x128 .f32) (b : Fin 8)

/-- The inputs of a row, step by step. -/
abbrev ins (t : Nat) (p : Fin 128) : EReal := x0 (ix3 ⟨t % 4, Nat.mod_lt _ (by decide)⟩ b p)

/-- The state of a row after some steps, from the blocks. -/
def sts (t : Nat) : St := after (fun s => x4 (ix4 0 0 0 s)) (fun s => x4 (ix4 1 0 0 s)) (fun p e => x3 (ix3 0 p e)) (row x1 x2 b) (ins x0 b) t

theorem a_apply (s : Fin 512) : k0_pay1 (F := Ideal) (View.ld x4 r0_0) (ix2 0 s) = x4 (ix4 0 0 0 s) := by
  pointwise [k0_pay1]

theorem i_apply (s : Fin 512) : k0_pay2 (F := Ideal) (View.ld x4 r0_1) (ix2 0 s) = x4 (ix4 1 0 0 s) := by
  pointwise [k0_pay2]

/-- A step of the body, from the state before it. -/
theorem step_row (t : Nat) {hr hi : FVec Ideal S8x512 .f32} {u : Vec Ideal S1x8x128 .f32} (hh : row hr hi b = sts x0 x1 x2 x3 x4 b t)
    (hu : ∀ p, u (ix3 0 b p) = ins x0 b t p) :
    stepped (k0_pay1 (F := Ideal) (View.ld x4 r0_0)) (k0_pay2 (F := Ideal) (View.ld x4 r0_1)) hr hi u (View.ld x3 r0_4) b
      = sts x0 x1 x2 x3 x4 b (t + 1) := by
  show step _ _ _ _ _ = step _ _ _ (sts x0 x1 x2 x3 x4 b t) _
  rw [View.ld_unit_zero hz3, hh, funext (a_apply x4), funext (i_apply x4), funext hu]

/-- The rows of a block's step are the step's input. -/
theorem ins0 (p : Fin 128) : (View.ld x0 r0_3 : Vec Ideal S1x8x128 .f32) (ix3 0 b p) = ins x0 b 0 p :=
  congrArg x0 (ext3 rfl (by show 0 + 1 * b.val = b.val; omega) (by show 0 + 1 * p.val = p.val; omega))
theorem ins1 (p : Fin 128) : (View.ld x0 r0_7 : Vec Ideal S1x8x128 .f32) (ix3 0 b p) = ins x0 b 1 p :=
  congrArg x0 (ext3 rfl (by show 0 + 1 * b.val = b.val; omega) (by show 0 + 1 * p.val = p.val; omega))
theorem ins2 (p : Fin 128) : (View.ld x0 r0_8 : Vec Ideal S1x8x128 .f32) (ix3 0 b p) = ins x0 b 2 p :=
  congrArg x0 (ext3 rfl (by show 0 + 1 * b.val = b.val; omega) (by show 0 + 1 * p.val = p.val; omega))
theorem ins3 (p : Fin 128) : (View.ld x0 r0_9 : Vec Ideal S1x8x128 .f32) (ix3 0 b p) = ins x0 b 3 p :=
  congrArg x0 (ext3 rfl (by show 0 + 1 * b.val = b.val; omega) (by show 0 + 1 * p.val = p.val; omega))

/-- The state before the first step. -/
theorem row0 : row (View.ld x1 r0_2 : Vec Ideal S8x512 .f32) (View.ld x2 r0_2 : Vec Ideal S8x512 .f32) b = sts x0 x1 x2 x3 x4 b 0 := by
  rw [View.ld_unit_zero hz, View.ld_unit_zero hz]
  rfl

/-- The state after a step, in the arrays the body keeps it in. -/
theorem row_step (t : Nat) {hr hi : FVec Ideal S8x512 .f32} {u : Vec Ideal S1x8x128 .f32} (hh : row hr hi b = sts x0 x1 x2 x3 x4 b t)
    (hu : ∀ p, u (ix3 0 b p) = ins x0 b t p) :
    row (k0_pay11 (F := Ideal) (k0_pay1 (View.ld x4 r0_0)) (k0_pay2 (View.ld x4 r0_1)) hr hi u (View.ld x3 r0_4))
      (k0_pay12 (F := Ideal) (k0_pay1 (View.ld x4 r0_0)) (k0_pay2 (View.ld x4 r0_1)) hr hi u (View.ld x3 r0_4)) b = sts x0 x1 x2 x3 x4 b (t + 1) :=
  (Prod.ext (funext fun s => re_apply _ _ _ _ _ _ b s) (funext fun s => im_apply _ _ _ _ _ _ b s)).trans (step_row x0 x1 x2 x3 x4 b t hh hu)

theorem row1 : row (k0_pay27 (F := Ideal) x0 x1 x2 x3 x4 x5 x6) (k0_pay28 (F := Ideal) x0 x1 x2 x3 x4 x5 x6) b = sts x0 x1 x2 x3 x4 b 1 :=
  row_step x0 x1 x2 x3 x4 b 0 (row0 x0 x1 x2 x3 x4 b) (ins0 x0 b)
theorem row2 : row (k0_pay29 (F := Ideal) x0 x1 x2 x3 x4 x5 x6) (k0_pay30 (F := Ideal) x0 x1 x2 x3 x4 x5 x6) b = sts x0 x1 x2 x3 x4 b 2 :=
  row_step x0 x1 x2 x3 x4 b 1 (row1 x0 x1 x2 x3 x4 x5 x6 b) (ins1 x0 b)
theorem row3 : row (k0_pay31 (F := Ideal) x0 x1 x2 x3 x4 x5 x6) (k0_pay32 (F := Ideal) x0 x1 x2 x3 x4 x5 x6) b = sts x0 x1 x2 x3 x4 b 3 :=
  row_step x0 x1 x2 x3 x4 b 2 (row2 x0 x1 x2 x3 x4 x5 x6 b) (ins2 x0 b)

/-- The state's real part after the body. -/
theorem out8_apply (s : Fin 512) : out0_8 (F := Ideal) x0 x1 x2 x3 x4 x5 x6 (ix2 b s) = (sts x0 x1 x2 x3 x4 b 4).1 s := by
  unfold out0_8
  rw [View.canon_unit_zero hz]
  exact congrFun (congrArg Prod.fst (row_step x0 x1 x2 x3 x4 b 3 (row3 x0 x1 x2 x3 x4 x5 x6 b) (ins3 x0 b))) s

/-- The state's imaginary part after the body. -/
theorem out9_apply (s : Fin 512) : out0_9 (F := Ideal) x0 x1 x2 x3 x4 x5 x6 (ix2 b s) = (sts x0 x1 x2 x3 x4 b 4).2 s := by
  unfold out0_9
  rw [View.canon_unit_zero hz]
  exact congrFun (congrArg Prod.snd (row_step x0 x1 x2 x3 x4 b 3 (row3 x0 x1 x2 x3 x4 x5 x6 b) (ins3 x0 b))) s

/-- The outputs, from the blocks. -/
def ys (t : Nat) (c : Fin 128) : EReal :=
  readout (fun e c => x5 (ix3 0 e c)) (fun c => x6 (ix2 0 c)) (sts x0 x1 x2 x3 x4 b (t + 1)) (ins x0 b t) c

/-- The output of a step, in the rows the body writes. -/
theorem y_step (t : Nat) {hr hi : FVec Ideal S8x512 .f32} {u : Vec Ideal S1x8x128 .f32} (hh : row hr hi b = sts x0 x1 x2 x3 x4 b t)
    (hu : ∀ p, u (ix3 0 b p) = ins x0 b t p) (c : Fin 128) :
    k0_pay14 (F := Ideal) (k0_pay13 (k0_pay1 (View.ld x4 r0_0)) (k0_pay2 (View.ld x4 r0_1)) hr hi u (View.ld x3 r0_4) (View.ld x5 r0_5) (View.ld x6 r0_6))
      (ix3 0 b c) = ys x0 x1 x2 x3 x4 x5 x6 b t c := by
  rw [y_apply, step_row x0 x1 x2 x3 x4 b t hh hu, View.ld_unit_zero hz3, View.ld_unit_zero hz, funext hu]
  rfl

/-- Rows written at a step's place hold that step's outputs. -/
theorem piece (t : Nat) (w : S1x8x128.Idx → EReal)
    (hw : ∀ b c, w (ix3 0 b c) = ys x0 x1 x2 x3 x4 x5 x6 b t c) (z : S1x8x128.Idx) (y : S4x8x128.Idx)
    (h0 : (y 0).val = t + 1 * (z 0).val) (h1 : (y 1).val = 0 + 1 * (z 1).val) (h2 : (y 2).val = 0 + 1 * (z 2).val) :
    w z = ys x0 x1 x2 x3 x4 x5 x6 (y 1) (y 0).val (y 2) := by
  have e0 : (z 0).val = 0 := Nat.lt_one_iff.mp (z 0).isLt
  rw [e0] at h0
  have e1 : z 1 = y 1 := Fin.ext (h1.trans ((Nat.zero_add _).trans (Nat.one_mul _))).symm
  have e2 : z 2 = y 2 := Fin.ext (h2.trans ((Nat.zero_add _).trans (Nat.one_mul _))).symm
  rw [h0, ← e1, ← e2, Nat.mul_zero, Nat.add_zero]
  have ez : z = ix3 0 (z 1) (z 2) := ext3 e0 rfl rfl
  exact (congrArg w ez).trans (hw (z 1) (z 2))

/-- The outputs' staging buffer after the body. -/
theorem out7_apply (y : S4x8x128.Idx) : out0_7 (F := Ideal) x0 x1 x2 x3 x4 x5 x6 y = ys x0 x1 x2 x3 x4 x5 x6 (y 1) (y 0).val (y 2) := by
  unfold out0_7
  refine View.canon_apply_of_pieces (Val := Elt Ideal) (fun y => ys x0 x1 x2 x3 x4 x5 x6 (y 1) (y 0).val (y 2)) _ ?_ y (cover0_7 _ _ _ _ y)
  refine List.forall_mem_cons.2 ⟨fun z => piece x0 x1 x2 x3 x4 x5 x6 3 _ (fun b c => y_step x0 x1 x2 x3 x4 x5 x6 b 3 (row3 x0 x1 x2 x3 x4 x5 x6 b) (ins3 x0 b) c) z _ rfl rfl rfl, ?_⟩
  refine List.forall_mem_cons.2 ⟨fun z => piece x0 x1 x2 x3 x4 x5 x6 2 _ (fun b c => y_step x0 x1 x2 x3 x4 x5 x6 b 2 (row2 x0 x1 x2 x3 x4 x5 x6 b) (ins2 x0 b) c) z _ rfl rfl rfl, ?_⟩
  refine List.forall_mem_cons.2 ⟨fun z => piece x0 x1 x2 x3 x4 x5 x6 1 _ (fun b c => y_step x0 x1 x2 x3 x4 x5 x6 b 1 (row1 x0 x1 x2 x3 x4 x5 x6 b) (ins1 x0 b) c) z _ rfl rfl rfl, ?_⟩
  refine List.forall_mem_cons.2 ⟨fun z => piece x0 x1 x2 x3 x4 x5 x6 0 _ (fun b c => y_step x0 x1 x2 x3 x4 x5 x6 b 0 (row0 x0 x1 x2 x3 x4 b) (ins0 x0 b) c) z _ rfl rfl rfl, ?_⟩
  exact fun _ hp => absurd hp List.not_mem_nil

end Block

end Cert.S5SampleBody

end
-- ==== Proof.S5SampleValue.lean ====
/-
  The sample's state space call, run: its results are the recurrence's outputs and last state, block of groups by block.
-/
module

public import proofs.«01_k».proof.Proof.S5SampleBody

@[expose] public section

set_option maxRecDepth 16384

noncomputable section

namespace Cert.S5SampleValue

open Idealize.ShloMosaic Idealize.ShloMosaic.TcCoe Idealize.SL.Sem Cert.S5SampleIdeal Cert.S5SampleIdeal.Gen Cert.Dense Cert.S5 Cert.S5SampleBody

variable (m : (ℓ : Loc nD τ sig) → Buf (Elt Ideal) ℓ) (ρ : Dev nD → PrngReg) (c : Dev nD)

/-- The call's arguments as launched: the inputs, the state's two parts, the matrix into the state, the table, the matrix out
    of the state, the direct factors. -/
abbrev aU : (⟨3, ![4, 8, 1024]⟩ : Shape).Idx → EReal := m ((c : Thread nD τ).loc main_arg0)
abbrev aH : Ix 8 4096 → EReal := m ((c : Thread nD τ).loc main_arg1)
abbrev aJ : Ix 8 4096 → EReal := m ((c : Thread nD τ).loc main_arg2)
abbrev aB : (⟨3, ![8, 128, 1024]⟩ : Shape).Idx → EReal := m ((c : Thread nD τ).loc main_arg3)
abbrev aP : (⟨4, ![2, 128, 8, 4096]⟩ : Shape).Idx → EReal := m ((c : Thread nD τ).loc main_arg4)
abbrev aC : (⟨3, ![8, 1024, 128]⟩ : Shape).Idx → EReal := m ((c : Thread nD τ).loc main_arg5)
abbrev aD : (⟨1, ![1024]⟩ : Shape).Idx → EReal := m ((c : Thread nD τ).loc main_arg6)

/-- The direct factors as the call's host lays them out, a row. -/
theorem direct (j : Fin 1024) : V (F := Ideal) m c main_v0 (ix2 0 j) = aD m c (ix1 j) := by
  unfold V hostOps0
  after_results_simp
  pointwise []

/-- The block of groups of a point. -/
abbrev pt (t : Fin grid0.N) : Fin 8 := ⟨t.val, lt_of_lt_of_eq t.isLt N_0⟩

/-- The index maps at every point. -/
theorem idx (t : Fin grid0.N) : (win0_0.index t 0 = 0 ∧ win0_0.index t 1 = 0 ∧ win0_0.index t 2 = t.val)
    ∧ (win0_1.index t 0 = 0 ∧ win0_1.index t 1 = t.val) ∧ (win0_2.index t 0 = 0 ∧ win0_2.index t 1 = t.val)
    ∧ (win0_3.index t 0 = t.val ∧ win0_3.index t 1 = 0 ∧ win0_3.index t 2 = 0)
    ∧ (win0_4.index t 0 = 0 ∧ win0_4.index t 1 = 0 ∧ win0_4.index t 2 = 0 ∧ win0_4.index t 3 = t.val)
    ∧ (win0_5.index t 0 = t.val ∧ win0_5.index t 1 = 0 ∧ win0_5.index t 2 = 0)
    ∧ (win0_6.index t 0 = 0 ∧ win0_6.index t 1 = t.val) := by
  revert t; decide +kernel

/-- The results' index maps at every point. -/
theorem odx (t : Fin grid0.N) : (win0_7.index t 0 = 0 ∧ win0_7.index t 1 = 0 ∧ win0_7.index t 2 = t.val)
    ∧ (win0_8.index t 0 = 0 ∧ win0_8.index t 1 = t.val) ∧ (win0_9.index t 0 = 0 ∧ win0_9.index t 1 = t.val) := by
  revert t; decide +kernel

/-- A coordinate of a block whose index is 0, and of one whose index is the point's. -/
theorem at0 {a : Nat} (w u : Nat) (h : a = 0) : a * w + 1 * u = u := by rw [h, Nat.zero_mul, Nat.zero_add, Nat.one_mul]
theorem att {a t : Nat} (w u : Nat) (h : a = t) : a * w + 1 * u = t * w + u := by rw [h, Nat.one_mul]

section Blocks
variable (t : Fin grid0.N)

theorem bU (n : Fin 4) (b : Fin 8) (p : Fin 128) : iblk m c 0 t (ix3 n b p) = aU m c (ix3 n b (ch (pt t) p)) :=
  (congrFun (congrArg _ (V_main_arg0 m c)) _).trans (congrArg (aU m c)
    (ext3 (at0 4 n.val (idx t).1.1) (at0 8 b.val (idx t).1.2.1) (att 128 p.val (idx t).1.2.2)))

theorem bH (b : Fin 8) (s : Fin 512) : iblk m c 1 t (ix2 b s) = aH m c (ix2 b (col (pt t) s)) :=
  (congrFun (congrArg _ (V_main_arg1 m c)) _).trans (congrArg (aH m c) (ext2 (at0 8 b.val (idx t).2.1.1) (att 512 s.val (idx t).2.1.2)))

theorem bJ (b : Fin 8) (s : Fin 512) : iblk m c 2 t (ix2 b s) = aJ m c (ix2 b (col (pt t) s)) :=
  (congrFun (congrArg _ (V_main_arg2 m c)) _).trans (congrArg (aJ m c) (ext2 (at0 8 b.val (idx t).2.2.1.1) (att 512 s.val (idx t).2.2.1.2)))

theorem bB (p : Fin 128) (e : Fin 1024) : iblk m c 3 t (ix3 0 p e) = aB m c (ix3 (pt t) p e) :=
  (congrFun (congrArg _ (V_main_arg3 m c)) _).trans (congrArg (aB m c)
    (ext3 ((att 1 0 (idx t).2.2.2.1.1).trans (Nat.mul_one _)) (at0 128 p.val (idx t).2.2.2.1.2.1) (at0 1024 e.val (idx t).2.2.2.1.2.2)))

theorem bP (n : Fin 2) (s : Fin 512) : iblk m c 4 t (ix4 n 0 0 s) = aP m c (ix4 n 0 0 (col (pt t) s)) :=
  (congrFun (congrArg _ (V_main_arg4 m c)) _).trans (congrArg (aP m c)
    (ext4 (at0 2 n.val (idx t).2.2.2.2.1.1) (at0 1 0 (idx t).2.2.2.2.1.2.1) (at0 8 0 (idx t).2.2.2.2.1.2.2.1) (att 512 s.val (idx t).2.2.2.2.1.2.2.2)))

theorem bC (e : Fin 1024) (d : Fin 128) : iblk m c 5 t (ix3 0 e d) = aC m c (ix3 (pt t) e d) :=
  (congrFun (congrArg _ (V_main_arg5 m c)) _).trans (congrArg (aC m c)
    (ext3 ((att 1 0 (idx t).2.2.2.2.2.1.1).trans (Nat.mul_one _)) (at0 1024 e.val (idx t).2.2.2.2.2.1.2.1) (at0 128 d.val (idx t).2.2.2.2.2.1.2.2)))

theorem bD (d : Fin 128) : iblk m c 6 t (ix2 0 d) = aD m c (ix1 (ch (pt t) d)) :=
  (congrArg (V (F := Ideal) m c main_v0) (ext2 (at0 1 0 (idx t).2.2.2.2.2.2.1) (att 128 d.val (idx t).2.2.2.2.2.2.2))).trans (direct m c _)

/-- A point's state is the arrays' state of its block. -/
theorem sts_eq (b : Fin 8) (n : Nat) : sts (iblk m c 0 t) (iblk m c 1 t) (iblk m c 2 t) (iblk m c 3 t) (iblk m c 4 t) b n
    = state (aU m c) (aH m c) (aJ m c) (aB m c) (aP m c) (pt t) b n := by
  unfold sts state
  exact congr (congr (congr (congr (congr (congrArg after (funext (bP m c t 0))) (funext (bP m c t 1))) (funext fun p => funext fun e => bB m c t p e))
    (Prod.ext (funext (bH m c t b)) (funext (bJ m c t b)))) (funext fun k => funext fun p => bU m c t _ b p)) rfl

/-- A point's outputs are the arrays' outputs of its block. -/
theorem ys_eq (b : Fin 8) (n : Nat) (d : Fin 128) :
    ys (iblk m c 0 t) (iblk m c 1 t) (iblk m c 2 t) (iblk m c 3 t) (iblk m c 4 t) (iblk m c 5 t) (iblk m c 6 t) b n d
    = output (aU m c) (aH m c) (aJ m c) (aB m c) (aP m c) (aC m c) (aD m c) (pt t) b n d := by
  unfold ys output
  rw [sts_eq]
  exact congr (congr (congr (congr (congrArg readout (funext fun e => funext fun d => bC m c t e d)) (funext (bD m c t))) rfl)
    (funext fun p => bU m c t _ b p)) rfl

end Blocks

/-- What a point writes back is its block of the outputs. -/
theorem flushed7 (t : Fin cfg0.N) : (dats m 0 c).flushed 7 t
    = (win0_7.blk t).view.read (Elt Ideal) (outY (aU m c) (aH m c) (aJ m c) (aB m c) (aP m c) (aC m c) (aD m c)) := by
  rw [Cert.S5SampleIdeal.Value.flushed7]
  funext z
  show out0_7 (iblk m c 0 t) (iblk m c 1 t) (iblk m c 2 t) (iblk m c 3 t) (iblk m c 4 t) (iblk m c 5 t) (iblk m c 6 t) z = outY _ _ _ _ _ _ _ ((win0_7.rect t).emb z)
  rw [out7_apply]
  refine (ys_eq m c t (z 1) (z 0).val (z 2)).trans (outY_at _ _ _ _ _ _ _ _ (pt t) (z 1) (z 0).val (z 2) ?_ ?_ ?_).symm
  · exact at0 4 _ (odx t).1.1
  · exact Fin.ext (at0 8 _ (odx t).1.2.1)
  · exact att 128 _ (odx t).1.2.2

/-- What a point writes back is its block of the last state's real part. -/
theorem flushed8 (t : Fin cfg0.N) : (dats m 0 c).flushed 8 t
    = (win0_8.blk t).view.read (Elt Ideal) (outRe (aU m c) (aH m c) (aJ m c) (aB m c) (aP m c)) := by
  rw [Cert.S5SampleIdeal.Value.flushed8]
  funext z
  show out0_8 (iblk m c 0 t) (iblk m c 1 t) (iblk m c 2 t) (iblk m c 3 t) (iblk m c 4 t) (iblk m c 5 t) (iblk m c 6 t) z = outRe _ _ _ _ _ ((win0_8.rect t).emb z)
  rw [eq_ix2 (n0 := 8) (n1 := 512) z]
  generalize z 0 = b, z 1 = s
  change Fin 8 at b
  change Fin 512 at s
  rw [out8_apply, sts_eq]
  exact (outRe_at _ _ _ _ _ _ (pt t) b s (Fin.ext (at0 8 _ (odx t).2.1.1)) (att 512 _ (odx t).2.1.2)).symm

/-- What a point writes back is its block of the last state's imaginary part. -/
theorem flushed9 (t : Fin cfg0.N) : (dats m 0 c).flushed 9 t
    = (win0_9.blk t).view.read (Elt Ideal) (outIm (aU m c) (aH m c) (aJ m c) (aB m c) (aP m c)) := by
  rw [Cert.S5SampleIdeal.Value.flushed9]
  funext z
  show out0_9 (iblk m c 0 t) (iblk m c 1 t) (iblk m c 2 t) (iblk m c 3 t) (iblk m c 4 t) (iblk m c 5 t) (iblk m c 6 t) z = outIm _ _ _ _ _ ((win0_9.rect t).emb z)
  rw [eq_ix2 (n0 := 8) (n1 := 512) z]
  generalize z 0 = b, z 1 = s
  change Fin 8 at b
  change Fin 512 at s
  rw [out9_apply, sts_eq]
  exact (outIm_at _ _ _ _ _ _ (pt t) b s (Fin.ext (at0 8 _ (odx t).2.2.1)) (att 512 _ (odx t).2.2.2)).symm

/-- A coordinate is in the one block of its axis, or in one of the 8. -/
theorem whole {w u a : Nat} (h : u < w) (ha : a = 0) : a * w ≤ u ∧ u < a * w + w := by
  subst ha
  rw [Nat.zero_mul, Nat.zero_add]
  exact ⟨Nat.zero_le _, h⟩
theorem among {w u : Nat} (hw : 0 < w) (h : u < w * 8) : ∃ a < 8, a * w ≤ u ∧ u < a * w + w :=
  ⟨u / w, Nat.div_lt_of_lt_mul h, Nat.div_mul_le_self u w, Nat.lt_div_mul_add hw⟩

/-- Every index of a result is in the block of some point. -/
theorem cover7 (i : S4x8x1024.Idx) : ∃ t : Fin cfg0.N, (cfg0.win 7).flush t = true ∧ i ∈ ((cfg0.win 7).blk t).view.set := by
  obtain ⟨a, ha, b2⟩ := among (w := 128) (by decide) (i 2).isLt
  let t : Fin grid0.N := ⟨a, lt_of_lt_of_eq ha N_0.symm⟩
  refine ⟨t, flush0_7 _, ?_⟩
  show i ∈ ((View.whole main_v1_0).slice (win0_7.rect t)).set
  rw [View.set_slice_whole, Rect.mem_set_unit]
  intro d
  match d with
  | ⟨0, _⟩ => exact whole (w := 4) (i 0).isLt (odx t).1.1
  | ⟨1, _⟩ => exact whole (w := 8) (i 1).isLt (odx t).1.2.1
  | ⟨2, _⟩ => exact (congrArg (fun u => u * 128 ≤ (i 2).val ∧ (i 2).val < u * 128 + 128) (odx t).1.2.2).mpr b2

theorem cover8 (i : S8x4096.Idx) : ∃ t : Fin cfg0.N, (cfg0.win 8).flush t = true ∧ i ∈ ((cfg0.win 8).blk t).view.set := by
  obtain ⟨a, ha, b1⟩ := among (w := 512) (by decide) (i 1).isLt
  let t : Fin grid0.N := ⟨a, lt_of_lt_of_eq ha N_0.symm⟩
  refine ⟨t, flush0_8 _, ?_⟩
  show i ∈ ((View.whole main_v1_1).slice (win0_8.rect t)).set
  rw [View.set_slice_whole, Rect.mem_set_unit]
  intro d
  match d with
  | ⟨0, _⟩ => exact whole (w := 8) (i 0).isLt (odx t).2.1.1
  | ⟨1, _⟩ => exact (congrArg (fun u => u * 512 ≤ (i 1).val ∧ (i 1).val < u * 512 + 512) (odx t).2.1.2).mpr b1

theorem cover9 (i : S8x4096.Idx) : ∃ t : Fin cfg0.N, (cfg0.win 9).flush t = true ∧ i ∈ ((cfg0.win 9).blk t).view.set := by
  obtain ⟨a, ha, b1⟩ := among (w := 512) (by decide) (i 1).isLt
  let t : Fin grid0.N := ⟨a, lt_of_lt_of_eq ha N_0.symm⟩
  refine ⟨t, flush0_9 _, ?_⟩
  show i ∈ ((View.whole main_v1_2).slice (win0_9.rect t)).set
  rw [View.set_slice_whole, Rect.mem_set_unit]
  intro d
  match d with
  | ⟨0, _⟩ => exact whole (w := 8) (i 0).isLt (odx t).2.2.1
  | ⟨1, _⟩ => exact (congrArg (fun u => u * 512 ≤ (i 1).val ∧ (i 1).val < u * 512 + 512) (odx t).2.2.2).mpr b1

/-- The call, run. -/
theorem run : θ_run defs (onTc (τ := τ) (main (F := Ideal))) ⟨m, fun _ => 0, ρ⟩ fun r => ∀ c : Dev nD,
      r.2.mem ((c : Thread nD τ).loc main_v1_0) = outY (aU m c) (aH m c) (aJ m c) (aB m c) (aP m c) (aC m c) (aD m c)
      ∧ r.2.mem ((c : Thread nD τ).loc main_v1_1) = outRe (aU m c) (aH m c) (aJ m c) (aB m c) (aP m c)
      ∧ r.2.mem ((c : Thread nD τ).loc main_v1_2) = outIm (aU m c) (aH m c) (aJ m c) (aB m c) (aP m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((dats m 0 c).arrAt_eq_of_cover 7 _ (fun t _ => flushed7 m c t) cover7),
      (h c).2.1.trans ((dats m 0 c).arrAt_eq_of_cover 8 _ (fun t _ => flushed8 m c t) cover8),
      (h c).2.2.1.trans ((dats m 0 c).arrAt_eq_of_cover 9 _ (fun t _ => flushed9 m c t) cover9), (h c).2.2.2⟩)
    (Cert.S5SampleIdeal.Value.run_blocks m ρ)

end Cert.S5SampleValue

end
-- ==== Proof.RefS5Sample.lean ====
/-
  The sample's state space call as the reference computes it: its vector operations named, and read at an index as the
  recurrence of S5.lean.
-/
module

public import proofs.«01_k».proof.Proof.S5
public import proofs.«01_k».proof.Proof.Gen.RefS5SampleIdeal.Run

@[expose] public section

set_option maxRecDepth 16384

noncomputable section

namespace Cert.RefS5Sample

open Idealize.ShloMosaic Idealize.ShloMosaic.TcCoe Cert.RefS5SampleIdeal Cert.RefS5SampleIdeal.Gen Cert.RefS5SampleIdeal.Facts Cert.Dense Cert.S5

section Terms
variable {F : FTy → Type} [FloatOps F]

/-- The first entries of the table's two parts, by blocks of groups. -/
def tabRe (P : FVec F S2x128x8x4096 .f32) : FVec F S8x512 .f32 :=
  shapeCast S8x512 (shapeCast S4096 (extractStridedSlice S1x1x1x4096 ![0, 0, 0, 0] P slices_S2x128x8x4096_S1x1x1x4096_0_0_0_0) shapeCasts_S1x1x1x4096_S4096) shapeCasts_S4096_S8x512
def tabIm (P : FVec F S2x128x8x4096 .f32) : FVec F S8x512 .f32 :=
  shapeCast S8x512 (shapeCast S4096 (extractStridedSlice S1x1x1x4096 ![1, 0, 0, 0] P slices_S2x128x8x4096_S1x1x1x4096_1_0_0_0) shapeCasts_S1x1x1x4096_S4096) shapeCasts_S4096_S8x512

/-- A row of factors for every row of the batch. -/
def over (x : FVec F S8x512 .f32) : FVec F S8x8x512 .f32 :=
  broadcastInDim S8x8x512 ![0, 1, 2] bcast_S1x8x512_S8x8x512_0_1_2 (broadcastInDim S1x8x512 ![1, 2] bcast_S8x512_S1x8x512_1_2 x)

/-- A part of the state by blocks of groups. -/
def blocks (H : FVec F S8x4096 .f32) : FVec F S8x8x512 .f32 := shapeCast S8x8x512 H shapeCasts_S8x4096_S8x8x512

/-- The inputs by blocks of groups. -/
def ins (U : FVec F S4x8x1024 .f32) : FVec F S4x8x8x128 .f32 := shapeCast S4x8x8x128 U shapeCasts_S4x8x1024_S4x8x8x128

/-- The inputs brought into the state's columns. -/
def bus (U : FVec F S4x8x1024 .f32) (B : FVec F S8x128x1024 .bf16) : FVec F S4x8x8x1024 .f32 :=
  transpose S4x8x8x1024 [2, 3, 0, 1] (Host.dotGeneral dot_S8x128x1024_S4x8x8x128_S8x1024x4x8_1_3_2_01_0_2 none (extf .f32 B bitsLt_bf16_f32) (ins U)) transposes_S8x1024x4x8_S4x8x8x1024_2_3_0_1
def busRe (U : FVec F S4x8x1024 .f32) (B : FVec F S8x128x1024 .bf16) : FVec F S4x8x8x512 .f32 :=
  extractStridedSlice S4x8x8x512 ![0, 0, 0, 0] (bus U B) slices_S4x8x8x1024_S4x8x8x512_0_0_0_0
def busIm (U : FVec F S4x8x1024 .f32) (B : FVec F S8x128x1024 .bf16) : FVec F S4x8x8x512 .f32 :=
  extractStridedSlice S4x8x8x512 ![0, 0, 0, 512] (bus U B) slices_S4x8x8x1024_S4x8x8x512_0_0_0_512

/-- The entries of one step. -/
def pick (t : Fin 4) (h : S4x8x8x512.Slices ![t.val, 0, 0, 0] S1x8x8x512) (x : FVec F S4x8x8x512 .f32) : FVec F S8x8x512 .f32 :=
  shapeCast S8x8x512 (extractStridedSlice S1x8x8x512 ![t.val, 0, 0, 0] x h) shapeCasts_S1x8x8x512_S8x8x512
def pickU (t : Fin 4) (h : S4x8x8x128.Slices ![t.val, 0, 0, 0] S1x8x8x128) (x : FVec F S4x8x8x128 .f32) : FVec F S8x8x128 .f32 :=
  shapeCast S8x8x128 (extractStridedSlice S1x8x8x128 ![t.val, 0, 0, 0] x h) shapeCasts_S1x8x8x128_S8x8x128

/-- The two parts of a state. -/
abbrev Two (F : FTy → Type) : Type := FVec F S8x8x512 .f32 × FVec F S8x8x512 .f32

/-- One step of the recurrence. -/
def next (U : FVec F S4x8x1024 .f32) (B : FVec F S8x128x1024 .bf16) (P : FVec F S2x128x8x4096 .f32) (t : Fin 4)
    (h : S4x8x8x512.Slices ![t.val, 0, 0, 0] S1x8x8x512) (p : Two F) : Two F :=
  (addf (subf (mulf (over (tabRe P)) p.1) (mulf (over (tabIm P)) p.2)) (pick t h (busRe U B)),
    addf (addf (mulf (over (tabRe P)) p.2) (mulf (over (tabIm P)) p.1)) (pick t h (busIm U B)))

/-- The output of a step. -/
def outs (U : FVec F S4x8x1024 .f32) (C : FVec F S8x1024x128 .bf16) (D : FVec F S1024 .f32) (t : Fin 4)
    (h : S4x8x8x128.Slices ![t.val, 0, 0, 0] S1x8x8x128) (p : Two F) : FVec F S8x8x128 .f32 :=
  addf (addf
    (transpose S8x8x128 [2, 0, 1] (Host.dotGeneral dot_S8x512x128_S8x8x512_S8x128x8_1_2_2_0_0_1 none
      (extractStridedSlice S8x512x128 ![0, 0, 0] (extf .f32 C bitsLt_bf16_f32) slices_S8x1024x128_S8x512x128_0_0_0) p.1) transposes_S8x128x8_S8x8x128_2_0_1)
    (transpose S8x8x128 [2, 0, 1] (Host.dotGeneral dot_S8x512x128_S8x8x512_S8x128x8_1_2_2_0_0_1 none
      (extractStridedSlice S8x512x128 ![0, 512, 0] (extf .f32 C bitsLt_bf16_f32) slices_S8x1024x128_S8x512x128_0_512_0) (Host.negf p.2)) transposes_S8x128x8_S8x8x128_2_0_1))
    (mulf (broadcastInDim S8x8x128 ![0, 1, 2] bcast_S1x8x128_S8x8x128_0_1_2 (broadcastInDim S1x8x128 ![1, 2] bcast_S8x128_S1x8x128_1_2 (shapeCast S8x128 D shapeCasts_S1024_S8x128)))
      (pickU t h (ins U)))

/-- The states after the steps, one by one. -/
def two0 (H J : FVec F S8x4096 .f32) : Two F := (blocks H, blocks J)
def two1 (U : FVec F S4x8x1024 .f32) (H J : FVec F S8x4096 .f32) (B : FVec F S8x128x1024 .bf16) (P : FVec F S2x128x8x4096 .f32) : Two F :=
  next U B P 0 slices_S4x8x8x512_S1x8x8x512_0_0_0_0 (two0 H J)
def two2 (U : FVec F S4x8x1024 .f32) (H J : FVec F S8x4096 .f32) (B : FVec F S8x128x1024 .bf16) (P : FVec F S2x128x8x4096 .f32) : Two F :=
  next U B P 1 slices_S4x8x8x512_S1x8x8x512_1_0_0_0 (two1 U H J B P)
def two3 (U : FVec F S4x8x1024 .f32) (H J : FVec F S8x4096 .f32) (B : FVec F S8x128x1024 .bf16) (P : FVec F S2x128x8x4096 .f32) : Two F :=
  next U B P 2 slices_S4x8x8x512_S1x8x8x512_2_0_0_0 (two2 U H J B P)
def two4 (U : FVec F S4x8x1024 .f32) (H J : FVec F S8x4096 .f32) (B : FVec F S8x128x1024 .bf16) (P : FVec F S2x128x8x4096 .f32) : Two F :=
  next U B P 3 slices_S4x8x8x512_S1x8x8x512_3_0_0_0 (two3 U H J B P)

/-- The four steps' outputs, one after another. -/
def four (y0 y1 y2 y3 : FVec F S8x8x128 .f32) : FVec F S4x8x1024 .f32 :=
  shapeCast S4x8x1024 (concatenate S4x8x8x128 0
    [⟨S1x8x8x128, (broadcastInDim S1x8x8x128 ![1, 2, 3] bcast_S8x8x128_S1x8x8x128_1_2_3 y0 : FVec F S1x8x8x128 .f32)⟩,
     ⟨S1x8x8x128, (broadcastInDim S1x8x8x128 ![1, 2, 3] bcast_S8x8x128_S1x8x8x128_1_2_3 y1 : FVec F S1x8x8x128 .f32)⟩,
     ⟨S1x8x8x128, (broadcastInDim S1x8x8x128 ![1, 2, 3] bcast_S8x8x128_S1x8x8x128_1_2_3 y2 : FVec F S1x8x8x128 .f32)⟩,
     ⟨S1x8x8x128, (broadcastInDim S1x8x8x128 ![1, 2, 3] bcast_S8x8x128_S1x8x8x128_1_2_3 y3 : FVec F S1x8x8x128 .f32)⟩]
    concatenates_S1x8x8x128_S1x8x8x128_S1x8x8x128_S1x8x8x128_S4x8x8x128_d0) shapeCasts_S4x8x8x128_S4x8x1024

/-- The states side by side again. -/
def flat (x : FVec F S8x8x512 .f32) : FVec F S8x4096 .f32 := shapeCast S8x4096 x shapeCasts_S8x8x512_S8x4096

end Terms

section Read
variable (b j : Fin 8) (t : Fin 4)

theorem tabRe_apply (P : FVec Ideal S2x128x8x4096 .f32) (s : Fin 512) : tabRe (F := Ideal) P (ix2 j s) = P (ix4 0 0 0 (col j s)) := by
  pointwise [tabRe]

theorem tabIm_apply (P : FVec Ideal S2x128x8x4096 .f32) (s : Fin 512) : tabIm (F := Ideal) P (ix2 j s) = P (ix4 1 0 0 (col j s)) := by
  pointwise [tabIm]

theorem over_apply (x : FVec Ideal S8x512 .f32) (s : Fin 512) : over (F := Ideal) x (ix3 b j s) = x (ix2 j s) := by
  pointwise [over]

theorem blocks_apply (H : FVec Ideal S8x4096 .f32) (s : Fin 512) : blocks (F := Ideal) H (ix3 b j s) = H (ix2 b (col j s)) := by
  pointwise [blocks]

theorem ins_apply (U : FVec Ideal S4x8x1024 .f32) (p : Fin 128) : ins (F := Ideal) U (ix4 t b j p) = U (ix3 t b (ch j p)) := by
  pointwise [ins]

theorem bus_apply (U : FVec Ideal S4x8x1024 .f32) (B : FVec Ideal S8x128x1024 .bf16) (e : Fin 1024) :
    bus (F := Ideal) U B (ix4 t b j e) = bu (fun p e => B (ix3 j p e)) (fun p => U (ix3 t b (ch j p))) e := by
  pointwise [bus]
  exact Finset.sum_congr rfl fun p _ => (congrArg _ (ins_apply b j t U p)).trans (mul_comm _ _)

theorem pick_apply (h : S4x8x8x512.Slices ![t.val, 0, 0, 0] S1x8x8x512) (x : FVec Ideal S4x8x8x512 .f32) (s : Fin 512) :
    pick (F := Ideal) t h x (ix3 b j s) = x (ix4 t b j s) := by
  pointwise [pick]

theorem pickU_apply (h : S4x8x8x128.Slices ![t.val, 0, 0, 0] S1x8x8x128) (x : FVec Ideal S4x8x8x128 .f32) (p : Fin 128) :
    pickU (F := Ideal) t h x (ix3 b j p) = x (ix4 t b j p) := by
  pointwise [pickU]

/-- The state of a row and a block held by two arrays. -/
abbrev held (p : Two Ideal) : St := (fun s => p.1 (ix3 b j s), fun s => p.2 (ix3 b j s))

variable (U : FVec Ideal S4x8x1024 .f32) (H J : FVec Ideal S8x4096 .f32) (B : FVec Ideal S8x128x1024 .bf16) (P : FVec Ideal S2x128x8x4096 .f32)
  (C : FVec Ideal S8x1024x128 .bf16) (D : FVec Ideal S1024 .f32)

theorem busRe_apply (s : Fin 512) : busRe (F := Ideal) U B (ix4 t b j s) = bu (fun p e => B (ix3 j p e)) (fun p => U (ix3 t b (ch j p))) (re s) := by
  rw [← bus_apply]
  unfold busRe
  generalize bus (F := Ideal) U B = X
  pointwise []

theorem busIm_apply (s : Fin 512) : busIm (F := Ideal) U B (ix4 t b j s) = bu (fun p e => B (ix3 j p e)) (fun p => U (ix3 t b (ch j p))) (im s) := by
  rw [← bus_apply]
  unfold busIm
  generalize bus (F := Ideal) U B = X
  pointwise []

/-- A step, on one row and one block. -/
theorem next_held (h : S4x8x8x512.Slices ![t.val, 0, 0, 0] S1x8x8x512) (p : Two Ideal) (n : Nat) (ht : t.val = n)
    (hp : held b j p = state U H J B P j b n) : held b j (next (F := Ideal) U B P t h p) = state U H J B P j b (n + 1) := by
  have ht' : t = ⟨n % 4, Nat.mod_lt _ (by decide)⟩ := Fin.ext (ht.trans (Nat.mod_eq_of_lt (ht ▸ t.isLt)).symm)
  show _ = step _ _ _ (state U H J B P j b n) (input U j b n)
  rw [← hp]
  refine Prod.ext (funext fun s => ?_) (funext fun s => ?_)
  · show over (tabRe P) (ix3 b j s) * p.1 (ix3 b j s) - over (tabIm P) (ix3 b j s) * p.2 (ix3 b j s) + pick t h (busRe U B) (ix3 b j s) = _
    rw [over_apply, over_apply, tabRe_apply, tabIm_apply, pick_apply, busRe_apply, ht']
    rfl
  · show over (tabRe P) (ix3 b j s) * p.2 (ix3 b j s) + over (tabIm P) (ix3 b j s) * p.1 (ix3 b j s) + pick t h (busIm U B) (ix3 b j s) = _
    rw [over_apply, over_apply, tabRe_apply, tabIm_apply, pick_apply, busIm_apply, ht']
    rfl

theorem held0 : held b j (two0 (F := Ideal) H J) = state U H J B P j b 0 :=
  Prod.ext (funext fun s => blocks_apply b j H s) (funext fun s => blocks_apply b j J s)
theorem held1 : held b j (two1 (F := Ideal) U H J B P) = state U H J B P j b 1 := next_held b j 0 U H J B P _ _ 0 rfl (held0 b j U H J B P)
theorem held2 : held b j (two2 (F := Ideal) U H J B P) = state U H J B P j b 2 := next_held b j 1 U H J B P _ _ 1 rfl (held1 b j U H J B P)
theorem held3 : held b j (two3 (F := Ideal) U H J B P) = state U H J B P j b 3 := next_held b j 2 U H J B P _ _ 2 rfl (held2 b j U H J B P)
theorem held4 : held b j (two4 (F := Ideal) U H J B P) = state U H J B P j b 4 := next_held b j 3 U H J B P _ _ 3 rfl (held3 b j U H J B P)

/-- A step's output, on one row and one block. -/
theorem outs_apply (h : S4x8x8x128.Slices ![t.val, 0, 0, 0] S1x8x8x128) (p : Two Ideal) (n : Nat) (ht : t.val = n)
    (hp : held b j p = state U H J B P j b (n + 1)) (c : Fin 128) : outs (F := Ideal) U C D t h p (ix3 b j c) = output U H J B P C D j b n c := by
  have ht' : t = ⟨n % 4, Nat.mod_lt _ (by decide)⟩ := Fin.ext (ht.trans (Nat.mod_eq_of_lt (ht ▸ t.isLt)).symm)
  have hu : pickU (F := Ideal) t h (ins U) (ix3 b j c) = U (ix3 t b (ch j c)) := (pickU_apply b j t h _ c).trans (ins_apply b j t U c)
  unfold output
  rw [← hp]
  unfold outs
  generalize pickU (F := Ideal) t h (ins U) = X at hu ⊢
  obtain ⟨p1, p2⟩ := p
  pointwise []
  rw [hu, ht']
  exact congrArg₂ (fun u v : EReal => u + v + _) (Finset.sum_congr rfl fun s _ => mul_comm _ _) (Finset.sum_congr rfl fun s _ => mul_comm _ _)

theorem flat_apply (x : FVec Ideal S8x8x512 .f32) (z : Ix 8 4096) : flat (F := Ideal) x z
    = x (ix3 (z 0) ⟨(z 1).val / 512, Nat.div_lt_of_lt_mul (z 1).isLt⟩ ⟨(z 1).val % 512, Nat.mod_lt _ (by decide)⟩) := by
  rw [eq_ix2 (n0 := 8) (n1 := 4096) z]
  generalize z 0 = r, z 1 = q
  change Fin 8 at r
  change Fin 4096 at q
  pointwise [flat]

theorem four_apply (y0 y1 y2 y3 : FVec Ideal S8x8x128 .f32) (G : Fin 8 → Fin 8 → Nat → Fin 128 → EReal)
    (h0 : ∀ b j c, y0 (ix3 b j c) = G j b 0 c) (h1 : ∀ b j c, y1 (ix3 b j c) = G j b 1 c) (h2 : ∀ b j c, y2 (ix3 b j c) = G j b 2 c)
    (h3 : ∀ b j c, y3 (ix3 b j c) = G j b 3 c) (t : Fin 4) (b : Fin 8) (q : Fin 1024) : four (F := Ideal) y0 y1 y2 y3 (ix3 t b q)
    = G ⟨q.val / 128, Nat.div_lt_of_lt_mul q.isLt⟩ b t.val ⟨q.val % 128, Nat.mod_lt _ (by decide)⟩ := by
  fin_cases t
  · exact Eq.trans (by pointwise [four]) (h0 b ⟨q.val / 128, Nat.div_lt_of_lt_mul q.isLt⟩ ⟨q.val % 128, Nat.mod_lt _ (by decide)⟩)
  · exact Eq.trans (by pointwise [four]) (h1 b ⟨q.val / 128, Nat.div_lt_of_lt_mul q.isLt⟩ ⟨q.val % 128, Nat.mod_lt _ (by decide)⟩)
  · exact Eq.trans (by pointwise [four]) (h2 b ⟨q.val / 128, Nat.div_lt_of_lt_mul q.isLt⟩ ⟨q.val % 128, Nat.mod_lt _ (by decide)⟩)
  · exact Eq.trans (by pointwise [four]) (h3 b ⟨q.val / 128, Nat.div_lt_of_lt_mul q.isLt⟩ ⟨q.val % 128, Nat.mod_lt _ (by decide)⟩)

/-- The last state's real part, side by side. -/
theorem re_eq : flat (F := Ideal) (two4 U H J B P).1 = outRe U H J B P := by
  funext z
  rw [flat_apply]
  exact congrFun (congrArg Prod.fst (held4 (z 0) ⟨(z 1).val / 512, Nat.div_lt_of_lt_mul (z 1).isLt⟩ U H J B P)) _

/-- The last state's imaginary part, side by side. -/
theorem im_eq : flat (F := Ideal) (two4 U H J B P).2 = outIm U H J B P := by
  funext z
  rw [flat_apply]
  exact congrFun (congrArg Prod.snd (held4 (z 0) ⟨(z 1).val / 512, Nat.div_lt_of_lt_mul (z 1).isLt⟩ U H J B P)) _

/-- The four steps' outputs, side by side. -/
def stack (F : FTy → Type) [FloatOps F] (U : FVec F S4x8x1024 .f32) (H J : FVec F S8x4096 .f32) (B : FVec F S8x128x1024 .bf16) (P : FVec F S2x128x8x4096 .f32)
    (C : FVec F S8x1024x128 .bf16) (D : FVec F S1024 .f32) : FVec F S4x8x1024 .f32 :=
  four (outs U C D 0 slices_S4x8x8x128_S1x8x8x128_0_0_0_0 (two1 U H J B P)) (outs U C D 1 slices_S4x8x8x128_S1x8x8x128_1_0_0_0 (two2 U H J B P))
    (outs U C D 2 slices_S4x8x8x128_S1x8x8x128_2_0_0_0 (two3 U H J B P)) (outs U C D 3 slices_S4x8x8x128_S1x8x8x128_3_0_0_0 (two4 U H J B P))

theorem y_eq : stack Ideal U H J B P C D = outY U H J B P C D := by
  funext z
  have hz : z = ix3 (z 0) (z 1) (z 2) := funext fun a => match a with
    | ⟨0, _⟩ => rfl
    | ⟨1, _⟩ => rfl
    | ⟨2, _⟩ => rfl
  refine (congrArg (stack Ideal U H J B P C D) hz).trans ?_
  exact four_apply _ _ _ _ (fun j b t c => output U H J B P C D j b t c)
    (fun b j c => outs_apply b j 0 U H J B P C D _ _ 0 rfl (held1 b j U H J B P) c) (fun b j c => outs_apply b j 1 U H J B P C D _ _ 1 rfl (held2 b j U H J B P) c)
    (fun b j c => outs_apply b j 2 U H J B P C D _ _ 2 rfl (held3 b j U H J B P) c) (fun b j c => outs_apply b j 3 U H J B P C D _ _ 3 rfl (held4 b j U H J B P) c)
    (z 0) (z 1) (z 2)

end Read

section Res
variable (m : (ℓ : Loc nD τ sig) → Buf (Elt Ideal) ℓ) (c : Dev nD)

/-- The reference's results in these terms. -/
theorem res1 : Cert.RefS5SampleIdeal.Value.res_out1 (F := Ideal) m c = flat (F := Ideal) (two4 (F := Ideal) (m ((c : Thread nD τ).loc main_arg0))
    (m ((c : Thread nD τ).loc main_arg1)) (m ((c : Thread nD τ).loc main_arg2)) (m ((c : Thread nD τ).loc main_arg3)) (m ((c : Thread nD τ).loc main_arg4))).1 := by
  unfold Cert.RefS5SampleIdeal.Value.res_out1 Cert.RefS5SampleIdeal.Value.res_main_v155
  rfl

theorem res2 : Cert.RefS5SampleIdeal.Value.res_out2 (F := Ideal) m c = flat (F := Ideal) (two4 (F := Ideal) (m ((c : Thread nD τ).loc main_arg0))
    (m ((c : Thread nD τ).loc main_arg1)) (m ((c : Thread nD τ).loc main_arg2)) (m ((c : Thread nD τ).loc main_arg3)) (m ((c : Thread nD τ).loc main_arg4))).2 := by
  unfold Cert.RefS5SampleIdeal.Value.res_out2 Cert.RefS5SampleIdeal.Value.res_main_v156
  rfl

theorem res0 : Cert.RefS5SampleIdeal.Value.res_out0 (F := Ideal) m c = stack Ideal (m ((c : Thread nD τ).loc main_arg0))
    (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) := by
  unfold Cert.RefS5SampleIdeal.Value.res_out0 Cert.RefS5SampleIdeal.Value.res_main_v154
  rfl

end Res

end Cert.RefS5Sample

end
-- ==== Proof.S5SampleClaims.lean ====
/-
  The claims about the sample's state space call.
-/
module

public import proofs.«01_k».proof.Proof.S5SampleValue
public import proofs.«01_k».proof.Proof.RefS5Sample
public import proofs.«01_k».proof.Defs
public import proofs.«01_k».proof.Proof.Gen.S5Sample.Frame

@[expose] public section

set_option maxRecDepth 16384

noncomputable section

namespace Cert.S5SampleClaims

open Idealize.ShloMosaic Idealize.ShloMosaic.TcCoe Idealize.SL.Sem Cert.Dense Cert.S5

/-- The call runs and leaves its arguments as they were. -/
theorem frame_k : Cert.quiescent_S5Sample := fun m ρ _ => Cert.S5Sample.Gen.frame m ρ

/-- The idealised call runs and leaves its arguments as they were. -/
theorem frame_ki : Cert.quiescent_S5SampleIdeal := fun m ρ _ => Cert.S5SampleIdeal.Gen.frame m ρ

/-- The reference runs and leaves its arguments as they were. -/
theorem frame_ri : Cert.quiescent_RefS5SampleIdeal := fun m ρ _ =>
  (θ_run Cert.RefS5SampleIdeal.defs _ _).mono (fun r h => ⟨fun c => (h c).2.2.2, sem_eq_zero_of_no_sems (by decide) r.2⟩)
    (Cert.RefS5SampleIdeal.Value.run (F := Ideal) m ρ)

/-- The call's outputs and the two parts of its last state are the reference's. -/
theorem algebraic : Cert.algebraic_S5SampleIdeal_RefS5SampleIdeal := by
  intro m ρ m' ρ' _ hag
  refine ⟨fun c => outY (S5SampleValue.aU m c) (S5SampleValue.aH m c) (S5SampleValue.aJ m c) (S5SampleValue.aB m c) (S5SampleValue.aP m c)
      (S5SampleValue.aC m c) (S5SampleValue.aD m c),
    fun c => outRe (S5SampleValue.aU m c) (S5SampleValue.aH m c) (S5SampleValue.aJ m c) (S5SampleValue.aB m c) (S5SampleValue.aP m c),
    fun c => outIm (S5SampleValue.aU m c) (S5SampleValue.aH m c) (S5SampleValue.aJ m c) (S5SampleValue.aB m c) (S5SampleValue.aP m c),
    S5SampleValue.run m ρ, ?_⟩
  refine (θ_run Cert.RefS5SampleIdeal.defs _ _).mono (fun _ h c => ⟨(h c).1.trans ?_, (h c).2.1.trans ?_, (h c).2.2.1.trans ?_, (h c).2.2.2⟩)
    (Cert.RefS5SampleIdeal.Value.run (F := Ideal) m' ρ')
  · refine (RefS5Sample.res0 m' c).trans ((RefS5Sample.y_eq _ _ _ _ _ _ _).trans ?_)
    rw [(hag c).1, (hag c).2.1, (hag c).2.2.1, (hag c).2.2.2.1, (hag c).2.2.2.2.1, (hag c).2.2.2.2.2.1, (hag c).2.2.2.2.2.2]
  · refine (RefS5Sample.res1 m' c).trans ((RefS5Sample.re_eq _ _ _ _ _).trans ?_)
    rw [(hag c).1, (hag c).2.1, (hag c).2.2.1, (hag c).2.2.2.1, (hag c).2.2.2.2.1]
  · refine (RefS5Sample.res2 m' c).trans ((RefS5Sample.im_eq _ _ _ _ _).trans ?_)
    rw [(hag c).1, (hag c).2.1, (hag c).2.2.1, (hag c).2.2.2.1, (hag c).2.2.2.2.1]

end Cert.S5SampleClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite_qk
public import proofs.«01_k».proof.Proof.Gen.Pre_finite_qk_d4
public import proofs.«01_k».proof.Proof.Gen.Pre_finite_qk_d16
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.RefGatesIdeal.Run
public import proofs.«01_k».proof.Proof.Gen.RefGatesIdeal
public import proofs.«01_k».proof.Proof.Gen.AttnGate
public import proofs.«01_k».proof.Proof.Gen.AttnGate.Skeleton
public import proofs.«01_k».proof.Proof.Gen.AttnGate.Launch
public import proofs.«01_k».proof.Proof.Gen.AttnGate.Points
public import proofs.«01_k».proof.Proof.Gen.AttnGate.Frame
public import proofs.«01_k».proof.Proof.Gen.AttnGateIdeal
public import proofs.«01_k».proof.Proof.Gen.AttnGateIdeal.Skeleton
public import proofs.«01_k».proof.Proof.Gen.AttnGateIdeal.Launch
public import proofs.«01_k».proof.Proof.Gen.AttnGateIdeal.Points
public import proofs.«01_k».proof.Proof.Gen.AttnGateIdeal.Frame
public import proofs.«01_k».proof.Proof.Gen.AttnGateIdeal.Value
public import proofs.«01_k».proof.Proof.Gen.RefAttnGateIdeal.Run
public import proofs.«01_k».proof.Proof.Gen.RefAttnGateIdeal
public import proofs.«01_k».proof.Proof.Gen.SsmIn
public import proofs.«01_k».proof.Proof.Gen.SsmIn.Skeleton
public import proofs.«01_k».proof.Proof.Gen.SsmIn.Launch
public import proofs.«01_k».proof.Proof.Gen.SsmIn.Points
public import proofs.«01_k».proof.Proof.Gen.SsmIn.Frame
public import proofs.«01_k».proof.Proof.Gen.SsmInIdeal
public import proofs.«01_k».proof.Proof.Gen.SsmInIdeal.Skeleton
public import proofs.«01_k».proof.Proof.Gen.SsmInIdeal.Launch
public import proofs.«01_k».proof.Proof.Gen.SsmInIdeal.Points
public import proofs.«01_k».proof.Proof.Gen.SsmInIdeal.Frame
public import proofs.«01_k».proof.Proof.Gen.SsmInIdeal.Value
public import proofs.«01_k».proof.Proof.Gen.RefSsmInIdeal.Run
public import proofs.«01_k».proof.Proof.Gen.RefSsmInIdeal
public import proofs.«01_k».proof.Proof.Gen.SsmGate
public import proofs.«01_k».proof.Proof.Gen.SsmGate.Skeleton
public import proofs.«01_k».proof.Proof.Gen.SsmGate.Launch
public import proofs.«01_k».proof.Proof.Gen.SsmGate.Points
public import proofs.«01_k».proof.Proof.Gen.SsmGate.Frame
public import proofs.«01_k».proof.Proof.Gen.SsmGateIdeal
public import proofs.«01_k».proof.Proof.Gen.SsmGateIdeal.Skeleton
public import proofs.«01_k».proof.Proof.Gen.SsmGateIdeal.Launch
public import proofs.«01_k».proof.Proof.Gen.SsmGateIdeal.Points
public import proofs.«01_k».proof.Proof.Gen.SsmGateIdeal.Frame
public import proofs.«01_k».proof.Proof.Gen.SsmGateIdeal.Value
public import proofs.«01_k».proof.Proof.Gen.RefSsmGateIdeal.Run
public import proofs.«01_k».proof.Proof.Gen.RefSsmGateIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.RefOutIdeal.Run
public import proofs.«01_k».proof.Proof.Gen.RefOutIdeal
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.RefGluIdeal.Run
public import proofs.«01_k».proof.Proof.Gen.RefGluIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.RefMergeIdeal.Run
public import proofs.«01_k».proof.Proof.Gen.RefMergeIdeal
public import proofs.«01_k».proof.Proof.Gen.AttnD4
public import proofs.«01_k».proof.Proof.Gen.AttnD4.Skeleton
public import proofs.«01_k».proof.Proof.Gen.AttnD4.Launch
public import proofs.«01_k».proof.Proof.Gen.AttnD4.Points
public import proofs.«01_k».proof.Proof.Gen.AttnD4.Frame
public import proofs.«01_k».proof.Proof.Gen.AttnD4Ideal
public import proofs.«01_k».proof.Proof.Gen.AttnD4Ideal.Skeleton
public import proofs.«01_k».proof.Proof.Gen.AttnD4Ideal.Launch
public import proofs.«01_k».proof.Proof.Gen.AttnD4Ideal.Points
public import proofs.«01_k».proof.Proof.Gen.AttnD4Ideal.Frame
public import proofs.«01_k».proof.Proof.Gen.AttnD4Ideal.Value
public import proofs.«01_k».proof.Proof.Gen.RefAttnD4Ideal.Run
public import proofs.«01_k».proof.Proof.Gen.RefAttnD4Ideal
public import proofs.«01_k».proof.Proof.Gen.AttnD16
public import proofs.«01_k».proof.Proof.Gen.AttnD16.Skeleton
public import proofs.«01_k».proof.Proof.Gen.AttnD16.Launch
public import proofs.«01_k».proof.Proof.Gen.AttnD16.Points
public import proofs.«01_k».proof.Proof.Gen.AttnD16.Frame
public import proofs.«01_k».proof.Proof.Gen.AttnD16Ideal
public import proofs.«01_k».proof.Proof.Gen.AttnD16Ideal.Skeleton
public import proofs.«01_k».proof.Proof.Gen.AttnD16Ideal.Launch
public import proofs.«01_k».proof.Proof.Gen.AttnD16Ideal.Points
public import proofs.«01_k».proof.Proof.Gen.AttnD16Ideal.Frame
public import proofs.«01_k».proof.Proof.Gen.AttnD16Ideal.Value
public import proofs.«01_k».proof.Proof.Gen.RefAttnD16Ideal.Run
public import proofs.«01_k».proof.Proof.Gen.RefAttnD16Ideal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.RefNormIdeal.Run
public import proofs.«01_k».proof.Proof.Gen.RefNormIdeal
public import proofs.«01_k».proof.Proof.Gen.S5Sample
public import proofs.«01_k».proof.Proof.Gen.S5Sample.Skeleton
public import proofs.«01_k».proof.Proof.Gen.S5Sample.Launch
public import proofs.«01_k».proof.Proof.Gen.S5Sample.Points
public import proofs.«01_k».proof.Proof.Gen.S5Sample.Frame
public import proofs.«01_k».proof.Proof.Gen.S5SampleIdeal
public import proofs.«01_k».proof.Proof.Gen.S5SampleIdeal.Skeleton
public import proofs.«01_k».proof.Proof.Gen.S5SampleIdeal.Launch
public import proofs.«01_k».proof.Proof.Gen.S5SampleIdeal.Points
public import proofs.«01_k».proof.Proof.Gen.S5SampleIdeal.Frame
public import proofs.«01_k».proof.Proof.Gen.S5SampleIdeal.Value
public import proofs.«01_k».proof.Proof.Gen.RefS5SampleIdeal.Run
public import proofs.«01_k».proof.Proof.Gen.RefS5SampleIdeal
public import proofs.«01_k».proof.Proof.Claims1
public import proofs.«01_k».proof.Proof.AttnGateClaims
public import proofs.«01_k».proof.Proof.GatesClaims
public import proofs.«01_k».proof.Proof.OutClaims
public import proofs.«01_k».proof.Proof.SsmGateClaims
public import proofs.«01_k».proof.Proof.SsmInClaims
public import proofs.«01_k».proof.Proof.GluClaims
public import proofs.«01_k».proof.Proof.MergeClaims
public import proofs.«01_k».proof.Proof.AttnD16Claims
public import proofs.«01_k».proof.Proof.AttnD4Claims
public import proofs.«01_k».proof.Proof.NormClaims
public import proofs.«01_k».proof.Proof.S5SampleClaims
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim :=
  ⟨Cert.Kernel.Gen.facts, Cert.KernelIdeal.Gen.facts, Cert.ReferenceIdeal.Gen.facts, Cert.Gates.Gen.facts, Cert.GatesIdeal.Gen.facts,
    Cert.RefGatesIdeal.Gen.facts, Cert.AttnGate.Gen.facts, Cert.AttnGateIdeal.Gen.facts, Cert.RefAttnGateIdeal.Gen.facts,
    Cert.SsmIn.Gen.facts, Cert.SsmInIdeal.Gen.facts, Cert.RefSsmInIdeal.Gen.facts, Cert.SsmGate.Gen.facts, Cert.SsmGateIdeal.Gen.facts,
    Cert.RefSsmGateIdeal.Gen.facts, Cert.Out.Gen.facts, Cert.OutIdeal.Gen.facts, Cert.RefOutIdeal.Gen.facts, Cert.Glu.Gen.facts,
    Cert.GluIdeal.Gen.facts, Cert.RefGluIdeal.Gen.facts, Cert.Merge.Gen.facts, Cert.MergeIdeal.Gen.facts, Cert.RefMergeIdeal.Gen.facts,
    Cert.AttnD4.Gen.facts, Cert.AttnD4Ideal.Gen.facts, Cert.RefAttnD4Ideal.Gen.facts, Cert.AttnD16.Gen.facts, Cert.AttnD16Ideal.Gen.facts,
    Cert.RefAttnD16Ideal.Gen.facts, Cert.Norm.Gen.facts, Cert.NormIdeal.Gen.facts, Cert.RefNormIdeal.Gen.facts, Cert.S5Sample.Gen.facts,
    Cert.S5SampleIdeal.Gen.facts, Cert.RefS5SampleIdeal.Gen.facts, Cert.Pre_finite_qk.Gen.facts, Cert.Pre_finite_qk_d4.Gen.facts,
    Cert.Pre_finite_qk_d16.Gen.facts, Cert.Claims1.frame_k, Cert.Claims1.frame_ki, Cert.Claims1.frame_ki_pre, Cert.Claims1.frame_ri,
    Cert.Claims1.frame_ri_pre, Cert.GatesClaims.frame_k, Cert.GatesClaims.frame_ki, Cert.GatesClaims.frame_ri, Cert.AttnGateClaims.frame_k,
    Cert.AttnGateClaims.frame_ki, Cert.AttnGateClaims.frame_ri, Cert.SsmInClaims.frame_k, Cert.SsmInClaims.frame_ki,
    Cert.SsmInClaims.frame_ri, Cert.SsmGateClaims.frame_k, Cert.SsmGateClaims.frame_ki, Cert.SsmGateClaims.frame_ri,
    Cert.OutClaims.frame_k, Cert.OutClaims.frame_ki, Cert.OutClaims.frame_ri, Cert.GluClaims.frame_k, Cert.GluClaims.frame_ki,
    Cert.GluClaims.frame_ri, Cert.MergeClaims.frame_k, Cert.MergeClaims.frame_ki, Cert.MergeClaims.frame_ri, Cert.AttnD4Claims.frame_k,
    Cert.AttnD4Claims.frame_ki, Cert.AttnD4Claims.frame_ki_pre, Cert.AttnD4Claims.frame_ri, Cert.AttnD4Claims.frame_ri_pre,
    Cert.AttnD16Claims.frame_k, Cert.AttnD16Claims.frame_ki, Cert.AttnD16Claims.frame_ki_pre, Cert.AttnD16Claims.frame_ri,
    Cert.AttnD16Claims.frame_ri_pre, Cert.NormClaims.frame_k, Cert.NormClaims.frame_ki, Cert.NormClaims.frame_ri,
    Cert.S5SampleClaims.frame_k, Cert.S5SampleClaims.frame_ki, Cert.S5SampleClaims.frame_ri, Cert.Claims1.preserves,
    Cert.Claims1.algebraic, trivial, Cert.GatesClaims.algebraic, trivial, Cert.AttnGateClaims.algebraic, trivial,
    Cert.SsmInClaims.algebraic, trivial, Cert.SsmGateClaims.algebraic, trivial, Cert.OutClaims.algebraic, trivial,
    Cert.GluClaims.algebraic, trivial, Cert.MergeClaims.algebraic, Cert.AttnD4Claims.preserves, Cert.AttnD4Claims.algebraic,
    Cert.AttnD16Claims.preserves, Cert.AttnD16Claims.algebraic, trivial, Cert.NormClaims.algebraic, trivial, Cert.S5SampleClaims.algebraic⟩

end Cert.Proof

end
